-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v20_0)) (v1 : (c : Dev Cert.Kernel2Ideal.nD) → Buf (Elt Ideal) ((c.tc : Thread Cert.Kernel2Ideal.nD Cert.Kernel2Ideal.τ).loc Cert.Kernel2Ideal.main_v20_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20_0) = v0 c
          ∧ r.2.mem ((c.tc : Thread Cert.Kernel2Ideal.nD Cert.Kernel2Ideal.τ).loc Cert.Kernel2Ideal.main_v20_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v282) = v0 c
          ∧ r.2.mem ((c.tc : Thread Cert.Reference2Ideal.nD Cert.Reference2Ideal.τ).loc Cert.Reference2Ideal.main_v286) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v172) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_in_range (hKernelIdeal := hKernelIdeal) (hReferenceIdeal := hReferenceIdeal) (hPre_in_range := hPre_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_in_range.lean ====
abbrev S16x64x64x64 : Shape := ⟨4, ![16, 64, 64, 64]⟩
abbrev S32x64x64x64 : Shape := ⟨4, ![32, 64, 64, 64]⟩
abbrev S1x64x64x64 : Shape := ⟨4, ![1, 64, 64, 64]⟩
abbrev S16x48x3x3x3 : Shape := ⟨5, ![16, 48, 3, 3, 3]⟩
abbrev S_ : Shape := ⟨0, ![]⟩

class Facts : Prop where
  bcast_S_S16x64x64x64 : S_.BroadcastsInDim S16x64x64x64 (![] : Fin 0 → Fin S16x64x64x64.rank)
  reducesTo_S16x64x64x64_S_d0_1_2_3 : S16x64x64x64.ReducesTo [0, 1, 2, 3] S_
  h_S_ : 0 < S_.numel
  bcast_S_S32x64x64x64 : S_.BroadcastsInDim S32x64x64x64 (![] : Fin 0 → Fin S32x64x64x64.rank)
  reducesTo_S32x64x64x64_S_d0_1_2_3 : S32x64x64x64.ReducesTo [0, 1, 2, 3] S_
  bcast_S_S16x48x3x3x3 : S_.BroadcastsInDim S16x48x3x3x3 (![] : Fin 0 → Fin S16x48x3x3x3.rank)
  reducesTo_S16x48x3x3x3_S_d0_1_2_3_4 : S16x48x3x3x3.ReducesTo [0, 1, 2, 3, 4] S_
  bcast_S_S1x64x64x64 : S_.BroadcastsInDim S1x64x64x64 (![] : Fin 0 → Fin S1x64x64x64.rank)
  reducesTo_S1x64x64x64_S_d0_1_2_3 : S1x64x64x64.ReducesTo [0, 1, 2, 3] S_

variable [Facts]

def fn_part1 {F : FTy → Type} [FloatOps F] (main_arg2 : IVec S1x64x64x64 32) (main_v13 : IVec S_ 1) (main_v15 : IVec S1x64x64x64 1) (main_c_5 : IVec S_ 32) : IVec S_ 1 :=
  let main_v16 : IVec S1x64x64x64 32 := broadcastInDim S1x64x64x64 ![] bcast_S_S1x64x64x64 main_c_5
  let main_v17 : IVec S1x64x64x64 1 := cmpi .eq main_arg2 main_v16
  let main_v18 : IVec S1x64x64x64 1 := ori main_v15 main_v17
  let main_c_6 : IVec S_ 1 := constantI S_ 1 1#1
  let main_v19 : IVec S_ 1 := (fun x v => Host.reduce IntOp.andi x v reducesTo_S1x64x64x64_S_d0_1_2_3 h_S_) main_v18 main_c_6
  let main_v20 : IVec S_ 1 := andi main_v13 main_v19
  main_v20

def fn {F : FTy → Type} [FloatOps F] (main_arg0 : FVec F S16x64x64x64 .f32) (main_arg1 : FVec F S32x64x64x64 .f32) (main_arg2 : IVec S1x64x64x64 32) (main_arg3 : FVec F S16x48x3x3x3 .f32) : IVec S_ 1 :=
  let main_v0 : FVec F S16x64x64x64 .f32 := Host.absf main_arg0
  let main_cst : FVec F S_ .f32 := constant S_ .f32 0x7F800000#32
  let main_v1 : FVec F S16x64x64x64 .f32 := broadcastInDim S16x64x64x64 ![] bcast_S_S16x64x64x64 main_cst
  let main_v2 : IVec S16x64x64x64 1 := cmpf .olt main_v0 main_v1
  let main_c : IVec S_ 1 := constantI S_ 1 1#1
  let main_v3 : IVec S_ 1 := (fun x v => Host.reduce IntOp.andi x v reducesTo_S16x64x64x64_S_d0_1_2_3 h_S_) main_v2 main_c
  let main_v4 : FVec F S32x64x64x64 .f32 := Host.absf main_arg1
  let main_cst_0 : FVec F S_ .f32 := constant S_ .f32 0x7F800000#32
  let main_v5 : FVec F S32x64x64x64 .f32 := broadcastInDim S32x64x64x64 ![] bcast_S_S32x64x64x64 main_cst_0
  let main_v6 : IVec S32x64x64x64 1 := cmpf .olt main_v4 main_v5
  let main_c_1 : IVec S_ 1 := constantI S_ 1 1#1
  let main_v7 : IVec S_ 1 := (fun x v => Host.reduce IntOp.andi x v reducesTo_S32x64x64x64_S_d0_1_2_3 h_S_) main_v6 main_c_1
  let main_v8 : IVec S_ 1 := andi main_v3 main_v7
  let main_v9 : FVec F S16x48x3x3x3 .f32 := Host.absf main_arg3
  let main_cst_2 : FVec F S_ .f32 := constant S_ .f32 0x7F800000#32
  let main_v10 : FVec F S16x48x3x3x3 .f32 := broadcastInDim S16x48x3x3x3 ![] bcast_S_S16x48x3x3x3 main_cst_2
  let main_v11 : IVec S16x48x3x3x3 1 := cmpf .olt main_v9 main_v10
  let main_c_3 : IVec S_ 1 := constantI S_ 1 1#1
  let main_v12 : IVec S_ 1 := (fun x v => Host.reduce IntOp.andi x v reducesTo_S16x48x3x3x3_S_d0_1_2_3_4 h_S_) main_v11 main_c_3
  let main_v13 : IVec S_ 1 := andi main_v8 main_v12
  let main_c_4 : IVec S_ 32 := constantI S_ 32 0#32
  let main_v14 : IVec S1x64x64x64 32 := broadcastInDim S1x64x64x64 ![] bcast_S_S1x64x64x64 main_c_4
  let main_v15 : IVec S1x64x64x64 1 := cmpi .eq main_arg2 main_v14
  let main_c_5 : IVec S_ 32 := constantI S_ 32 1#32
  fn_part1 (F := F) main_arg2 main_v13 main_v15 main_c_5
-- ==== Kernel.lean ====
abbrev S16x64x64x64 : Shape := ⟨4, ![16, 64, 64, 64]⟩
abbrev S32x64x64x64 : Shape := ⟨4, ![32, 64, 64, 64]⟩
abbrev S1x64x64x64 : Shape := ⟨4, ![1, 64, 64, 64]⟩
abbrev S16x48x3x3x3 : Shape := ⟨5, ![16, 48, 3, 3, 3]⟩
abbrev S_ : Shape := ⟨0, ![]⟩
abbrev S16x66x66x128 : Shape := ⟨4, ![16, 66, 66, 128]⟩
abbrev S16x66x8448 : Shape := ⟨3, ![16, 66, 8448]⟩
abbrev S66x16x8448 : Shape := ⟨3, ![66, 16, 8448]⟩
abbrev S66x16x8960 : Shape := ⟨3, ![66, 16, 8960]⟩
abbrev S32x66x66x128 : Shape := ⟨4, ![32, 66, 66, 128]⟩
abbrev S32x66x8448 : Shape := ⟨3, ![32, 66, 8448]⟩
abbrev S66x32x8448 : Shape := ⟨3, ![66, 32, 8448]⟩
abbrev S66x32x8960 : Shape := ⟨3, ![66, 32, 8960]⟩
abbrev S1x66x66x128 : Shape := ⟨4, ![1, 66, 66, 128]⟩
abbrev S1x66x8448 : Shape := ⟨3, ![1, 66, 8448]⟩
abbrev S66x1x8448 : Shape := ⟨3, ![66, 1, 8448]⟩
abbrev S66x1x8960 : Shape := ⟨3, ![66, 1, 8960]⟩
abbrev S3x3x3x16x48 : Shape := ⟨5, ![3, 3, 3, 16, 48]⟩
abbrev S27x16x48 : Shape := ⟨3, ![27, 16, 48]⟩
abbrev S27x16x16 : Shape := ⟨3, ![27, 16, 16]⟩
abbrev S3x3x3x16x16 : Shape := ⟨5, ![3, 3, 3, 16, 16]⟩
abbrev S3x3x16x3x16 : Shape := ⟨5, ![3, 3, 16, 3, 16]⟩
abbrev S9x16x48 : Shape := ⟨3, ![9, 16, 48]⟩
abbrev S27x16x32 : Shape := ⟨3, ![27, 16, 32]⟩
abbrev S3x3x3x16x32 : Shape := ⟨5, ![3, 3, 3, 16, 32]⟩
abbrev S3x3x16x3x32 : Shape := ⟨5, ![3, 3, 16, 3, 32]⟩
abbrev S9x16x96 : Shape := ⟨3, ![9, 16, 96]⟩
abbrev S4x16x8960 : Shape := ⟨3, ![4, 16, 8960]⟩
abbrev S1x16x8960 : Shape := ⟨3, ![1, 16, 8960]⟩
abbrev S4x32x8960 : Shape := ⟨3, ![4, 32, 8960]⟩
abbrev S1x32x8960 : Shape := ⟨3, ![1, 32, 8960]⟩
abbrev S16x1 : Shape := ⟨2, ![16, 1]⟩
abbrev S1 : Shape := ⟨1, ![1]⟩
abbrev S16x8960 : Shape := ⟨2, ![16, 8960]⟩
abbrev S32x8960 : Shape := ⟨2, ![32, 8960]⟩
abbrev S3x16x8960 : Shape := ⟨3, ![3, 16, 8960]⟩
abbrev S48x8960 : Shape := ⟨2, ![48, 8960]⟩
abbrev S48x8704 : Shape := ⟨2, ![48, 8704]⟩
abbrev S48x8448 : Shape := ⟨2, ![48, 8448]⟩
abbrev S1x16x48 : Shape := ⟨3, ![1, 16, 48]⟩
abbrev S16x48 : Shape := ⟨2, ![16, 48]⟩
abbrev S16x8448 : Shape := ⟨2, ![16, 8448]⟩
abbrev S3x32x8960 : Shape := ⟨3, ![3, 32, 8960]⟩
abbrev S96x8960 : Shape := ⟨2, ![96, 8960]⟩
abbrev S96x8704 : Shape := ⟨2, ![96, 8704]⟩
abbrev S96x8448 : Shape := ⟨2, ![96, 8448]⟩
abbrev S1x16x96 : Shape := ⟨3, ![1, 16, 96]⟩
abbrev S16x96 : Shape := ⟨2, ![16, 96]⟩
abbrev S1x1x8960 : Shape := ⟨3, ![1, 1, 8960]⟩
abbrev S1x8960 : Shape := ⟨2, ![1, 8960]⟩
abbrev S1x8448 : Shape := ⟨2, ![1, 8448]⟩
abbrev S16x256 : Shape := ⟨2, ![16, 256]⟩
abbrev S16x8704 : Shape := ⟨2, ![16, 8704]⟩
abbrev S16 : Shape := ⟨1, ![16]⟩
abbrev S1x1x8448 : Shape := ⟨3, ![1, 1, 8448]⟩
abbrev S1x1x1 : Shape := ⟨3, ![1, 1, 1]⟩
abbrev S2x16x8960 : Shape := ⟨3, ![2, 16, 8960]⟩
abbrev S2x32x8960 : Shape := ⟨3, ![2, 32, 8960]⟩
abbrev S64x8960 : Shape := ⟨2, ![64, 8960]⟩

abbrev nBuf : Space → Nat
  | .hbm => 41
  | .vmem => 18
  | .smem => 1
  | _ => 0

abbrev bufTy : (tb : Table) → Fin (tcTables nBuf tb) → BufTy
  | .hbm, ⟨0, _⟩ => ⟨S16x64x64x64, .f32⟩
  | .hbm, ⟨1, _⟩ => ⟨S32x64x64x64, .f32⟩
  | .hbm, ⟨2, _⟩ => ⟨S1x64x64x64, .i32⟩
  | .hbm, ⟨3, _⟩ => ⟨S16x48x3x3x3, .f32⟩
  | .hbm, ⟨4, _⟩ => ⟨S1x64x64x64, .f32⟩
  | .hbm, ⟨5, _⟩ => ⟨S_, .i32⟩
  | .hbm, ⟨6, _⟩ => ⟨S_, .f32⟩
  | .hbm, ⟨7, _⟩ => ⟨S16x66x66x128, .f32⟩
  | .hbm, ⟨8, _⟩ => ⟨S16x66x8448, .f32⟩
  | .hbm, ⟨9, _⟩ => ⟨S66x16x8448, .f32⟩
  | .hbm, ⟨10, _⟩ => ⟨S_, .i32⟩
  | .hbm, ⟨11, _⟩ => ⟨S_, .f32⟩
  | .hbm, ⟨12, _⟩ => ⟨S66x16x8960, .f32⟩
  | .hbm, ⟨13, _⟩ => ⟨S32x64x64x64, .bf16⟩
  | .hbm, ⟨14, _⟩ => ⟨S_, .i32⟩
  | .hbm, ⟨15, _⟩ => ⟨S_, .bf16⟩
  | .hbm, ⟨16, _⟩ => ⟨S32x66x66x128, .bf16⟩
  | .hbm, ⟨17, _⟩ => ⟨S32x66x8448, .bf16⟩
  | .hbm, ⟨18, _⟩ => ⟨S66x32x8448, .bf16⟩
  | .hbm, ⟨19, _⟩ => ⟨S_, .i32⟩
  | .hbm, ⟨20, _⟩ => ⟨S_, .bf16⟩
  | .hbm, ⟨21, _⟩ => ⟨S66x32x8960, .bf16⟩
  | .hbm, ⟨22, _⟩ => ⟨S_, .i32⟩
  | .hbm, ⟨23, _⟩ => ⟨S_, .f32⟩
  | .hbm, ⟨24, _⟩ => ⟨S1x66x66x128, .f32⟩
  | .hbm, ⟨25, _⟩ => ⟨S1x66x8448, .f32⟩
  | .hbm, ⟨26, _⟩ => ⟨S66x1x8448, .f32⟩
  | .hbm, ⟨27, _⟩ => ⟨S_, .i32⟩
  | .hbm, ⟨28, _⟩ => ⟨S_, .f32⟩
  | .hbm, ⟨29, _⟩ => ⟨S66x1x8960, .f32⟩
  | .hbm, ⟨30, _⟩ => ⟨S3x3x3x16x48, .f32⟩
  | .hbm, ⟨31, _⟩ => ⟨S27x16x48, .f32⟩
  | .hbm, ⟨32, _⟩ => ⟨S27x16x16, .f32⟩
  | .hbm, ⟨33, _⟩ => ⟨S3x3x3x16x16, .f32⟩
  | .hbm, ⟨34, _⟩ => ⟨S3x3x16x3x16, .f32⟩
  | .hbm, ⟨35, _⟩ => ⟨S9x16x48, .f32⟩
  | .hbm, ⟨36, _⟩ => ⟨S27x16x32, .f32⟩
  | .hbm, ⟨37, _⟩ => ⟨S3x3x3x16x32, .f32⟩
  | .hbm, ⟨38, _⟩ => ⟨S3x3x16x3x32, .f32⟩
  | .hbm, ⟨39, _⟩ => ⟨S9x16x96, .f32⟩
  | .hbm, ⟨40, _⟩ => ⟨S66x16x8960, .bf16⟩
  | .local _ .vmem, ⟨0, _⟩ => ⟨S4x16x8960, .f32⟩
  | .local _ .vmem, ⟨1, _⟩ => ⟨S4x16x8960, .f32⟩
  | .local _ .vmem, ⟨2, _⟩ => ⟨S1x16x8960, .f32⟩
  | .local _ .vmem, ⟨3, _⟩ => ⟨S1x16x8960, .f32⟩
  | .local _ .vmem, ⟨4, _⟩ => ⟨S1x16x8960, .f32⟩
  | .local _ .vmem, ⟨5, _⟩ => ⟨S1x16x8960, .f32⟩
  | .local _ .vmem, ⟨6, _⟩ => ⟨S4x32x8960, .bf16⟩
  | .local _ .vmem, ⟨7, _⟩ => ⟨S4x32x8960, .bf16⟩
  | .local _ .vmem, ⟨8, _⟩ => ⟨S1x32x8960, .bf16⟩
  | .local _ .vmem, ⟨9, _⟩ => ⟨S1x32x8960, .bf16⟩
  | .local _ .vmem, ⟨10, _⟩ => ⟨S1x32x8960, .bf16⟩
  | .local _ .vmem, ⟨11, _⟩ => ⟨S1x32x8960, .bf16⟩
  | .local _ .vmem, ⟨12, _⟩ => ⟨S66x1x8960, .f32⟩
  | .local _ .vmem, ⟨13, _⟩ => ⟨S9x16x48, .f32⟩
  | .local _ .vmem, ⟨14, _⟩ => ⟨S9x16x96, .f32⟩
  | .local _ .vmem, ⟨15, _⟩ => ⟨S66x16x8960, .bf16⟩
  | .local _ .vmem, ⟨16, _⟩ => ⟨S16x1, .f32⟩
  | .local _ .vmem, ⟨17, _⟩ => ⟨S16x1, .f32⟩
  | .local _ .smem, ⟨0, _⟩ => ⟨S1, .f32⟩
  | _, _ => ⟨S16x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_call2_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_call3_v0 : Ref sig .tc := ⟨.hbm, 20, rfl⟩
abbrev main_v9 : Ref sig .tc := ⟨.hbm, 21, rfl⟩
abbrev main_c_3 : Ref sig .tc := ⟨.hbm, 22, rfl⟩
abbrev main_call4_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_4 : Ref sig .tc := ⟨.hbm, 27, rfl⟩
abbrev main_call5_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def k0_off1 (i : grid0.Coords) (c0_i32_83 : BitVec 32) : Fin 3 → Nat :=
  let arg0 : BitVec 32 := BitVec.ofNat 32 (i 0).val
  let c4_i32 : BitVec 32 := 4#32
  let v115 : BitVec 32 := Scalar.muli arg0 c4_i32
  let v116 : BitVec 32 := Scalar.addi v115 c0_i32_83
  let c1_i32 : BitVec 32 := 1#32
  let v117 : BitVec 32 := Scalar.addi v116 c1_i32
  let v118 : Index := Scalar.indexCast v117
  let c0_84 : Index := 0#32
  let c0_85 : Index := 0#32
  ![v118.toNat, 0, 0]
def k0_off2 (i : grid0.Coords) (c0_i32_83 : BitVec 32) : Fin 3 → Nat :=
  let arg0 : BitVec 32 := BitVec.ofNat 32 (i 0).val
  let c4_i32 : BitVec 32 := 4#32
  let v115 : BitVec 32 := Scalar.muli arg0 c4_i32
  let v116 : BitVec 32 := Scalar.addi v115 c0_i32_83
  let c1_i32 : BitVec 32 := 1#32
  let v117 : BitVec 32 := Scalar.addi v116 c1_i32
  let v130 : Index := Scalar.indexCast v117
  let c0_87 : Index := 0#32
  let c0_88 : Index := 0#32
  ![v130.toNat, 0, 0]
def k0_cond2 (i : grid0.Coords) : BitVec 1 :=
  let arg0 : BitVec 32 := BitVec.ofNat 32 (i 0).val
  let c15_i32 : BitVec 32 := 15#32
  let v550 : BitVec 1 := Scalar.cmpi .eq arg0 c15_i32
  let v551 : BitVec 32 := Scalar.extui v550
  let c0_i32_350 : BitVec 32 := 0#32
  let v552 : BitVec 1 := Scalar.cmpi .ne v551 c0_i32_350
  v552

@[reducible] def k0_t1_loop : Scf.Loop 32 :=
  let c1_i32_358 : BitVec 32 := 1#32
  let c64_i32 : BitVec 32 := 64#32
  let v566 : BitVec 32 := Scalar.addi c1_i32_358 c64_i32
  let c1_i32_359 : BitVec 32 := 1#32
  ⟨c1_i32_358, v566, c1_i32_359⟩
def k0_off3 (k0_t1 : Fin k0_t1_loop.trips) : Fin 3 → Nat :=
  let c1_i32_358 : BitVec 32 := 1#32
  let c1_i32_359 : BitVec 32 := 1#32
  let arg14 : BitVec 32 := Scf.iv c1_i32_358 c1_i32_359 k0_t1
  let v567 : Index := Scalar.indexCast arg14
  let c0_361 : Index := 0#32
  let c0_362 : Index := 0#32
  ![v567.toNat, 0, 0]
def k0_off4 (k0_t1 : Fin k0_t1_loop.trips) : Fin 3 → Nat :=
  let c1_i32_358 : BitVec 32 := 1#32
  let c1_i32_359 : BitVec 32 := 1#32
  let arg14 : BitVec 32 := Scf.iv c1_i32_358 c1_i32_359 k0_t1
  let v575 : Index := Scalar.indexCast arg14
  let c0_363 : Index := 0#32
  let c0_364 : Index := 0#32
  ![v575.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c4_i32 : BitVec 32 := 4#32
  let v0 : BitVec 32 := Scalar.muli arg0 c4_i32
  let c4_i32_0 : BitVec 32 := 4#32
  let v1 : BitVec 32 := Scalar.addi v0 c4_i32_0
  let c0_i32 : BitVec 32 := 0#32
  let v2 : BitVec 32 := Scalar.addi v1 c0_i32
  let c0_i32_1 : BitVec 32 := 0#32
  let c0_i32_2 : BitVec 32 := 0#32
  let c0_i32_3 : BitVec 32 := 0#32
  ![v2.toNat, c0_i32_1.toNat, c0_i32_2.toNat]

def cc0_transform_2 (i : grid0.Coords) : Fin 3 → Nat :=
  let arg0 : BitVec 32 := BitVec.ofNat 32 (i 0).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.addi v1 c1_i32
  let c0_i32 : BitVec 32 := 0#32
  let c0_i32_1 : BitVec 32 := 0#32
  let c0_i32_2 : BitVec 32 := 0#32
  ![v2.toNat, c0_i32.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c4_i32 : BitVec 32 := 4#32
  let v0 : BitVec 32 := Scalar.muli arg0 c4_i32
  let c4_i32_0 : BitVec 32 := 4#32
  let v1 : BitVec 32 := Scalar.addi v0 c4_i32_0
  let c0_i32 : BitVec 32 := 0#32
  let v2 : BitVec 32 := Scalar.addi v1 c0_i32
  let c0_i32_1 : BitVec 32 := 0#32
  let c0_i32_2 : BitVec 32 := 0#32
  let c0_i32_3 : BitVec 32 := 0#32
  ![v2.toNat, c0_i32_1.toNat, c0_i32_2.toNat]

def cc0_transform_5 (i : grid0.Coords) : Fin 3 → Nat :=
  let arg0 : BitVec 32 := BitVec.ofNat 32 (i 0).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.addi v1 c1_i32
  let c0_i32 : BitVec 32 := 0#32
  let c0_i32_1 : BitVec 32 := 0#32
  let c0_i32_2 : BitVec 32 := 0#32
  ![v2.toNat, c0_i32.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4x16x8960 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x8960 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x8960 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x32x8960 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x8960 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x8960 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S66x1x8960 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S9x16x48 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S9x16x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S66x16x8960 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S16x64x64x64 : Shape := ⟨4, ![16, 64, 64, 64]⟩
abbrev S32x64x64x64 : Shape := ⟨4, ![32, 64, 64, 64]⟩
abbrev S1x64x64x64 : Shape := ⟨4, ![1, 64, 64, 64]⟩
abbrev S16x48x3x3x3 : Shape := ⟨5, ![16, 48, 3, 3, 3]⟩
abbrev S48x64x64x64 : Shape := ⟨4, ![48, 64, 64, 64]⟩
abbrev S_ : Shape := ⟨0, ![]⟩
abbrev S48x66x66x66 : Shape := ⟨4, ![48, 66, 66, 66]⟩
abbrev S16x48x1x1x1 : Shape := ⟨5, ![16, 48, 1, 1, 1]⟩
abbrev S16x48 : Shape := ⟨2, ![16, 48]⟩
abbrev S1 : Shape := ⟨1, ![1]⟩
abbrev S1x1x1x1 : Shape := ⟨4, ![1, 1, 1, 1]⟩
abbrev S16 : Shape := ⟨1, ![16]⟩
abbrev S16x1x1x1 : Shape := ⟨4, ![16, 1, 1, 1]⟩
abbrev S16x66x66x128 : Shape := ⟨4, ![16, 66, 66, 128]⟩
abbrev S16x66x8448 : Shape := ⟨3, ![16, 66, 8448]⟩
abbrev S16x66x8960 : Shape := ⟨3, ![16, 66, 8960]⟩
abbrev S66x16x8960 : Shape := ⟨3, ![66, 16, 8960]⟩

abbrev nBuf : Space → Nat
  | .hbm => 194
  | .vmem => 0
  | .smem => 0
  | _ => 0

abbrev hbmTy0_0 (i : Nat) : BufTy := match i % 128 with
  | 0 => ⟨S16x64x64x64, .f32⟩
  | 1 => ⟨S32x64x64x64, .f32⟩
  | 2 => ⟨S1x64x64x64, .i32⟩
  | 3 => ⟨S16x48x3x3x3, .f32⟩
  | 4 => ⟨S1x64x64x64, .f32⟩
  | 5 => ⟨S48x64x64x64, .f32⟩
  | 6 => ⟨S_, .i32⟩
  | 7 => ⟨S_, .f32⟩
  | 8 => ⟨S48x66x66x66, .f32⟩
  | 9 => ⟨S16x48x1x1x1, .f32⟩
  | 10 => ⟨S16x48, .f32⟩
  | 11 => ⟨S48x64x64x64, .f32⟩
  | 12 => ⟨S16x64x64x64, .f32⟩
  | 13 => ⟨S16x48x1x1x1, .f32⟩
  | 14 => ⟨S16x48, .f32⟩
  | 15 => ⟨S48x64x64x64, .f32⟩
  | 16 => ⟨S16x64x64x64, .f32⟩
  | 17 => ⟨S16x64x64x64, .f32⟩
  | 18 => ⟨S16x48x1x1x1, .f32⟩
  | 19 => ⟨S16x48, .f32⟩
  | 20 => ⟨S48x64x64x64, .f32⟩
  | 21 => ⟨S16x64x64x64, .f32⟩
  | 22 => ⟨S16x64x64x64, .f32⟩
  | 23 => ⟨S16x48x1x1x1, .f32⟩
  | 24 => ⟨S16x48, .f32⟩
  | 25 => ⟨S48x64x64x64, .f32⟩
  | 26 => ⟨S16x64x64x64, .f32⟩
  | 27 => ⟨S16x64x64x64, .f32⟩
  | 28 => ⟨S16x48x1x1x1, .f32⟩
  | 29 => ⟨S16x48, .f32⟩
  | 30 => ⟨S48x64x64x64, .f32⟩
  | 31 => ⟨S16x64x64x64, .f32⟩
  | 32 => ⟨S16x64x64x64, .f32⟩
  | 33 => ⟨S16x48x1x1x1, .f32⟩
  | 34 => ⟨S16x48, .f32⟩
  | 35 => ⟨S48x64x64x64, .f32⟩
  | 36 => ⟨S16x64x64x64, .f32⟩
  | 37 => ⟨S16x64x64x64, .f32⟩
  | 38 => ⟨S16x48x1x1x1, .f32⟩
  | 39 => ⟨S16x48, .f32⟩
  | 40 => ⟨S48x64x64x64, .f32⟩
  | 41 => ⟨S16x64x64x64, .f32⟩
  | 42 => ⟨S16x64x64x64, .f32⟩
  | 43 => ⟨S16x48x1x1x1, .f32⟩
  | 44 => ⟨S16x48, .f32⟩
  | 45 => ⟨S48x64x64x64, .f32⟩
  | 46 => ⟨S16x64x64x64, .f32⟩
  | 47 => ⟨S16x64x64x64, .f32⟩
  | 48 => ⟨S16x48x1x1x1, .f32⟩
  | 49 => ⟨S16x48, .f32⟩
  | 50 => ⟨S48x64x64x64, .f32⟩
  | 51 => ⟨S16x64x64x64, .f32⟩
  | 52 => ⟨S16x64x64x64, .f32⟩
  | 53 => ⟨S16x48x1x1x1, .f32⟩
  | 54 => ⟨S16x48, .f32⟩
  | 55 => ⟨S48x64x64x64, .f32⟩
  | 56 => ⟨S16x64x64x64, .f32⟩
  | 57 => ⟨S16x64x64x64, .f32⟩
  | 58 => ⟨S16x48x1x1x1, .f32⟩
  | 59 => ⟨S16x48, .f32⟩
  | 60 => ⟨S48x64x64x64, .f32⟩
  | 61 => ⟨S16x64x64x64, .f32⟩
  | 62 => ⟨S16x64x64x64, .f32⟩
  | 63 => ⟨S16x48x1x1x1, .f32⟩
  | 64 => ⟨S16x48, .f32⟩
  | 65 => ⟨S48x64x64x64, .f32⟩
  | 66 => ⟨S16x64x64x64, .f32⟩
  | 67 => ⟨S16x64x64x64, .f32⟩
  | 68 => ⟨S16x48x1x1x1, .f32⟩
  | 69 => ⟨S16x48, .f32⟩
  | 70 => ⟨S48x64x64x64, .f32⟩
  | 71 => ⟨S16x64x64x64, .f32⟩
  | 72 => ⟨S16x64x64x64, .f32⟩
  | 73 => ⟨S16x48x1x1x1, .f32⟩
  | 74 => ⟨S16x48, .f32⟩
  | 75 => ⟨S48x64x64x64, .f32⟩
  | 76 => ⟨S16x64x64x64, .f32⟩
  | 77 => ⟨S16x64x64x64, .f32⟩
  | 78 => ⟨S16x48x1x1x1, .f32⟩
  | 79 => ⟨S16x48, .f32⟩
  | 80 => ⟨S48x64x64x64, .f32⟩
  | 81 => ⟨S16x64x64x64, .f32⟩
  | 82 => ⟨S16x64x64x64, .f32⟩
  | 83 => ⟨S16x48x1x1x1, .f32⟩
  | 84 => ⟨S16x48, .f32⟩
  | 85 => ⟨S48x64x64x64, .f32⟩
  | 86 => ⟨S16x64x64x64, .f32⟩
  | 87 => ⟨S16x64x64x64, .f32⟩
  | 88 => ⟨S16x48x1x1x1, .f32⟩
  | 89 => ⟨S16x48, .f32⟩
  | 90 => ⟨S48x64x64x64, .f32⟩
  | 91 => ⟨S16x64x64x64, .f32⟩
  | 92 => ⟨S16x64x64x64, .f32⟩
  | 93 => ⟨S16x48x1x1x1, .f32⟩
  | 94 => ⟨S16x48, .f32⟩
  | 95 => ⟨S48x64x64x64, .f32⟩
  | 96 => ⟨S16x64x64x64, .f32⟩
  | 97 => ⟨S16x64x64x64, .f32⟩
  | 98 => ⟨S16x48x1x1x1, .f32⟩
  | 99 => ⟨S16x48, .f32⟩
  | 100 => ⟨S48x64x64x64, .f32⟩
  | 101 => ⟨S16x64x64x64, .f32⟩
  | 102 => ⟨S16x64x64x64, .f32⟩
  | 103 => ⟨S16x48x1x1x1, .f32⟩
  | 104 => ⟨S16x48, .f32⟩
  | 105 => ⟨S48x64x64x64, .f32⟩
  | 106 => ⟨S16x64x64x64, .f32⟩
  | 107 => ⟨S16x64x64x64, .f32⟩
  | 108 => ⟨S16x48x1x1x1, .f32⟩
  | 109 => ⟨S16x48, .f32⟩
  | 110 => ⟨S48x64x64x64, .f32⟩
  | 111 => ⟨S16x64x64x64, .f32⟩
  | 112 => ⟨S16x64x64x64, .f32⟩
  | 113 => ⟨S16x48x1x1x1, .f32⟩
  | 114 => ⟨S16x48, .f32⟩
  | 115 => ⟨S48x64x64x64, .f32⟩
  | 116 => ⟨S16x64x64x64, .f32⟩
  | 117 => ⟨S16x64x64x64, .f32⟩
  | 118 => ⟨S16x48x1x1x1, .f32⟩
  | 119 => ⟨S16x48, .f32⟩
  | 120 => ⟨S48x64x64x64, .f32⟩
  | 121 => ⟨S16x64x64x64, .f32⟩
  | 122 => ⟨S16x64x64x64, .f32⟩
  | 123 => ⟨S16x48x1x1x1, .f32⟩
  | 124 => ⟨S16x48, .f32⟩
  | 125 => ⟨S48x64x64x64, .f32⟩
  | 126 => ⟨S16x64x64x64, .f32⟩
  | 127 => ⟨S16x64x64x64, .f32⟩
  | _ => ⟨S16x64x64x64, .f32⟩

abbrev hbmTy0_1 (i : Nat) : BufTy := match i % 128 with
  | 0 => ⟨S16x48x1x1x1, .f32⟩
  | 1 => ⟨S16x48, .f32⟩
  | 2 => ⟨S48x64x64x64, .f32⟩
  | 3 => ⟨S16x64x64x64, .f32⟩
  | 4 => ⟨S16x64x64x64, .f32⟩
  | 5 => ⟨S16x48x1x1x1, .f32⟩
  | 6 => ⟨S16x48, .f32⟩
  | 7 => ⟨S48x64x64x64, .f32⟩
  | 8 => ⟨S16x64x64x64, .f32⟩
  | 9 => ⟨S16x64x64x64, .f32⟩
  | 10 => ⟨S16x48x1x1x1, .f32⟩
  | 11 => ⟨S16x48, .f32⟩
  | 12 => ⟨S48x64x64x64, .f32⟩
  | 13 => ⟨S16x64x64x64, .f32⟩
  | 14 => ⟨S16x64x64x64, .f32⟩
  | 15 => ⟨S16x64x64x64, .f32⟩
  | 16 => ⟨S16x64x64x64, .f32⟩
  | 17 => ⟨S_, .f32⟩
  | 18 => ⟨S1, .f32⟩
  | 19 => ⟨S1x1x1x1, .f32⟩
  | 20 => ⟨S_, .f32⟩
  | 21 => ⟨S1x1x1x1, .f32⟩
  | 22 => ⟨S1x1x1x1, .f32⟩
  | 23 => ⟨S16x64x64x64, .f32⟩
  | 24 => ⟨S16x64x64x64, .f32⟩
  | 25 => ⟨S_, .f32⟩
  | 26 => ⟨S16, .f32⟩
  | 27 => ⟨S16x1x1x1, .f32⟩
  | 28 => ⟨S16x1x1x1, .f32⟩
  | 29 => ⟨S16x1x1x1, .f32⟩
  | 30 => ⟨S16x64x64x64, .f32⟩
  | 31 => ⟨S16x64x64x64, .f32⟩
  | 32 => ⟨S16x64x64x64, .f32⟩
  | 33 => ⟨S16x64x64x64, .f32⟩
  | 34 => ⟨S16x64x64x64, .f32⟩
  | 35 => ⟨S_, .f32⟩
  | 36 => ⟨S16, .f32⟩
  | 37 => ⟨S16x1x1x1, .f32⟩
  | 38 => ⟨S16x1x1x1, .f32⟩
  | 39 => ⟨S16x1x1x1, .f32⟩
  | 40 => ⟨S16x64x64x64, .f32⟩
  | 41 => ⟨S16x64x64x64, .f32⟩
  | 42 => ⟨S16x64x64x64, .f32⟩
  | 43 => ⟨S16x64x64x64, .f32⟩
  | 44 => ⟨S_, .f32⟩
  | 45 => ⟨S16x1x1x1, .f32⟩
  | 46 => ⟨S16x1x1x1, .f32⟩
  | 47 => ⟨S16x1x1x1, .f32⟩
  | 48 => ⟨S16x64x64x64, .f32⟩
  | 49 => ⟨S16x64x64x64, .f32⟩
  | 50 => ⟨S_, .f32⟩
  | 51 => ⟨S16x64x64x64, .f32⟩
  | 52 => ⟨S16x64x64x64, .i1⟩
  | 53 => ⟨S_, .f32⟩
  | 54 => ⟨S16x64x64x64, .f32⟩
  | 55 => ⟨S16x64x64x64, .f32⟩
  | 56 => ⟨S16x64x64x64, .f32⟩
  | 57 => ⟨S_, .i32⟩
  | 58 => ⟨S_, .f32⟩
  | 59 => ⟨S16x66x66x128, .f32⟩
  | 60 => ⟨S16x66x8448, .f32⟩
  | 61 => ⟨S_, .i32⟩
  | 62 => ⟨S_, .f32⟩
  | 63 => ⟨S16x66x8960, .f32⟩
  | 64 => ⟨S66x16x8960, .f32⟩
  | 65 => ⟨S66x16x8960, .bf16⟩
  | _ => ⟨S16x64x64x64, .f32⟩

abbrev hbmTy (i : Nat) : BufTy := match i / 128 with
  | 0 => hbmTy0_0 i
  | 1 => hbmTy0_1 i
  | _ => ⟨S16x64x64x64, .f32⟩

abbrev bufTy : (tb : Table) → Fin (tcTables nBuf tb) → BufTy
  | .hbm, ⟨i, _⟩ => hbmTy i
  | _, _ => ⟨S16x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_cst : Ref sig .tc := ⟨.hbm, 145, rfl⟩
abbrev main_v139 : Ref sig .tc := ⟨.hbm, 146, rfl⟩
abbrev main_v140 : Ref sig .tc := ⟨.hbm, 147, rfl⟩
abbrev main_cst_0 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_cst_1 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_cst_2 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_cst_3 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_cst_4 : Ref sig .tc := ⟨.hbm, 178, rfl⟩
abbrev main_v167 : Ref sig .tc := ⟨.hbm, 179, rfl⟩
abbrev main_v168 : Ref sig .tc := ⟨.hbm, 180, rfl⟩
abbrev main_cst_5 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_c_6 : Ref sig .tc := ⟨.hbm, 185, rfl⟩
abbrev main_call2_v0 : Ref sig .tc := ⟨.hbm, 186, rfl⟩
abbrev main_v172 : Ref sig .tc := ⟨.hbm, 187, rfl⟩
abbrev main_v173 : Ref sig .tc := ⟨.hbm, 188, rfl⟩
abbrev main_c_7 : Ref sig .tc := ⟨.hbm, 189, rfl⟩
abbrev main_call3_v0 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩

abbrev nD : Nat := 1
abbrev τ : Topo := Topo.v7x

variable {F : FTy → Type} [FloatOps F]
-- ==== Kernel2.lean ====
abbrev S16x64x64x64 : Shape := ⟨4, ![16, 64, 64, 64]⟩
abbrev S1x64x64x64 : Shape := ⟨4, ![1, 64, 64, 64]⟩
abbrev S16x16x3x3x3 : Shape := ⟨5, ![16, 16, 3, 3, 3]⟩
abbrev S1x16x3x3x3 : Shape := ⟨5, ![1, 16, 3, 3, 3]⟩
abbrev S_ : Shape := ⟨0, ![]⟩
abbrev S16x66x66x128 : Shape := ⟨4, ![16, 66, 66, 128]⟩
abbrev S16x66x8448 : Shape := ⟨3, ![16, 66, 8448]⟩
abbrev S66x16x8448 : Shape := ⟨3, ![66, 16, 8448]⟩
abbrev S66x16x8960 : Shape := ⟨3, ![66, 16, 8960]⟩
abbrev S1x66x66x128 : Shape := ⟨4, ![1, 66, 66, 128]⟩
abbrev S1x66x8448 : Shape := ⟨3, ![1, 66, 8448]⟩
abbrev S66x1x8448 : Shape := ⟨3, ![66, 1, 8448]⟩
abbrev S66x1x8960 : Shape := ⟨3, ![66, 1, 8960]⟩
abbrev S3x3x3x16x16 : Shape := ⟨5, ![3, 3, 3, 16, 16]⟩
abbrev S27x16x16 : Shape := ⟨3, ![27, 16, 16]⟩
abbrev S3x3x3x1x16 : Shape := ⟨5, ![3, 3, 3, 1, 16]⟩
abbrev S27x1x16 : Shape := ⟨3, ![27, 1, 16]⟩
abbrev S3x3x16x3x16 : Shape := ⟨5, ![3, 3, 16, 3, 16]⟩
abbrev S9x16x48 : Shape := ⟨3, ![9, 16, 48]⟩
abbrev S3x3x1x3x16 : Shape := ⟨5, ![3, 3, 1, 3, 16]⟩
abbrev S9x1x48 : Shape := ⟨3, ![9, 1, 48]⟩
abbrev S8x16x8960 : Shape := ⟨3, ![8, 16, 8960]⟩
abbrev S1x16x8960 : Shape := ⟨3, ![1, 16, 8960]⟩
abbrev S16x1 : Shape := ⟨2, ![16, 1]⟩
abbrev S1 : Shape := ⟨1, ![1]⟩
abbrev S16x8960 : Shape := ⟨2, ![16, 8960]⟩
abbrev S1x8960 : Shape := ⟨2, ![1, 8960]⟩
abbrev S1x1x8960 : Shape := ⟨3, ![1, 1, 8960]⟩
abbrev S3x16x8960 : Shape := ⟨3, ![3, 16, 8960]⟩
abbrev S48x8960 : Shape := ⟨2, ![48, 8960]⟩
abbrev S48x8704 : Shape := ⟨2, ![48, 8704]⟩
abbrev S48x8448 : Shape := ⟨2, ![48, 8448]⟩
abbrev S1x16x48 : Shape := ⟨3, ![1, 16, 48]⟩
abbrev S16x48 : Shape := ⟨2, ![16, 48]⟩
abbrev S16x8448 : Shape := ⟨2, ![16, 8448]⟩
abbrev S1x8448 : Shape := ⟨2, ![1, 8448]⟩
abbrev S16x256 : Shape := ⟨2, ![16, 256]⟩
abbrev S16x8704 : Shape := ⟨2, ![16, 8704]⟩
abbrev S2x16x8960 : Shape := ⟨3, ![2, 16, 8960]⟩
abbrev S32x8960 : Shape := ⟨2, ![32, 8960]⟩
abbrev S1x1x48 : Shape := ⟨3, ![1, 1, 48]⟩
abbrev S1x48 : Shape := ⟨2, ![1, 48]⟩
abbrev S1x256 : Shape := ⟨2, ![1, 256]⟩
abbrev S1x8704 : Shape := ⟨2, ![1, 8704]⟩

abbrev nBuf : Space → Nat
  | .hbm => 34
  | .vmem => 13
  | .smem => 1
  | _ => 0

abbrev bufTy : (tb : Table) → Fin (tcTables nBuf tb) → BufTy
  | .hbm, ⟨0, _⟩ => ⟨S16x64x64x64, .f32⟩
  | .hbm, ⟨1, _⟩ => ⟨S1x64x64x64, .i32⟩
  | .hbm, ⟨2, _⟩ => ⟨S16x16x3x3x3, .f32⟩
  | .hbm, ⟨3, _⟩ => ⟨S1x16x3x3x3, .f32⟩
  | .hbm, ⟨4, _⟩ => ⟨S1x64x64x64, .f32⟩
  | .hbm, ⟨5, _⟩ => ⟨S16x64x64x64, .bf16⟩
  | .hbm, ⟨6, _⟩ => ⟨S_, .i32⟩
  | .hbm, ⟨7, _⟩ => ⟨S_, .bf16⟩
  | .hbm, ⟨8, _⟩ => ⟨S16x66x66x128, .bf16⟩
  | .hbm, ⟨9, _⟩ => ⟨S16x66x8448, .bf16⟩
  | .hbm, ⟨10, _⟩ => ⟨S66x16x8448, .bf16⟩
  | .hbm, ⟨11, _⟩ => ⟨S_, .i32⟩
  | .hbm, ⟨12, _⟩ => ⟨S_, .bf16⟩
  | .hbm, ⟨13, _⟩ => ⟨S66x16x8960, .bf16⟩
  | .hbm, ⟨14, _⟩ => ⟨S_, .i32⟩
  | .hbm, ⟨15, _⟩ => ⟨S_, .f32⟩
  | .hbm, ⟨16, _⟩ => ⟨S1x66x66x128, .f32⟩
  | .hbm, ⟨17, _⟩ => ⟨S1x66x8448, .f32⟩
  | .hbm, ⟨18, _⟩ => ⟨S66x1x8448, .f32⟩
  | .hbm, ⟨19, _⟩ => ⟨S_, .i32⟩
  | .hbm, ⟨20, _⟩ => ⟨S_, .f32⟩
  | .hbm, ⟨21, _⟩ => ⟨S66x1x8960, .f32⟩
  | .hbm, ⟨22, _⟩ => ⟨S3x3x3x16x16, .f32⟩
  | .hbm, ⟨23, _⟩ => ⟨S27x16x16, .f32⟩
  | .hbm, ⟨24, _⟩ => ⟨S3x3x3x1x16, .f32⟩
  | .hbm, ⟨25, _⟩ => ⟨S27x1x16, .f32⟩
  | .hbm, ⟨26, _⟩ => ⟨S3x3x3x16x16, .f32⟩
  | .hbm, ⟨27, _⟩ => ⟨S3x3x16x3x16, .f32⟩
  | .hbm, ⟨28, _⟩ => ⟨S9x16x48, .f32⟩
  | .hbm, ⟨29, _⟩ => ⟨S3x3x3x1x16, .f32⟩
  | .hbm, ⟨30, _⟩ => ⟨S3x3x1x3x16, .f32⟩
  | .hbm, ⟨31, _⟩ => ⟨S9x1x48, .f32⟩
  | .hbm, ⟨32, _⟩ => ⟨S66x16x8960, .f32⟩
  | .hbm, ⟨33, _⟩ => ⟨S66x1x8960, .f32⟩
  | .local _ .vmem, ⟨0, _⟩ => ⟨S8x16x8960, .bf16⟩
  | .local _ .vmem, ⟨1, _⟩ => ⟨S8x16x8960, .bf16⟩
  | .local _ .vmem, ⟨2, _⟩ => ⟨S1x16x8960, .bf16⟩
  | .local _ .vmem, ⟨3, _⟩ => ⟨S1x16x8960, .bf16⟩
  | .local _ .vmem, ⟨4, _⟩ => ⟨S1x16x8960, .bf16⟩
  | .local _ .vmem, ⟨5, _⟩ => ⟨S1x16x8960, .bf16⟩
  | .local _ .vmem, ⟨6, _⟩ => ⟨S66x1x8960, .f32⟩
  | .local _ .vmem, ⟨7, _⟩ => ⟨S9x16x48, .f32⟩
  | .local _ .vmem, ⟨8, _⟩ => ⟨S9x1x48, .f32⟩
  | .local _ .vmem, ⟨9, _⟩ => ⟨S66x16x8960, .f32⟩
  | .local _ .vmem, ⟨10, _⟩ => ⟨S66x1x8960, .f32⟩
  | .local _ .vmem, ⟨11, _⟩ => ⟨S16x1, .f32⟩
  | .local _ .vmem, ⟨12, _⟩ => ⟨S16x1, .f32⟩
  | .local _ .smem, ⟨0, _⟩ => ⟨S1, .f32⟩
  | _, _ => ⟨S16x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_c_1 : Ref sig .tc := ⟨.hbm, 14, rfl⟩
abbrev main_call2_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_call3_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![8], ![false]⟩

def k0_off1 (i : grid0.Coords) (c0_i32_36 : BitVec 32) : Fin 3 → Nat :=
  let arg0 : BitVec 32 := BitVec.ofNat 32 (i 0).val
  let c8_i32 : BitVec 32 := 8#32
  let v58 : BitVec 32 := Scalar.muli arg0 c8_i32
  let v59 : BitVec 32 := Scalar.addi v58 c0_i32_36
  let c1_i32 : BitVec 32 := 1#32
  let v60 : BitVec 32 := Scalar.addi v59 c1_i32
  let v61 : Index := Scalar.indexCast v60
  let c0_37 : Index := 0#32
  let c0_38 : Index := 0#32
  ![v61.toNat, 0, 0]
def k0_off2 (i : grid0.Coords) (c0_i32_36 : BitVec 32) : Fin 3 → Nat :=
  let arg0 : BitVec 32 := BitVec.ofNat 32 (i 0).val
  let c8_i32 : BitVec 32 := 8#32
  let v58 : BitVec 32 := Scalar.muli arg0 c8_i32
  let v59 : BitVec 32 := Scalar.addi v58 c0_i32_36
  let c1_i32 : BitVec 32 := 1#32
  let v60 : BitVec 32 := Scalar.addi v59 c1_i32
  let v77 : Index := Scalar.indexCast v60
  let c0_42 : Index := 0#32
  let c0_43 : Index := 0#32
  ![v77.toNat, 0, 0]
def k0_cond2 (i : grid0.Coords) : BitVec 1 :=
  let arg0 : BitVec 32 := BitVec.ofNat 32 (i 0).val
  let c7_i32_360 : BitVec 32 := 7#32
  let v587 : BitVec 1 := Scalar.cmpi .eq arg0 c7_i32_360
  let v588 : BitVec 32 := Scalar.extui v587
  let c0_i32_361 : BitVec 32 := 0#32
  let v589 : BitVec 1 := Scalar.cmpi .ne v588 c0_i32_361
  v589

@[reducible] def k0_t1_loop : Scf.Loop 32 :=
  let c0_i32_362 : BitVec 32 := 0#32
  let c64_i32 : BitVec 32 := 64#32
  let v590 : BitVec 32 := Scalar.addi c0_i32_362 c64_i32
  let c1_i32_363 : BitVec 32 := 1#32
  ⟨c0_i32_362, v590, c1_i32_363⟩
def k0_off3 (k0_t1 : Fin k0_t1_loop.trips) : Fin 3 → Nat :=
  let c0_i32_362 : BitVec 32 := 0#32
  let c1_i32_363 : BitVec 32 := 1#32
  let arg12 : BitVec 32 := Scf.iv c0_i32_362 c1_i32_363 k0_t1
  let v591 : Index := Scalar.indexCast arg12
  let c0_365 : Index := 0#32
  let c0_366 : Index := 0#32
  ![v591.toNat, 0, 0]
def k0_off4 (k0_t1 : Fin k0_t1_loop.trips) : Fin 3 → Nat :=
  let c0_i32_362 : BitVec 32 := 0#32
  let c1_i32_363 : BitVec 32 := 1#32
  let arg12 : BitVec 32 := Scf.iv c0_i32_362 c1_i32_363 k0_t1
  let c1_i32_403 : BitVec 32 := 1#32
  let v641 : BitVec 32 := Scalar.addi arg12 c1_i32_403
  let v642 : Index := Scalar.indexCast v641
  let c0_404 : Index := 0#32
  let c0_405 : Index := 0#32
  ![v642.toNat, 0, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c8_i32 : BitVec 32 := 8#32
  let v0 : BitVec 32 := Scalar.muli arg0 c8_i32
  let c8_i32_0 : BitVec 32 := 8#32
  let v1 : BitVec 32 := Scalar.addi v0 c8_i32_0
  let c0_i32 : BitVec 32 := 0#32
  let v2 : BitVec 32 := Scalar.addi v1 c0_i32
  let c0_i32_1 : BitVec 32 := 0#32
  let c0_i32_2 : BitVec 32 := 0#32
  let c0_i32_3 : BitVec 32 := 0#32
  ![v2.toNat, c0_i32_1.toNat, c0_i32_2.toNat]

def cc0_transform_2 (i : grid0.Coords) : Fin 3 → Nat :=
  let arg0 : BitVec 32 := BitVec.ofNat 32 (i 0).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.addi v1 c1_i32
  let c0_i32 : BitVec 32 := 0#32
  let c0_i32_1 : BitVec 32 := 0#32
  let c0_i32_2 : BitVec 32 := 0#32
  ![v2.toNat, c0_i32.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S8x16x8960 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x8960 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x8960 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S66x1x8960 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S9x16x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S9x1x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S66x16x8960 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S66x1x8960 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S16x64x64x64 : Shape := ⟨4, ![16, 64, 64, 64]⟩
abbrev S1x64x64x64 : Shape := ⟨4, ![1, 64, 64, 64]⟩
abbrev S16x16x3x3x3 : Shape := ⟨5, ![16, 16, 3, 3, 3]⟩
abbrev S1x16x3x3x3 : Shape := ⟨5, ![1, 16, 3, 3, 3]⟩
abbrev S_ : Shape := ⟨0, ![]⟩
abbrev S16x66x66x66 : Shape := ⟨4, ![16, 66, 66, 66]⟩
abbrev S16x16x1x1x1 : Shape := ⟨5, ![16, 16, 1, 1, 1]⟩
abbrev S16x16 : Shape := ⟨2, ![16, 16]⟩
abbrev S1x16x1x1x1 : Shape := ⟨5, ![1, 16, 1, 1, 1]⟩
abbrev S1x16 : Shape := ⟨2, ![1, 16]⟩
abbrev S16x66x66x128 : Shape := ⟨4, ![16, 66, 66, 128]⟩
abbrev S16x66x8448 : Shape := ⟨3, ![16, 66, 8448]⟩
abbrev S16x66x8960 : Shape := ⟨3, ![16, 66, 8960]⟩
abbrev S66x16x8960 : Shape := ⟨3, ![66, 16, 8960]⟩
abbrev S1x66x66x128 : Shape := ⟨4, ![1, 66, 66, 128]⟩
abbrev S1x66x8448 : Shape := ⟨3, ![1, 66, 8448]⟩
abbrev S1x66x8960 : Shape := ⟨3, ![1, 66, 8960]⟩
abbrev S66x1x8960 : Shape := ⟨3, ![66, 1, 8960]⟩

abbrev nBuf : Space → Nat
  | .hbm => 305
  | .vmem => 0
  | .smem => 0
  | _ => 0

abbrev hbmTy0_0 (i : Nat) : BufTy := match i % 128 with
  | 0 => ⟨S16x64x64x64, .f32⟩
  | 1 => ⟨S1x64x64x64, .i32⟩
  | 2 => ⟨S16x16x3x3x3, .f32⟩
  | 3 => ⟨S1x16x3x3x3, .f32⟩
  | 4 => ⟨S1x64x64x64, .f32⟩
  | 5 => ⟨S_, .i32⟩
  | 6 => ⟨S_, .f32⟩
  | 7 => ⟨S16x66x66x66, .f32⟩
  | 8 => ⟨S16x16x1x1x1, .f32⟩
  | 9 => ⟨S16x16, .f32⟩
  | 10 => ⟨S16x64x64x64, .f32⟩
  | 11 => ⟨S16x64x64x64, .f32⟩
  | 12 => ⟨S16x16x1x1x1, .f32⟩
  | 13 => ⟨S16x16, .f32⟩
  | 14 => ⟨S16x64x64x64, .f32⟩
  | 15 => ⟨S16x64x64x64, .f32⟩
  | 16 => ⟨S16x64x64x64, .f32⟩
  | 17 => ⟨S16x16x1x1x1, .f32⟩
  | 18 => ⟨S16x16, .f32⟩
  | 19 => ⟨S16x64x64x64, .f32⟩
  | 20 => ⟨S16x64x64x64, .f32⟩
  | 21 => ⟨S16x64x64x64, .f32⟩
  | 22 => ⟨S16x16x1x1x1, .f32⟩
  | 23 => ⟨S16x16, .f32⟩
  | 24 => ⟨S16x64x64x64, .f32⟩
  | 25 => ⟨S16x64x64x64, .f32⟩
  | 26 => ⟨S16x64x64x64, .f32⟩
  | 27 => ⟨S16x16x1x1x1, .f32⟩
  | 28 => ⟨S16x16, .f32⟩
  | 29 => ⟨S16x64x64x64, .f32⟩
  | 30 => ⟨S16x64x64x64, .f32⟩
  | 31 => ⟨S16x64x64x64, .f32⟩
  | 32 => ⟨S16x16x1x1x1, .f32⟩
  | 33 => ⟨S16x16, .f32⟩
  | 34 => ⟨S16x64x64x64, .f32⟩
  | 35 => ⟨S16x64x64x64, .f32⟩
  | 36 => ⟨S16x64x64x64, .f32⟩
  | 37 => ⟨S16x16x1x1x1, .f32⟩
  | 38 => ⟨S16x16, .f32⟩
  | 39 => ⟨S16x64x64x64, .f32⟩
  | 40 => ⟨S16x64x64x64, .f32⟩
  | 41 => ⟨S16x64x64x64, .f32⟩
  | 42 => ⟨S16x16x1x1x1, .f32⟩
  | 43 => ⟨S16x16, .f32⟩
  | 44 => ⟨S16x64x64x64, .f32⟩
  | 45 => ⟨S16x64x64x64, .f32⟩
  | 46 => ⟨S16x64x64x64, .f32⟩
  | 47 => ⟨S16x16x1x1x1, .f32⟩
  | 48 => ⟨S16x16, .f32⟩
  | 49 => ⟨S16x64x64x64, .f32⟩
  | 50 => ⟨S16x64x64x64, .f32⟩
  | 51 => ⟨S16x64x64x64, .f32⟩
  | 52 => ⟨S16x16x1x1x1, .f32⟩
  | 53 => ⟨S16x16, .f32⟩
  | 54 => ⟨S16x64x64x64, .f32⟩
  | 55 => ⟨S16x64x64x64, .f32⟩
  | 56 => ⟨S16x64x64x64, .f32⟩
  | 57 => ⟨S16x16x1x1x1, .f32⟩
  | 58 => ⟨S16x16, .f32⟩
  | 59 => ⟨S16x64x64x64, .f32⟩
  | 60 => ⟨S16x64x64x64, .f32⟩
  | 61 => ⟨S16x64x64x64, .f32⟩
  | 62 => ⟨S16x16x1x1x1, .f32⟩
  | 63 => ⟨S16x16, .f32⟩
  | 64 => ⟨S16x64x64x64, .f32⟩
  | 65 => ⟨S16x64x64x64, .f32⟩
  | 66 => ⟨S16x64x64x64, .f32⟩
  | 67 => ⟨S16x16x1x1x1, .f32⟩
  | 68 => ⟨S16x16, .f32⟩
  | 69 => ⟨S16x64x64x64, .f32⟩
  | 70 => ⟨S16x64x64x64, .f32⟩
  | 71 => ⟨S16x64x64x64, .f32⟩
  | 72 => ⟨S16x16x1x1x1, .f32⟩
  | 73 => ⟨S16x16, .f32⟩
  | 74 => ⟨S16x64x64x64, .f32⟩
  | 75 => ⟨S16x64x64x64, .f32⟩
  | 76 => ⟨S16x64x64x64, .f32⟩
  | 77 => ⟨S16x16x1x1x1, .f32⟩
  | 78 => ⟨S16x16, .f32⟩
  | 79 => ⟨S16x64x64x64, .f32⟩
  | 80 => ⟨S16x64x64x64, .f32⟩
  | 81 => ⟨S16x64x64x64, .f32⟩
  | 82 => ⟨S16x16x1x1x1, .f32⟩
  | 83 => ⟨S16x16, .f32⟩
  | 84 => ⟨S16x64x64x64, .f32⟩
  | 85 => ⟨S16x64x64x64, .f32⟩
  | 86 => ⟨S16x64x64x64, .f32⟩
  | 87 => ⟨S16x16x1x1x1, .f32⟩
  | 88 => ⟨S16x16, .f32⟩
  | 89 => ⟨S16x64x64x64, .f32⟩
  | 90 => ⟨S16x64x64x64, .f32⟩
  | 91 => ⟨S16x64x64x64, .f32⟩
  | 92 => ⟨S16x16x1x1x1, .f32⟩
  | 93 => ⟨S16x16, .f32⟩
  | 94 => ⟨S16x64x64x64, .f32⟩
  | 95 => ⟨S16x64x64x64, .f32⟩
  | 96 => ⟨S16x64x64x64, .f32⟩
  | 97 => ⟨S16x16x1x1x1, .f32⟩
  | 98 => ⟨S16x16, .f32⟩
  | 99 => ⟨S16x64x64x64, .f32⟩
  | 100 => ⟨S16x64x64x64, .f32⟩
  | 101 => ⟨S16x64x64x64, .f32⟩
  | 102 => ⟨S16x16x1x1x1, .f32⟩
  | 103 => ⟨S16x16, .f32⟩
  | 104 => ⟨S16x64x64x64, .f32⟩
  | 105 => ⟨S16x64x64x64, .f32⟩
  | 106 => ⟨S16x64x64x64, .f32⟩
  | 107 => ⟨S16x16x1x1x1, .f32⟩
  | 108 => ⟨S16x16, .f32⟩
  | 109 => ⟨S16x64x64x64, .f32⟩
  | 110 => ⟨S16x64x64x64, .f32⟩
  | 111 => ⟨S16x64x64x64, .f32⟩
  | 112 => ⟨S16x16x1x1x1, .f32⟩
  | 113 => ⟨S16x16, .f32⟩
  | 114 => ⟨S16x64x64x64, .f32⟩
  | 115 => ⟨S16x64x64x64, .f32⟩
  | 116 => ⟨S16x64x64x64, .f32⟩
  | 117 => ⟨S16x16x1x1x1, .f32⟩
  | 118 => ⟨S16x16, .f32⟩
  | 119 => ⟨S16x64x64x64, .f32⟩
  | 120 => ⟨S16x64x64x64, .f32⟩
  | 121 => ⟨S16x64x64x64, .f32⟩
  | 122 => ⟨S16x16x1x1x1, .f32⟩
  | 123 => ⟨S16x16, .f32⟩
  | 124 => ⟨S16x64x64x64, .f32⟩
  | 125 => ⟨S16x64x64x64, .f32⟩
  | 126 => ⟨S16x64x64x64, .f32⟩
  | 127 => ⟨S16x16x1x1x1, .f32⟩
  | _ => ⟨S16x64x64x64, .f32⟩

abbrev hbmTy0_1 (i : Nat) : BufTy := match i % 128 with
  | 0 => ⟨S16x16, .f32⟩
  | 1 => ⟨S16x64x64x64, .f32⟩
  | 2 => ⟨S16x64x64x64, .f32⟩
  | 3 => ⟨S16x64x64x64, .f32⟩
  | 4 => ⟨S16x16x1x1x1, .f32⟩
  | 5 => ⟨S16x16, .f32⟩
  | 6 => ⟨S16x64x64x64, .f32⟩
  | 7 => ⟨S16x64x64x64, .f32⟩
  | 8 => ⟨S16x64x64x64, .f32⟩
  | 9 => ⟨S16x16x1x1x1, .f32⟩
  | 10 => ⟨S16x16, .f32⟩
  | 11 => ⟨S16x64x64x64, .f32⟩
  | 12 => ⟨S16x64x64x64, .f32⟩
  | 13 => ⟨S16x64x64x64, .f32⟩
  | 14 => ⟨S16x64x64x64, .f32⟩
  | 15 => ⟨S16x64x64x64, .f32⟩
  | 16 => ⟨S_, .f32⟩
  | 17 => ⟨S16x64x64x64, .f32⟩
  | 18 => ⟨S16x64x64x64, .i1⟩
  | 19 => ⟨S_, .f32⟩
  | 20 => ⟨S16x64x64x64, .f32⟩
  | 21 => ⟨S16x64x64x64, .f32⟩
  | 22 => ⟨S16x64x64x64, .f32⟩
  | 23 => ⟨S_, .i32⟩
  | 24 => ⟨S_, .f32⟩
  | 25 => ⟨S16x66x66x66, .f32⟩
  | 26 => ⟨S1x16x1x1x1, .f32⟩
  | 27 => ⟨S1x16, .f32⟩
  | 28 => ⟨S16x64x64x64, .f32⟩
  | 29 => ⟨S1x64x64x64, .f32⟩
  | 30 => ⟨S1x16x1x1x1, .f32⟩
  | 31 => ⟨S1x16, .f32⟩
  | 32 => ⟨S16x64x64x64, .f32⟩
  | 33 => ⟨S1x64x64x64, .f32⟩
  | 34 => ⟨S1x64x64x64, .f32⟩
  | 35 => ⟨S1x16x1x1x1, .f32⟩
  | 36 => ⟨S1x16, .f32⟩
  | 37 => ⟨S16x64x64x64, .f32⟩
  | 38 => ⟨S1x64x64x64, .f32⟩
  | 39 => ⟨S1x64x64x64, .f32⟩
  | 40 => ⟨S1x16x1x1x1, .f32⟩
  | 41 => ⟨S1x16, .f32⟩
  | 42 => ⟨S16x64x64x64, .f32⟩
  | 43 => ⟨S1x64x64x64, .f32⟩
  | 44 => ⟨S1x64x64x64, .f32⟩
  | 45 => ⟨S1x16x1x1x1, .f32⟩
  | 46 => ⟨S1x16, .f32⟩
  | 47 => ⟨S16x64x64x64, .f32⟩
  | 48 => ⟨S1x64x64x64, .f32⟩
  | 49 => ⟨S1x64x64x64, .f32⟩
  | 50 => ⟨S1x16x1x1x1, .f32⟩
  | 51 => ⟨S1x16, .f32⟩
  | 52 => ⟨S16x64x64x64, .f32⟩
  | 53 => ⟨S1x64x64x64, .f32⟩
  | 54 => ⟨S1x64x64x64, .f32⟩
  | 55 => ⟨S1x16x1x1x1, .f32⟩
  | 56 => ⟨S1x16, .f32⟩
  | 57 => ⟨S16x64x64x64, .f32⟩
  | 58 => ⟨S1x64x64x64, .f32⟩
  | 59 => ⟨S1x64x64x64, .f32⟩
  | 60 => ⟨S1x16x1x1x1, .f32⟩
  | 61 => ⟨S1x16, .f32⟩
  | 62 => ⟨S16x64x64x64, .f32⟩
  | 63 => ⟨S1x64x64x64, .f32⟩
  | 64 => ⟨S1x64x64x64, .f32⟩
  | 65 => ⟨S1x16x1x1x1, .f32⟩
  | 66 => ⟨S1x16, .f32⟩
  | 67 => ⟨S16x64x64x64, .f32⟩
  | 68 => ⟨S1x64x64x64, .f32⟩
  | 69 => ⟨S1x64x64x64, .f32⟩
  | 70 => ⟨S1x16x1x1x1, .f32⟩
  | 71 => ⟨S1x16, .f32⟩
  | 72 => ⟨S16x64x64x64, .f32⟩
  | 73 => ⟨S1x64x64x64, .f32⟩
  | 74 => ⟨S1x64x64x64, .f32⟩
  | 75 => ⟨S1x16x1x1x1, .f32⟩
  | 76 => ⟨S1x16, .f32⟩
  | 77 => ⟨S16x64x64x64, .f32⟩
  | 78 => ⟨S1x64x64x64, .f32⟩
  | 79 => ⟨S1x64x64x64, .f32⟩
  | 80 => ⟨S1x16x1x1x1, .f32⟩
  | 81 => ⟨S1x16, .f32⟩
  | 82 => ⟨S16x64x64x64, .f32⟩
  | 83 => ⟨S1x64x64x64, .f32⟩
  | 84 => ⟨S1x64x64x64, .f32⟩
  | 85 => ⟨S1x16x1x1x1, .f32⟩
  | 86 => ⟨S1x16, .f32⟩
  | 87 => ⟨S16x64x64x64, .f32⟩
  | 88 => ⟨S1x64x64x64, .f32⟩
  | 89 => ⟨S1x64x64x64, .f32⟩
  | 90 => ⟨S1x16x1x1x1, .f32⟩
  | 91 => ⟨S1x16, .f32⟩
  | 92 => ⟨S16x64x64x64, .f32⟩
  | 93 => ⟨S1x64x64x64, .f32⟩
  | 94 => ⟨S1x64x64x64, .f32⟩
  | 95 => ⟨S1x16x1x1x1, .f32⟩
  | 96 => ⟨S1x16, .f32⟩
  | 97 => ⟨S16x64x64x64, .f32⟩
  | 98 => ⟨S1x64x64x64, .f32⟩
  | 99 => ⟨S1x64x64x64, .f32⟩
  | 100 => ⟨S1x16x1x1x1, .f32⟩
  | 101 => ⟨S1x16, .f32⟩
  | 102 => ⟨S16x64x64x64, .f32⟩
  | 103 => ⟨S1x64x64x64, .f32⟩
  | 104 => ⟨S1x64x64x64, .f32⟩
  | 105 => ⟨S1x16x1x1x1, .f32⟩
  | 106 => ⟨S1x16, .f32⟩
  | 107 => ⟨S16x64x64x64, .f32⟩
  | 108 => ⟨S1x64x64x64, .f32⟩
  | 109 => ⟨S1x64x64x64, .f32⟩
  | 110 => ⟨S1x16x1x1x1, .f32⟩
  | 111 => ⟨S1x16, .f32⟩
  | 112 => ⟨S16x64x64x64, .f32⟩
  | 113 => ⟨S1x64x64x64, .f32⟩
  | 114 => ⟨S1x64x64x64, .f32⟩
  | 115 => ⟨S1x16x1x1x1, .f32⟩
  | 116 => ⟨S1x16, .f32⟩
  | 117 => ⟨S16x64x64x64, .f32⟩
  | 118 => ⟨S1x64x64x64, .f32⟩
  | 119 => ⟨S1x64x64x64, .f32⟩
  | 120 => ⟨S1x16x1x1x1, .f32⟩
  | 121 => ⟨S1x16, .f32⟩
  | 122 => ⟨S16x64x64x64, .f32⟩
  | 123 => ⟨S1x64x64x64, .f32⟩
  | 124 => ⟨S1x64x64x64, .f32⟩
  | 125 => ⟨S1x16x1x1x1, .f32⟩
  | 126 => ⟨S1x16, .f32⟩
  | 127 => ⟨S16x64x64x64, .f32⟩
  | _ => ⟨S16x64x64x64, .f32⟩

abbrev hbmTy0_2 (i : Nat) : BufTy := match i % 128 with
  | 0 => ⟨S1x64x64x64, .f32⟩
  | 1 => ⟨S1x64x64x64, .f32⟩
  | 2 => ⟨S1x16x1x1x1, .f32⟩
  | 3 => ⟨S1x16, .f32⟩
  | 4 => ⟨S16x64x64x64, .f32⟩
  | 5 => ⟨S1x64x64x64, .f32⟩
  | 6 => ⟨S1x64x64x64, .f32⟩
  | 7 => ⟨S1x16x1x1x1, .f32⟩
  | 8 => ⟨S1x16, .f32⟩
  | 9 => ⟨S16x64x64x64, .f32⟩
  | 10 => ⟨S1x64x64x64, .f32⟩
  | 11 => ⟨S1x64x64x64, .f32⟩
  | 12 => ⟨S1x16x1x1x1, .f32⟩
  | 13 => ⟨S1x16, .f32⟩
  | 14 => ⟨S16x64x64x64, .f32⟩
  | 15 => ⟨S1x64x64x64, .f32⟩
  | 16 => ⟨S1x64x64x64, .f32⟩
  | 17 => ⟨S1x16x1x1x1, .f32⟩
  | 18 => ⟨S1x16, .f32⟩
  | 19 => ⟨S16x64x64x64, .f32⟩
  | 20 => ⟨S1x64x64x64, .f32⟩
  | 21 => ⟨S1x64x64x64, .f32⟩
  | 22 => ⟨S1x16x1x1x1, .f32⟩
  | 23 => ⟨S1x16, .f32⟩
  | 24 => ⟨S16x64x64x64, .f32⟩
  | 25 => ⟨S1x64x64x64, .f32⟩
  | 26 => ⟨S1x64x64x64, .f32⟩
  | 27 => ⟨S1x16x1x1x1, .f32⟩
  | 28 => ⟨S1x16, .f32⟩
  | 29 => ⟨S16x64x64x64, .f32⟩
  | 30 => ⟨S1x64x64x64, .f32⟩
  | 31 => ⟨S1x64x64x64, .f32⟩
  | 32 => ⟨S1x64x64x64, .f32⟩
  | 33 => ⟨S_, .i32⟩
  | 34 => ⟨S_, .f32⟩
  | 35 => ⟨S16x66x66x128, .f32⟩
  | 36 => ⟨S16x66x8448, .f32⟩
  | 37 => ⟨S_, .i32⟩
  | 38 => ⟨S_, .f32⟩
  | 39 => ⟨S16x66x8960, .f32⟩
  | 40 => ⟨S66x16x8960, .f32⟩
  | 41 => ⟨S_, .i32⟩
  | 42 => ⟨S_, .f32⟩
  | 43 => ⟨S1x66x66x128, .f32⟩
  | 44 => ⟨S1x66x8448, .f32⟩
  | 45 => ⟨S_, .i32⟩
  | 46 => ⟨S_, .f32⟩
  | 47 => ⟨S1x66x8960, .f32⟩
  | 48 => ⟨S66x1x8960, .f32⟩
  | _ => ⟨S16x64x64x64, .f32⟩

abbrev hbmTy (i : Nat) : BufTy := match i / 128 with
  | 0 => hbmTy0_0 i
  | 1 => hbmTy0_1 i
  | 2 => hbmTy0_2 i
  | _ => ⟨S16x64x64x64, .f32⟩

abbrev bufTy : (tb : Table) → Fin (tcTables nBuf tb) → BufTy
  | .hbm, ⟨i, _⟩ => hbmTy i
  | _, _ => ⟨S16x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_cst : Ref sig .tc := ⟨.hbm, 144, rfl⟩
abbrev main_v138 : Ref sig .tc := ⟨.hbm, 145, rfl⟩
abbrev main_v139 : Ref sig .tc := ⟨.hbm, 146, rfl⟩
abbrev main_cst_0 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_c_1 : Ref sig .tc := ⟨.hbm, 151, rfl⟩
abbrev main_call2_v0 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_v238 : Ref sig .tc := ⟨.hbm, 248, rfl⟩
abbrev main_v239 : Ref sig .tc := ⟨.hbm, 249, rfl⟩
abbrev main_v240 : Ref sig .tc := ⟨.hbm, 250, rfl⟩
abbrev main_v241 : Ref sig .tc := ⟨.hbm, 251, rfl⟩
abbrev main_v242 : Ref sig .tc := ⟨.hbm, 252, rfl⟩
abbrev main_v243 : Ref sig .tc := ⟨.hbm, 253, rfl⟩
abbrev main_v244 : Ref sig .tc := ⟨.hbm, 254, rfl⟩
abbrev main_v245 : Ref sig .tc := ⟨.hbm, 255, rfl⟩
abbrev main_v246 : Ref sig .tc := ⟨.hbm, 256, rfl⟩
abbrev main_v247 : Ref sig .tc := ⟨.hbm, 257, rfl⟩
abbrev main_v248 : Ref sig .tc := ⟨.hbm, 258, rfl⟩
abbrev main_v249 : Ref sig .tc := ⟨.hbm, 259, rfl⟩
abbrev main_v250 : Ref sig .tc := ⟨.hbm, 260, rfl⟩
abbrev main_v251 : Ref sig .tc := ⟨.hbm, 261, rfl⟩
abbrev main_v252 : Ref sig .tc := ⟨.hbm, 262, rfl⟩
abbrev main_v253 : Ref sig .tc := ⟨.hbm, 263, rfl⟩
abbrev main_v254 : Ref sig .tc := ⟨.hbm, 264, rfl⟩
abbrev main_v255 : Ref sig .tc := ⟨.hbm, 265, rfl⟩
abbrev main_v256 : Ref sig .tc := ⟨.hbm, 266, rfl⟩
abbrev main_v257 : Ref sig .tc := ⟨.hbm, 267, rfl⟩
abbrev main_v258 : Ref sig .tc := ⟨.hbm, 268, rfl⟩
abbrev main_v259 : Ref sig .tc := ⟨.hbm, 269, rfl⟩
abbrev main_v260 : Ref sig .tc := ⟨.hbm, 270, rfl⟩
abbrev main_v261 : Ref sig .tc := ⟨.hbm, 271, rfl⟩
abbrev main_v262 : Ref sig .tc := ⟨.hbm, 272, rfl⟩
abbrev main_v263 : Ref sig .tc := ⟨.hbm, 273, rfl⟩
abbrev main_v264 : Ref sig .tc := ⟨.hbm, 274, rfl⟩
abbrev main_v265 : Ref sig .tc := ⟨.hbm, 275, rfl⟩
abbrev main_v266 : Ref sig .tc := ⟨.hbm, 276, rfl⟩
abbrev main_v267 : Ref sig .tc := ⟨.hbm, 277, rfl⟩
abbrev main_v268 : Ref sig .tc := ⟨.hbm, 278, rfl⟩
abbrev main_v269 : Ref sig .tc := ⟨.hbm, 279, rfl⟩
abbrev main_v270 : Ref sig .tc := ⟨.hbm, 280, rfl⟩
abbrev main_v271 : Ref sig .tc := ⟨.hbm, 281, rfl⟩
abbrev main_v272 : Ref sig .tc := ⟨.hbm, 282, rfl⟩
abbrev main_v273 : Ref sig .tc := ⟨.hbm, 283, rfl⟩
abbrev main_v274 : Ref sig .tc := ⟨.hbm, 284, rfl⟩
abbrev main_v275 : Ref sig .tc := ⟨.hbm, 285, rfl⟩
abbrev main_v276 : Ref sig .tc := ⟨.hbm, 286, rfl⟩
abbrev main_v277 : Ref sig .tc := ⟨.hbm, 287, rfl⟩
abbrev main_v278 : Ref sig .tc := ⟨.hbm, 288, rfl⟩
abbrev main_c_2 : Ref sig .tc := ⟨.hbm, 289, rfl⟩
abbrev main_call3_v0 : Ref sig .tc := ⟨.hbm, 290, rfl⟩
abbrev main_v279 : Ref sig .tc := ⟨.hbm, 291, rfl⟩
abbrev main_v280 : Ref sig .tc := ⟨.hbm, 292, rfl⟩
abbrev main_c_3 : Ref sig .tc := ⟨.hbm, 293, rfl⟩
abbrev main_call4_v0 : Ref sig .tc := ⟨.hbm, 294, rfl⟩
abbrev main_v281 : Ref sig .tc := ⟨.hbm, 295, rfl⟩
abbrev main_v282 : Ref sig .tc := ⟨.hbm, 296, rfl⟩
abbrev main_c_4 : Ref sig .tc := ⟨.hbm, 297, rfl⟩
abbrev main_call5_v0 : Ref sig .tc := ⟨.hbm, 298, rfl⟩
abbrev main_v283 : Ref sig .tc := ⟨.hbm, 299, rfl⟩
abbrev main_v284 : Ref sig .tc := ⟨.hbm, 300, rfl⟩
abbrev main_c_5 : Ref sig .tc := ⟨.hbm, 301, rfl⟩
abbrev main_call6_v0 : Ref sig .tc := ⟨.hbm, 302, rfl⟩
abbrev main_v285 : Ref sig .tc := ⟨.hbm, 303, rfl⟩
abbrev main_v286 : Ref sig .tc := ⟨.hbm, 304, rfl⟩

abbrev nD : Nat := 1
abbrev τ : Topo := Topo.v7x

variable {F : FTy → Type} [FloatOps F]
-- ==== Kernel3.lean ====
abbrev S16x64x64x64 : Shape := ⟨4, ![16, 64, 64, 64]⟩
abbrev S1x64x64x64 : Shape := ⟨4, ![1, 64, 64, 64]⟩
abbrev S16x16x3x3x3 : Shape := ⟨5, ![16, 16, 3, 3, 3]⟩
abbrev S_ : Shape := ⟨0, ![]⟩
abbrev S16x66x66x128 : Shape := ⟨4, ![16, 66, 66, 128]⟩
abbrev S16x66x8448 : Shape := ⟨3, ![16, 66, 8448]⟩
abbrev S66x16x8448 : Shape := ⟨3, ![66, 16, 8448]⟩
abbrev S66x16x8960 : Shape := ⟨3, ![66, 16, 8960]⟩
abbrev S1x66x66x128 : Shape := ⟨4, ![1, 66, 66, 128]⟩
abbrev S1x66x8448 : Shape := ⟨3, ![1, 66, 8448]⟩
abbrev S66x1x8448 : Shape := ⟨3, ![66, 1, 8448]⟩
abbrev S66x1x8960 : Shape := ⟨3, ![66, 1, 8960]⟩
abbrev S3x3x3x16x16 : Shape := ⟨5, ![3, 3, 3, 16, 16]⟩
abbrev S27x16x16 : Shape := ⟨3, ![27, 16, 16]⟩
abbrev S3x3x16x3x16 : Shape := ⟨5, ![3, 3, 16, 3, 16]⟩
abbrev S9x16x48 : Shape := ⟨3, ![9, 16, 48]⟩
abbrev S8x16x8960 : Shape := ⟨3, ![8, 16, 8960]⟩
abbrev S1x16x8960 : Shape := ⟨3, ![1, 16, 8960]⟩
abbrev S16x1 : Shape := ⟨2, ![16, 1]⟩
abbrev S1 : Shape := ⟨1, ![1]⟩
abbrev S16x8960 : Shape := ⟨2, ![16, 8960]⟩
abbrev S3x16x8960 : Shape := ⟨3, ![3, 16, 8960]⟩
abbrev S48x8960 : Shape := ⟨2, ![48, 8960]⟩
abbrev S48x8704 : Shape := ⟨2, ![48, 8704]⟩
abbrev S48x8448 : Shape := ⟨2, ![48, 8448]⟩
abbrev S1x16x48 : Shape := ⟨3, ![1, 16, 48]⟩
abbrev S16x48 : Shape := ⟨2, ![16, 48]⟩
abbrev S16x8448 : Shape := ⟨2, ![16, 8448]⟩
abbrev S1x1x8960 : Shape := ⟨3, ![1, 1, 8960]⟩
abbrev S1x8960 : Shape := ⟨2, ![1, 8960]⟩
abbrev S1x8448 : Shape := ⟨2, ![1, 8448]⟩
abbrev S16x256 : Shape := ⟨2, ![16, 256]⟩
abbrev S16x8704 : Shape := ⟨2, ![16, 8704]⟩
abbrev S2x16x8960 : Shape := ⟨3, ![2, 16, 8960]⟩
abbrev S32x8960 : Shape := ⟨2, ![32, 8960]⟩

abbrev nBuf : Space → Nat
  | .hbm => 26
  | .vmem => 11
  | .smem => 1
  | _ => 0

abbrev bufTy : (tb : Table) → Fin (tcTables nBuf tb) → BufTy
  | .hbm, ⟨0, _⟩ => ⟨S16x64x64x64, .f32⟩
  | .hbm, ⟨1, _⟩ => ⟨S1x64x64x64, .i32⟩
  | .hbm, ⟨2, _⟩ => ⟨S16x16x3x3x3, .f32⟩
  | .hbm, ⟨3, _⟩ => ⟨S1x64x64x64, .f32⟩
  | .hbm, ⟨4, _⟩ => ⟨S_, .i32⟩
  | .hbm, ⟨5, _⟩ => ⟨S_, .f32⟩
  | .hbm, ⟨6, _⟩ => ⟨S16x66x66x128, .f32⟩
  | .hbm, ⟨7, _⟩ => ⟨S16x66x8448, .f32⟩
  | .hbm, ⟨8, _⟩ => ⟨S66x16x8448, .f32⟩
  | .hbm, ⟨9, _⟩ => ⟨S_, .i32⟩
  | .hbm, ⟨10, _⟩ => ⟨S_, .f32⟩
  | .hbm, ⟨11, _⟩ => ⟨S66x16x8960, .f32⟩
  | .hbm, ⟨12, _⟩ => ⟨S_, .i32⟩
  | .hbm, ⟨13, _⟩ => ⟨S_, .f32⟩
  | .hbm, ⟨14, _⟩ => ⟨S1x66x66x128, .f32⟩
  | .hbm, ⟨15, _⟩ => ⟨S1x66x8448, .f32⟩
  | .hbm, ⟨16, _⟩ => ⟨S66x1x8448, .f32⟩
  | .hbm, ⟨17, _⟩ => ⟨S_, .i32⟩
  | .hbm, ⟨18, _⟩ => ⟨S_, .f32⟩
  | .hbm, ⟨19, _⟩ => ⟨S66x1x8960, .f32⟩
  | .hbm, ⟨20, _⟩ => ⟨S3x3x3x16x16, .f32⟩
  | .hbm, ⟨21, _⟩ => ⟨S27x16x16, .f32⟩
  | .hbm, ⟨22, _⟩ => ⟨S3x3x3x16x16, .f32⟩
  | .hbm, ⟨23, _⟩ => ⟨S3x3x16x3x16, .f32⟩
  | .hbm, ⟨24, _⟩ => ⟨S9x16x48, .f32⟩
  | .hbm, ⟨25, _⟩ => ⟨S66x16x8960, .f32⟩
  | .local _ .vmem, ⟨0, _⟩ => ⟨S8x16x8960, .f32⟩
  | .local _ .vmem, ⟨1, _⟩ => ⟨S8x16x8960, .f32⟩
  | .local _ .vmem, ⟨2, _⟩ => ⟨S1x16x8960, .f32⟩
  | .local _ .vmem, ⟨3, _⟩ => ⟨S1x16x8960, .f32⟩
  | .local _ .vmem, ⟨4, _⟩ => ⟨S1x16x8960, .f32⟩
  | .local _ .vmem, ⟨5, _⟩ => ⟨S1x16x8960, .f32⟩
  | .local _ .vmem, ⟨6, _⟩ => ⟨S66x1x8960, .f32⟩
  | .local _ .vmem, ⟨7, _⟩ => ⟨S9x16x48, .f32⟩
  | .local _ .vmem, ⟨8, _⟩ => ⟨S66x16x8960, .f32⟩
  | .local _ .vmem, ⟨9, _⟩ => ⟨S16x1, .f32⟩
  | .local _ .vmem, ⟨10, _⟩ => ⟨S16x1, .f32⟩
  | .local _ .smem, ⟨0, _⟩ => ⟨S1, .f32⟩
  | _, _ => ⟨S16x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_c_1 : Ref sig .tc := ⟨.hbm, 12, rfl⟩
abbrev main_call2_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_call3_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_off1 (i : grid0.Coords) (c0_i32_36 : BitVec 32) : Fin 3 → Nat :=
  let arg0 : BitVec 32 := BitVec.ofNat 32 (i 0).val
  let c8_i32 : BitVec 32 := 8#32
  let v57 : BitVec 32 := Scalar.muli arg0 c8_i32
  let v58 : BitVec 32 := Scalar.addi v57 c0_i32_36
  let c1_i32 : BitVec 32 := 1#32
  let v59 : BitVec 32 := Scalar.addi v58 c1_i32
  let v60 : Index := Scalar.indexCast v59
  let c0_37 : Index := 0#32
  let c0_38 : Index := 0#32
  ![v60.toNat, 0, 0]
def k0_off2 (i : grid0.Coords) (c0_i32_36 : BitVec 32) : Fin 3 → Nat :=
  let arg0 : BitVec 32 := BitVec.ofNat 32 (i 0).val
  let c8_i32 : BitVec 32 := 8#32
  let v57 : BitVec 32 := Scalar.muli arg0 c8_i32
  let v58 : BitVec 32 := Scalar.addi v57 c0_i32_36
  let c1_i32 : BitVec 32 := 1#32
  let v59 : BitVec 32 := Scalar.addi v58 c1_i32
  let v76 : Index := Scalar.indexCast v59
  let c0_42 : Index := 0#32
  let c0_43 : Index := 0#32
  ![v76.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c8_i32 : BitVec 32 := 8#32
  let v0 : BitVec 32 := Scalar.muli arg0 c8_i32
  let c8_i32_0 : BitVec 32 := 8#32
  let v1 : BitVec 32 := Scalar.addi v0 c8_i32_0
  let c0_i32 : BitVec 32 := 0#32
  let v2 : BitVec 32 := Scalar.addi v1 c0_i32
  let c0_i32_1 : BitVec 32 := 0#32
  let c0_i32_2 : BitVec 32 := 0#32
  let c0_i32_3 : BitVec 32 := 0#32
  ![v2.toNat, c0_i32_1.toNat, c0_i32_2.toNat]

def cc0_transform_2 (i : grid0.Coords) : Fin 3 → Nat :=
  let arg0 : BitVec 32 := BitVec.ofNat 32 (i 0).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.addi v1 c1_i32
  let c0_i32 : BitVec 32 := 0#32
  let c0_i32_1 : BitVec 32 := 0#32
  let c0_i32_2 : BitVec 32 := 0#32
  ![v2.toNat, c0_i32.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S8x16x8960 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x8960 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x8960 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S66x1x8960 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S9x16x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S66x16x8960 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference3Ideal.lean ====
abbrev S16x64x64x64 : Shape := ⟨4, ![16, 64, 64, 64]⟩
abbrev S1x64x64x64 : Shape := ⟨4, ![1, 64, 64, 64]⟩
abbrev S16x16x3x3x3 : Shape := ⟨5, ![16, 16, 3, 3, 3]⟩
abbrev S16x16x1x1x1 : Shape := ⟨5, ![16, 16, 1, 1, 1]⟩
abbrev S16x16 : Shape := ⟨2, ![16, 16]⟩
abbrev S_ : Shape := ⟨0, ![]⟩
abbrev S16x66x66x66 : Shape := ⟨4, ![16, 66, 66, 66]⟩
abbrev S16x66x66x128 : Shape := ⟨4, ![16, 66, 66, 128]⟩
abbrev S16x66x8448 : Shape := ⟨3, ![16, 66, 8448]⟩
abbrev S16x66x8960 : Shape := ⟨3, ![16, 66, 8960]⟩
abbrev S66x16x8960 : Shape := ⟨3, ![66, 16, 8960]⟩

abbrev nBuf : Space → Nat
  | .hbm => 236
  | .vmem => 0
  | .smem => 0
  | _ => 0

abbrev hbmTy0_0 (i : Nat) : BufTy := match i % 128 with
  | 0 => ⟨S16x64x64x64, .f32⟩
  | 1 => ⟨S1x64x64x64, .i32⟩
  | 2 => ⟨S16x16x3x3x3, .f32⟩
  | 3 => ⟨S1x64x64x64, .f32⟩
  | 4 => ⟨S16x16x1x1x1, .f32⟩
  | 5 => ⟨S16x16, .f32⟩
  | 6 => ⟨S_, .i32⟩
  | 7 => ⟨S_, .f32⟩
  | 8 => ⟨S16x66x66x66, .f32⟩
  | 9 => ⟨S16x64x64x64, .f32⟩
  | 10 => ⟨S16x64x64x64, .f32⟩
  | 11 => ⟨S16x16x1x1x1, .f32⟩
  | 12 => ⟨S16x16, .f32⟩
  | 13 => ⟨S_, .i32⟩
  | 14 => ⟨S_, .f32⟩
  | 15 => ⟨S16x66x66x66, .f32⟩
  | 16 => ⟨S16x64x64x64, .f32⟩
  | 17 => ⟨S16x64x64x64, .f32⟩
  | 18 => ⟨S16x64x64x64, .f32⟩
  | 19 => ⟨S16x16x1x1x1, .f32⟩
  | 20 => ⟨S16x16, .f32⟩
  | 21 => ⟨S_, .i32⟩
  | 22 => ⟨S_, .f32⟩
  | 23 => ⟨S16x66x66x66, .f32⟩
  | 24 => ⟨S16x64x64x64, .f32⟩
  | 25 => ⟨S16x64x64x64, .f32⟩
  | 26 => ⟨S16x64x64x64, .f32⟩
  | 27 => ⟨S16x16x1x1x1, .f32⟩
  | 28 => ⟨S16x16, .f32⟩
  | 29 => ⟨S_, .i32⟩
  | 30 => ⟨S_, .f32⟩
  | 31 => ⟨S16x66x66x66, .f32⟩
  | 32 => ⟨S16x64x64x64, .f32⟩
  | 33 => ⟨S16x64x64x64, .f32⟩
  | 34 => ⟨S16x64x64x64, .f32⟩
  | 35 => ⟨S16x16x1x1x1, .f32⟩
  | 36 => ⟨S16x16, .f32⟩
  | 37 => ⟨S_, .i32⟩
  | 38 => ⟨S_, .f32⟩
  | 39 => ⟨S16x66x66x66, .f32⟩
  | 40 => ⟨S16x64x64x64, .f32⟩
  | 41 => ⟨S16x64x64x64, .f32⟩
  | 42 => ⟨S16x64x64x64, .f32⟩
  | 43 => ⟨S16x16x1x1x1, .f32⟩
  | 44 => ⟨S16x16, .f32⟩
  | 45 => ⟨S_, .i32⟩
  | 46 => ⟨S_, .f32⟩
  | 47 => ⟨S16x66x66x66, .f32⟩
  | 48 => ⟨S16x64x64x64, .f32⟩
  | 49 => ⟨S16x64x64x64, .f32⟩
  | 50 => ⟨S16x64x64x64, .f32⟩
  | 51 => ⟨S16x16x1x1x1, .f32⟩
  | 52 => ⟨S16x16, .f32⟩
  | 53 => ⟨S_, .i32⟩
  | 54 => ⟨S_, .f32⟩
  | 55 => ⟨S16x66x66x66, .f32⟩
  | 56 => ⟨S16x64x64x64, .f32⟩
  | 57 => ⟨S16x64x64x64, .f32⟩
  | 58 => ⟨S16x64x64x64, .f32⟩
  | 59 => ⟨S16x16x1x1x1, .f32⟩
  | 60 => ⟨S16x16, .f32⟩
  | 61 => ⟨S_, .i32⟩
  | 62 => ⟨S_, .f32⟩
  | 63 => ⟨S16x66x66x66, .f32⟩
  | 64 => ⟨S16x64x64x64, .f32⟩
  | 65 => ⟨S16x64x64x64, .f32⟩
  | 66 => ⟨S16x64x64x64, .f32⟩
  | 67 => ⟨S16x16x1x1x1, .f32⟩
  | 68 => ⟨S16x16, .f32⟩
  | 69 => ⟨S_, .i32⟩
  | 70 => ⟨S_, .f32⟩
  | 71 => ⟨S16x66x66x66, .f32⟩
  | 72 => ⟨S16x64x64x64, .f32⟩
  | 73 => ⟨S16x64x64x64, .f32⟩
  | 74 => ⟨S16x64x64x64, .f32⟩
  | 75 => ⟨S16x16x1x1x1, .f32⟩
  | 76 => ⟨S16x16, .f32⟩
  | 77 => ⟨S_, .i32⟩
  | 78 => ⟨S_, .f32⟩
  | 79 => ⟨S16x66x66x66, .f32⟩
  | 80 => ⟨S16x64x64x64, .f32⟩
  | 81 => ⟨S16x64x64x64, .f32⟩
  | 82 => ⟨S16x64x64x64, .f32⟩
  | 83 => ⟨S16x16x1x1x1, .f32⟩
  | 84 => ⟨S16x16, .f32⟩
  | 85 => ⟨S_, .i32⟩
  | 86 => ⟨S_, .f32⟩
  | 87 => ⟨S16x66x66x66, .f32⟩
  | 88 => ⟨S16x64x64x64, .f32⟩
  | 89 => ⟨S16x64x64x64, .f32⟩
  | 90 => ⟨S16x64x64x64, .f32⟩
  | 91 => ⟨S16x16x1x1x1, .f32⟩
  | 92 => ⟨S16x16, .f32⟩
  | 93 => ⟨S_, .i32⟩
  | 94 => ⟨S_, .f32⟩
  | 95 => ⟨S16x66x66x66, .f32⟩
  | 96 => ⟨S16x64x64x64, .f32⟩
  | 97 => ⟨S16x64x64x64, .f32⟩
  | 98 => ⟨S16x64x64x64, .f32⟩
  | 99 => ⟨S16x16x1x1x1, .f32⟩
  | 100 => ⟨S16x16, .f32⟩
  | 101 => ⟨S_, .i32⟩
  | 102 => ⟨S_, .f32⟩
  | 103 => ⟨S16x66x66x66, .f32⟩
  | 104 => ⟨S16x64x64x64, .f32⟩
  | 105 => ⟨S16x64x64x64, .f32⟩
  | 106 => ⟨S16x64x64x64, .f32⟩
  | 107 => ⟨S16x16x1x1x1, .f32⟩
  | 108 => ⟨S16x16, .f32⟩
  | 109 => ⟨S_, .i32⟩
  | 110 => ⟨S_, .f32⟩
  | 111 => ⟨S16x66x66x66, .f32⟩
  | 112 => ⟨S16x64x64x64, .f32⟩
  | 113 => ⟨S16x64x64x64, .f32⟩
  | 114 => ⟨S16x64x64x64, .f32⟩
  | 115 => ⟨S16x16x1x1x1, .f32⟩
  | 116 => ⟨S16x16, .f32⟩
  | 117 => ⟨S_, .i32⟩
  | 118 => ⟨S_, .f32⟩
  | 119 => ⟨S16x66x66x66, .f32⟩
  | 120 => ⟨S16x64x64x64, .f32⟩
  | 121 => ⟨S16x64x64x64, .f32⟩
  | 122 => ⟨S16x64x64x64, .f32⟩
  | 123 => ⟨S16x16x1x1x1, .f32⟩
  | 124 => ⟨S16x16, .f32⟩
  | 125 => ⟨S_, .i32⟩
  | 126 => ⟨S_, .f32⟩
  | 127 => ⟨S16x66x66x66, .f32⟩
  | _ => ⟨S16x64x64x64, .f32⟩

abbrev hbmTy0_1 (i : Nat) : BufTy := match i % 128 with
  | 0 => ⟨S16x64x64x64, .f32⟩
  | 1 => ⟨S16x64x64x64, .f32⟩
  | 2 => ⟨S16x64x64x64, .f32⟩
  | 3 => ⟨S16x16x1x1x1, .f32⟩
  | 4 => ⟨S16x16, .f32⟩
  | 5 => ⟨S_, .i32⟩
  | 6 => ⟨S_, .f32⟩
  | 7 => ⟨S16x66x66x66, .f32⟩
  | 8 => ⟨S16x64x64x64, .f32⟩
  | 9 => ⟨S16x64x64x64, .f32⟩
  | 10 => ⟨S16x64x64x64, .f32⟩
  | 11 => ⟨S16x16x1x1x1, .f32⟩
  | 12 => ⟨S16x16, .f32⟩
  | 13 => ⟨S_, .i32⟩
  | 14 => ⟨S_, .f32⟩
  | 15 => ⟨S16x66x66x66, .f32⟩
  | 16 => ⟨S16x64x64x64, .f32⟩
  | 17 => ⟨S16x64x64x64, .f32⟩
  | 18 => ⟨S16x64x64x64, .f32⟩
  | 19 => ⟨S16x16x1x1x1, .f32⟩
  | 20 => ⟨S16x16, .f32⟩
  | 21 => ⟨S_, .i32⟩
  | 22 => ⟨S_, .f32⟩
  | 23 => ⟨S16x66x66x66, .f32⟩
  | 24 => ⟨S16x64x64x64, .f32⟩
  | 25 => ⟨S16x64x64x64, .f32⟩
  | 26 => ⟨S16x64x64x64, .f32⟩
  | 27 => ⟨S16x16x1x1x1, .f32⟩
  | 28 => ⟨S16x16, .f32⟩
  | 29 => ⟨S_, .i32⟩
  | 30 => ⟨S_, .f32⟩
  | 31 => ⟨S16x66x66x66, .f32⟩
  | 32 => ⟨S16x64x64x64, .f32⟩
  | 33 => ⟨S16x64x64x64, .f32⟩
  | 34 => ⟨S16x64x64x64, .f32⟩
  | 35 => ⟨S16x16x1x1x1, .f32⟩
  | 36 => ⟨S16x16, .f32⟩
  | 37 => ⟨S_, .i32⟩
  | 38 => ⟨S_, .f32⟩
  | 39 => ⟨S16x66x66x66, .f32⟩
  | 40 => ⟨S16x64x64x64, .f32⟩
  | 41 => ⟨S16x64x64x64, .f32⟩
  | 42 => ⟨S16x64x64x64, .f32⟩
  | 43 => ⟨S16x16x1x1x1, .f32⟩
  | 44 => ⟨S16x16, .f32⟩
  | 45 => ⟨S_, .i32⟩
  | 46 => ⟨S_, .f32⟩
  | 47 => ⟨S16x66x66x66, .f32⟩
  | 48 => ⟨S16x64x64x64, .f32⟩
  | 49 => ⟨S16x64x64x64, .f32⟩
  | 50 => ⟨S16x64x64x64, .f32⟩
  | 51 => ⟨S16x16x1x1x1, .f32⟩
  | 52 => ⟨S16x16, .f32⟩
  | 53 => ⟨S_, .i32⟩
  | 54 => ⟨S_, .f32⟩
  | 55 => ⟨S16x66x66x66, .f32⟩
  | 56 => ⟨S16x64x64x64, .f32⟩
  | 57 => ⟨S16x64x64x64, .f32⟩
  | 58 => ⟨S16x64x64x64, .f32⟩
  | 59 => ⟨S16x16x1x1x1, .f32⟩
  | 60 => ⟨S16x16, .f32⟩
  | 61 => ⟨S_, .i32⟩
  | 62 => ⟨S_, .f32⟩
  | 63 => ⟨S16x66x66x66, .f32⟩
  | 64 => ⟨S16x64x64x64, .f32⟩
  | 65 => ⟨S16x64x64x64, .f32⟩
  | 66 => ⟨S16x64x64x64, .f32⟩
  | 67 => ⟨S16x16x1x1x1, .f32⟩
  | 68 => ⟨S16x16, .f32⟩
  | 69 => ⟨S_, .i32⟩
  | 70 => ⟨S_, .f32⟩
  | 71 => ⟨S16x66x66x66, .f32⟩
  | 72 => ⟨S16x64x64x64, .f32⟩
  | 73 => ⟨S16x64x64x64, .f32⟩
  | 74 => ⟨S16x64x64x64, .f32⟩
  | 75 => ⟨S16x16x1x1x1, .f32⟩
  | 76 => ⟨S16x16, .f32⟩
  | 77 => ⟨S_, .i32⟩
  | 78 => ⟨S_, .f32⟩
  | 79 => ⟨S16x66x66x66, .f32⟩
  | 80 => ⟨S16x64x64x64, .f32⟩
  | 81 => ⟨S16x64x64x64, .f32⟩
  | 82 => ⟨S16x64x64x64, .f32⟩
  | 83 => ⟨S16x16x1x1x1, .f32⟩
  | 84 => ⟨S16x16, .f32⟩
  | 85 => ⟨S_, .i32⟩
  | 86 => ⟨S_, .f32⟩
  | 87 => ⟨S16x66x66x66, .f32⟩
  | 88 => ⟨S16x64x64x64, .f32⟩
  | 89 => ⟨S16x64x64x64, .f32⟩
  | 90 => ⟨S16x64x64x64, .f32⟩
  | 91 => ⟨S16x64x64x64, .f32⟩
  | 92 => ⟨S16x64x64x64, .f32⟩
  | 93 => ⟨S_, .f32⟩
  | 94 => ⟨S16x64x64x64, .f32⟩
  | 95 => ⟨S16x64x64x64, .i1⟩
  | 96 => ⟨S_, .f32⟩
  | 97 => ⟨S16x64x64x64, .f32⟩
  | 98 => ⟨S16x64x64x64, .f32⟩
  | 99 => ⟨S16x64x64x64, .f32⟩
  | 100 => ⟨S_, .i32⟩
  | 101 => ⟨S_, .f32⟩
  | 102 => ⟨S16x66x66x128, .f32⟩
  | 103 => ⟨S16x66x8448, .f32⟩
  | 104 => ⟨S_, .i32⟩
  | 105 => ⟨S_, .f32⟩
  | 106 => ⟨S16x66x8960, .f32⟩
  | 107 => ⟨S66x16x8960, .f32⟩
  | _ => ⟨S16x64x64x64, .f32⟩

abbrev hbmTy (i : Nat) : BufTy := match i / 128 with
  | 0 => hbmTy0_0 i
  | 1 => hbmTy0_1 i
  | _ => ⟨S16x64x64x64, .f32⟩

abbrev bufTy : (tb : Table) → Fin (tcTables nBuf tb) → BufTy
  | .hbm, ⟨i, _⟩ => hbmTy i
  | _, _ => ⟨S16x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_call2_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_call3_v0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_call4_v0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_4 : Ref sig .tc := ⟨.hbm, 45, rfl⟩
abbrev main_call5_v0 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_5 : Ref sig .tc := ⟨.hbm, 53, rfl⟩
abbrev main_call6_v0 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_6 : Ref sig .tc := ⟨.hbm, 61, rfl⟩
abbrev main_call7_v0 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_7 : Ref sig .tc := ⟨.hbm, 69, rfl⟩
abbrev main_call8_v0 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_8 : Ref sig .tc := ⟨.hbm, 77, rfl⟩
abbrev main_call9_v0 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_9 : Ref sig .tc := ⟨.hbm, 85, rfl⟩
abbrev main_call10_v0 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_10 : Ref sig .tc := ⟨.hbm, 93, rfl⟩
abbrev main_call11_v0 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_11 : Ref sig .tc := ⟨.hbm, 101, rfl⟩
abbrev main_call12_v0 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_c_12 : Ref sig .tc := ⟨.hbm, 109, rfl⟩
abbrev main_call13_v0 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_c_13 : Ref sig .tc := ⟨.hbm, 117, rfl⟩
abbrev main_call14_v0 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_c_14 : Ref sig .tc := ⟨.hbm, 125, rfl⟩
abbrev main_call15_v0 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_c_15 : Ref sig .tc := ⟨.hbm, 133, rfl⟩
abbrev main_call16_v0 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_c_16 : Ref sig .tc := ⟨.hbm, 141, rfl⟩
abbrev main_call17_v0 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_c_17 : Ref sig .tc := ⟨.hbm, 149, rfl⟩
abbrev main_call18_v0 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_c_18 : Ref sig .tc := ⟨.hbm, 157, rfl⟩
abbrev main_call19_v0 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_c_19 : Ref sig .tc := ⟨.hbm, 165, rfl⟩
abbrev main_call20_v0 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_c_20 : Ref sig .tc := ⟨.hbm, 173, rfl⟩
abbrev main_call21_v0 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_c_21 : Ref sig .tc := ⟨.hbm, 181, rfl⟩
abbrev main_call22_v0 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_c_22 : Ref sig .tc := ⟨.hbm, 189, rfl⟩
abbrev main_call23_v0 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_c_23 : Ref sig .tc := ⟨.hbm, 197, rfl⟩
abbrev main_call24_v0 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_c_24 : Ref sig .tc := ⟨.hbm, 205, rfl⟩
abbrev main_call25_v0 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_c_25 : Ref sig .tc := ⟨.hbm, 213, rfl⟩
abbrev main_call26_v0 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_cst : Ref sig .tc := ⟨.hbm, 221, rfl⟩
abbrev main_v164 : Ref sig .tc := ⟨.hbm, 222, rfl⟩
abbrev main_v165 : Ref sig .tc := ⟨.hbm, 223, rfl⟩
abbrev main_cst_26 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_c_27 : Ref sig .tc := ⟨.hbm, 228, rfl⟩
abbrev main_call28_v0 : Ref sig .tc := ⟨.hbm, 229, rfl⟩
abbrev main_v169 : Ref sig .tc := ⟨.hbm, 230, rfl⟩
abbrev main_v170 : Ref sig .tc := ⟨.hbm, 231, rfl⟩
abbrev main_c_28 : Ref sig .tc := ⟨.hbm, 232, rfl⟩
abbrev main_call29_v0 : Ref sig .tc := ⟨.hbm, 233, rfl⟩
abbrev main_v171 : Ref sig .tc := ⟨.hbm, 234, rfl⟩
abbrev main_v172 : Ref sig .tc := ⟨.hbm, 235, rfl⟩

abbrev nD : Nat := 1
abbrev τ : Topo := Topo.v7x

variable {F : FTy → Type} [FloatOps F]
-- ==== Proof.JoinedFrame.lean ====
/- The joined convolution's call at machine words: it ends, leaves its arguments alone and its counters at zero. -/
module

public import proofs.«01_k».proof.Proof.Gen.Kernel.Frame
public import proofs.«01_k».proof.Proof.Gen.Kernel.Loops
public import Idealize.ShloMosaic.Lib.Claim
public import Idealize.ShloMosaic.Lib.Pipeline.ArrRel

@[expose] public section

set_option maxRecDepth 16384

noncomputable section

namespace Cert.Joined.Words

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)
open Cert.Kernel Cert.Kernel.Gen

variable {F : FTy → Type} [FloatOps F]
local notation "𝕄" => MT nD τ sig Unit (Elt F) ℕ (UR sig nD τ) ℕ

variable (c : Dev nD) (i : grid0.Coords)
  {arg1 : Memref sig .tc .vmem S4x16x8960 .f32} (harg1 : arg1.IsWhole)
  {arg2 : Memref sig .tc .vmem S1x16x8960 .f32} (harg2 : arg2.IsWhole)
  {arg3 : Memref sig .tc .vmem S1x16x8960 .f32} (harg3 : arg3.IsWhole)
  {arg4 : Memref sig .tc .vmem S4x32x8960 .bf16} (harg4 : arg4.IsWhole)
  {arg5 : Memref sig .tc .vmem S1x32x8960 .bf16} (harg5 : arg5.IsWhole)
  {arg6 : Memref sig .tc .vmem S1x32x8960 .bf16} (harg6 : arg6.IsWhole)
  {arg7 : Memref sig .tc .vmem S66x1x8960 .f32} (harg7 : arg7.IsWhole)
  {arg8 : Memref sig .tc .vmem S9x16x48 .f32} (harg8 : arg8.IsWhole)
  {arg9 : Memref sig .tc .vmem S9x16x96 .f32} (harg9 : arg9.IsWhole)
  {arg10 : Memref sig .tc .vmem S66x16x8960 .bf16} (harg10 : arg10.IsWhole)
  {arg11 : Memref sig .tc .vmem S16x1 .f32} (harg11 : arg11.IsWhole)
  {arg12 : Memref sig .tc .vmem S16x1 .f32} (harg12 : arg12.IsWhole)
  {arg13 : Memref sig .tc .smem S1 .f32} (harg13 : arg13.IsWhole)

/-- The word that is one at the first grid point and zero elsewhere. -/
abbrev startWord : BitVec 1 := Scalar.cmpi .ne (Scalar.extui (Scalar.cmpi .eq (BitVec.ofNat 32 (i 0).val) 0#32) : BitVec 32) 0#32

/-- A buffer held at some contents. -/
abbrev Any {sp : Space} {sh : Shape} {e : EltTy} (mr : Memref sig .tc sp sh e) : sProp 𝕄 :=
  iprop(∃ f, mr.view.loc (c : Thread nD τ) ↦[mr.view.set]{fullShare} f)

/-- Contents known by their reading are some contents, -/
theorem open_any {sp : Space} {sh : Shape} {e : EltTy} (mr : Memref sig .tc sp sh e) (X : sh.Idx → Elt F e) :
    (owns (c : Thread nD τ) mr fullShare X : sProp 𝕄) ⊢ Any c mr := by
  unfold owns
  iintro ⟨%f, %hf, H⟩
  iexists f
  iexact H

/-- and some contents have a reading. -/
theorem close_any {sp : Space} {sh : Shape} {e : EltTy} (mr : Memref sig .tc sp sh e) :
    (Any c mr : sProp 𝕄) ⊢ iprop(∃ X, owns (c : Thread nD τ) mr fullShare X) := by
  iintro ⟨%f, H⟩
  iexists _
  iapply (owns_intro (c : Thread nD τ) mr fullShare f)
  iexact H

/-- The body's buffers, each at some contents. -/
abbrev AllAny (arg1 : Memref sig .tc .vmem S4x16x8960 .f32)
    (arg2 : Memref sig .tc .vmem S1x16x8960 .f32)
    (arg3 : Memref sig .tc .vmem S1x16x8960 .f32)
    (arg4 : Memref sig .tc .vmem S4x32x8960 .bf16)
    (arg5 : Memref sig .tc .vmem S1x32x8960 .bf16)
    (arg6 : Memref sig .tc .vmem S1x32x8960 .bf16)
    (arg7 : Memref sig .tc .vmem S66x1x8960 .f32)
    (arg8 : Memref sig .tc .vmem S9x16x48 .f32)
    (arg9 : Memref sig .tc .vmem S9x16x96 .f32)
    (arg10 : Memref sig .tc .vmem S66x16x8960 .bf16)
    (arg11 : Memref sig .tc .vmem S16x1 .f32)
    (arg12 : Memref sig .tc .vmem S16x1 .f32)
    (arg13 : Memref sig .tc .smem S1 .f32) : sProp 𝕄 :=
  iprop(Any c arg1 ∗ Any c arg2 ∗ Any c arg3 ∗ Any c arg4 ∗ Any c arg5 ∗ Any c arg6 ∗ Any c arg7 ∗ Any c arg8 ∗ Any c arg9 ∗ Any c arg10 ∗ Any c arg11 ∗ Any c arg12 ∗ Any c arg13)

set_option maxHeartbeats 4000000 in
/-- **The body runs**, at any contents of its buffers and at every point of the grid. -/
theorem body_runs (E : Set ℕ) :
    (AllAny c arg1 arg2 arg3 arg4 arg5 arg6 arg7 arg8 arg9 arg10 arg11 arg12 arg13 : sProp 𝕄)
      ⊢ wp frame (wpE (defs₀ (F := F)) Variants.none (c : Thread nD τ) none) E (cc0_body (F := F) i arg1 harg1 arg2 harg2 arg3 harg3 arg4 harg4 arg5 harg5 arg6 harg6 arg7 harg7 arg8 harg8 arg9 harg9 arg10 harg10 arg11 harg11 arg12 harg12 arg13 harg13)
          (fun _ => AllAny c arg1 arg2 arg3 arg4 arg5 arg6 arg7 arg8 arg9 arg10 arg11 arg12 arg13) := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  iintro ⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩⟩
  by_cases hc0 : startWord i = 1#1
  · by_cases hc1 : k0_cond2 i = 1#1
    · sl_exec (disch := first | sl_exact hc0 | sl_exact hc1)
      sl_step
      sl_close
    · sl_exec (disch := first | sl_exact hc0 | sl_exact hc1)
      sl_step
      sl_close
  · by_cases hc1 : k0_cond2 i = 1#1
    · sl_exec (disch := first | sl_exact hc0 | sl_exact hc1)
      sl_step
      sl_close
    · sl_exec (disch := first | sl_exact hc0 | sl_exact hc1)
      sl_step
      sl_close

/-! ## The launch -/

variable (m : (ℓ : Loc nD τ sig) → Buf (Elt F) ℓ) (ρ : Dev nD → PrngReg)

/-- The data of the run: the arrays as the call finds them, and nothing said of what a point leaves. -/
def rdat (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

/-- The invariant hands the body its scratch at anything, and takes it back. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- Whatever a point leaves in a window's buffer is allowed. -/
theorem close_left (c : Dev nD) (t : Fin cfg0.N) (w : Fin cfg0.W) (Y : (cfg0.win w).block.Idx → Elt F (cfg0.win w).elt) {sp : Space}
    {mr : Memref sig .tc sp (cfg0.win w).block (cfg0.win w).elt} :
    (Any c mr : sProp 𝕄) ⊢ iprop(∃ X, ⌜(rdat m c).after w t Y X⌝ ∗ owns (c : Thread nD τ) mr fullShare X) := by
  iintro ⟨%f, H⟩
  iexists _
  isplitr; swap
  · iapply (owns_intro (c : Thread nD τ) mr fullShare f)
    iexact H
  · ipureintro; exact trivial

/-- The body at a point, from the buffers it finds to the buffers it leaves. -/
theorem body_step (c : Dev nD) (t : Fin cfg0.N) (Y : (w : Fin cfg0.W) → (cfg0.win w).block.Idx → Elt F (cfg0.win w).elt)
    (y0 : Vec F S4x16x8960 .f32) (y1 : Vec F S1x16x8960 .f32) (y2 : Vec F S1x16x8960 .f32) (y3 : Vec F S4x32x8960 .bf16) (y4 : Vec F S1x32x8960 .bf16) (y5 : Vec F S1x32x8960 .bf16) (y6 : Vec F S66x1x8960 .f32) (y7 : Vec F S9x16x48 .f32) (y8 : Vec F S9x16x96 .f32) (y9 : Vec F S66x16x8960 .bf16) :
    iprop(Pipeline.ΦA spec0 c ∗ (rdat m c).owesAt () t.castSucc
        ∗ owns (c : Thread nD τ) (win0_0.stage (cfg0.slots t 0)) fullShare y0
        ∗ owns (c : Thread nD τ) (win0_1.stage (cfg0.slots t 1)) fullShare y1
        ∗ owns (c : Thread nD τ) (win0_2.stage (cfg0.slots t 2)) fullShare y2
        ∗ owns (c : Thread nD τ) (win0_3.stage (cfg0.slots t 3)) fullShare y3
        ∗ owns (c : Thread nD τ) (win0_4.stage (cfg0.slots t 4)) fullShare y4
        ∗ owns (c : Thread nD τ) (win0_5.stage (cfg0.slots t 5)) fullShare y5
        ∗ owns (c : Thread nD τ) (win0_6.stage (cfg0.slots t 6)) fullShare y6
        ∗ owns (c : Thread nD τ) (win0_7.stage (cfg0.slots t 7)) fullShare y7
        ∗ owns (c : Thread nD τ) (win0_8.stage (cfg0.slots t 8)) fullShare y8
        ∗ owns (c : Thread nD τ) (win0_9.stage (cfg0.slots t 9)) fullShare y9)
      ⊢ wp frame (wpE (defs₀ (F := F)) Variants.none (c : Thread nD τ) none) Set.univ (bodyAt0 t) (fun _ =>
        iprop(Pipeline.ΦA spec0 c ∗ (rdat m c).owesAt () t.castSucc
        ∗ (∃ X, ⌜(rdat m c).after 0 t (Y 0) X⌝ ∗ owns (c : Thread nD τ) (win0_0.stage (cfg0.slots t 0)) fullShare X)
        ∗ (∃ X, ⌜(rdat m c).after 1 t (Y 1) X⌝ ∗ owns (c : Thread nD τ) (win0_1.stage (cfg0.slots t 1)) fullShare X)
        ∗ (∃ X, ⌜(rdat m c).after 2 t (Y 2) X⌝ ∗ owns (c : Thread nD τ) (win0_2.stage (cfg0.slots t 2)) fullShare X)
        ∗ (∃ X, ⌜(rdat m c).after 3 t (Y 3) X⌝ ∗ owns (c : Thread nD τ) (win0_3.stage (cfg0.slots t 3)) fullShare X)
        ∗ (∃ X, ⌜(rdat m c).after 4 t (Y 4) X⌝ ∗ owns (c : Thread nD τ) (win0_4.stage (cfg0.slots t 4)) fullShare X)
        ∗ (∃ X, ⌜(rdat m c).after 5 t (Y 5) X⌝ ∗ owns (c : Thread nD τ) (win0_5.stage (cfg0.slots t 5)) fullShare X)
        ∗ (∃ X, ⌜(rdat m c).after 6 t (Y 6) X⌝ ∗ owns (c : Thread nD τ) (win0_6.stage (cfg0.slots t 6)) fullShare X)
        ∗ (∃ X, ⌜(rdat m c).after 7 t (Y 7) X⌝ ∗ owns (c : Thread nD τ) (win0_7.stage (cfg0.slots t 7)) fullShare X)
        ∗ (∃ X, ⌜(rdat m c).after 8 t (Y 8) X⌝ ∗ owns (c : Thread nD τ) (win0_8.stage (cfg0.slots t 8)) fullShare X)
        ∗ (∃ X, ⌜(rdat m c).after 9 t (Y 9) X⌝ ∗ owns (c : Thread nD τ) (win0_9.stage (cfg0.slots t 9)) fullShare X))) := by
  have hs := body_runs (F := F) c (grid0.coords t) (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (hstage0_8 ((cfg0.slots t 8).cast nbuf0_8)) (hstage0_9 ((cfg0.slots t 9).cast nbuf0_9))
    (Memref.isWhole_whole cc0_scratch0) (Memref.isWhole_whole cc0_scratch1) (Memref.isWhole_whole cc0_scratch2) Set.univ
  rw [scratch_eq]
  iintro ⟨⟨⟨⟨%d0, HS0⟩, ⟨%d1, HS1⟩, ⟨%d2, HS2⟩⟩, Hg⟩, Ho, H0, H1, H2, H3, H4, H5, H6, H7, H8, H9⟩
  iapply (wp_wand_r _ _ _)
  isplitl [HS0 HS1 HS2 H0 H1 H2 H3 H4 H5 H6 H7 H8 H9]
  · iapply hs
    isplitl [H0]; · iapply (open_any c _ _); iexact H0
    isplitl [H1]; · iapply (open_any c _ _); iexact H1
    isplitl [H2]; · iapply (open_any c _ _); iexact H2
    isplitl [H3]; · iapply (open_any c _ _); iexact H3
    isplitl [H4]; · iapply (open_any c _ _); iexact H4
    isplitl [H5]; · iapply (open_any c _ _); iexact H5
    isplitl [H6]; · iapply (open_any c _ _); iexact H6
    isplitl [H7]; · iapply (open_any c _ _); iexact H7
    isplitl [H8]; · iapply (open_any c _ _); iexact H8
    isplitl [H9]; · iapply (open_any c _ _); iexact H9
    isplitl [HS0]; · iapply (open_any c _ _); iexact HS0
    isplitl [HS1]; · iapply (open_any c _ _); iexact HS1
    iapply (open_any c _ _); iexact HS2
  iintro %u ⟨H0, H1, H2, H3, H4, H5, H6, H7, H8, H9, HS0, HS1, HS2⟩
  isplitl [HS0 HS1 HS2 Hg]
  · isplitl [HS0 HS1 HS2]
    · isplitl [HS0]; · iapply (close_any c _); iexact HS0
      isplitl [HS1]; · iapply (close_any c _); iexact HS1
      iapply (close_any c _); iexact HS2
    iexact Hg
  isplitl [Ho]; · iexact Ho
  isplitl [H0]; · iapply (close_left m c t 0 _); iexact H0
  isplitl [H1]; · iapply (close_left m c t 1 _); iexact H1
  isplitl [H2]; · iapply (close_left m c t 2 _); iexact H2
  isplitl [H3]; · iapply (close_left m c t 3 _); iexact H3
  isplitl [H4]; · iapply (close_left m c t 4 _); iexact H4
  isplitl [H5]; · iapply (close_left m c t 5 _); iexact H5
  isplitl [H6]; · iapply (close_left m c t 6 _); iexact H6
  isplitl [H7]; · iapply (close_left m c t 7 _); iexact H7
  isplitl [H8]; · iapply (close_left m c t 8 _); iexact H8
  iapply (close_left m c t 9 _); iexact H9

/-- The body table's row at a point's slots. -/
theorem row (t : Fin cfg0.N) : defs₀ (F := F) .tc cfg0.body (cfg0.bodyArgs t (cfg0.slots t)) = bodyAt0 t := by
  unfold defs₀; rw [Defs.onTc_tc]

/-- The body's obligation at every point. -/
theorem body_ok (c : Dev nD) : (rdat m c).BodyObligation (defs₀ (F := F)) Variants.none () Set.univ := fun t Y hY => by
  rw [bigSep_W0, bigSep_W0, row]
  exact triple_restated (body_step m c t Y _ _ _ _ _ _ _ _ _ _) rfl .rfl fun _ => .rfl

set_option backward.isDefEq.respectTransparency.types false in
/-- The launch: every execution ends, with every counter at zero. -/
theorem run : θ_run defs (onTc (τ := τ) (main (F := F))) (s₀ m ρ)
    (fun r => Pipeline.RDat.FramePost (cfgs 0) (rdat m) (V m) r ∧ r.2.sem = fun _ => 0) :=
  Pipeline.RDat.θ_run_frame_track_shared (Q' := _) cfgs (0 : Fin 1) launch₀0 defs₀ Variants.none (rdat m) m ρ main
    (hbody := body_ok m) (hq := fun _ _ _ => rfl) (howed := fun _ _ => rfl) (V := V m) (hmain := hmain m Variants.none)
    (hA := fun _ _ => rfl) (hin := fun _ => .rfl) (hout := fun _ => .rfl)

/-- Every execution leaves the arguments as they were and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run m ρ)

end Cert.Joined.Words

end
-- ==== Proof.Stencil.lean ====
/-
  The arithmetic of one output plane, for any number of channels.

  A plane is a row per channel of 8960 lanes: 256 zero lanes, 66 lines of 128 lanes (a zero line above and below the 64 lines of the
  grid, a zero lane in front of each line), 256 zero lanes. The three planes above each other that a 3x3x3 convolution reads
  are stacked into one matrix, and the convolution is nine products of that matrix, shifted along the lanes, with the weights.
-/
module

public import Idealize.ShloMosaic.Lib.Pointwise
public import Idealize.ShloMosaic.Lib.MatmulPlain
public import Idealize.ShloMosaic.Lib.ValueIdx
public import Idealize.ShloMosaic.Lib.ValueLayout

@[expose] public section

set_option maxRecDepth 16384

noncomputable section

namespace Cert.Fat

open Idealize.ShloMosaic hiding ix1 ix2 ix3 ix4 eq_ix1 eq_ix2 eq_ix3 eq_ix4
open Idealize.ShloMosaic.ValueIdx
open scoped BigOperators

/-! ## Arrays read at natural numbers -/

/-- A matrix read at two natural numbers, zero outside. -/
def at2 {a b : ℕ} (x : (⟨2, ![a, b]⟩ : Shape).Idx → EReal) (r l : ℕ) : EReal :=
  if h : r < a ∧ l < b then x (ix2 ⟨r, h.1⟩ ⟨l, h.2⟩) else 0

/-- A rank-3 array read at three natural numbers, zero outside. -/
def at3 {a b c : ℕ} (x : (⟨3, ![a, b, c]⟩ : Shape).Idx → EReal) (p r l : ℕ) : EReal :=
  if h : p < a ∧ r < b ∧ l < c then x (ix3 ⟨p, h.1⟩ ⟨r, h.2.1⟩ ⟨l, h.2.2⟩) else 0

theorem at2_ix {a b : ℕ} (x : (⟨2, ![a, b]⟩ : Shape).Idx → EReal) (r : Fin a) (l : Fin b) : x (ix2 r l) = at2 x r l := by
  rw [at2, dif_pos ⟨r.isLt, l.isLt⟩]

theorem at3_ix {a b c : ℕ} (x : (⟨3, ![a, b, c]⟩ : Shape).Idx → EReal) (p : Fin a) (r : Fin b) (l : Fin c) :
    x (ix3 p r l) = at3 x p r l := by
  rw [at3, dif_pos ⟨p.isLt, r.isLt, l.isLt⟩]

theorem at2_lt {a b : ℕ} (x : (⟨2, ![a, b]⟩ : Shape).Idx → EReal) {r l : ℕ} (hr : r < a) (hl : l < b) :
    at2 x r l = x (ix2 ⟨r, hr⟩ ⟨l, hl⟩) := by rw [at2, dif_pos ⟨hr, hl⟩]

theorem at3_lt {a b c : ℕ} (x : (⟨3, ![a, b, c]⟩ : Shape).Idx → EReal) {p r l : ℕ} (hp : p < a) (hr : r < b) (hl : l < c) :
    at3 x p r l = x (ix3 ⟨p, hp⟩ ⟨r, hr⟩ ⟨l, hl⟩) := by rw [at3, dif_pos ⟨hp, hr, hl⟩]

/-- Two rank-3 arrays that read alike at natural numbers are one. -/
theorem ext_at3 {a b c : ℕ} {x y : (⟨3, ![a, b, c]⟩ : Shape).Idx → EReal}
    (h : ∀ p r l, p < a → r < b → l < c → at3 x p r l = at3 y p r l) : x = y := by
  funext j
  have e := h _ _ _ (j 0).isLt (j 1).isLt (j 2).isLt
  rw [at3_lt x (j 0).isLt (j 1).isLt (j 2).isLt, at3_lt y (j 0).isLt (j 1).isLt (j 2).isLt] at e
  have ej : j = ix3 (j 0) (j 1) (j 2) := eq_ix3 j
  rw [ej]
  exact e

/-! ## The shape facts, for any extents -/

theorem slices2 {a a' b b' : ℕ} (o₁ o₂ : ℕ) (h₁ : o₁ + a' ≤ a) (h₂ : o₂ + b' ≤ b) :
    (⟨2, ![a, b]⟩ : Shape).Slices ![o₁, o₂] ⟨2, ![a', b']⟩ :=
  ⟨rfl, fun x => by
    match x with
    | ⟨0, _⟩ => exact h₁
    | ⟨1, _⟩ => exact h₂⟩

theorem slices3 {a a' b c : ℕ} (o : ℕ) (h : o + a' ≤ a) :
    (⟨3, ![a, b, c]⟩ : Shape).Slices ![o, 0, 0] ⟨3, ![a', b, c]⟩ :=
  ⟨rfl, fun x => by
    match x with
    | ⟨0, _⟩ => exact h
    | ⟨1, _⟩ => exact (Nat.zero_add _).le
    | ⟨2, _⟩ => exact (Nat.zero_add _).le⟩

theorem casts32 {b c : ℕ} : (⟨3, ![1, b, c]⟩ : Shape).ShapeCasts ⟨2, ![b, c]⟩ := by
  simp [Shape.ShapeCasts, Shape.numel, Fin.prod_univ_succ]

theorem casts23 {b c : ℕ} : (⟨2, ![b, c]⟩ : Shape).ShapeCasts ⟨3, ![1, b, c]⟩ := by
  simp [Shape.ShapeCasts, Shape.numel, Fin.prod_univ_succ]

theorem castsStack {a b c n : ℕ} (h : n = a * b) : (⟨3, ![a, b, c]⟩ : Shape).ShapeCasts ⟨2, ![n, c]⟩ := by
  subst h
  simp [Shape.ShapeCasts, Shape.numel, Fin.prod_univ_succ, Nat.mul_assoc]

/-! ## The nine products -/

variable {C3 CO : ℕ}

/-- A matrix cut along its lanes reads the lane moved by the cut. -/
theorem cut_at {n m : ℕ} (V : FVec Ideal ⟨2, ![C3, n]⟩ .f32) (o : ℕ) (h : o + m ≤ n) {r l : ℕ} (hr : r < C3) (hl : l < m) :
    at2 (extractStridedSlice ⟨2, ![C3, m]⟩ ![0, o] V (slices2 0 o (Nat.zero_add _).le h)) r l = at2 V r (o + l) := by
  rw [at2_lt _ hr hl, at2_lt _ hr (by omega : o + l < n)]
  exact slice2_axis1_apply o V _ ⟨r, hr⟩ ⟨l, hl⟩ ⟨o + l, by omega⟩ rfl

/-- One of the nine products: the weights of one offset within a plane, times the stack from lane `o`. -/
def tap {W : ℕ} (w : FVec Ideal ⟨3, ![1, CO, C3]⟩ .f32) (V : FVec Ideal ⟨2, ![C3, W]⟩ .f32) (o : ℕ) (h : o + 8448 ≤ W) :
    FVec Ideal ⟨2, ![CO, 8448]⟩ .f32 :=
  matmul (DotDims.plain CO C3 8448) none (shapeCast ⟨2, ![CO, C3]⟩ w casts32)
    (extractStridedSlice ⟨2, ![C3, 8448]⟩ ![0, o] V (slices2 0 o (Nat.zero_add _).le h)) (constant ⟨2, ![CO, 8448]⟩ .f32 0x00000000#32)

theorem tap_at {W : ℕ} (w : FVec Ideal ⟨3, ![1, CO, C3]⟩ .f32) (V : FVec Ideal ⟨2, ![C3, W]⟩ .f32) (o : ℕ) (h : o + 8448 ≤ W)
    {r l : ℕ} (hr : r < CO) (hl : l < 8448) :
    at2 (tap w V o h) r l = ∑ k ∈ Finset.range C3, at3 w 0 r k * at2 V k (o + l) := by
  rw [at2_lt _ hr hl, tap]
  refine (Ideal.matmul_plain_apply none _ _ _ _ _).trans ?_
  rw [constant_apply, Ideal.ofBits_zero, zero_add, Finset.sum_range]
  refine Finset.sum_congr rfl fun k _ => ?_
  refine congr (congrArg _ ?_) ?_
  · exact (shapeCast_1ab_ab_apply _ _ _ _).trans (at3_ix w _ _ _)
  · exact (at2_ix _ _ _).trans (cut_at V o h k.isLt hl)

/-- The lane that offset `q` within a plane (`q / 3` lines down, `q % 3` lanes on) moves lane `l` to. -/
def lane (q l : ℕ) : ℕ := 127 + 128 * (q / 3) + q % 3 + l

/-- The convolution of one plane: the nine products added up in order. -/
def taps (V : FVec Ideal ⟨2, ![C3, 8960]⟩ .f32) (w : Fin 9 → FVec Ideal ⟨3, ![1, CO, C3]⟩ .f32) : FVec Ideal ⟨2, ![CO, 8448]⟩ .f32 :=
  let vq : FVec Ideal ⟨2, ![C3, 8704]⟩ .f32 := extractStridedSlice ⟨2, ![C3, 8704]⟩ ![0, 127] V (slices2 0 127 (Nat.zero_add _).le (by omega))
  let vp : FVec Ideal ⟨2, ![C3, 8704]⟩ .f32 := extractStridedSlice ⟨2, ![C3, 8704]⟩ ![0, 129] V (slices2 0 129 (Nat.zero_add _).le (by omega))
  addf (addf (addf (addf (addf (addf (addf (addf (tap (w 0) vq 0 (by omega)) (tap (w 1) V 128 (by omega))) (tap (w 2) vp 0 (by omega)))
    (tap (w 3) vq 128 (by omega))) (tap (w 4) V 256 (by omega))) (tap (w 5) vp 128 (by omega)))
    (tap (w 6) vq 256 (by omega))) (tap (w 7) V 384 (by omega))) (tap (w 8) vp 256 (by omega))

theorem addf_at {a b : ℕ} (x y : FVec Ideal ⟨2, ![a, b]⟩ .f32) {r l : ℕ} (hr : r < a) (hl : l < b) :
    at2 (addf x y : FVec Ideal ⟨2, ![a, b]⟩ .f32) r l = at2 x r l + at2 y r l := by
  rw [at2_lt _ hr hl, at2_lt _ hr hl, at2_lt _ hr hl]; rfl

theorem tap_cut_at (w : FVec Ideal ⟨3, ![1, CO, C3]⟩ .f32) (V : FVec Ideal ⟨2, ![C3, 8960]⟩ .f32) (o o' : ℕ) (h : o + 8448 ≤ 8704)
    (h' : o' + 8704 ≤ 8960) {r l : ℕ} (hr : r < CO) (hl : l < 8448) :
    at2 (tap w (extractStridedSlice ⟨2, ![C3, 8704]⟩ ![0, o'] V (slices2 0 o' (Nat.zero_add _).le h')) o h) r l
      = ∑ k ∈ Finset.range C3, at3 w 0 r k * at2 V k (o' + (o + l)) := by
  rw [tap_at _ _ _ _ hr hl]
  refine Finset.sum_congr rfl fun k hk => ?_
  rw [cut_at V o' h' (Finset.mem_range.1 hk) (by omega : o + l < 8704)]

theorem sum_nine (f : Fin 9 → EReal) : ∑ q, f q = f 0 + f 1 + f 2 + f 3 + f 4 + f 5 + f 6 + f 7 + f 8 := by
  rw [Fin.sum_univ_castSucc, Fin.sum_univ_eight]; rfl

/-- **The convolution of one plane at an output channel and lane**: the sum over the nine offsets and the stacked rows. -/
theorem taps_at (V : FVec Ideal ⟨2, ![C3, 8960]⟩ .f32) (w : Fin 9 → FVec Ideal ⟨3, ![1, CO, C3]⟩ .f32) {r l : ℕ}
    (hr : r < CO) (hl : l < 8448) :
    at2 (taps V w) r l = ∑ q : Fin 9, ∑ k ∈ Finset.range C3, at3 (w q) 0 r k * at2 V k (lane q l) := by
  rw [sum_nine]
  unfold taps
  simp only [addf_at _ _ hr hl, tap_cut_at _ _ _ 127 _ (by omega) hr hl, tap_cut_at _ _ _ 129 _ (by omega) hr hl]
  simp only [tap_at _ _ _ _ hr hl]
  refine congr (congrArg _ (congr (congrArg _ (congr (congrArg _ (congr (congrArg _ (congr (congrArg _ (congr (congrArg _
    (congr (congrArg _ (congr (congrArg _ ?_) ?_)) ?_)) ?_)) ?_)) ?_)) ?_)) ?_)) ?_ <;>
  · refine Finset.sum_congr rfl fun k _ => congrArg (fun n => at3 (w _) 0 r k * at2 V k n) ?_
    simp [lane]
    try omega

/-! ## Masking, the leaky rectifier, and the zero lanes around a plane -/

/-- The leaky rectifier with slope the float nearest to 0.2. -/
def act (v : EReal) : EReal := Scalar.select (FloatOps.cmpf (F := Ideal) (φ := .f32) .oge v (Ideal.ofBits .f32 0x00000000#32)) v (Ideal.ofBits .f32 0x3E4CCCCD#32 * v)

theorem act_zero : act 0 = 0 := by
  unfold act
  rw [mul_zero]
  unfold Scalar.select
  split <;> rfl

/-- The mask's plane, lanes 256 to 8703, one row per channel. -/
def maskRows (m : FVec Ideal ⟨3, ![1, 1, 8960]⟩ .f32) (h : (⟨2, ![1, 8448]⟩ : Shape).Broadcasts ⟨2, ![CO, 8448]⟩) :
    FVec Ideal ⟨2, ![CO, 8448]⟩ .f32 :=
  broadcastTo ⟨2, ![CO, 8448]⟩ (extractStridedSlice ⟨2, ![1, 8448]⟩ ![0, 256]
    (shapeCast ⟨2, ![1, 8960]⟩ m casts32 : FVec Ideal ⟨2, ![1, 8960]⟩ .f32) (slices2 0 256 (Nat.zero_add _).le (by omega))) h

/-- The mask's plane, lanes 256 to 8703, as one row. -/
def maskRow (m : FVec Ideal ⟨3, ![1, 1, 8960]⟩ .f32) : FVec Ideal ⟨2, ![1, 8448]⟩ .f32 :=
  extractStridedSlice ⟨2, ![1, 8448]⟩ ![0, 256]
    (shapeCast ⟨2, ![1, 8960]⟩ m casts32 : FVec Ideal ⟨2, ![1, 8960]⟩ .f32) (slices2 0 256 (Nat.zero_add _).le (by omega))

theorem maskRow_at (m : FVec Ideal ⟨3, ![1, 1, 8960]⟩ .f32) {l : ℕ} (hl : l < 8448) :
    at2 (maskRow m) 0 l = at3 m 0 0 (256 + l) := by
  rw [maskRow, cut_at _ 256 (by omega) Nat.one_pos hl, at2_lt _ Nat.one_pos (by omega), at3_lt _ Nat.one_pos Nat.one_pos (by omega)]
  exact shapeCast_1ab_ab_apply _ _ _ _

theorem maskRows_at (m : FVec Ideal ⟨3, ![1, 1, 8960]⟩ .f32) (h : (⟨2, ![1, 8448]⟩ : Shape).Broadcasts ⟨2, ![CO, 8448]⟩)
    {r l : ℕ} (hr : r < CO) (hl : l < 8448) : at2 (maskRows m h) r l = at3 m 0 0 (256 + l) := by
  rw [← maskRow_at m hl, at2_lt _ hr hl, at2_lt _ Nat.one_pos hl]
  exact broadcastTo_1b_ab_apply _ _ _ _

/-- The product with the mask, then the rectifier. -/
def rectified (y m : FVec Ideal ⟨2, ![CO, 8448]⟩ .f32) : FVec Ideal ⟨2, ![CO, 8448]⟩ .f32 :=
  let v : FVec Ideal ⟨2, ![CO, 8448]⟩ .f32 := mulf y m
  select (cmpf .oge v (broadcast ⟨2, ![CO, 8448]⟩ (Scalar.ofBits .f32 0x00000000#32))) v
    (mulf (broadcast ⟨2, ![CO, 8448]⟩ (Scalar.ofBits .f32 0x3E4CCCCD#32)) v)

theorem rectified_at (y m : FVec Ideal ⟨2, ![CO, 8448]⟩ .f32) {r l : ℕ} (hr : r < CO) (hl : l < 8448) :
    at2 (rectified y m) r l = act (at2 y r l * at2 m r l) := by
  rw [at2_lt _ hr hl, at2_lt _ hr hl, at2_lt _ hr hl]
  rfl

theorem mulf_at {a b : ℕ} (x y : FVec Ideal ⟨2, ![a, b]⟩ .f32) {r l : ℕ} (hr : r < a) (hl : l < b) :
    at2 (mulf x y : FVec Ideal ⟨2, ![a, b]⟩ .f32) r l = at2 x r l * at2 y r l := by
  rw [at2_lt _ hr hl, at2_lt _ hr hl, at2_lt _ hr hl]; rfl

/-- 256 zero lanes in front and behind, and the plane axis put in front. -/
def framed (y : FVec Ideal ⟨2, ![CO, 8448]⟩ .f32)
    (h₁ : Shape.Concatenates [⟨2, ![CO, 256]⟩, ⟨2, ![CO, 8448]⟩] ⟨2, ![CO, 8704]⟩ 1)
    (h₂ : Shape.Concatenates [⟨2, ![CO, 8704]⟩, ⟨2, ![CO, 256]⟩] ⟨2, ![CO, 8960]⟩ 1) : FVec Ideal ⟨3, ![1, CO, 8960]⟩ .f32 :=
  let z : FVec Ideal ⟨2, ![CO, 256]⟩ .f32 := broadcast ⟨2, ![CO, 256]⟩ (Scalar.sitofp .f32 0#32)
  shapeCast ⟨3, ![1, CO, 8960]⟩
    (concatenate ⟨2, ![CO, 8960]⟩ 1 [⟨⟨2, ![CO, 8704]⟩, concatenate ⟨2, ![CO, 8704]⟩ 1 [⟨⟨2, ![CO, 256]⟩, z⟩, ⟨⟨2, ![CO, 8448]⟩, y⟩] h₁⟩, ⟨⟨2, ![CO, 256]⟩, z⟩] h₂ : FVec Ideal ⟨2, ![CO, 8960]⟩ .f32) casts23

theorem sitofp_zero : (Scalar.sitofp .f32 0#32 : Ideal .f32) = (0 : EReal) := by
  show ((((0#32 : BitVec 32).toInt : ℝ)) : EReal) = 0
  simp

/-- Two matrices side by side read the one the lane falls in. -/
theorem cat1_at {n0 a b n : ℕ} (x : FVec Ideal ⟨2, ![n0, a]⟩ .f32) (y : FVec Ideal ⟨2, ![n0, b]⟩ .f32)
    (h : Shape.Concatenates [⟨2, ![n0, a]⟩, ⟨2, ![n0, b]⟩] ⟨2, ![n0, n]⟩ 1) (hn : n = a + b) {r l : ℕ} (hr : r < n0) (hl : l < n) :
    at2 (concatenate ⟨2, ![n0, n]⟩ 1 [⟨⟨2, ![n0, a]⟩, x⟩, ⟨⟨2, ![n0, b]⟩, y⟩] h) r l = if l < a then at2 x r l else at2 y r (l - a) := by
  rw [at2_lt _ hr hl, concatenate_pair_apply]
  by_cases hla : l < a
  · rw [if_pos hla, at2_lt _ hr hla]
    refine (dif_pos (by exact hla)).trans (congrArg x ?_)
    funext d
    match d with
    | ⟨0, _⟩ => rfl
    | ⟨1, _⟩ => rfl
  · rw [if_neg hla, at2_lt _ hr (by omega : l - a < b)]
    refine (dif_neg (by exact hla)).trans (congrArg y ?_)
    funext d
    match d with
    | ⟨0, _⟩ => rfl
    | ⟨1, _⟩ => rfl

/-- Two matrices above each other read the one the row falls in. -/
theorem cat0_at {φ : FTy} {n1 a b n : ℕ} (x : FVec Ideal ⟨2, ![a, n1]⟩ φ) (y : FVec Ideal ⟨2, ![b, n1]⟩ φ)
    (h : Shape.Concatenates [⟨2, ![a, n1]⟩, ⟨2, ![b, n1]⟩] ⟨2, ![n, n1]⟩ 0) (hn : n = a + b) {r l : ℕ} (hr : r < n) (hl : l < n1) :
    at2 (concatenate ⟨2, ![n, n1]⟩ 0 [⟨⟨2, ![a, n1]⟩, x⟩, ⟨⟨2, ![b, n1]⟩, y⟩] h) r l = if r < a then at2 x r l else at2 y (r - a) l := by
  rw [at2_lt _ hr hl, concatenate_pair_apply]
  by_cases hla : r < a
  · rw [if_pos hla, at2_lt _ hla hl]
    refine (dif_pos (by exact hla)).trans (congrArg x ?_)
    funext d
    match d with
    | ⟨0, _⟩ => rfl
    | ⟨1, _⟩ => rfl
  · rw [if_neg hla, at2_lt _ (by omega : r - a < b) hl]
    refine (dif_neg (by exact hla)).trans (congrArg y ?_)
    funext d
    match d with
    | ⟨0, _⟩ => rfl
    | ⟨1, _⟩ => rfl

/-- Three matrices above each other read the one the row falls in. -/
theorem cat0_three_at {φ : FTy} {n1 a b c n : ℕ} (x : FVec Ideal ⟨2, ![a, n1]⟩ φ) (y : FVec Ideal ⟨2, ![b, n1]⟩ φ) (z : FVec Ideal ⟨2, ![c, n1]⟩ φ)
    (h : Shape.Concatenates [⟨2, ![a, n1]⟩, ⟨2, ![b, n1]⟩, ⟨2, ![c, n1]⟩] ⟨2, ![n, n1]⟩ 0) (hn : n = a + b + c) {r l : ℕ}
    (hr : r < n) (hl : l < n1) :
    at2 (concatenate ⟨2, ![n, n1]⟩ 0 [⟨⟨2, ![a, n1]⟩, x⟩, ⟨⟨2, ![b, n1]⟩, y⟩, ⟨⟨2, ![c, n1]⟩, z⟩] h) r l
      = if r < a then at2 x r l else if r - a < b then at2 y (r - a) l else at2 z (r - a - b) l := by
  rw [at2_lt _ hr hl, concatenate_cons_apply, concatenateAt_cons]
  by_cases h1 : r < a
  · rw [if_pos h1, at2_lt _ h1 hl]
    refine (dif_pos (by exact h1)).trans (congrArg x ?_)
    funext d
    match d with
    | ⟨0, _⟩ => rfl
    | ⟨1, _⟩ => rfl
  · rw [if_neg h1]
    refine (dif_neg (by exact h1)).trans ?_
    rw [concatenateAt_cons]
    by_cases h2 : r - a < b
    · rw [if_pos h2, at2_lt _ h2 hl]
      refine (dif_pos (by exact h2)).trans (congrArg y ?_)
      funext d
      match d with
      | ⟨0, _⟩ => rfl
      | ⟨1, _⟩ => rfl
    · rw [if_neg h2, at2_lt _ (by omega : r - a - b < c) hl]
      refine (dif_neg (by exact h2)).trans ?_
      rw [concatenateAt_singleton]
      refine congrArg z ?_
      funext d
      match d with
      | ⟨0, _⟩ => rfl
      | ⟨1, _⟩ => rfl

theorem zeros_at {a b : ℕ} (r l : ℕ) : at2 (broadcast ⟨2, ![a, b]⟩ (Scalar.sitofp .f32 0#32) : FVec Ideal ⟨2, ![a, b]⟩ .f32) r l = 0 := by
  unfold at2
  split
  · exact sitofp_zero
  · rfl

/-- **A framed plane at a channel and a lane**: the plane's value 256 lanes back, zero on the frame. -/
theorem framed_at (y : FVec Ideal ⟨2, ![CO, 8448]⟩ .f32)
    (h₁ : Shape.Concatenates [⟨2, ![CO, 256]⟩, ⟨2, ![CO, 8448]⟩] ⟨2, ![CO, 8704]⟩ 1)
    (h₂ : Shape.Concatenates [⟨2, ![CO, 8704]⟩, ⟨2, ![CO, 256]⟩] ⟨2, ![CO, 8960]⟩ 1) {r l : ℕ} (hr : r < CO) (hl : l < 8960) :
    at3 (framed y h₁ h₂) 0 r l = if 256 ≤ l ∧ l < 8704 then at2 y r (l - 256) else 0 := by
  rw [at3_lt _ Nat.one_pos hr hl, framed, shapeCast_ab_1ab_apply]
  refine (at2_ix _ ⟨r, hr⟩ ⟨l, hl⟩).trans ?_
  rw [cat1_at (a := 8704) (b := 256) _ _ h₂ rfl hr hl, zeros_at]
  by_cases h8 : l < 8704
  · rw [if_pos h8, cat1_at (a := 256) (b := 8448) _ _ h₁ rfl hr h8, zeros_at]
    by_cases h2 : l < 256
    · rw [if_pos h2, if_neg (by omega)]
    · rw [if_neg h2, if_pos (by omega)]
  · rw [if_neg h8, if_neg (by omega)]

/-! ## The stack of three planes -/

/-- Planes `o`, `o+1`, … of an array stacked: row `r` is row `r % b` of plane `o + r / b`. -/
theorem stack_at {φ : FTy} {a a' b n : ℕ} {c : ℕ} (X : FVec Ideal ⟨3, ![a, b, c]⟩ φ) (o : ℕ) (h : o + a' ≤ a) (hn : n = a' * b)
    {r l : ℕ} (hr : r < n) (hl : l < c) :
    at2 (shapeCast ⟨2, ![n, c]⟩ (extractStridedSlice ⟨3, ![a', b, c]⟩ ![o, 0, 0] X (slices3 o h)) (castsStack hn)) r l
      = at3 X (o + r / b) (r % b) l := by
  subst hn
  have hb : 0 < b := Nat.pos_of_ne_zero fun h0 => by subst h0; simp at hr
  have hq : r / b < a' := Nat.div_lt_of_lt_mul (by rwa [Nat.mul_comm] at hr)
  have hm : r % b < b := Nat.mod_lt _ hb
  rw [at2_lt _ hr hl, at3_lt _ (by omega : o + r / b < a) hm hl]
  rw [shapeCast_apply (k := ix3 (⟨r / b, hq⟩ : Fin a') (⟨r % b, hm⟩ : Fin b) (⟨l, hl⟩ : Fin c)) _ _ _ (by
    rw [Shape.rowMajor_val_three, Shape.rowMajor_val_two]
    show (r / b * b + r % b) * c + l = r * c + l
    rw [Nat.div_add_mod'])]
  exact extractStridedSlice_apply _ _ _ _ _ (fun ax => by
    match ax with
    | ⟨0, _⟩ => rfl
    | ⟨1, _⟩ => exact (Nat.zero_add _).symm
    | ⟨2, _⟩ => exact (Nat.zero_add _).symm)

end Cert.Fat

end
-- ==== Proof.JoinedHeld.lean ====
/- What the body of the joined convolution's call is handed and hands back. -/
module

public import proofs.«01_k».proof.Proof.Gen.KernelIdeal.Frame
public import proofs.«01_k».proof.Proof.Gen.KernelIdeal.Loops

@[expose] public section

set_option maxRecDepth 16384

noncomputable section

namespace Cert.Joined

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]
local notation "𝕄" => MT nD τ sig Unit (Elt F) ℕ (UR sig nD τ) ℕ

variable (c : Dev nD) (i : grid0.Coords)
  {arg1 : Memref sig .tc .vmem S4x16x8960 .f32} (harg1 : arg1.IsWhole)
  {arg2 : Memref sig .tc .vmem S1x16x8960 .f32} (harg2 : arg2.IsWhole)
  {arg3 : Memref sig .tc .vmem S1x16x8960 .f32} (harg3 : arg3.IsWhole)
  {arg4 : Memref sig .tc .vmem S4x32x8960 .bf16} (harg4 : arg4.IsWhole)
  {arg5 : Memref sig .tc .vmem S1x32x8960 .bf16} (harg5 : arg5.IsWhole)
  {arg6 : Memref sig .tc .vmem S1x32x8960 .bf16} (harg6 : arg6.IsWhole)
  {arg7 : Memref sig .tc .vmem S66x1x8960 .f32} (harg7 : arg7.IsWhole)
  {arg8 : Memref sig .tc .vmem S9x16x48 .f32} (harg8 : arg8.IsWhole)
  {arg9 : Memref sig .tc .vmem S9x16x96 .f32} (harg9 : arg9.IsWhole)
  {arg10 : Memref sig .tc .vmem S66x16x8960 .bf16} (harg10 : arg10.IsWhole)
  {arg11 : Memref sig .tc .vmem S16x1 .f32} (harg11 : arg11.IsWhole)
  {arg12 : Memref sig .tc .vmem S16x1 .f32} (harg12 : arg12.IsWhole)
  {arg13 : Memref sig .tc .smem S1 .f32} (harg13 : arg13.IsWhole)
  (x1 : Vec F S4x16x8960 .f32) (x2 : Vec F S1x16x8960 .f32) (x3 : Vec F S1x16x8960 .f32)
  (x4 : Vec F S4x32x8960 .bf16) (x5 : Vec F S1x32x8960 .bf16) (x6 : Vec F S1x32x8960 .bf16)
  (x7 : Vec F S66x1x8960 .f32) (x8 : Vec F S9x16x48 .f32) (x9 : Vec F S9x16x96 .f32)

/-- The word that is one at the first grid point and zero elsewhere. -/
abbrev startWord : BitVec 1 := Scalar.cmpi .ne (Scalar.extui (Scalar.cmpi .eq (BitVec.ofNat 32 (i 0).val) 0#32) : BitVec 32) 0#32

/-- What the body is handed and hands back: the nine inputs at their contents, the output at `f10`, the three sums at `f11`, `f12` and `f13`. -/
abbrev Held (f10 : BufTy.Contents (Elt F) arg10.view.ty) (f11 : BufTy.Contents (Elt F) arg11.view.ty) (f12 : BufTy.Contents (Elt F) arg12.view.ty)
    (f13 : BufTy.Contents (Elt F) arg13.view.ty) : sProp 𝕄 :=
  iprop((arg1.view.loc (c : Thread nD τ) ↦[arg1.view.set]{fullShare} harg1.unread x1)
    ∗ (arg2.view.loc (c : Thread nD τ) ↦[arg2.view.set]{fullShare} harg2.unread x2)
    ∗ (arg3.view.loc (c : Thread nD τ) ↦[arg3.view.set]{fullShare} harg3.unread x3)
    ∗ (arg4.view.loc (c : Thread nD τ) ↦[arg4.view.set]{fullShare} harg4.unread x4)
    ∗ (arg5.view.loc (c : Thread nD τ) ↦[arg5.view.set]{fullShare} harg5.unread x5)
    ∗ (arg6.view.loc (c : Thread nD τ) ↦[arg6.view.set]{fullShare} harg6.unread x6)
    ∗ (arg7.view.loc (c : Thread nD τ) ↦[arg7.view.set]{fullShare} harg7.unread x7)
    ∗ (arg8.view.loc (c : Thread nD τ) ↦[arg8.view.set]{fullShare} harg8.unread x8)
    ∗ (arg9.view.loc (c : Thread nD τ) ↦[arg9.view.set]{fullShare} harg9.unread x9)
    ∗ (arg10.view.loc (c : Thread nD τ) ↦[arg10.view.set]{fullShare} f10)
    ∗ (arg11.view.loc (c : Thread nD τ) ↦[arg11.view.set]{fullShare} f11)
    ∗ (arg12.view.loc (c : Thread nD τ) ↦[arg12.view.set]{fullShare} f12)
    ∗ (arg13.view.loc (c : Thread nD τ) ↦[arg13.view.set]{fullShare} f13))

/-- The same with the three sums at anything. -/
abbrev HeldAny (f10 : BufTy.Contents (Elt F) arg10.view.ty) : sProp 𝕄 :=
  iprop((arg1.view.loc (c : Thread nD τ) ↦[arg1.view.set]{fullShare} harg1.unread x1)
    ∗ (arg2.view.loc (c : Thread nD τ) ↦[arg2.view.set]{fullShare} harg2.unread x2)
    ∗ (arg3.view.loc (c : Thread nD τ) ↦[arg3.view.set]{fullShare} harg3.unread x3)
    ∗ (arg4.view.loc (c : Thread nD τ) ↦[arg4.view.set]{fullShare} harg4.unread x4)
    ∗ (arg5.view.loc (c : Thread nD τ) ↦[arg5.view.set]{fullShare} harg5.unread x5)
    ∗ (arg6.view.loc (c : Thread nD τ) ↦[arg6.view.set]{fullShare} harg6.unread x6)
    ∗ (arg7.view.loc (c : Thread nD τ) ↦[arg7.view.set]{fullShare} harg7.unread x7)
    ∗ (arg8.view.loc (c : Thread nD τ) ↦[arg8.view.set]{fullShare} harg8.unread x8)
    ∗ (arg9.view.loc (c : Thread nD τ) ↦[arg9.view.set]{fullShare} harg9.unread x9)
    ∗ (arg10.view.loc (c : Thread nD τ) ↦[arg10.view.set]{fullShare} f10)
    ∗ (∃ f, arg11.view.loc (c : Thread nD τ) ↦[arg11.view.set]{fullShare} f)
    ∗ (∃ f, arg12.view.loc (c : Thread nD τ) ↦[arg12.view.set]{fullShare} f)
    ∗ (∃ f, arg13.view.loc (c : Thread nD τ) ↦[arg13.view.set]{fullShare} f))

end Cert.Joined

end
-- ==== Proof.JoinedRunB.lean ====
/- The body of the joined convolution's call, run at a grid point between the first and the last. -/
module

public import proofs.«01_k».proof.Proof.JoinedHeld

@[expose] public section

set_option maxRecDepth 16384

noncomputable section

namespace Cert.Joined

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]
local notation "𝕄" => MT nD τ sig Unit (Elt F) ℕ (UR sig nD τ) ℕ

variable (c : Dev nD) (i : grid0.Coords)
  {arg1 : Memref sig .tc .vmem S4x16x8960 .f32} (harg1 : arg1.IsWhole)
  {arg2 : Memref sig .tc .vmem S1x16x8960 .f32} (harg2 : arg2.IsWhole)
  {arg3 : Memref sig .tc .vmem S1x16x8960 .f32} (harg3 : arg3.IsWhole)
  {arg4 : Memref sig .tc .vmem S4x32x8960 .bf16} (harg4 : arg4.IsWhole)
  {arg5 : Memref sig .tc .vmem S1x32x8960 .bf16} (harg5 : arg5.IsWhole)
  {arg6 : Memref sig .tc .vmem S1x32x8960 .bf16} (harg6 : arg6.IsWhole)
  {arg7 : Memref sig .tc .vmem S66x1x8960 .f32} (harg7 : arg7.IsWhole)
  {arg8 : Memref sig .tc .vmem S9x16x48 .f32} (harg8 : arg8.IsWhole)
  {arg9 : Memref sig .tc .vmem S9x16x96 .f32} (harg9 : arg9.IsWhole)
  {arg10 : Memref sig .tc .vmem S66x16x8960 .bf16} (harg10 : arg10.IsWhole)
  {arg11 : Memref sig .tc .vmem S16x1 .f32} (harg11 : arg11.IsWhole)
  {arg12 : Memref sig .tc .vmem S16x1 .f32} (harg12 : arg12.IsWhole)
  {arg13 : Memref sig .tc .smem S1 .f32} (harg13 : arg13.IsWhole)
  (x1 : Vec F S4x16x8960 .f32) (x2 : Vec F S1x16x8960 .f32) (x3 : Vec F S1x16x8960 .f32)
  (x4 : Vec F S4x32x8960 .bf16) (x5 : Vec F S1x32x8960 .bf16) (x6 : Vec F S1x32x8960 .bf16)
  (x7 : Vec F S66x1x8960 .f32) (x8 : Vec F S9x16x48 .f32) (x9 : Vec F S9x16x96 .f32)

set_option maxHeartbeats 1000000 in
/-- The body's run: the stores it makes in the output and in the three sums. -/
def runB (hc0 : ¬startWord i = 1#1) (hc1 : ¬k0_cond2 i = 1#1) (f10 : BufTy.Contents (Elt F) arg10.view.ty) (f11 : BufTy.Contents (Elt F) arg11.view.ty)
    (f12 : BufTy.Contents (Elt F) arg12.view.ty) (f13 : BufTy.Contents (Elt F) arg13.view.ty) :
    Σ' (L10 : List (View.Piece (Elt F) S66x16x8960 .bf16)) (L11 : List (View.Piece (Elt F) S16x1 .f32)) (L12 : List (View.Piece (Elt F) S16x1 .f32)),
      { L13 : List (View.Piece (Elt F) S1 .f32) // ∀ (E : Set ℕ),
      Held c harg1 harg2 harg3 harg4 harg5 harg6 harg7 harg8 harg9 (arg10 := arg10) (arg11 := arg11) (arg12 := arg12) (arg13 := arg13) x1 x2 x3 x4 x5 x6 x7 x8 x9 f10 f11 f12 f13
      ⊢ wp frame (wpE (defs₀ (F := F)) Variants.none (c : Thread nD τ) none) E (cc0_body (F := F) i arg1 harg1 arg2 harg2 arg3 harg3 arg4 harg4 arg5 harg5 arg6 harg6 arg7 harg7 arg8 harg8 arg9 harg9 arg10 harg10 arg11 harg11 arg12 harg12 arg13 harg13)
          (fun _ => Held c harg1 harg2 harg3 harg4 harg5 harg6 harg7 harg8 harg9 (arg10 := arg10) (arg11 := arg11) (arg12 := arg12) (arg13 := arg13) x1 x2 x3 x4 x5 x6 x7 x8 x9
            (arg10.view.writes (Elt F) f10 L10) (arg11.view.writes (Elt F) f11 L11) (arg12.view.writes (Elt F) f12 L12) (arg13.view.writes (Elt F) f13 L13)) } := by
  refine ⟨?_, ?_, ?_, ?_, fun E => ?run⟩
  case run =>
    simp only [cc0_body_eq_skeleton]; unfold cc0_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    iintro ⟨H1, H2, H3, H4, H5, H6, H7, H8, H9, H10, H11, H12, H13⟩
    sl_exec (disch := first | sl_exact hc0 | sl_exact hc1)
    sl_step
    sl_close

end Cert.Joined

end
-- ==== Proof.JoinedPlane.lean ====
/- The planes that one grid point of the joined convolution's call stores, and the sums it adds up. -/
module

public import proofs.«01_k».proof.Proof.Stencil
public import proofs.«01_k».proof.Proof.JoinedRunB
public import Idealize.ShloMosaic.Lib.WritesUnit

@[expose] public section

set_option maxRecDepth 16384

noncomputable section

namespace Cert.Joined

open Idealize.ShloMosaic hiding ix1 ix2 ix3 ix4 eq_ix1 eq_ix2 eq_ix3 eq_ix4
open Idealize.ShloMosaic.ValueIdx Idealize.ShloMosaic.TcCoe
open Cert.KernelIdeal Cert.KernelIdeal.Gen Cert.Fat
open scoped BigOperators

variable (c : Dev nD) (i : grid0.Coords)
  {arg1 : Memref sig .tc .vmem S4x16x8960 .f32} (harg1 : arg1.IsWhole)
  {arg2 : Memref sig .tc .vmem S1x16x8960 .f32} (harg2 : arg2.IsWhole)
  {arg3 : Memref sig .tc .vmem S1x16x8960 .f32} (harg3 : arg3.IsWhole)
  {arg4 : Memref sig .tc .vmem S4x32x8960 .bf16} (harg4 : arg4.IsWhole)
  {arg5 : Memref sig .tc .vmem S1x32x8960 .bf16} (harg5 : arg5.IsWhole)
  {arg6 : Memref sig .tc .vmem S1x32x8960 .bf16} (harg6 : arg6.IsWhole)
  {arg7 : Memref sig .tc .vmem S66x1x8960 .f32} (harg7 : arg7.IsWhole)
  {arg8 : Memref sig .tc .vmem S9x16x48 .f32} (harg8 : arg8.IsWhole)
  {arg9 : Memref sig .tc .vmem S9x16x96 .f32} (harg9 : arg9.IsWhole)
  {arg10 : Memref sig .tc .vmem S66x16x8960 .bf16} (harg10 : arg10.IsWhole)
  {arg11 : Memref sig .tc .vmem S16x1 .f32} (harg11 : arg11.IsWhole)
  {arg12 : Memref sig .tc .vmem S16x1 .f32} (harg12 : arg12.IsWhole)
  {arg13 : Memref sig .tc .smem S1 .f32} (harg13 : arg13.IsWhole)
  (x1 : Vec Ideal S4x16x8960 .f32) (x2 : Vec Ideal S1x16x8960 .f32) (x3 : Vec Ideal S1x16x8960 .f32)
  (x4 : Vec Ideal S4x32x8960 .bf16) (x5 : Vec Ideal S1x32x8960 .bf16) (x6 : Vec Ideal S1x32x8960 .bf16)
  (x7 : Vec Ideal S66x1x8960 .f32) (x8 : Vec Ideal S9x16x48 .f32) (x9 : Vec Ideal S9x16x96 .f32)

/-- The first volume's weights of offset `q` within a plane. -/
def weightA (x8 : Vec Ideal S9x16x48 .f32) (q : Fin 9) : Vec Ideal S1x16x48 .f32 :=
  View.ld x8 (Rect.unit (s := S9x16x48) ![q.val, 0, 0] S1x16x48.size (fun a => by fin_cases a <;> simp <;> omega))

/-- The second volume's weights of offset `q` within a plane. -/
def weightB (x9 : Vec Ideal S9x16x96 .f32) (q : Fin 9) : Vec Ideal S1x16x96 .f32 :=
  View.ld x9 (Rect.unit (s := S9x16x96) ![q.val, 0, 0] S1x16x96.size (fun a => by fin_cases a <;> simp <;> omega))

/-- The first volume's three planes around plane `k` of the point's four, stacked. -/
def stackA (x1 : Vec Ideal S4x16x8960 .f32) (x2 x3 : Vec Ideal S1x16x8960 .f32) : Fin 4 → FVec Ideal S48x8960 .f32 :=
  ![k0_pay17 x1, k0_pay38 (k0_pay11 x1), k0_pay58 (k0_pay11 x1) (k0_pay12 x2), k0_pay79 (k0_pay11 x1) (k0_pay12 x2) (k0_pay13 x3)]

/-- The second volume's three planes around plane `k` of the point's four, stacked. -/
def stackB (x4 : Vec Ideal S4x32x8960 .bf16) (x5 x6 : Vec Ideal S1x32x8960 .bf16) : Fin 4 → FVec Ideal S96x8960 .f32 :=
  ![k0_pay26 (k0_pay14 x4), k0_pay45 (k0_pay14 x4), k0_pay66 (k0_pay14 x4) (k0_pay15 x5), k0_pay86 (k0_pay14 x4) (k0_pay15 x5) (k0_pay16 x6)]

/-- The mask's plane for plane `k` of the point's four. -/
def maskPlane (x7 : Vec Ideal S66x1x8960 .f32) (k : Fin 4) : Vec Ideal S1x1x8960 .f32 :=
  View.ld x7 (Rect.unit (s := S66x1x8960) (k0_off1 i (BitVec.ofNat 32 k.val)) S1x1x8960.size (k0_off1_inb i k))

/-- The two convolutions' sum at plane `k` of the point's four, masked. -/
def masked (k : Fin 4) : FVec Ideal S16x8448 .f32 :=
  mulf (addf (taps (stackA x1 x2 x3 k) (weightA x8)) (taps (stackB x4 x5 x6 k) (weightB x9))) (maskRows (maskPlane i x7 k) broadcasts_S1x8448_S16x8448)

/-- What is stored at plane `k` of the point's four. -/
def plane (k : Fin 4) : FVec Ideal S1x16x8960 .bf16 :=
  truncf .bf16 (framed (masked i x1 x2 x3 x4 x5 x6 x7 x8 x9 k) concatenates_S16x256_S16x8448_S16x8704_d1 concatenates_S16x8704_S16x256_S16x8960_d1) bitsLt_bf16_f32

/-- The four stores of one grid point. -/
abbrev stores : List (View.Piece (Elt Ideal) S66x16x8960 .bf16) :=
  View.tilePieces (s := S66x16x8960) (Val := Elt Ideal) (e := .bf16) S1x16x8960.size (fun k : Fin 4 => k0_off2 i (BitVec.ofNat 32 k.val)) (k0_off2_inb i)
    (plane i x1 x2 x3 x4 x5 x6 x7 x8 x9) 4 le_rfl

/-- The sums over the lanes, one per channel. -/
def rowSums (y : FVec Ideal S16x8448 .f32) : FVec Ideal S16x1 .f32 :=
  shapeCast S16x1 (multiReduction .add [1] S16 y 0x00000000#32 reduces_S16x8448_S16 (.inl rfl) rfl : FVec Ideal S16 .f32) shapeCasts_S16_S16x1

/-- The sum over the lanes of one row. -/
def rowSum (y : FVec Ideal S1x8448 .f32) : Ideal .f32 :=
  extractAt ![0, 0, 0] (shapeCast S1x1x1 (multiReduction .add [1, 2] S1 (shapeCast S1x1x8448 y shapeCasts_S1x8448_S1x1x8448 : FVec Ideal S1x1x8448 .f32) 0x00000000#32 reduces_S1x1x8448_S1 (.inl rfl) rfl : FVec Ideal S1 .f32) shapeCasts_S1_S1x1x1 : FVec Ideal S1x1x1 .f32) inpos_S1x1x1_p0_0_0

/-- The point's four planes' sums, added up. -/
def sums4 (f : Fin 4 → FVec Ideal S16x1 .f32) : FVec Ideal S16x1 .f32 := addf (addf (addf (addf k0_pay9 (f 0)) (f 1)) (f 2)) (f 3)

/-- The point's four planes' sums of the mask, added up. -/
def sum4 (f : Fin 4 → Ideal .f32) : Ideal .f32 :=
  Scalar.addf (Scalar.addf (Scalar.addf (Scalar.addf (Scalar.ofBits .f32 0x00000000#32) (f 0)) (f 1)) (f 2)) (f 3)

/-- The sums of the point's four planes. -/
def sumY : FVec Ideal S16x1 .f32 := sums4 fun k => rowSums (masked i x1 x2 x3 x4 x5 x6 x7 x8 x9 k)
/-- The sums of the squares of the point's four planes. -/
def sumYY : FVec Ideal S16x1 .f32 := sums4 fun k => rowSums (mulf (masked i x1 x2 x3 x4 x5 x6 x7 x8 x9 k) (masked i x1 x2 x3 x4 x5 x6 x7 x8 x9 k))
/-- The sum of the mask's four planes. -/
def sumM : Ideal .f32 := sum4 fun k => rowSum (maskRow (maskPlane i x7 k))

/-- The store of the sums' new value. -/
abbrev storeSums (s : FVec Ideal S16x1 .f32) : List (View.Piece (Elt Ideal) S16x1 .f32) :=
  [⟨Rect.unit (s := S16x1) ![0, 0] S16x1.size inb_S16x1_S16x1_0_0, s⟩]
/-- The store of the mask's sum. -/
abbrev storeSum (s : Ideal .f32) : List (View.Piece (Elt Ideal) S1 .f32) :=
  [⟨Rect.unit (s := S1) ![0] S1.size inb_S1_S1_0, fun _ => s⟩]

theorem zero3 : (![0, 0, 0] : Fin 3 → ℕ) = fun _ => 0 := by
  funext a; fin_cases a <;> rfl
theorem zero2 : (![0, 0] : Fin 2 → ℕ) = fun _ => 0 := by
  funext a; fin_cases a <;> rfl
theorem zero1 : (![0] : Fin 1 → ℕ) = fun _ => 0 := by
  funext a; fin_cases a; rfl

/-- The one index of an array of one element. -/
theorem one_index (j : S1.Idx) : j = ix1 0 := by
  have h : (j 0).val < 1 := (j 0).isLt
  funext a
  match a with
  | ⟨0, _⟩ => exact Fin.ext (by show (j 0).val = 0; omega)

set_option maxHeartbeats 4000000 in
/-- **What a point between the first and the last stores**: its four planes, -/
theorem runB_stores (hc0 : ¬startWord i = 1#1) (hc1 : ¬k0_cond2 i = 1#1) (f10 : BufTy.Contents (Elt Ideal) arg10.view.ty) (f11 : BufTy.Contents (Elt Ideal) arg11.view.ty)
    (f12 : BufTy.Contents (Elt Ideal) arg12.view.ty) (f13 : BufTy.Contents (Elt Ideal) arg13.view.ty) :
    (runB c i harg1 harg2 harg3 harg4 harg5 harg6 harg7 harg8 harg9 harg10 harg11 harg12 harg13 x1 x2 x3 x4 x5 x6 x7 x8 x9 hc0 hc1 f10 f11 f12 f13).1 = stores i x1 x2 x3 x4 x5 x6 x7 x8 x9 := by
  have e : (runB c i harg1 harg2 harg3 harg4 harg5 harg6 harg7 harg8 harg9 harg10 harg11 harg12 harg13 x1 x2 x3 x4 x5 x6 x7 x8 x9 hc0 hc1 f10 f11 f12 f13).1
      = stores i (View.ld (arg1.view.read (Elt Ideal) (harg1.unread x1)) (Rect.unit (s := S4x16x8960) ![0, 0, 0] S4x16x8960.size inb_S4x16x8960_S4x16x8960_0_0_0)) (View.ld (arg2.view.read (Elt Ideal) (harg2.unread x2)) (Rect.unit (s := S1x16x8960) ![0, 0, 0] S1x16x8960.size inb_S1x16x8960_S1x16x8960_0_0_0)) (View.ld (arg3.view.read (Elt Ideal) (harg3.unread x3)) (Rect.unit (s := S1x16x8960) ![0, 0, 0] S1x16x8960.size inb_S1x16x8960_S1x16x8960_0_0_0)) (View.ld (arg4.view.read (Elt Ideal) (harg4.unread x4)) (Rect.unit (s := S4x32x8960) ![0, 0, 0] S4x32x8960.size inb_S4x32x8960_S4x32x8960_0_0_0)) (View.ld (arg5.view.read (Elt Ideal) (harg5.unread x5)) (Rect.unit (s := S1x32x8960) ![0, 0, 0] S1x32x8960.size inb_S1x32x8960_S1x32x8960_0_0_0)) (View.ld (arg6.view.read (Elt Ideal) (harg6.unread x6)) (Rect.unit (s := S1x32x8960) ![0, 0, 0] S1x32x8960.size inb_S1x32x8960_S1x32x8960_0_0_0)) (arg7.view.read (Elt Ideal) (harg7.unread x7)) (arg8.view.read (Elt Ideal) (harg8.unread x8)) (arg9.view.read (Elt Ideal) (harg9.unread x9)) := by
    rfl
  rw [e, harg1.read_unread, harg2.read_unread, harg3.read_unread, harg4.read_unread, harg5.read_unread, harg6.read_unread, harg7.read_unread, harg8.read_unread, harg9.read_unread]
  rw [View.ld_unit_zero zero3, View.ld_unit_zero zero3, View.ld_unit_zero zero3, View.ld_unit_zero zero3, View.ld_unit_zero zero3, View.ld_unit_zero zero3]

set_option maxHeartbeats 4000000 in
/-- the sums so far with its planes' added, -/
theorem runB_sums (hc0 : ¬startWord i = 1#1) (hc1 : ¬k0_cond2 i = 1#1) (f10 : BufTy.Contents (Elt Ideal) arg10.view.ty) (f11 : BufTy.Contents (Elt Ideal) arg11.view.ty)
    (f12 : BufTy.Contents (Elt Ideal) arg12.view.ty) (f13 : BufTy.Contents (Elt Ideal) arg13.view.ty) :
    (runB c i harg1 harg2 harg3 harg4 harg5 harg6 harg7 harg8 harg9 harg10 harg11 harg12 harg13 x1 x2 x3 x4 x5 x6 x7 x8 x9 hc0 hc1 f10 f11 f12 f13).2.1 = storeSums (addf (arg11.view.read (Elt Ideal) f11) (sumY i x1 x2 x3 x4 x5 x6 x7 x8 x9)) := by
  have e : (runB c i harg1 harg2 harg3 harg4 harg5 harg6 harg7 harg8 harg9 harg10 harg11 harg12 harg13 x1 x2 x3 x4 x5 x6 x7 x8 x9 hc0 hc1 f10 f11 f12 f13).2.1
      = storeSums (k0_pay1 (sumY i (View.ld (arg1.view.read (Elt Ideal) (harg1.unread x1)) (Rect.unit (s := S4x16x8960) ![0, 0, 0] S4x16x8960.size inb_S4x16x8960_S4x16x8960_0_0_0)) (View.ld (arg2.view.read (Elt Ideal) (harg2.unread x2)) (Rect.unit (s := S1x16x8960) ![0, 0, 0] S1x16x8960.size inb_S1x16x8960_S1x16x8960_0_0_0)) (View.ld (arg3.view.read (Elt Ideal) (harg3.unread x3)) (Rect.unit (s := S1x16x8960) ![0, 0, 0] S1x16x8960.size inb_S1x16x8960_S1x16x8960_0_0_0)) (View.ld (arg4.view.read (Elt Ideal) (harg4.unread x4)) (Rect.unit (s := S4x32x8960) ![0, 0, 0] S4x32x8960.size inb_S4x32x8960_S4x32x8960_0_0_0)) (View.ld (arg5.view.read (Elt Ideal) (harg5.unread x5)) (Rect.unit (s := S1x32x8960) ![0, 0, 0] S1x32x8960.size inb_S1x32x8960_S1x32x8960_0_0_0)) (View.ld (arg6.view.read (Elt Ideal) (harg6.unread x6)) (Rect.unit (s := S1x32x8960) ![0, 0, 0] S1x32x8960.size inb_S1x32x8960_S1x32x8960_0_0_0)) (arg7.view.read (Elt Ideal) (harg7.unread x7)) (arg8.view.read (Elt Ideal) (harg8.unread x8)) (arg9.view.read (Elt Ideal) (harg9.unread x9))) (View.ld (arg11.view.read (Elt Ideal) f11) (Rect.unit (s := S16x1) ![0, 0] S16x1.size inb_S16x1_S16x1_0_0))) := by
    rfl
  rw [e, harg1.read_unread, harg2.read_unread, harg3.read_unread, harg4.read_unread, harg5.read_unread, harg6.read_unread, harg7.read_unread, harg8.read_unread, harg9.read_unread]
  rw [View.ld_unit_zero zero3, View.ld_unit_zero zero3, View.ld_unit_zero zero3, View.ld_unit_zero zero3, View.ld_unit_zero zero3, View.ld_unit_zero zero3, View.ld_unit_zero zero2]
  exact congrArg storeSums (shapeCast_self _ _)

set_option maxHeartbeats 4000000 in
/-- the sums of the squares likewise, -/
theorem runB_squares (hc0 : ¬startWord i = 1#1) (hc1 : ¬k0_cond2 i = 1#1) (f10 : BufTy.Contents (Elt Ideal) arg10.view.ty) (f11 : BufTy.Contents (Elt Ideal) arg11.view.ty)
    (f12 : BufTy.Contents (Elt Ideal) arg12.view.ty) (f13 : BufTy.Contents (Elt Ideal) arg13.view.ty) :
    (runB c i harg1 harg2 harg3 harg4 harg5 harg6 harg7 harg8 harg9 harg10 harg11 harg12 harg13 x1 x2 x3 x4 x5 x6 x7 x8 x9 hc0 hc1 f10 f11 f12 f13).2.2.1 = storeSums (addf (arg12.view.read (Elt Ideal) f12) (sumYY i x1 x2 x3 x4 x5 x6 x7 x8 x9)) := by
  have e : (runB c i harg1 harg2 harg3 harg4 harg5 harg6 harg7 harg8 harg9 harg10 harg11 harg12 harg13 x1 x2 x3 x4 x5 x6 x7 x8 x9 hc0 hc1 f10 f11 f12 f13).2.2.1
      = storeSums (k0_pay2 (sumYY i (View.ld (arg1.view.read (Elt Ideal) (harg1.unread x1)) (Rect.unit (s := S4x16x8960) ![0, 0, 0] S4x16x8960.size inb_S4x16x8960_S4x16x8960_0_0_0)) (View.ld (arg2.view.read (Elt Ideal) (harg2.unread x2)) (Rect.unit (s := S1x16x8960) ![0, 0, 0] S1x16x8960.size inb_S1x16x8960_S1x16x8960_0_0_0)) (View.ld (arg3.view.read (Elt Ideal) (harg3.unread x3)) (Rect.unit (s := S1x16x8960) ![0, 0, 0] S1x16x8960.size inb_S1x16x8960_S1x16x8960_0_0_0)) (View.ld (arg4.view.read (Elt Ideal) (harg4.unread x4)) (Rect.unit (s := S4x32x8960) ![0, 0, 0] S4x32x8960.size inb_S4x32x8960_S4x32x8960_0_0_0)) (View.ld (arg5.view.read (Elt Ideal) (harg5.unread x5)) (Rect.unit (s := S1x32x8960) ![0, 0, 0] S1x32x8960.size inb_S1x32x8960_S1x32x8960_0_0_0)) (View.ld (arg6.view.read (Elt Ideal) (harg6.unread x6)) (Rect.unit (s := S1x32x8960) ![0, 0, 0] S1x32x8960.size inb_S1x32x8960_S1x32x8960_0_0_0)) (arg7.view.read (Elt Ideal) (harg7.unread x7)) (arg8.view.read (Elt Ideal) (harg8.unread x8)) (arg9.view.read (Elt Ideal) (harg9.unread x9))) (View.ld (arg12.view.read (Elt Ideal) f12) (Rect.unit (s := S16x1) ![0, 0] S16x1.size inb_S16x1_S16x1_0_0))) := by
    rfl
  rw [e, harg1.read_unread, harg2.read_unread, harg3.read_unread, harg4.read_unread, harg5.read_unread, harg6.read_unread, harg7.read_unread, harg8.read_unread, harg9.read_unread]
  rw [View.ld_unit_zero zero3, View.ld_unit_zero zero3, View.ld_unit_zero zero3, View.ld_unit_zero zero3, View.ld_unit_zero zero3, View.ld_unit_zero zero3, View.ld_unit_zero zero2]
  exact congrArg storeSums (shapeCast_self _ _)

set_option maxHeartbeats 4000000 in
/-- and the mask's sum. -/
theorem runB_count (hc0 : ¬startWord i = 1#1) (hc1 : ¬k0_cond2 i = 1#1) (f10 : BufTy.Contents (Elt Ideal) arg10.view.ty) (f11 : BufTy.Contents (Elt Ideal) arg11.view.ty)
    (f12 : BufTy.Contents (Elt Ideal) arg12.view.ty) (f13 : BufTy.Contents (Elt Ideal) arg13.view.ty) :
    (runB c i harg1 harg2 harg3 harg4 harg5 harg6 harg7 harg8 harg9 harg10 harg11 harg12 harg13 x1 x2 x3 x4 x5 x6 x7 x8 x9 hc0 hc1 f10 f11 f12 f13).2.2.2.1 = storeSum (Scalar.addf (arg13.view.read (Elt Ideal) f13 (ix1 0)) (sumM i x7)) := by
  have e : (runB c i harg1 harg2 harg3 harg4 harg5 harg6 harg7 harg8 harg9 harg10 harg11 harg12 harg13 x1 x2 x3 x4 x5 x6 x7 x8 x9 hc0 hc1 f10 f11 f12 f13).2.2.2.1
      = storeSum (Scalar.addf (View.ld (arg13.view.read (Elt Ideal) f13) (Rect.unit (s := S1) ![0] S1.size inb_S1_S1_0) (Shape.Idx.first (Nat.one_pos.trans_eq (numel1_S1).symm)))
          (sumM i (arg7.view.read (Elt Ideal) (harg7.unread x7)))) := by
    rfl
  rw [e, harg7.read_unread, View.ld_unit_zero zero1]
  exact congrArg (fun j => storeSum (Scalar.addf (arg13.view.read (Elt Ideal) f13 j) (sumM i x7))) (one_index _)

end Cert.Joined

end
-- ==== Proof.JoinedRunA.lean ====
/- The body of the joined convolution's call, run at the first grid point. -/
module

public import proofs.«01_k».proof.Proof.JoinedHeld

@[expose] public section

set_option maxRecDepth 16384

noncomputable section

namespace Cert.Joined

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]
local notation "𝕄" => MT nD τ sig Unit (Elt F) ℕ (UR sig nD τ) ℕ

variable (c : Dev nD) (i : grid0.Coords)
  {arg1 : Memref sig .tc .vmem S4x16x8960 .f32} (harg1 : arg1.IsWhole)
  {arg2 : Memref sig .tc .vmem S1x16x8960 .f32} (harg2 : arg2.IsWhole)
  {arg3 : Memref sig .tc .vmem S1x16x8960 .f32} (harg3 : arg3.IsWhole)
  {arg4 : Memref sig .tc .vmem S4x32x8960 .bf16} (harg4 : arg4.IsWhole)
  {arg5 : Memref sig .tc .vmem S1x32x8960 .bf16} (harg5 : arg5.IsWhole)
  {arg6 : Memref sig .tc .vmem S1x32x8960 .bf16} (harg6 : arg6.IsWhole)
  {arg7 : Memref sig .tc .vmem S66x1x8960 .f32} (harg7 : arg7.IsWhole)
  {arg8 : Memref sig .tc .vmem S9x16x48 .f32} (harg8 : arg8.IsWhole)
  {arg9 : Memref sig .tc .vmem S9x16x96 .f32} (harg9 : arg9.IsWhole)
  {arg10 : Memref sig .tc .vmem S66x16x8960 .bf16} (harg10 : arg10.IsWhole)
  {arg11 : Memref sig .tc .vmem S16x1 .f32} (harg11 : arg11.IsWhole)
  {arg12 : Memref sig .tc .vmem S16x1 .f32} (harg12 : arg12.IsWhole)
  {arg13 : Memref sig .tc .smem S1 .f32} (harg13 : arg13.IsWhole)
  (x1 : Vec F S4x16x8960 .f32) (x2 : Vec F S1x16x8960 .f32) (x3 : Vec F S1x16x8960 .f32)
  (x4 : Vec F S4x32x8960 .bf16) (x5 : Vec F S1x32x8960 .bf16) (x6 : Vec F S1x32x8960 .bf16)
  (x7 : Vec F S66x1x8960 .f32) (x8 : Vec F S9x16x48 .f32) (x9 : Vec F S9x16x96 .f32)

set_option maxHeartbeats 1000000 in
/-- The body's run: the stores it makes in the output and in the three sums. -/
def runA (hc0 : startWord i = 1#1) (hc1 : ¬k0_cond2 i = 1#1) (f10 : BufTy.Contents (Elt F) arg10.view.ty) (f11 : BufTy.Contents (Elt F) arg11.view.ty)
    (f12 : BufTy.Contents (Elt F) arg12.view.ty) (f13 : BufTy.Contents (Elt F) arg13.view.ty) :
    Σ' (L10 : List (View.Piece (Elt F) S66x16x8960 .bf16)) (L11 : List (View.Piece (Elt F) S16x1 .f32)) (L12 : List (View.Piece (Elt F) S16x1 .f32)),
      { L13 : List (View.Piece (Elt F) S1 .f32) // ∀ (E : Set ℕ),
      Held c harg1 harg2 harg3 harg4 harg5 harg6 harg7 harg8 harg9 (arg10 := arg10) (arg11 := arg11) (arg12 := arg12) (arg13 := arg13) x1 x2 x3 x4 x5 x6 x7 x8 x9 f10 f11 f12 f13
      ⊢ wp frame (wpE (defs₀ (F := F)) Variants.none (c : Thread nD τ) none) E (cc0_body (F := F) i arg1 harg1 arg2 harg2 arg3 harg3 arg4 harg4 arg5 harg5 arg6 harg6 arg7 harg7 arg8 harg8 arg9 harg9 arg10 harg10 arg11 harg11 arg12 harg12 arg13 harg13)
          (fun _ => Held c harg1 harg2 harg3 harg4 harg5 harg6 harg7 harg8 harg9 (arg10 := arg10) (arg11 := arg11) (arg12 := arg12) (arg13 := arg13) x1 x2 x3 x4 x5 x6 x7 x8 x9
            (arg10.view.writes (Elt F) f10 L10) (arg11.view.writes (Elt F) f11 L11) (arg12.view.writes (Elt F) f12 L12) (arg13.view.writes (Elt F) f13 L13)) } := by
  refine ⟨?_, ?_, ?_, ?_, fun E => ?run⟩
  case run =>
    simp only [cc0_body_eq_skeleton]; unfold cc0_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    iintro ⟨H1, H2, H3, H4, H5, H6, H7, H8, H9, H10, H11, H12, H13⟩
    sl_exec (disch := first | sl_exact hc0 | sl_exact hc1)
    sl_step
    sl_close

end Cert.Joined

end
-- ==== Proof.JoinedFirst.lean ====
/- What the first grid point of the joined convolution's call stores. -/
module

public import proofs.«01_k».proof.Proof.JoinedPlane
public import proofs.«01_k».proof.Proof.JoinedRunA
public import Idealize.ShloMosaic.Lib.Pipeline.ValueKit

@[expose] public section

set_option maxRecDepth 16384

noncomputable section

namespace Cert.Joined

open Idealize.ShloMosaic hiding ix1 ix2 ix3 ix4 eq_ix1 eq_ix2 eq_ix3 eq_ix4
open Idealize.ShloMosaic.ValueIdx Idealize.ShloMosaic.TcCoe
open Cert.KernelIdeal Cert.KernelIdeal.Gen Cert.Fat
open scoped BigOperators

variable (c : Dev nD) (i : grid0.Coords)
  {arg1 : Memref sig .tc .vmem S4x16x8960 .f32} (harg1 : arg1.IsWhole)
  {arg2 : Memref sig .tc .vmem S1x16x8960 .f32} (harg2 : arg2.IsWhole)
  {arg3 : Memref sig .tc .vmem S1x16x8960 .f32} (harg3 : arg3.IsWhole)
  {arg4 : Memref sig .tc .vmem S4x32x8960 .bf16} (harg4 : arg4.IsWhole)
  {arg5 : Memref sig .tc .vmem S1x32x8960 .bf16} (harg5 : arg5.IsWhole)
  {arg6 : Memref sig .tc .vmem S1x32x8960 .bf16} (harg6 : arg6.IsWhole)
  {arg7 : Memref sig .tc .vmem S66x1x8960 .f32} (harg7 : arg7.IsWhole)
  {arg8 : Memref sig .tc .vmem S9x16x48 .f32} (harg8 : arg8.IsWhole)
  {arg9 : Memref sig .tc .vmem S9x16x96 .f32} (harg9 : arg9.IsWhole)
  {arg10 : Memref sig .tc .vmem S66x16x8960 .bf16} (harg10 : arg10.IsWhole)
  {arg11 : Memref sig .tc .vmem S16x1 .f32} (harg11 : arg11.IsWhole)
  {arg12 : Memref sig .tc .vmem S16x1 .f32} (harg12 : arg12.IsWhole)
  {arg13 : Memref sig .tc .smem S1 .f32} (harg13 : arg13.IsWhole)
  (x1 : Vec Ideal S4x16x8960 .f32) (x2 : Vec Ideal S1x16x8960 .f32) (x3 : Vec Ideal S1x16x8960 .f32)
  (x4 : Vec Ideal S4x32x8960 .bf16) (x5 : Vec Ideal S1x32x8960 .bf16) (x6 : Vec Ideal S1x32x8960 .bf16)
  (x7 : Vec Ideal S66x1x8960 .f32) (x8 : Vec Ideal S9x16x48 .f32) (x9 : Vec Ideal S9x16x96 .f32)

set_option maxHeartbeats 4000000 in
/-- **What the first point stores**: zeros in the planes below and above the grid, then its four planes. -/
theorem runA_stores (hc0 : startWord i = 1#1) (hc1 : ¬k0_cond2 i = 1#1) (f10 : BufTy.Contents (Elt Ideal) arg10.view.ty) (f11 : BufTy.Contents (Elt Ideal) arg11.view.ty)
    (f12 : BufTy.Contents (Elt Ideal) arg12.view.ty) (f13 : BufTy.Contents (Elt Ideal) arg13.view.ty) :
    (runA c i harg1 harg2 harg3 harg4 harg5 harg6 harg7 harg8 harg9 harg10 harg11 harg12 harg13 x1 x2 x3 x4 x5 x6 x7 x8 x9 hc0 hc1 f10 f11 f12 f13).1 = stores i x1 x2 x3 x4 x5 x6 x7 x8 x9 ++ [⟨Rect.unit (s := S66x16x8960) ![65, 0, 0] S1x16x8960.size inb_S66x16x8960_S1x16x8960_65_0_0, k0_pay8 (F := Ideal)⟩,
          ⟨Rect.unit (s := S66x16x8960) ![0, 0, 0] S1x16x8960.size inb_S66x16x8960_S1x16x8960_0_0_0, k0_pay7 (F := Ideal)⟩] := by
  have e : (runA c i harg1 harg2 harg3 harg4 harg5 harg6 harg7 harg8 harg9 harg10 harg11 harg12 harg13 x1 x2 x3 x4 x5 x6 x7 x8 x9 hc0 hc1 f10 f11 f12 f13).1
      = stores i (View.ld (arg1.view.read (Elt Ideal) (harg1.unread x1)) (Rect.unit (s := S4x16x8960) ![0, 0, 0] S4x16x8960.size inb_S4x16x8960_S4x16x8960_0_0_0)) (View.ld (arg2.view.read (Elt Ideal) (harg2.unread x2)) (Rect.unit (s := S1x16x8960) ![0, 0, 0] S1x16x8960.size inb_S1x16x8960_S1x16x8960_0_0_0)) (View.ld (arg3.view.read (Elt Ideal) (harg3.unread x3)) (Rect.unit (s := S1x16x8960) ![0, 0, 0] S1x16x8960.size inb_S1x16x8960_S1x16x8960_0_0_0)) (View.ld (arg4.view.read (Elt Ideal) (harg4.unread x4)) (Rect.unit (s := S4x32x8960) ![0, 0, 0] S4x32x8960.size inb_S4x32x8960_S4x32x8960_0_0_0)) (View.ld (arg5.view.read (Elt Ideal) (harg5.unread x5)) (Rect.unit (s := S1x32x8960) ![0, 0, 0] S1x32x8960.size inb_S1x32x8960_S1x32x8960_0_0_0)) (View.ld (arg6.view.read (Elt Ideal) (harg6.unread x6)) (Rect.unit (s := S1x32x8960) ![0, 0, 0] S1x32x8960.size inb_S1x32x8960_S1x32x8960_0_0_0)) (arg7.view.read (Elt Ideal) (harg7.unread x7)) (arg8.view.read (Elt Ideal) (harg8.unread x8)) (arg9.view.read (Elt Ideal) (harg9.unread x9)) ++ [⟨Rect.unit (s := S66x16x8960) ![65, 0, 0] S1x16x8960.size inb_S66x16x8960_S1x16x8960_65_0_0, k0_pay8 (F := Ideal)⟩,
          ⟨Rect.unit (s := S66x16x8960) ![0, 0, 0] S1x16x8960.size inb_S66x16x8960_S1x16x8960_0_0_0, k0_pay7 (F := Ideal)⟩] := by
    rfl
  rw [e, harg1.read_unread, harg2.read_unread, harg3.read_unread, harg4.read_unread, harg5.read_unread, harg6.read_unread, harg7.read_unread, harg8.read_unread, harg9.read_unread]
  rw [View.ld_unit_zero zero3, View.ld_unit_zero zero3, View.ld_unit_zero zero3, View.ld_unit_zero zero3, View.ld_unit_zero zero3, View.ld_unit_zero zero3]

set_option maxHeartbeats 4000000 in
/-- The sums start from zero, -/
theorem runA_sums (hc0 : startWord i = 1#1) (hc1 : ¬k0_cond2 i = 1#1) (f10 : BufTy.Contents (Elt Ideal) arg10.view.ty) (f11 : BufTy.Contents (Elt Ideal) arg11.view.ty)
    (f12 : BufTy.Contents (Elt Ideal) arg12.view.ty) (f13 : BufTy.Contents (Elt Ideal) arg13.view.ty) :
    (runA c i harg1 harg2 harg3 harg4 harg5 harg6 harg7 harg8 harg9 harg10 harg11 harg12 harg13 x1 x2 x3 x4 x5 x6 x7 x8 x9 hc0 hc1 f10 f11 f12 f13).2.1 = storeSums (addf (k0_pay5 (F := Ideal)) (sumY i x1 x2 x3 x4 x5 x6 x7 x8 x9)) ++ storeSums (k0_pay5 (F := Ideal)) := by
  have e : (runA c i harg1 harg2 harg3 harg4 harg5 harg6 harg7 harg8 harg9 harg10 harg11 harg12 harg13 x1 x2 x3 x4 x5 x6 x7 x8 x9 hc0 hc1 f10 f11 f12 f13).2.1
      = storeSums (k0_pay1 (sumY i (View.ld (arg1.view.read (Elt Ideal) (harg1.unread x1)) (Rect.unit (s := S4x16x8960) ![0, 0, 0] S4x16x8960.size inb_S4x16x8960_S4x16x8960_0_0_0)) (View.ld (arg2.view.read (Elt Ideal) (harg2.unread x2)) (Rect.unit (s := S1x16x8960) ![0, 0, 0] S1x16x8960.size inb_S1x16x8960_S1x16x8960_0_0_0)) (View.ld (arg3.view.read (Elt Ideal) (harg3.unread x3)) (Rect.unit (s := S1x16x8960) ![0, 0, 0] S1x16x8960.size inb_S1x16x8960_S1x16x8960_0_0_0)) (View.ld (arg4.view.read (Elt Ideal) (harg4.unread x4)) (Rect.unit (s := S4x32x8960) ![0, 0, 0] S4x32x8960.size inb_S4x32x8960_S4x32x8960_0_0_0)) (View.ld (arg5.view.read (Elt Ideal) (harg5.unread x5)) (Rect.unit (s := S1x32x8960) ![0, 0, 0] S1x32x8960.size inb_S1x32x8960_S1x32x8960_0_0_0)) (View.ld (arg6.view.read (Elt Ideal) (harg6.unread x6)) (Rect.unit (s := S1x32x8960) ![0, 0, 0] S1x32x8960.size inb_S1x32x8960_S1x32x8960_0_0_0)) (arg7.view.read (Elt Ideal) (harg7.unread x7)) (arg8.view.read (Elt Ideal) (harg8.unread x8)) (arg9.view.read (Elt Ideal) (harg9.unread x9)))
          (arg11.view.readCov (storeSums (k0_pay5 (F := Ideal))) (Rect.unit (s := S16x1) ![0, 0] S16x1.size inb_S16x1_S16x1_0_0).toLoadRect)) ++ storeSums (k0_pay5 (F := Ideal)) := by
    rfl
  rw [e, harg1.read_unread, harg2.read_unread, harg3.read_unread, harg4.read_unread, harg5.read_unread, harg6.read_unread, harg7.read_unread, harg8.read_unread, harg9.read_unread]
  rw [View.ld_unit_zero zero3, View.ld_unit_zero zero3, View.ld_unit_zero zero3, View.ld_unit_zero zero3, View.ld_unit_zero zero3, View.ld_unit_zero zero3, View.readCov_unit_zero arg11.view zero2]
  exact congrArg (fun x => storeSums x ++ storeSums (k0_pay5 (F := Ideal))) (shapeCast_self _ _)

set_option maxHeartbeats 4000000 in
/-- the sums of the squares too, -/
theorem runA_squares (hc0 : startWord i = 1#1) (hc1 : ¬k0_cond2 i = 1#1) (f10 : BufTy.Contents (Elt Ideal) arg10.view.ty) (f11 : BufTy.Contents (Elt Ideal) arg11.view.ty)
    (f12 : BufTy.Contents (Elt Ideal) arg12.view.ty) (f13 : BufTy.Contents (Elt Ideal) arg13.view.ty) :
    (runA c i harg1 harg2 harg3 harg4 harg5 harg6 harg7 harg8 harg9 harg10 harg11 harg12 harg13 x1 x2 x3 x4 x5 x6 x7 x8 x9 hc0 hc1 f10 f11 f12 f13).2.2.1 = storeSums (addf (k0_pay6 (F := Ideal)) (sumYY i x1 x2 x3 x4 x5 x6 x7 x8 x9)) ++ storeSums (k0_pay6 (F := Ideal)) := by
  have e : (runA c i harg1 harg2 harg3 harg4 harg5 harg6 harg7 harg8 harg9 harg10 harg11 harg12 harg13 x1 x2 x3 x4 x5 x6 x7 x8 x9 hc0 hc1 f10 f11 f12 f13).2.2.1
      = storeSums (k0_pay2 (sumYY i (View.ld (arg1.view.read (Elt Ideal) (harg1.unread x1)) (Rect.unit (s := S4x16x8960) ![0, 0, 0] S4x16x8960.size inb_S4x16x8960_S4x16x8960_0_0_0)) (View.ld (arg2.view.read (Elt Ideal) (harg2.unread x2)) (Rect.unit (s := S1x16x8960) ![0, 0, 0] S1x16x8960.size inb_S1x16x8960_S1x16x8960_0_0_0)) (View.ld (arg3.view.read (Elt Ideal) (harg3.unread x3)) (Rect.unit (s := S1x16x8960) ![0, 0, 0] S1x16x8960.size inb_S1x16x8960_S1x16x8960_0_0_0)) (View.ld (arg4.view.read (Elt Ideal) (harg4.unread x4)) (Rect.unit (s := S4x32x8960) ![0, 0, 0] S4x32x8960.size inb_S4x32x8960_S4x32x8960_0_0_0)) (View.ld (arg5.view.read (Elt Ideal) (harg5.unread x5)) (Rect.unit (s := S1x32x8960) ![0, 0, 0] S1x32x8960.size inb_S1x32x8960_S1x32x8960_0_0_0)) (View.ld (arg6.view.read (Elt Ideal) (harg6.unread x6)) (Rect.unit (s := S1x32x8960) ![0, 0, 0] S1x32x8960.size inb_S1x32x8960_S1x32x8960_0_0_0)) (arg7.view.read (Elt Ideal) (harg7.unread x7)) (arg8.view.read (Elt Ideal) (harg8.unread x8)) (arg9.view.read (Elt Ideal) (harg9.unread x9)))
          (arg12.view.readCov (storeSums (k0_pay6 (F := Ideal))) (Rect.unit (s := S16x1) ![0, 0] S16x1.size inb_S16x1_S16x1_0_0).toLoadRect)) ++ storeSums (k0_pay6 (F := Ideal)) := by
    rfl
  rw [e, harg1.read_unread, harg2.read_unread, harg3.read_unread, harg4.read_unread, harg5.read_unread, harg6.read_unread, harg7.read_unread, harg8.read_unread, harg9.read_unread]
  rw [View.ld_unit_zero zero3, View.ld_unit_zero zero3, View.ld_unit_zero zero3, View.ld_unit_zero zero3, View.ld_unit_zero zero3, View.ld_unit_zero zero3, View.readCov_unit_zero arg12.view zero2]
  exact congrArg (fun x => storeSums x ++ storeSums (k0_pay6 (F := Ideal))) (shapeCast_self _ _)

set_option maxHeartbeats 4000000 in
/-- and so does the mask's. -/
theorem runA_count (hc0 : startWord i = 1#1) (hc1 : ¬k0_cond2 i = 1#1) (f10 : BufTy.Contents (Elt Ideal) arg10.view.ty) (f11 : BufTy.Contents (Elt Ideal) arg11.view.ty)
    (f12 : BufTy.Contents (Elt Ideal) arg12.view.ty) (f13 : BufTy.Contents (Elt Ideal) arg13.view.ty) :
    (runA c i harg1 harg2 harg3 harg4 harg5 harg6 harg7 harg8 harg9 harg10 harg11 harg12 harg13 x1 x2 x3 x4 x5 x6 x7 x8 x9 hc0 hc1 f10 f11 f12 f13).2.2.2.1 = storeSum (Scalar.addf (Scalar.ofBits .f32 0x00000000#32) (sumM i x7)) ++ storeSum (Scalar.ofBits .f32 0x00000000#32) := by
  have e : (runA c i harg1 harg2 harg3 harg4 harg5 harg6 harg7 harg8 harg9 harg10 harg11 harg12 harg13 x1 x2 x3 x4 x5 x6 x7 x8 x9 hc0 hc1 f10 f11 f12 f13).2.2.2.1
      = storeSum (Scalar.addf (Scalar.ofBits .f32 0x00000000#32)
          (sumM i (arg7.view.read (Elt Ideal) (harg7.unread x7)))) ++ storeSum (Scalar.ofBits .f32 0x00000000#32) := by
    rfl
  rw [e, harg7.read_unread]

end Cert.Joined

end
-- ==== Proof.Volume.lean ====
/-
  Volumes and their planes, for any number of channels.

  A volume is an array over (channel, z, y, x) with 64 voxels per axis. Read with its border of zeros, its coordinates run from 0
  to 65. The planes of a volume put slice z + 1 at plane z + 1, its lines of 128 lanes one after another from lane 256 on.
-/
module

public import proofs.«01_k».proof.Proof.Stencil
public import Idealize.ShloMosaic.Lib.KernelVsHost
public import Idealize.ShloMosaic.PureOps.Ideal.Laws

@[expose] public section

set_option maxRecDepth 16384

noncomputable section

namespace Cert.Fat

open Idealize.ShloMosaic hiding ix1 ix2 ix3 ix4 ix5 eq_ix1 eq_ix2 eq_ix3 eq_ix4 eq_ix5
open Idealize.ShloMosaic.ValueIdx
open scoped BigOperators

variable {C CO CI : ℕ}

/-- A volume with its border of zeros, read at natural numbers. -/
def voxel (x : (⟨4, ![C, 64, 64, 64]⟩ : Shape).Idx → EReal) (c z y w : ℕ) : EReal :=
  if h : c < C ∧ (1 ≤ z ∧ z < 65) ∧ (1 ≤ y ∧ y < 65) ∧ (1 ≤ w ∧ w < 65) then
    x (ix4 ⟨c, h.1⟩ ⟨z - 1, by omega⟩ ⟨y - 1, by omega⟩ ⟨w - 1, by omega⟩)
  else 0

theorem voxel_ix (x : (⟨4, ![C, 64, 64, 64]⟩ : Shape).Idx → EReal) (c : Fin C) (z y w : Fin 64) :
    voxel x c (z.val + 1) (y.val + 1) (w.val + 1) = x (ix4 c z y w) := by
  rw [voxel, dif_pos ⟨c.isLt, ⟨by omega, by omega⟩, ⟨by omega, by omega⟩, ⟨by omega, by omega⟩⟩]
  rfl

theorem voxel_in (x : (⟨4, ![C, 64, 64, 64]⟩ : Shape).Idx → EReal) {c z y w : ℕ} (hc : c < C) (hz : 1 ≤ z ∧ z < 65) (hy : 1 ≤ y ∧ y < 65)
    (hw : 1 ≤ w ∧ w < 65) : voxel x c z y w = x (ix4 ⟨c, hc⟩ ⟨z - 1, by omega⟩ ⟨y - 1, by omega⟩ ⟨w - 1, by omega⟩) := by
  rw [voxel, dif_pos ⟨hc, hz, hy, hw⟩]

theorem voxel_out (x : (⟨4, ![C, 64, 64, 64]⟩ : Shape).Idx → EReal) {c z y w : ℕ}
    (h : ¬((1 ≤ z ∧ z < 65) ∧ (1 ≤ y ∧ y < 65) ∧ (1 ≤ w ∧ w < 65))) : voxel x c z y w = 0 := by
  rw [voxel, dif_neg fun h' => h h'.2]

/-- Two volumes with the same voxels are one. -/
theorem ext_voxel {x y : (⟨4, ![C, 64, 64, 64]⟩ : Shape).Idx → EReal}
    (h : ∀ (c : Fin C) (z y' w : Fin 64), x (ix4 c z y' w) = y (ix4 c z y' w)) : x = y := by
  funext j
  have ej : j = ix4 (j 0) (j 1) (j 2) (j 3) := eq_ix4 j
  rw [ej]
  exact h _ _ _ _

/-- A 3x3x3 stencil of weights, read at natural numbers. -/
def weight (w : (⟨5, ![CO, CI, 3, 3, 3]⟩ : Shape).Idx → EReal) (o k a b c : ℕ) : EReal :=
  if h : o < CO ∧ k < CI ∧ a < 3 ∧ b < 3 ∧ c < 3 then w (ix5 ⟨o, h.1⟩ ⟨k, h.2.1⟩ ⟨a, h.2.2.1⟩ ⟨b, h.2.2.2.1⟩ ⟨c, h.2.2.2.2⟩) else 0

theorem weight_lt (w : (⟨5, ![CO, CI, 3, 3, 3]⟩ : Shape).Idx → EReal) {o k a b c : ℕ} (ho : o < CO) (hk : k < CI) (ha : a < 3) (hb : b < 3) (hc : c < 3) :
    weight w o k a b c = w (ix5 ⟨o, ho⟩ ⟨k, hk⟩ ⟨a, ha⟩ ⟨b, hb⟩ ⟨c, hc⟩) := by
  rw [weight, dif_pos ⟨ho, hk, ha, hb, hc⟩]

/-- The planes of a volume, at plane `n`, channel `c` and lane `L`. -/
def planes (x : (⟨4, ![C, 64, 64, 64]⟩ : Shape).Idx → EReal) (n c L : ℕ) : EReal :=
  if 256 ≤ L ∧ L < 8704 then voxel x c n ((L - 256) / 128) ((L - 256) % 128) else 0

/-! ## Zero padding on the host -/

/-- A volume padded by one on each side. -/
theorem pad_border (x : (⟨4, ![C, 64, 64, 64]⟩ : Shape).Idx → EReal) {u : Shape} (v : u.Idx → EReal) (hv : ∀ i, v i = 0)
    (h : (⟨4, ![C, 64, 64, 64]⟩ : Shape).Pads ![0, 1, 1, 1] ![0, 1, 1, 1] ![0, 0, 0, 0] ⟨4, ![C, 66, 66, 66]⟩) (hu : 0 < u.numel)
    (c : Fin C) (z y w : Fin 66) :
    pad ⟨4, ![C, 66, 66, 66]⟩ ![0, 1, 1, 1] ![0, 1, 1, 1] ![0, 0, 0, 0] x v h hu (ix4 c z y w) = voxel x c z y w := by
  by_cases hin : (1 ≤ z.val ∧ z.val < 65) ∧ (1 ≤ y.val ∧ y.val < 65) ∧ (1 ≤ w.val ∧ w.val < 65)
  · rw [voxel_in x c.isLt hin.1 hin.2.1 hin.2.2]
    refine pad_apply_of_inside _ _ _ x v h hu _ _ fun a => ?_
    match a with
    | ⟨0, _⟩ => show c.val = 0 + c.val * (0 + 1); omega
    | ⟨1, _⟩ => show z.val = 1 + (z.val - 1) * (0 + 1); omega
    | ⟨2, _⟩ => show y.val = 1 + (y.val - 1) * (0 + 1); omega
    | ⟨3, _⟩ => show w.val = 1 + (w.val - 1) * (0 + 1); omega
  · rw [voxel_out x hin]
    by_cases hz : 1 ≤ z.val ∧ z.val < 65
    · by_cases hy : 1 ≤ y.val ∧ y.val < 65
      · have hw : ¬(1 ≤ w.val ∧ w.val < 65) := fun hw => hin ⟨hz, hy, hw⟩
        refine (pad_apply_of_not_inside _ _ _ x v h hu _ (3 : Fin 4) ?_).trans (hv _)
        show ¬(1 ≤ w.val ∧ (w.val - 1) % (0 + 1) = 0 ∧ (w.val - 1) / (0 + 1) < 64)
        omega
      · refine (pad_apply_of_not_inside _ _ _ x v h hu _ (2 : Fin 4) ?_).trans (hv _)
        show ¬(1 ≤ y.val ∧ (y.val - 1) % (0 + 1) = 0 ∧ (y.val - 1) / (0 + 1) < 64)
        omega
    · refine (pad_apply_of_not_inside _ _ _ x v h hu _ (1 : Fin 4) ?_).trans (hv _)
      show ¬(1 ≤ z.val ∧ (z.val - 1) % (0 + 1) = 0 ∧ (z.val - 1) / (0 + 1) < 64)
      omega

/-- A volume padded by one before and, along the lanes, by 63 after. -/
theorem pad_lines (x : (⟨4, ![C, 64, 64, 64]⟩ : Shape).Idx → EReal) {u : Shape} (v : u.Idx → EReal) (hv : ∀ i, v i = 0)
    (h : (⟨4, ![C, 64, 64, 64]⟩ : Shape).Pads ![0, 1, 1, 1] ![0, 1, 1, 63] ![0, 0, 0, 0] ⟨4, ![C, 66, 66, 128]⟩) (hu : 0 < u.numel)
    (c : Fin C) (z y : Fin 66) (w : Fin 128) :
    pad ⟨4, ![C, 66, 66, 128]⟩ ![0, 1, 1, 1] ![0, 1, 1, 63] ![0, 0, 0, 0] x v h hu (ix4 c z y w) = voxel x c z y w := by
  by_cases hin : (1 ≤ z.val ∧ z.val < 65) ∧ (1 ≤ y.val ∧ y.val < 65) ∧ (1 ≤ w.val ∧ w.val < 65)
  · rw [voxel_in x c.isLt hin.1 hin.2.1 hin.2.2]
    refine pad_apply_of_inside _ _ _ x v h hu _ _ fun a => ?_
    match a with
    | ⟨0, _⟩ => show c.val = 0 + c.val * (0 + 1); omega
    | ⟨1, _⟩ => show z.val = 1 + (z.val - 1) * (0 + 1); omega
    | ⟨2, _⟩ => show y.val = 1 + (y.val - 1) * (0 + 1); omega
    | ⟨3, _⟩ => show w.val = 1 + (w.val - 1) * (0 + 1); omega
  · rw [voxel_out x hin]
    by_cases hz : 1 ≤ z.val ∧ z.val < 65
    · by_cases hy : 1 ≤ y.val ∧ y.val < 65
      · have hw : ¬(1 ≤ w.val ∧ w.val < 65) := fun hw => hin ⟨hz, hy, hw⟩
        refine (pad_apply_of_not_inside _ _ _ x v h hu _ (3 : Fin 4) ?_).trans (hv _)
        show ¬(1 ≤ w.val ∧ (w.val - 1) % (0 + 1) = 0 ∧ (w.val - 1) / (0 + 1) < 64)
        omega
      · refine (pad_apply_of_not_inside _ _ _ x v h hu _ (2 : Fin 4) ?_).trans (hv _)
        show ¬(1 ≤ y.val ∧ (y.val - 1) % (0 + 1) = 0 ∧ (y.val - 1) / (0 + 1) < 64)
        omega
    · refine (pad_apply_of_not_inside _ _ _ x v h hu _ (1 : Fin 4) ?_).trans (hv _)
      show ¬(1 ≤ z.val ∧ (z.val - 1) % (0 + 1) = 0 ∧ (z.val - 1) / (0 + 1) < 64)
      omega

/-- 256 lanes padded in front and behind. -/
theorem pad_lanes {A B : ℕ} (x : (⟨3, ![A, B, 8448]⟩ : Shape).Idx → EReal) {u : Shape} (v : u.Idx → EReal) (hv : ∀ i, v i = 0)
    (h : (⟨3, ![A, B, 8448]⟩ : Shape).Pads ![0, 0, 256] ![0, 0, 256] ![0, 0, 0] ⟨3, ![A, B, 8960]⟩) (hu : 0 < u.numel)
    (a : Fin A) (b : Fin B) (l : Fin 8960) :
    pad ⟨3, ![A, B, 8960]⟩ ![0, 0, 256] ![0, 0, 256] ![0, 0, 0] x v h hu (ix3 a b l)
      = if h : 256 ≤ l.val ∧ l.val < 8704 then x (ix3 a b ⟨l.val - 256, by omega⟩) else 0 := by
  by_cases hin : 256 ≤ l.val ∧ l.val < 8704
  · rw [dif_pos hin]
    refine pad_apply_of_inside _ _ _ x v h hu _ _ fun d => ?_
    match d with
    | ⟨0, _⟩ => show a.val = 0 + a.val * (0 + 1); omega
    | ⟨1, _⟩ => show b.val = 0 + b.val * (0 + 1); omega
    | ⟨2, _⟩ => show l.val = 256 + (l.val - 256) * (0 + 1); omega
  · rw [dif_neg hin]
    refine (pad_apply_of_not_inside _ _ _ x v h hu _ (2 : Fin 3) ?_).trans (hv _)
    show ¬(256 ≤ l.val ∧ (l.val - 256) % (0 + 1) = 0 ∧ (l.val - 256) / (0 + 1) < 8448)
    omega

/-- The lines of a plane side by side. -/
theorem lines_at (x : (⟨4, ![C, 66, 66, 128]⟩ : Shape).Idx → EReal) (h : (⟨4, ![C, 66, 66, 128]⟩ : Shape).ShapeCasts ⟨3, ![C, 66, 8448]⟩)
    (c : Fin C) (z : Fin 66) (l : Fin 8448) :
    shapeCast ⟨3, ![C, 66, 8448]⟩ x h (ix3 c z l) = x (ix4 c z ⟨l.val / 128, by omega⟩ ⟨l.val % 128, by omega⟩) :=
  shapeCast_apply _ _ _ _ (by
    rw [Shape.rowMajor_val_four, Shape.rowMajor_val_three]
    show ((c.val * 66 + z.val) * 66 + l.val / 128) * 128 + l.val % 128 = (c.val * 66 + z.val) * 8448 + l.val
    omega)

/-- **The reference's layout of a volume is its planes.** -/
theorem laid_out_at (x : (⟨4, ![C, 64, 64, 64]⟩ : Shape).Idx → EReal) {u : Shape} (v v' : u.Idx → EReal) (hv : ∀ i, v i = 0) (hv' : ∀ i, v' i = 0)
    (h₁ : (⟨4, ![C, 64, 64, 64]⟩ : Shape).Pads ![0, 1, 1, 1] ![0, 1, 1, 63] ![0, 0, 0, 0] ⟨4, ![C, 66, 66, 128]⟩) (hu : 0 < u.numel)
    (h₂ : (⟨4, ![C, 66, 66, 128]⟩ : Shape).ShapeCasts ⟨3, ![C, 66, 8448]⟩)
    (h₃ : (⟨3, ![C, 66, 8448]⟩ : Shape).Pads ![0, 0, 256] ![0, 0, 256] ![0, 0, 0] ⟨3, ![C, 66, 8960]⟩)
    (h₄ : (⟨3, ![C, 66, 8960]⟩ : Shape).Transposes [1, 0, 2] ⟨3, ![66, C, 8960]⟩) {n c L : ℕ} (hn : n < 66) (hc : c < C) (hL : L < 8960) :
    at3 (transpose ⟨3, ![66, C, 8960]⟩ [1, 0, 2] (pad ⟨3, ![C, 66, 8960]⟩ ![0, 0, 256] ![0, 0, 256] ![0, 0, 0]
      (shapeCast ⟨3, ![C, 66, 8448]⟩ (pad ⟨4, ![C, 66, 66, 128]⟩ ![0, 1, 1, 1] ![0, 1, 1, 63] ![0, 0, 0, 0] x v h₁ hu) h₂) v' h₃ hu) h₄) n c L
      = planes x n c L := by
  rw [at3_lt _ hn hc hL]
  refine (transpose_apply _ _ _ _ (ix3 (⟨c, hc⟩ : Fin C) (⟨n, hn⟩ : Fin 66) (⟨L, hL⟩ : Fin 8960)) (fun b => by
    match b with
    | ⟨0, _⟩ => rfl
    | ⟨1, _⟩ => rfl
    | ⟨2, _⟩ => rfl)).trans ?_
  rw [pad_lanes _ v' hv' h₃ hu]
  unfold planes
  by_cases hin : 256 ≤ L ∧ L < 8704
  · rw [dif_pos hin, if_pos hin, lines_at]
    exact pad_lines x v hv h₁ hu _ _ _ _
  · rw [dif_neg hin, if_neg hin]

/-- **The call's own layout of a volume is its planes.** -/
theorem to_planes_at (x : (⟨4, ![C, 64, 64, 64]⟩ : Shape).Idx → EReal) {u : Shape} (v v' : u.Idx → EReal) (hv : ∀ i, v i = 0) (hv' : ∀ i, v' i = 0)
    (h₁ : (⟨4, ![C, 64, 64, 64]⟩ : Shape).Pads ![0, 1, 1, 1] ![0, 1, 1, 63] ![0, 0, 0, 0] ⟨4, ![C, 66, 66, 128]⟩) (hu : 0 < u.numel)
    (h₂ : (⟨4, ![C, 66, 66, 128]⟩ : Shape).ShapeCasts ⟨3, ![C, 66, 8448]⟩)
    (h₄ : (⟨3, ![C, 66, 8448]⟩ : Shape).Transposes [1, 0, 2] ⟨3, ![66, C, 8448]⟩)
    (h₃ : (⟨3, ![66, C, 8448]⟩ : Shape).Pads ![0, 0, 256] ![0, 0, 256] ![0, 0, 0] ⟨3, ![66, C, 8960]⟩)
    {n c L : ℕ} (hn : n < 66) (hc : c < C) (hL : L < 8960) :
    at3 (pad ⟨3, ![66, C, 8960]⟩ ![0, 0, 256] ![0, 0, 256] ![0, 0, 0] (transpose ⟨3, ![66, C, 8448]⟩ [1, 0, 2]
      (shapeCast ⟨3, ![C, 66, 8448]⟩ (pad ⟨4, ![C, 66, 66, 128]⟩ ![0, 1, 1, 1] ![0, 1, 1, 63] ![0, 0, 0, 0] x v h₁ hu) h₂) h₄) v' h₃ hu) n c L
      = planes x n c L := by
  rw [at3_lt _ hn hc hL, pad_lanes _ v' hv' h₃ hu]
  unfold planes
  by_cases hin : 256 ≤ L ∧ L < 8704
  · rw [dif_pos hin, if_pos hin]
    refine (transpose_apply _ _ _ _ (ix3 (⟨c, hc⟩ : Fin C) (⟨n, hn⟩ : Fin 66) (⟨L - 256, by omega⟩ : Fin 8448)) (fun b => by
      match b with
      | ⟨0, _⟩ => rfl
      | ⟨1, _⟩ => rfl
      | ⟨2, _⟩ => rfl)).trans ?_
    rw [lines_at]
    exact pad_lines x v hv h₁ hu _ _ _ _
  · rw [dif_neg hin, if_neg hin]

end Cert.Fat

end
-- ==== Proof.Convolution.lean ====
/-
  The 3x3x3 convolution of a volume, for any number of channels: as the host's twenty-seven products, as the nine products of stacked
  planes, and that the two are one sum.
-/
module

public import proofs.«01_k».proof.Proof.Volume

@[expose] public section

set_option maxRecDepth 16384

noncomputable section

namespace Cert.Fat

open Idealize.ShloMosaic hiding ix1 ix2 ix3 ix4 ix5 eq_ix1 eq_ix2 eq_ix3 eq_ix4 eq_ix5
open Idealize.ShloMosaic.ValueIdx
open scoped BigOperators

variable {C CO CI : ℕ}

/-! ## The host's products -/

/-- Channels by channels times a volume. -/
def mix (CO CI : ℕ) : DotDims ⟨2, ![CO, CI]⟩ ⟨4, ![CI, 64, 64, 64]⟩ ⟨4, ![CO, 64, 64, 64]⟩ where
  lhsContracting := [1]
  rhsContracting := [0]
  lhsNonContracting := [0]
  rhsNonContracting := [1, 2, 3]
  lhsBatch := []
  rhsBatch := []
  wf := ⟨rfl, by simp, rfl, by simp, by simp, by simp,
    (by decide : (([] ++ [0] ++ [1] : List (Fin 2))).Perm (List.finRange 2)),
    (by decide : (([] ++ [1, 2, 3] ++ [0] : List (Fin 4))).Perm (List.finRange 4)),
    rfl, by show 0 < 4; decide, fun a => by fin_cases a <;> rfl⟩

theorem mix_at {φ₁ φ₂ : FTy} (A : FVec Ideal ⟨2, ![CO, CI]⟩ φ₁) (X : FVec Ideal ⟨4, ![CI, 64, 64, 64]⟩ φ₂) (o : Fin CO) (z y w : Fin 64) :
    Host.dotGeneral (mix CO CI) none A X (ix4 o z y w) = ∑ k : Fin CI, A (ix2 o k) * X (ix4 k z y w) := by
  simp only [Host.dotGeneral]
  rw [Ideal.dotGeneral_apply, ← Equiv.sum_comp (contrEquiv1 (mix CO CI) CI rfl rfl).symm]
  refine Finset.sum_congr rfl fun k _ => ?_
  have hk := contrEquiv1_symm_val (mix CO CI) CI rfl rfl k
  have el : (mix CO CI).lhsIdx (ix4 o z y w) ((contrEquiv1 (mix CO CI) CI rfl rfl).symm k) = ix2 o k := by
    funext a; apply Fin.ext
    match a with
    | ⟨0, _⟩ => rfl
    | ⟨1, _⟩ => exact hk
  have er : (mix CO CI).rhsIdx (ix4 o z y w) ((contrEquiv1 (mix CO CI) CI rfl rfl).symm k) = ix4 k z y w := by
    funext a; apply Fin.ext
    match a with
    | ⟨0, _⟩ => exact hk
    | ⟨1, _⟩ => rfl
    | ⟨2, _⟩ => rfl
    | ⟨3, _⟩ => rfl
  rw [el, er]

theorem slices5 (a b c : ℕ) (ha : a < 3) (hb : b < 3) (hc : c < 3) :
    (⟨5, ![CO, CI, 3, 3, 3]⟩ : Shape).Slices ![0, 0, a, b, c] ⟨5, ![CO, CI, 1, 1, 1]⟩ :=
  ⟨rfl, fun x => by
    match x with
    | ⟨0, _⟩ => exact (Nat.zero_add _).le
    | ⟨1, _⟩ => exact (Nat.zero_add _).le
    | ⟨2, _⟩ => exact ha
    | ⟨3, _⟩ => exact hb
    | ⟨4, _⟩ => exact hc⟩

theorem slices4 (a b c : ℕ) (ha : a < 3) (hb : b < 3) (hc : c < 3) :
    (⟨4, ![CI, 66, 66, 66]⟩ : Shape).Slices ![0, a, b, c] ⟨4, ![CI, 64, 64, 64]⟩ :=
  ⟨rfl, fun x => by
    match x with
    | ⟨0, _⟩ => exact (Nat.zero_add _).le
    | ⟨1, _⟩ => show a + 64 ≤ 66; omega
    | ⟨2, _⟩ => show b + 64 ≤ 66; omega
    | ⟨3, _⟩ => show c + 64 ≤ 66; omega⟩

theorem casts52 : (⟨5, ![CO, CI, 1, 1, 1]⟩ : Shape).ShapeCasts ⟨2, ![CO, CI]⟩ := by
  simp [Shape.ShapeCasts, Shape.numel, Fin.prod_univ_succ]

/-- The product for one offset of the stencil: `t / 9` slices, `t / 3 % 3` lines and `t % 3` voxels on. -/
def hostTap (W : FVec Ideal ⟨5, ![CO, CI, 3, 3, 3]⟩ .f32) (X : FVec Ideal ⟨4, ![CI, 66, 66, 66]⟩ .f32) (t : Fin 27) :
    FVec Ideal ⟨4, ![CO, 64, 64, 64]⟩ .f32 :=
  Host.dotGeneral (mix CO CI) none
    (shapeCast ⟨2, ![CO, CI]⟩ (extractStridedSlice ⟨5, ![CO, CI, 1, 1, 1]⟩ ![0, 0, t.val / 9, t.val / 3 % 3, t.val % 3] W
      (slices5 _ _ _ (by omega) (by omega) (by omega))) casts52)
    (extractStridedSlice ⟨4, ![CI, 64, 64, 64]⟩ ![0, t.val / 9, t.val / 3 % 3, t.val % 3] X (slices4 _ _ _ (by omega) (by omega) (by omega)))

/-- The sum, at an output channel and a voxel, over the stencil and the input channels; `X` is read with its border. -/
def stencil (W : (⟨5, ![CO, CI, 3, 3, 3]⟩ : Shape).Idx → EReal) (X : ℕ → ℕ → ℕ → ℕ → EReal) (o z y w : ℕ) : EReal :=
  ∑ t ∈ Finset.range 27, ∑ k ∈ Finset.range CI, weight W o k (t / 9) (t / 3 % 3) (t % 3) * X k (z + t / 9) (y + t / 3 % 3) (w + t % 3)

theorem hostTap_at (W : FVec Ideal ⟨5, ![CO, CI, 3, 3, 3]⟩ .f32) (X : FVec Ideal ⟨4, ![CI, 66, 66, 66]⟩ .f32) (x : ℕ → ℕ → ℕ → ℕ → EReal)
    (hX : ∀ (k : Fin CI) (z y w : Fin 66), X (ix4 k z y w) = x k z y w) (t : Fin 27) (o : Fin CO) (z y w : Fin 64) :
    hostTap W X t (ix4 o z y w) = ∑ k ∈ Finset.range CI, weight W o k (t.val / 9) (t.val / 3 % 3) (t.val % 3)
      * x k (z.val + t.val / 9) (y.val + t.val / 3 % 3) (w.val + t.val % 3) := by
  rw [hostTap, mix_at, Finset.sum_range]
  refine Finset.sum_congr rfl fun k _ => congr (congrArg _ ?_) ?_
  · rw [weight_lt W o.isLt k.isLt (by omega : t.val / 9 < 3) (by omega : t.val / 3 % 3 < 3) (by omega : t.val % 3 < 3)]
    rw [shapeCast_apply (k := ix5 o k (0 : Fin 1) (0 : Fin 1) (0 : Fin 1)) _ _ _ (by
      rw [Shape.rowMajor_val_five, Shape.rowMajor_val_two]
      show ((((o.val * CI + k.val) * 1 + 0) * 1 + 0) * 1 + 0) = o.val * CI + k.val
      omega)]
    refine extractStridedSlice_apply _ _ _ _ _ fun ax => ?_
    match ax with
    | ⟨0, _⟩ => exact (Nat.zero_add _).symm
    | ⟨1, _⟩ => exact (Nat.zero_add _).symm
    | ⟨2, _⟩ => rfl
    | ⟨3, _⟩ => rfl
    | ⟨4, _⟩ => rfl
  · have e := hX k ⟨z.val + t.val / 9, by omega⟩ ⟨y.val + t.val / 3 % 3, by omega⟩ ⟨w.val + t.val % 3, by omega⟩
    refine Eq.trans ?_ e
    refine extractStridedSlice_apply _ _ _ _ _ fun ax => ?_
    match ax with
    | ⟨0, _⟩ => exact (Nat.zero_add _).symm
    | ⟨1, _⟩ => exact Nat.add_comm _ _
    | ⟨2, _⟩ => exact Nat.add_comm _ _
    | ⟨3, _⟩ => exact Nat.add_comm _ _

/-- The offsets after the first, in order. -/
def offsets : List (Fin 27) := [1, 2, 3, 4, 5, 6, 7, 8, 9, 10, 11, 12, 13, 14, 15, 16, 17, 18, 19, 20, 21, 22, 23, 24, 25, 26]

theorem offsets_eq : offsets = (List.finRange 26).map Fin.succ := by decide

/-- The host's convolution: the products added up in order. -/
def hostConv (W : FVec Ideal ⟨5, ![CO, CI, 3, 3, 3]⟩ .f32) (X : FVec Ideal ⟨4, ![CI, 66, 66, 66]⟩ .f32) : FVec Ideal ⟨4, ![CO, 64, 64, 64]⟩ .f32 :=
  offsets.foldl (fun y t => addf y (hostTap W X t)) (hostTap W X 0)

theorem foldl_at {s : Shape} (f : Fin 27 → FVec Ideal s .f32) (l : List (Fin 27)) (y : FVec Ideal s .f32) (j : s.Idx) :
    l.foldl (fun y t => addf y (f t)) y j = y j + (l.map fun t => f t j).sum := by
  induction l generalizing y with
  | nil => simp
  | cons t l ih =>
    rw [List.foldl_cons, ih, List.map_cons, List.sum_cons, ← add_assoc]
    rfl

/-- **The host's convolution at a channel and a voxel.** -/
theorem hostConv_at (W : FVec Ideal ⟨5, ![CO, CI, 3, 3, 3]⟩ .f32) (X : FVec Ideal ⟨4, ![CI, 66, 66, 66]⟩ .f32) (x : ℕ → ℕ → ℕ → ℕ → EReal)
    (hX : ∀ (k : Fin CI) (z y w : Fin 66), X (ix4 k z y w) = x k z y w) (o : Fin CO) (z y w : Fin 64) :
    hostConv W X (ix4 o z y w) = stencil W x o z y w := by
  rw [hostConv, foldl_at, offsets_eq, List.map_map, stencil, Finset.sum_range, Fin.sum_univ_succ, Fin.sum_univ_def]
  refine congr (congrArg _ (hostTap_at W X x hX 0 o z y w)) ?_
  refine congrArg List.sum (List.map_congr_left fun t _ => ?_)
  exact hostTap_at W X x hX t.succ o z y w

/-! ## The call's products -/

/-- The weights of the nine products: row `o` of matrix `q` has the weights of the three slices one after another. -/
theorem slab_at (W : (⟨5, ![CO, CI, 3, 3, 3]⟩ : Shape).Idx → EReal) {K : ℕ} (hK : K = 3 * CI)
    (h₁ : (⟨5, ![CO, CI, 3, 3, 3]⟩ : Shape).Transposes [2, 3, 4, 0, 1] ⟨5, ![3, 3, 3, CO, CI]⟩)
    (h₂ : (⟨5, ![3, 3, 3, CO, CI]⟩ : Shape).ShapeCasts ⟨3, ![27, CO, CI]⟩)
    (h₃ : (⟨3, ![27, CO, CI]⟩ : Shape).ShapeCasts ⟨5, ![3, 3, 3, CO, CI]⟩)
    (h₄ : (⟨5, ![3, 3, 3, CO, CI]⟩ : Shape).Transposes [1, 2, 3, 0, 4] ⟨5, ![3, 3, CO, 3, CI]⟩)
    (h₅ : (⟨5, ![3, 3, CO, 3, CI]⟩ : Shape).ShapeCasts ⟨3, ![9, CO, K]⟩) {q o k : ℕ} (hq : q < 9) (ho : o < CO) (hk : k < K) :
    at3 (shapeCast ⟨3, ![9, CO, K]⟩ (transpose ⟨5, ![3, 3, CO, 3, CI]⟩ [1, 2, 3, 0, 4] (shapeCast ⟨5, ![3, 3, 3, CO, CI]⟩
      (shapeCast ⟨3, ![27, CO, CI]⟩ (transpose ⟨5, ![3, 3, 3, CO, CI]⟩ [2, 3, 4, 0, 1] W h₁) h₂) h₃) h₄) h₅) q o k
      = weight W o (k % CI) (k / CI) (q / 3) (q % 3) := by
  subst hK
  have hCI : 0 < CI := by omega
  have ha : k / CI < 3 := Nat.div_lt_of_lt_mul (by rwa [Nat.mul_comm] at hk)
  have hm : k % CI < CI := Nat.mod_lt _ hCI
  rw [at3_lt _ hq ho hk, weight_lt W ho hm ha (by omega : q / 3 < 3) (by omega : q % 3 < 3)]
  rw [shapeCast_apply (k := ix5 (⟨q / 3, by omega⟩ : Fin 3) (⟨q % 3, by omega⟩ : Fin 3) (⟨o, ho⟩ : Fin CO) (⟨k / CI, ha⟩ : Fin 3) (⟨k % CI, hm⟩ : Fin CI)) _ _ _ (by
    rw [Shape.rowMajor_val_five, Shape.rowMajor_val_three]
    show (((q / 3 * 3 + q % 3) * CO + o) * 3 + k / CI) * CI + k % CI = (q * CO + o) * (3 * CI) + k
    rw [Nat.div_add_mod', Nat.add_mul, Nat.add_assoc, Nat.div_add_mod', Nat.mul_assoc])]
  refine (transpose_apply _ _ _ _ (ix5 (⟨k / CI, ha⟩ : Fin 3) (⟨q / 3, by omega⟩ : Fin 3) (⟨q % 3, by omega⟩ : Fin 3) (⟨o, ho⟩ : Fin CO) (⟨k % CI, hm⟩ : Fin CI)) (fun b => by
    match b with
    | ⟨0, _⟩ => rfl
    | ⟨1, _⟩ => rfl
    | ⟨2, _⟩ => rfl
    | ⟨3, _⟩ => rfl
    | ⟨4, _⟩ => rfl)).trans ?_
  rw [shapeCast_apply (k := ix3 (⟨(k / CI * 3 + q / 3) * 3 + q % 3, by omega⟩ : Fin 27) (⟨o, ho⟩ : Fin CO) (⟨k % CI, hm⟩ : Fin CI)) _ _ _ (by
    rw [Shape.rowMajor_val_five, Shape.rowMajor_val_three]; rfl)]
  rw [shapeCast_apply (k := ix5 (⟨k / CI, ha⟩ : Fin 3) (⟨q / 3, by omega⟩ : Fin 3) (⟨q % 3, by omega⟩ : Fin 3) (⟨o, ho⟩ : Fin CO) (⟨k % CI, hm⟩ : Fin CI)) _ _ _ (by
    rw [Shape.rowMajor_val_five, Shape.rowMajor_val_three]; rfl)]
  exact transpose_apply _ _ _ _ _ (fun b => by
    match b with
    | ⟨0, _⟩ => rfl
    | ⟨1, _⟩ => rfl
    | ⟨2, _⟩ => rfl
    | ⟨3, _⟩ => rfl
    | ⟨4, _⟩ => rfl)

/-! ## The two are one sum -/

/-- The sum of the nine products around plane `n`, at output channel `o` and lane `L`: `V` the planes, `W` the weights. -/
def stacked (CI : ℕ) (W : ℕ → ℕ → ℕ → EReal) (V : ℕ → ℕ → ℕ → EReal) (n o L : ℕ) : EReal :=
  ∑ q : Fin 9, ∑ k ∈ Finset.range (3 * CI), W q o k * V (n + k / CI) (k % CI) (lane q (L - 256))

/-- A sum over `A * B` numbers, `B` at a time. -/
theorem sum_split (A B : ℕ) (f : ℕ → EReal) : ∑ k ∈ Finset.range (A * B), f k = ∑ a ∈ Finset.range A, ∑ b ∈ Finset.range B, f (a * B + b) := by
  induction A with
  | zero => simp
  | succ A ih => rw [Nat.succ_mul, Finset.sum_range_add, ih, Finset.sum_range_succ]

/-- A lane of a plane that lies on a voxel. -/
def OnGrid (L : ℕ) : Prop := (256 ≤ L ∧ L < 8704) ∧ (1 ≤ (L - 256) / 128 ∧ (L - 256) / 128 < 65) ∧ (1 ≤ (L - 256) % 128 ∧ (L - 256) % 128 < 65)

/-- **The nine products are the stencil's sum.** -/
theorem stacked_eq (w : (⟨5, ![CO, CI, 3, 3, 3]⟩ : Shape).Idx → EReal) (W V : ℕ → ℕ → ℕ → EReal) (x : (⟨4, ![CI, 64, 64, 64]⟩ : Shape).Idx → EReal)
    (o : ℕ) (hW : ∀ q k, q < 9 → k < 3 * CI → W q o k = weight w o (k % CI) (k / CI) (q / 3) (q % 3))
    (hV : ∀ n k l, n < 66 → k < CI → l < 8960 → V n k l = planes x n k l) {n L : ℕ} (hn : 1 ≤ n ∧ n < 65) (hL : OnGrid L) :
    stacked CI W V (n - 1) o L = stencil w (voxel x) o (n - 1) ((L - 256) / 128 - 1) ((L - 256) % 128 - 1) := by
  unfold stacked stencil
  rw [← Finset.sum_range (n := 9) (f := fun q => ∑ k ∈ Finset.range (3 * CI), W q o k * V (n - 1 + k / CI) (k % CI) (lane q (L - 256))),
    show (27 : ℕ) = 3 * 9 from rfl, sum_split 3 9, Finset.sum_comm (s := Finset.range 3)]
  refine Finset.sum_congr rfl fun q hq => ?_
  have hq' := Finset.mem_range.1 hq
  rw [sum_split 3 CI]
  refine Finset.sum_congr rfl fun a ha => Finset.sum_congr rfl fun k hk => ?_
  have ha' := Finset.mem_range.1 ha
  have hk' := Finset.mem_range.1 hk
  have e1 : (a * CI + k) / CI = a := by rw [Nat.mul_comm, Nat.mul_add_div (by omega), Nat.div_eq_of_lt hk', Nat.add_zero]
  have e2 : (a * CI + k) % CI = k := by rw [Nat.mul_comm, Nat.mul_add_mod, Nat.mod_eq_of_lt hk']
  have hlt : a * CI + k < 3 * CI := by
    have := Nat.mul_le_mul_right CI (by omega : a + 1 ≤ 3)
    rw [Nat.succ_mul] at this
    omega
  have e3 : (a * 9 + q) / 9 = a := by omega
  have e4 : (a * 9 + q) / 3 % 3 = q / 3 := by omega
  have e5 : (a * 9 + q) % 3 = q % 3 := by omega
  rw [hW q _ hq' hlt, e1, e2, e3, e4, e5]
  obtain ⟨hL1, hL2, hL3⟩ := hL
  have hl : lane q (L - 256) = L + 128 * (q / 3) + q % 3 - 129 := by unfold lane; omega
  rw [hV _ _ _ (by omega) hk' (by rw [hl]; omega), hl]
  unfold planes
  rw [if_pos (by omega)]
  have e6 : (L + 128 * (q / 3) + q % 3 - 129 - 256) / 128 = (L - 256) / 128 - 1 + q / 3 := by omega
  have e7 : (L + 128 * (q / 3) + q % 3 - 129 - 256) % 128 = (L - 256) % 128 - 1 + q % 3 := by omega
  rw [e6, e7]

/-! ## Planes on the grid and off it -/

/-- Off the grid every plane is zero. -/
theorem planes_out {C : ℕ} (x : (⟨4, ![C, 64, 64, 64]⟩ : Shape).Idx → EReal) {n c L : ℕ} (h : ¬((1 ≤ n ∧ n < 65) ∧ OnGrid L)) : planes x n c L = 0 := by
  unfold planes
  split
  · next h' => exact voxel_out x fun h'' => h ⟨h''.1, h', h''.2⟩
  · rfl

/-- On the grid a plane has the volume's voxel. -/
theorem planes_on {C : ℕ} (x : (⟨4, ![C, 64, 64, 64]⟩ : Shape).Idx → EReal) {n c L : ℕ} (hc : c < C) (hn : 1 ≤ n ∧ n < 65) (hL : OnGrid L) :
    planes x n c L = x (ix4 ⟨c, hc⟩ ⟨n - 1, by omega⟩ ⟨(L - 256) / 128 - 1, by have := hL.2.1; omega⟩ ⟨(L - 256) % 128 - 1, by have := hL.2.2; omega⟩) := by
  unfold planes
  rw [if_pos hL.1, voxel_in x hc hn hL.2.1 hL.2.2]

end Cert.Fat

end
-- ==== Proof.JoinedValue.lean ====
/- The planes and sums of one grid point of the joined convolution's call, read at an index. -/
module

public import proofs.«01_k».proof.Proof.JoinedPlane
public import proofs.«01_k».proof.Proof.Convolution
public import Idealize.ShloMosaic.PureOps.Ideal.Laws

@[expose] public section

set_option maxRecDepth 16384

noncomputable section

namespace Cert.Joined

open Idealize.ShloMosaic hiding ix1 ix2 ix3 ix4 eq_ix1 eq_ix2 eq_ix3 eq_ix4
open Idealize.ShloMosaic.ValueIdx Idealize.ShloMosaic.TcCoe
open Cert.KernelIdeal Cert.KernelIdeal.Gen Cert.Fat
open scoped BigOperators

/-! ## Three planes stacked -/

/-- A block of four planes and the two planes after it, as one run of six planes. -/
def six {b : ℕ} (X : (⟨3, ![4, b, 8960]⟩ : Shape).Idx → EReal) (Y Z : (⟨3, ![1, b, 8960]⟩ : Shape).Idx → EReal) (n o L : ℕ) : EReal :=
  if n < 4 then at3 X n o L else if n = 4 then at3 Y 0 o L else at3 Z 0 o L

/-- A row of three stacked planes is a plane of the three and a channel. -/
theorem row_split {b n r : ℕ} (hn : n = 3 * b) (hr : r < n) : ∃ q s, q < 3 ∧ s < b ∧ r = b * q + s ∧ r / b = q ∧ r % b = s := by
  subst hn
  have hb : 0 < b := Nat.pos_of_ne_zero fun h => by subst h; omega
  exact ⟨r / b, r % b, Nat.div_lt_of_lt_mul (by rwa [Nat.mul_comm] at hr), Nat.mod_lt _ hb, (Nat.div_add_mod r b).symm, rfl, rfl⟩

theorem squeeze_at {φ : FTy} {b : ℕ} (X : FVec Ideal ⟨3, ![1, b, 8960]⟩ φ) (h : (⟨3, ![1, b, 8960]⟩ : Shape).ShapeCasts ⟨2, ![b, 8960]⟩)
    {r l : ℕ} (hr : r < b) (hl : l < 8960) : at2 (shapeCast ⟨2, ![b, 8960]⟩ X h) r l = at3 X 0 r l := by
  rw [at2_lt _ hr hl, at3_lt _ Nat.one_pos hr hl]
  exact shapeCast_1ab_ab_apply _ _ _ _

/-- Three planes of the four, -/
theorem inner_at {φ : FTy} {b n : ℕ} (hn : n = 3 * b) (X : FVec Ideal ⟨3, ![4, b, 8960]⟩ φ) (Y Z : FVec Ideal ⟨3, ![1, b, 8960]⟩ φ)
    (o : ℕ) (h : o + 3 ≤ 4) {r l : ℕ} (hr : r < n) (hl : l < 8960) :
    at2 (shapeCast ⟨2, ![n, 8960]⟩ (extractStridedSlice ⟨3, ![3, b, 8960]⟩ ![o, 0, 0] X (slices3 o h)) (castsStack hn)) r l
      = six X Y Z (o + r / b) (r % b) l := by
  obtain ⟨q, s, hq, hs, -, e1, -⟩ := row_split hn hr
  rw [six, if_pos (by rw [e1]; omega)]
  exact stack_at X o h hn hr hl

/-- the last two of the four and the plane after them, -/
theorem upper_at {φ : FTy} {b n n2 : ℕ} (hn : n = 3 * b) (hn2 : n2 = 2 * b) (X : FVec Ideal ⟨3, ![4, b, 8960]⟩ φ) (Y Z : FVec Ideal ⟨3, ![1, b, 8960]⟩ φ)
    (hY : (⟨3, ![1, b, 8960]⟩ : Shape).ShapeCasts ⟨2, ![b, 8960]⟩)
    (hc : Shape.Concatenates [⟨2, ![n2, 8960]⟩, ⟨2, ![b, 8960]⟩] ⟨2, ![n, 8960]⟩ 0) {r l : ℕ} (hr : r < n) (hl : l < 8960) :
    at2 (concatenate ⟨2, ![n, 8960]⟩ 0 [⟨⟨2, ![n2, 8960]⟩, shapeCast ⟨2, ![n2, 8960]⟩ (extractStridedSlice ⟨3, ![2, b, 8960]⟩ ![2, 0, 0] X (slices3 2 (by omega))) (castsStack hn2)⟩,
        ⟨⟨2, ![b, 8960]⟩, shapeCast ⟨2, ![b, 8960]⟩ Y hY⟩] hc) r l
      = six X Y Z (2 + r / b) (r % b) l := by
  obtain ⟨q, s, hq, hs, er, e1, e2⟩ := row_split hn hr
  rw [cat0_at (φ := φ) _ _ hc (by omega) hr hl, six]
  by_cases h : r < n2
  · have hq2 : q < 2 := by
      by_contra h'
      have : q = 2 := by omega
      subst this
      omega
    rw [if_pos h, if_pos (by rw [e1]; omega)]
    exact stack_at X 2 (by omega) hn2 h hl
  · have hq2 : q = 2 := by
      by_contra h'
      have : q = 0 ∨ q = 1 := by omega
      rcases this with rfl | rfl <;> omega
    subst hq2
    rw [if_neg h, e1, if_neg (by omega), if_pos rfl, e2]
    refine (squeeze_at Y hY (by omega) hl).trans ?_
    rw [show r - n2 = s by omega]

/-- the last of the four and the two planes after it. -/
theorem last_at {φ : FTy} {b n : ℕ} (hn : n = 3 * b) (X : FVec Ideal ⟨3, ![4, b, 8960]⟩ φ) (Y Z : FVec Ideal ⟨3, ![1, b, 8960]⟩ φ)
    (hY : (⟨3, ![1, b, 8960]⟩ : Shape).ShapeCasts ⟨2, ![b, 8960]⟩)
    (hc : Shape.Concatenates [⟨2, ![b, 8960]⟩, ⟨2, ![b, 8960]⟩, ⟨2, ![b, 8960]⟩] ⟨2, ![n, 8960]⟩ 0) {r l : ℕ} (hr : r < n) (hl : l < 8960) :
    at2 (concatenate ⟨2, ![n, 8960]⟩ 0 [⟨⟨2, ![b, 8960]⟩, shapeCast ⟨2, ![b, 8960]⟩ (extractStridedSlice ⟨3, ![1, b, 8960]⟩ ![3, 0, 0] X (slices3 3 (by omega))) hY⟩,
        ⟨⟨2, ![b, 8960]⟩, shapeCast ⟨2, ![b, 8960]⟩ Y hY⟩, ⟨⟨2, ![b, 8960]⟩, shapeCast ⟨2, ![b, 8960]⟩ Z hY⟩] hc) r l
      = six X Y Z (3 + r / b) (r % b) l := by
  obtain ⟨q, s, hq, hs, er, e1, e2⟩ := row_split hn hr
  rw [cat0_three_at (φ := φ) _ _ _ hc (by omega) hr hl, six, e1, e2]
  have hq3 : q = 0 ∨ q = 1 ∨ q = 2 := by omega
  rcases hq3 with rfl | rfl | rfl
  · rw [if_pos (by omega), if_pos (by omega)]
    refine (stack_at X 3 (by omega) (by omega : b = 1 * b) (by omega) hl).trans ?_
    rw [e1, e2]
  · rw [if_neg (by omega), if_pos (by omega), if_neg (by omega), if_pos rfl]
    refine (squeeze_at Y hY (by omega) hl).trans ?_
    rw [show r - b = s by omega]
  · rw [if_neg (by omega), if_neg (by omega), if_neg (by omega), if_neg (by omega)]
    refine (squeeze_at Z hY (by omega) hl).trans ?_
    rw [show r - b - b = s by omega]

theorem extf_at (x : FVec Ideal S96x8960 .bf16) (r l : ℕ) : at2 (extf .f32 x bitsLt_bf16_f32 : FVec Ideal S96x8960 .f32) r l = at2 x r l := rfl

theorem whole_blockA (x1 : Vec Ideal S4x16x8960 .f32) : k0_pay11 (F := Ideal) x1 = x1 := shapeCast_self _ _
theorem whole_blockB (x4 : Vec Ideal S4x32x8960 .bf16) : k0_pay14 (F := Ideal) x4 = x4 := shapeCast_self _ _

/-- Row `r` of the first volume's stack around plane `k` is channel `r % 16` of plane `k + r / 16` of the six. -/
theorem stackA_read (x1 : Vec Ideal S4x16x8960 .f32) (x2 x3 : Vec Ideal S1x16x8960 .f32) (k : Fin 4) {r l : ℕ} (hr : r < 48)
    (hl : l < 8960) : at2 (stackA x1 x2 x3 k) r l = six x1 x2 x3 (k.val + r / 16) (r % 16) l := by
  unfold stackA
  rw [whole_blockA]
  match k with
  | ⟨0, _⟩ =>
    refine Eq.trans ?_ (inner_at (φ := .f32) (b := 16) (n := 48) rfl x1 x2 x3 0 (by omega) hr hl)
    show at2 (k0_pay17 x1) r l = _
    unfold k0_pay17
    rw [whole_blockA]
  | ⟨1, _⟩ => exact inner_at (φ := .f32) (b := 16) (n := 48) rfl x1 x2 x3 1 (by omega) hr hl
  | ⟨2, _⟩ => exact upper_at (φ := .f32) (b := 16) (n := 48) (n2 := 32) rfl rfl x1 x2 x3 shapeCasts_S1x16x8960_S16x8960 concatenates_S32x8960_S16x8960_S48x8960_d0 hr hl
  | ⟨3, _⟩ => exact last_at (φ := .f32) (b := 16) (n := 48) rfl x1 x2 x3 shapeCasts_S1x16x8960_S16x8960 concatenates_S16x8960_S16x8960_S16x8960_S48x8960_d0 hr hl

/-- Row `r` of the second volume's stack around plane `k` is channel `r % 32` of plane `k + r / 32` of the six. -/
theorem stackB_read (x4 : Vec Ideal S4x32x8960 .bf16) (x5 x6 : Vec Ideal S1x32x8960 .bf16) (k : Fin 4) {r l : ℕ} (hr : r < 96)
    (hl : l < 8960) : at2 (stackB x4 x5 x6 k) r l = six x4 x5 x6 (k.val + r / 32) (r % 32) l := by
  unfold stackB
  rw [whole_blockB]
  match k with
  | ⟨0, _⟩ => exact inner_at (φ := .bf16) (b := 32) (n := 96) rfl x4 x5 x6 0 (by omega) hr hl
  | ⟨1, _⟩ => exact inner_at (φ := .bf16) (b := 32) (n := 96) rfl x4 x5 x6 1 (by omega) hr hl
  | ⟨2, _⟩ => exact upper_at (φ := .bf16) (b := 32) (n := 96) (n2 := 64) rfl rfl x4 x5 x6 shapeCasts_S1x32x8960_S32x8960 concatenates_S64x8960_S32x8960_S96x8960_d0 hr hl
  | ⟨3, _⟩ => exact last_at (φ := .bf16) (b := 32) (n := 96) rfl x4 x5 x6 shapeCasts_S1x32x8960_S32x8960 concatenates_S32x8960_S32x8960_S32x8960_S96x8960_d0 hr hl

theorem ld_plane_at {a b c : ℕ} (x : Vec Ideal ⟨3, ![a, b, c]⟩ .f32) (n : ℕ) (hn : n < a) (off : Fin 3 → ℕ) (hoff : off = ![n, 0, 0])
    (inb : ∀ d, off d + (![1, b, c] : Fin 3 → ℕ) d ≤ (⟨3, ![a, b, c]⟩ : Shape).size d) {r l : ℕ} (hr : r < b) (hl : l < c) :
    at3 (a := 1) (View.ld x (Rect.unit (s := ⟨3, ![a, b, c]⟩) off ![1, b, c] inb)) 0 r l = at3 x n r l := by
  subst hoff
  rw [at3_lt _ Nat.one_pos hr hl, at3_lt _ hn hr hl, View.ld_unit]
  exact extractStridedSlice_apply _ _ _ _ _ (fun ax => by
    match ax with
    | ⟨0, _⟩ => rfl
    | ⟨1, _⟩ => exact (Nat.zero_add _).symm
    | ⟨2, _⟩ => exact (Nat.zero_add _).symm)

theorem ld_plane16_at {a b c : ℕ} (x : Vec Ideal ⟨3, ![a, b, c]⟩ .bf16) (n : ℕ) (hn : n < a) (off : Fin 3 → ℕ) (hoff : off = ![n, 0, 0])
    (inb : ∀ d, off d + (![1, b, c] : Fin 3 → ℕ) d ≤ (⟨3, ![a, b, c]⟩ : Shape).size d) {r l : ℕ} (hr : r < b) (hl : l < c) :
    at3 (a := 1) (View.ld x (Rect.unit (s := ⟨3, ![a, b, c]⟩) off ![1, b, c] inb)) 0 r l = at3 x n r l :=
  ld_plane_at (show Vec Ideal ⟨3, ![a, b, c]⟩ .f32 from x) n hn off hoff inb hr hl

/-! ## The masked sum, the planes stored and the sums -/

variable (c : Dev nD) (i : grid0.Coords)
  {arg1 : Memref sig .tc .vmem S4x16x8960 .f32} (harg1 : arg1.IsWhole)
  {arg2 : Memref sig .tc .vmem S1x16x8960 .f32} (harg2 : arg2.IsWhole)
  {arg3 : Memref sig .tc .vmem S1x16x8960 .f32} (harg3 : arg3.IsWhole)
  {arg4 : Memref sig .tc .vmem S4x32x8960 .bf16} (harg4 : arg4.IsWhole)
  {arg5 : Memref sig .tc .vmem S1x32x8960 .bf16} (harg5 : arg5.IsWhole)
  {arg6 : Memref sig .tc .vmem S1x32x8960 .bf16} (harg6 : arg6.IsWhole)
  {arg7 : Memref sig .tc .vmem S66x1x8960 .f32} (harg7 : arg7.IsWhole)
  {arg8 : Memref sig .tc .vmem S9x16x48 .f32} (harg8 : arg8.IsWhole)
  {arg9 : Memref sig .tc .vmem S9x16x96 .f32} (harg9 : arg9.IsWhole)
  {arg10 : Memref sig .tc .vmem S66x16x8960 .bf16} (harg10 : arg10.IsWhole)
  {arg11 : Memref sig .tc .vmem S16x1 .f32} (harg11 : arg11.IsWhole)
  {arg12 : Memref sig .tc .vmem S16x1 .f32} (harg12 : arg12.IsWhole)
  {arg13 : Memref sig .tc .smem S1 .f32} (harg13 : arg13.IsWhole)
  (x1 : Vec Ideal S4x16x8960 .f32) (x2 : Vec Ideal S1x16x8960 .f32) (x3 : Vec Ideal S1x16x8960 .f32)
  (x4 : Vec Ideal S4x32x8960 .bf16) (x5 : Vec Ideal S1x32x8960 .bf16) (x6 : Vec Ideal S1x32x8960 .bf16)
  (x7 : Vec Ideal S66x1x8960 .f32) (x8 : Vec Ideal S9x16x48 .f32) (x9 : Vec Ideal S9x16x96 .f32)

/-- **The masked sum of the two convolutions at plane `k` of a point's four**, at a channel and a lane of the frame's inside. -/
theorem masked_at (k : Fin 4) {o l : ℕ} (ho : o < 16) (hl : l < 8448) :
    at2 (masked i x1 x2 x3 x4 x5 x6 x7 x8 x9 k) o l
      = (stacked 16 (at3 x8) (six x1 x2 x3) k o (256 + l) + stacked 32 (at3 x9) (six x4 x5 x6) k o (256 + l)) * at3 x7 (4 * (i 0).val + k.val + 1) 0 (256 + l) := by
  have hi : (i 0).val < 16 := (i 0).isLt
  rw [masked, mulf_at _ _ ho hl, addf_at _ _ ho hl, maskRows_at _ _ ho hl, taps_at _ _ ho hl, taps_at _ _ ho hl]
  refine congr (congrArg _ (congr (congrArg _ ?_) ?_)) ?_
  · unfold stacked
    refine Finset.sum_congr rfl fun q _ => Finset.sum_congr rfl fun r hr => ?_
    have hr' := Finset.mem_range.1 hr
    rw [stackA_read x1 x2 x3 k hr' (by unfold lane; omega), Nat.add_sub_cancel_left]
    refine congrArg (· * _) ?_
    exact ld_plane_at x8 q.val q.isLt _ rfl _ ho hr'
  · unfold stacked
    refine Finset.sum_congr rfl fun q _ => Finset.sum_congr rfl fun r hr => ?_
    have hr' := Finset.mem_range.1 hr
    rw [stackB_read x4 x5 x6 k hr' (by unfold lane; omega), Nat.add_sub_cancel_left]
    refine congrArg (· * _) ?_
    exact ld_plane_at x9 q.val q.isLt _ rfl _ ho hr'
  · exact ld_plane_at x7 _ (by omega) _ (k0_off1_eq i k) _ Nat.one_pos (by omega)

/-- What is stored at plane `k` of a point's four, at a channel and a lane. -/
theorem plane_at (k : Fin 4) {o L : ℕ} (ho : o < 16) (hL : L < 8960) :
    at3 (plane i x1 x2 x3 x4 x5 x6 x7 x8 x9 k) 0 o L
      = if 256 ≤ L ∧ L < 8704 then at2 (masked i x1 x2 x3 x4 x5 x6 x7 x8 x9 k) o (L - 256) else 0 := by
  refine Eq.trans ?_ (framed_at (CO := 16) _ concatenates_S16x256_S16x8448_S16x8704_d1 concatenates_S16x8704_S16x256_S16x8960_d1 ho hL)
  rfl

/-- The sum over the lanes, at a channel. -/
theorem rowSums_at (y : FVec Ideal S16x8448 .f32) (o : Fin 16) : (rowSums y (ix2 o (0 : Fin 1)) : EReal) = ∑ l ∈ Finset.range 8448, at2 y o l := by
  rw [rowSums, Finset.sum_range]
  refine (shapeCast_apply (k := ix1 o) _ _ _ (by
    rw [Shape.rowMajor_val_one, Shape.rowMajor_val_two]
    show o.val = o.val * 1 + 0
    omega)).trans ?_
  refine (Ideal.multiReduction_add_single _ _ _ _ _ _).trans ?_
  refine Finset.sum_congr rfl fun l _ => ?_
  refine Eq.trans (congrArg y (funext fun a => ?_)) (at2_ix y o (l : Fin 8448))
  match a with
  | ⟨0, _⟩ => rfl
  | ⟨1, _⟩ => rfl

/-- The lanes of one row, as its indices. -/
def lanes : Fin 8448 ≃ S1x1x8448.Idx where
  toFun l := ix3 (0 : Fin 1) (0 : Fin 1) l
  invFun j := j 2
  left_inv _ := rfl
  right_inv j := by
    have h0 : (j 0).val < 1 := (j 0).isLt
    have h1 : (j 1).val < 1 := (j 1).isLt
    funext a
    match a with
    | ⟨0, _⟩ => exact Fin.ext (by show 0 = (j 0).val; omega)
    | ⟨1, _⟩ => exact Fin.ext (by show 0 = (j 1).val; omega)
    | ⟨2, _⟩ => rfl

/-- The sum over the lanes of one row. -/
theorem rowSum_at (y : FVec Ideal S1x8448 .f32) : (rowSum y : EReal) = ∑ l ∈ Finset.range 8448, at2 y 0 l := by
  rw [rowSum, extractAt, shapeCast_apply (k := ix1 (0 : Fin 1)) _ _ _ (by
    rw [Shape.rowMajor_val_one, Shape.rowMajor_val_three]
    rfl)]
  refine (Ideal.multiReduction_add_total _ _ _ (fun b => by match b with | ⟨0, _⟩ => rfl) _ _ _).trans ?_
  rw [Finset.sum_range, ← Equiv.sum_comp lanes]
  refine Finset.sum_congr rfl fun l _ => ?_
  refine Eq.trans ?_ (at2_ix y (0 : Fin 1) l)
  exact shapeCast_apply (k := ix2 (0 : Fin 1) l) _ _ _ (by
    rw [Shape.rowMajor_val_two, Shape.rowMajor_val_three]
    rfl)

theorem sums4_at (f : Fin 4 → FVec Ideal S16x1 .f32) (j : S16x1.Idx) : (sums4 f j : EReal) = ∑ k : Fin 4, f k j := by
  rw [Fin.sum_univ_four]
  show (k0_pay9 (F := Ideal) j + f 0 j + f 1 j + f 2 j + f 3 j : EReal) = _
  rw [show (k0_pay9 (F := Ideal) j : EReal) = 0 from Ideal.ofBits_zero_f32, zero_add]

theorem sum4_at (f : Fin 4 → Ideal .f32) : (sum4 f : EReal) = ∑ k : Fin 4, (f k : EReal) := by
  rw [Fin.sum_univ_four]
  show (Ideal.ofBits .f32 0x00000000#32 + f 0 + f 1 + f 2 + f 3 : EReal) = _
  rw [Ideal.ofBits_zero_f32, zero_add]

end Cert.Joined

end
-- ==== Proof.JoinedRunC.lean ====
/- The body of the joined convolution's call, run at the last grid point. -/
module

public import proofs.«01_k».proof.Proof.JoinedHeld

@[expose] public section

set_option maxRecDepth 16384

noncomputable section

namespace Cert.Joined

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]
local notation "𝕄" => MT nD τ sig Unit (Elt F) ℕ (UR sig nD τ) ℕ

variable (c : Dev nD) (i : grid0.Coords)
  {arg1 : Memref sig .tc .vmem S4x16x8960 .f32} (harg1 : arg1.IsWhole)
  {arg2 : Memref sig .tc .vmem S1x16x8960 .f32} (harg2 : arg2.IsWhole)
  {arg3 : Memref sig .tc .vmem S1x16x8960 .f32} (harg3 : arg3.IsWhole)
  {arg4 : Memref sig .tc .vmem S4x32x8960 .bf16} (harg4 : arg4.IsWhole)
  {arg5 : Memref sig .tc .vmem S1x32x8960 .bf16} (harg5 : arg5.IsWhole)
  {arg6 : Memref sig .tc .vmem S1x32x8960 .bf16} (harg6 : arg6.IsWhole)
  {arg7 : Memref sig .tc .vmem S66x1x8960 .f32} (harg7 : arg7.IsWhole)
  {arg8 : Memref sig .tc .vmem S9x16x48 .f32} (harg8 : arg8.IsWhole)
  {arg9 : Memref sig .tc .vmem S9x16x96 .f32} (harg9 : arg9.IsWhole)
  {arg10 : Memref sig .tc .vmem S66x16x8960 .bf16} (harg10 : arg10.IsWhole)
  {arg11 : Memref sig .tc .vmem S16x1 .f32} (harg11 : arg11.IsWhole)
  {arg12 : Memref sig .tc .vmem S16x1 .f32} (harg12 : arg12.IsWhole)
  {arg13 : Memref sig .tc .smem S1 .f32} (harg13 : arg13.IsWhole)
  (x1 : Vec F S4x16x8960 .f32) (x2 : Vec F S1x16x8960 .f32) (x3 : Vec F S1x16x8960 .f32)
  (x4 : Vec F S4x32x8960 .bf16) (x5 : Vec F S1x32x8960 .bf16) (x6 : Vec F S1x32x8960 .bf16)
  (x7 : Vec F S66x1x8960 .f32) (x8 : Vec F S9x16x48 .f32) (x9 : Vec F S9x16x96 .f32)

set_option maxHeartbeats 1000000 in
/-- The body's run: the stores it makes in the output. -/
def runC (hc0 : ¬startWord i = 1#1) (hc1 : k0_cond2 i = 1#1) (f10 : BufTy.Contents (Elt F) arg10.view.ty) (f11 : BufTy.Contents (Elt F) arg11.view.ty)
    (f12 : BufTy.Contents (Elt F) arg12.view.ty) (f13 : BufTy.Contents (Elt F) arg13.view.ty) :
    { L10 : List (View.Piece (Elt F) S66x16x8960 .bf16) // ∀ (E : Set ℕ),
      Held c harg1 harg2 harg3 harg4 harg5 harg6 harg7 harg8 harg9 (arg10 := arg10) (arg11 := arg11) (arg12 := arg12) (arg13 := arg13) x1 x2 x3 x4 x5 x6 x7 x8 x9 f10 f11 f12 f13
      ⊢ wp frame (wpE (defs₀ (F := F)) Variants.none (c : Thread nD τ) none) E (cc0_body (F := F) i arg1 harg1 arg2 harg2 arg3 harg3 arg4 harg4 arg5 harg5 arg6 harg6 arg7 harg7 arg8 harg8 arg9 harg9 arg10 harg10 arg11 harg11 arg12 harg12 arg13 harg13)
          (fun _ => HeldAny c harg1 harg2 harg3 harg4 harg5 harg6 harg7 harg8 harg9 (arg10 := arg10) (arg11 := arg11) (arg12 := arg12) (arg13 := arg13) x1 x2 x3 x4 x5 x6 x7 x8 x9
            (arg10.view.writes (Elt F) f10 L10)) } := by
  refine ⟨?_, fun E => ?run⟩
  case run =>
    simp only [cc0_body_eq_skeleton]; unfold cc0_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    iintro ⟨H1, H2, H3, H4, H5, H6, H7, H8, H9, H10, H11, H12, H13⟩
    sl_exec (disch := first | sl_exact hc0 | sl_exact hc1)
    sl_step
    sl_close

end Cert.Joined

end
-- ==== Proof.JoinedLast.lean ====
/- What the last grid point of the joined convolution's call stores. -/
module

public import proofs.«01_k».proof.Proof.JoinedValue
public import proofs.«01_k».proof.Proof.JoinedRunC
public import Idealize.ShloMosaic.Lib.Pipeline.ValueKit

@[expose] public section

set_option maxRecDepth 16384

noncomputable section

namespace Cert.Joined

open Idealize.ShloMosaic hiding ix1 ix2 ix3 ix4 eq_ix1 eq_ix2 eq_ix3 eq_ix4
open Idealize.ShloMosaic.ValueIdx Idealize.ShloMosaic.TcCoe
open Cert.KernelIdeal Cert.KernelIdeal.Gen Cert.Fat
open scoped BigOperators

variable (c : Dev nD) (i : grid0.Coords)
  {arg1 : Memref sig .tc .vmem S4x16x8960 .f32} (harg1 : arg1.IsWhole)
  {arg2 : Memref sig .tc .vmem S1x16x8960 .f32} (harg2 : arg2.IsWhole)
  {arg3 : Memref sig .tc .vmem S1x16x8960 .f32} (harg3 : arg3.IsWhole)
  {arg4 : Memref sig .tc .vmem S4x32x8960 .bf16} (harg4 : arg4.IsWhole)
  {arg5 : Memref sig .tc .vmem S1x32x8960 .bf16} (harg5 : arg5.IsWhole)
  {arg6 : Memref sig .tc .vmem S1x32x8960 .bf16} (harg6 : arg6.IsWhole)
  {arg7 : Memref sig .tc .vmem S66x1x8960 .f32} (harg7 : arg7.IsWhole)
  {arg8 : Memref sig .tc .vmem S9x16x48 .f32} (harg8 : arg8.IsWhole)
  {arg9 : Memref sig .tc .vmem S9x16x96 .f32} (harg9 : arg9.IsWhole)
  {arg10 : Memref sig .tc .vmem S66x16x8960 .bf16} (harg10 : arg10.IsWhole)
  {arg11 : Memref sig .tc .vmem S16x1 .f32} (harg11 : arg11.IsWhole)
  {arg12 : Memref sig .tc .vmem S16x1 .f32} (harg12 : arg12.IsWhole)
  {arg13 : Memref sig .tc .smem S1 .f32} (harg13 : arg13.IsWhole)
  (x1 : Vec Ideal S4x16x8960 .f32) (x2 : Vec Ideal S1x16x8960 .f32) (x3 : Vec Ideal S1x16x8960 .f32)
  (x4 : Vec Ideal S4x32x8960 .bf16) (x5 : Vec Ideal S1x32x8960 .bf16) (x6 : Vec Ideal S1x32x8960 .bf16)
  (x7 : Vec Ideal S66x1x8960 .f32) (x8 : Vec Ideal S9x16x48 .f32) (x9 : Vec Ideal S9x16x96 .f32)

/-- The loop's trips, over the output `G`, at the mask's sum `n`, the sums `s` and the sums of the squares `ss`. -/
abbrev trips (hc1 : k0_cond2 i = 1#1) (n : Ideal .f32) (s ss : FVec Ideal S16x1 .f32) (G : BufTy.Contents (Elt Ideal) arg10.view.ty) (j : ℕ) :
    List (View.Piece (Elt Ideal) S66x16x8960 .bf16) :=
  pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 hc1 n s ss (harg7.unread x7) G j

set_option maxHeartbeats 4000000 in
/-- **What the last point stores**: its four planes, then the loop's trips over the output as it then is. -/
theorem runC_stores (hc0 : ¬startWord i = 1#1) (hc1 : k0_cond2 i = 1#1) (f10 : BufTy.Contents (Elt Ideal) arg10.view.ty) (f11 : BufTy.Contents (Elt Ideal) arg11.view.ty)
    (f12 : BufTy.Contents (Elt Ideal) arg12.view.ty) (f13 : BufTy.Contents (Elt Ideal) arg13.view.ty) :
    (runC c i harg1 harg2 harg3 harg4 harg5 harg6 harg7 harg8 harg9 harg10 harg11 harg12 harg13 x1 x2 x3 x4 x5 x6 x7 x8 x9 hc0 hc1 f10 f11 f12 f13).1 = trips c i harg1 harg2 harg3 harg4 harg5 harg6 harg7 harg8 harg9 harg10 harg11 harg12 harg13 x7 hc1 (Scalar.addf (arg13.view.read (Elt Ideal) f13 (ix1 0)) (sumM i x7))
        (addf (arg11.view.read (Elt Ideal) f11) (sumY i x1 x2 x3 x4 x5 x6 x7 x8 x9)) (addf (arg12.view.read (Elt Ideal) f12) (sumYY i x1 x2 x3 x4 x5 x6 x7 x8 x9))
        (arg10.view.writes (Elt Ideal) f10 (stores i x1 x2 x3 x4 x5 x6 x7 x8 x9)) k0_t1_loop.trips ++ stores i x1 x2 x3 x4 x5 x6 x7 x8 x9 := by
  have e : (runC c i harg1 harg2 harg3 harg4 harg5 harg6 harg7 harg8 harg9 harg10 harg11 harg12 harg13 x1 x2 x3 x4 x5 x6 x7 x8 x9 hc0 hc1 f10 f11 f12 f13).1
      = trips c i harg1 harg2 harg3 harg4 harg5 harg6 harg7 harg8 harg9 harg10 harg11 harg12 harg13 x7 hc1 (Scalar.addf (View.ld (arg13.view.read (Elt Ideal) f13) (Rect.unit (s := S1) ![0] S1.size inb_S1_S1_0) (Shape.Idx.first (Nat.one_pos.trans_eq (numel1_S1).symm)))
            (sumM i (arg7.view.read (Elt Ideal) (harg7.unread x7))))
          (arg11.view.readCov (storeSums (k0_pay1 (sumY i (View.ld (arg1.view.read (Elt Ideal) (harg1.unread x1)) (Rect.unit (s := S4x16x8960) ![0, 0, 0] S4x16x8960.size inb_S4x16x8960_S4x16x8960_0_0_0)) (View.ld (arg2.view.read (Elt Ideal) (harg2.unread x2)) (Rect.unit (s := S1x16x8960) ![0, 0, 0] S1x16x8960.size inb_S1x16x8960_S1x16x8960_0_0_0)) (View.ld (arg3.view.read (Elt Ideal) (harg3.unread x3)) (Rect.unit (s := S1x16x8960) ![0, 0, 0] S1x16x8960.size inb_S1x16x8960_S1x16x8960_0_0_0)) (View.ld (arg4.view.read (Elt Ideal) (harg4.unread x4)) (Rect.unit (s := S4x32x8960) ![0, 0, 0] S4x32x8960.size inb_S4x32x8960_S4x32x8960_0_0_0)) (View.ld (arg5.view.read (Elt Ideal) (harg5.unread x5)) (Rect.unit (s := S1x32x8960) ![0, 0, 0] S1x32x8960.size inb_S1x32x8960_S1x32x8960_0_0_0)) (View.ld (arg6.view.read (Elt Ideal) (harg6.unread x6)) (Rect.unit (s := S1x32x8960) ![0, 0, 0] S1x32x8960.size inb_S1x32x8960_S1x32x8960_0_0_0)) (arg7.view.read (Elt Ideal) (harg7.unread x7)) (arg8.view.read (Elt Ideal) (harg8.unread x8)) (arg9.view.read (Elt Ideal) (harg9.unread x9))) (View.ld (arg11.view.read (Elt Ideal) f11) (Rect.unit (s := S16x1) ![0, 0] S16x1.size inb_S16x1_S16x1_0_0)))) (Rect.unit (s := S16x1) ![0, 0] S16x1.size inb_S16x1_S16x1_0_0).toLoadRect)
          (arg12.view.readCov (storeSums (k0_pay2 (sumYY i (View.ld (arg1.view.read (Elt Ideal) (harg1.unread x1)) (Rect.unit (s := S4x16x8960) ![0, 0, 0] S4x16x8960.size inb_S4x16x8960_S4x16x8960_0_0_0)) (View.ld (arg2.view.read (Elt Ideal) (harg2.unread x2)) (Rect.unit (s := S1x16x8960) ![0, 0, 0] S1x16x8960.size inb_S1x16x8960_S1x16x8960_0_0_0)) (View.ld (arg3.view.read (Elt Ideal) (harg3.unread x3)) (Rect.unit (s := S1x16x8960) ![0, 0, 0] S1x16x8960.size inb_S1x16x8960_S1x16x8960_0_0_0)) (View.ld (arg4.view.read (Elt Ideal) (harg4.unread x4)) (Rect.unit (s := S4x32x8960) ![0, 0, 0] S4x32x8960.size inb_S4x32x8960_S4x32x8960_0_0_0)) (View.ld (arg5.view.read (Elt Ideal) (harg5.unread x5)) (Rect.unit (s := S1x32x8960) ![0, 0, 0] S1x32x8960.size inb_S1x32x8960_S1x32x8960_0_0_0)) (View.ld (arg6.view.read (Elt Ideal) (harg6.unread x6)) (Rect.unit (s := S1x32x8960) ![0, 0, 0] S1x32x8960.size inb_S1x32x8960_S1x32x8960_0_0_0)) (arg7.view.read (Elt Ideal) (harg7.unread x7)) (arg8.view.read (Elt Ideal) (harg8.unread x8)) (arg9.view.read (Elt Ideal) (harg9.unread x9))) (View.ld (arg12.view.read (Elt Ideal) f12) (Rect.unit (s := S16x1) ![0, 0] S16x1.size inb_S16x1_S16x1_0_0)))) (Rect.unit (s := S16x1) ![0, 0] S16x1.size inb_S16x1_S16x1_0_0).toLoadRect)
          (arg10.view.writes (Elt Ideal) f10 (stores i (View.ld (arg1.view.read (Elt Ideal) (harg1.unread x1)) (Rect.unit (s := S4x16x8960) ![0, 0, 0] S4x16x8960.size inb_S4x16x8960_S4x16x8960_0_0_0)) (View.ld (arg2.view.read (Elt Ideal) (harg2.unread x2)) (Rect.unit (s := S1x16x8960) ![0, 0, 0] S1x16x8960.size inb_S1x16x8960_S1x16x8960_0_0_0)) (View.ld (arg3.view.read (Elt Ideal) (harg3.unread x3)) (Rect.unit (s := S1x16x8960) ![0, 0, 0] S1x16x8960.size inb_S1x16x8960_S1x16x8960_0_0_0)) (View.ld (arg4.view.read (Elt Ideal) (harg4.unread x4)) (Rect.unit (s := S4x32x8960) ![0, 0, 0] S4x32x8960.size inb_S4x32x8960_S4x32x8960_0_0_0)) (View.ld (arg5.view.read (Elt Ideal) (harg5.unread x5)) (Rect.unit (s := S1x32x8960) ![0, 0, 0] S1x32x8960.size inb_S1x32x8960_S1x32x8960_0_0_0)) (View.ld (arg6.view.read (Elt Ideal) (harg6.unread x6)) (Rect.unit (s := S1x32x8960) ![0, 0, 0] S1x32x8960.size inb_S1x32x8960_S1x32x8960_0_0_0)) (arg7.view.read (Elt Ideal) (harg7.unread x7)) (arg8.view.read (Elt Ideal) (harg8.unread x8)) (arg9.view.read (Elt Ideal) (harg9.unread x9)))) k0_t1_loop.trips
        ++ stores i (View.ld (arg1.view.read (Elt Ideal) (harg1.unread x1)) (Rect.unit (s := S4x16x8960) ![0, 0, 0] S4x16x8960.size inb_S4x16x8960_S4x16x8960_0_0_0)) (View.ld (arg2.view.read (Elt Ideal) (harg2.unread x2)) (Rect.unit (s := S1x16x8960) ![0, 0, 0] S1x16x8960.size inb_S1x16x8960_S1x16x8960_0_0_0)) (View.ld (arg3.view.read (Elt Ideal) (harg3.unread x3)) (Rect.unit (s := S1x16x8960) ![0, 0, 0] S1x16x8960.size inb_S1x16x8960_S1x16x8960_0_0_0)) (View.ld (arg4.view.read (Elt Ideal) (harg4.unread x4)) (Rect.unit (s := S4x32x8960) ![0, 0, 0] S4x32x8960.size inb_S4x32x8960_S4x32x8960_0_0_0)) (View.ld (arg5.view.read (Elt Ideal) (harg5.unread x5)) (Rect.unit (s := S1x32x8960) ![0, 0, 0] S1x32x8960.size inb_S1x32x8960_S1x32x8960_0_0_0)) (View.ld (arg6.view.read (Elt Ideal) (harg6.unread x6)) (Rect.unit (s := S1x32x8960) ![0, 0, 0] S1x32x8960.size inb_S1x32x8960_S1x32x8960_0_0_0)) (arg7.view.read (Elt Ideal) (harg7.unread x7)) (arg8.view.read (Elt Ideal) (harg8.unread x8)) (arg9.view.read (Elt Ideal) (harg9.unread x9)) := by
    rfl
  rw [e, harg1.read_unread, harg2.read_unread, harg3.read_unread, harg4.read_unread, harg5.read_unread, harg6.read_unread, harg7.read_unread, harg8.read_unread, harg9.read_unread]
  rw [View.ld_unit_zero (S := S1) zero1, View.ld_unit_zero (S := S4x16x8960) zero3, View.ld_unit_zero (S := S1x16x8960) zero3, View.ld_unit_zero (S := S1x16x8960) zero3, View.ld_unit_zero (S := S4x32x8960) zero3, View.ld_unit_zero (S := S1x32x8960) zero3, View.ld_unit_zero (S := S1x32x8960) zero3, View.ld_unit_zero (S := S16x1) zero2, View.ld_unit_zero (S := S16x1) zero2, View.readCov_unit_zero arg11.view zero2, View.readCov_unit_zero arg12.view zero2, one_index (Shape.Idx.first _)]
  exact congrArg₂ (fun s ss => trips c i harg1 harg2 harg3 harg4 harg5 harg6 harg7 harg8 harg9 harg10 harg11 harg12 harg13 x7 hc1 (Scalar.addf (arg13.view.read (Elt Ideal) f13 (ix1 0)) (sumM i x7)) s ss
    (arg10.view.writes (Elt Ideal) f10 (stores i x1 x2 x3 x4 x5 x6 x7 x8 x9)) k0_t1_loop.trips ++ stores i x1 x2 x3 x4 x5 x6 x7 x8 x9) (shapeCast_self _ _) (shapeCast_self _ _)

/-! ## The loop's trips -/

/-- The mean of `n` numbers that add up to `s`, none of fewer than one. -/
def mean (n s : EReal) : EReal := Ideal.div s (max n (Ideal.ofBits .f32 0x3F800000#32))

/-- One over the root of their variance, the squares adding up to `ss`. -/
def scale (n s ss : EReal) : EReal := Ideal.rsqrt (mean n ss - mean n s * mean n s + Ideal.ofBits .f32 0x3727C5AC#32)

/-- `x` normalised, masked and rectified. -/
def normed (n s ss x m : EReal) : EReal := act ((x - mean n s) * scale n s ss * m)

theorem bcastCol_at (v : FVec Ideal S16x1 .f32) (h : S16x1.Broadcasts S16x8960) (o : Fin 16) (L : Fin 8960) : broadcastTo S16x8960 v h (ix2 o L) = v (ix2 o (0 : Fin 1)) := by
  unfold broadcastTo
  refine congrArg v (funext fun a => ?_)
  match a with
  | ⟨0, _⟩ => rfl
  | ⟨1, _⟩ => rfl

/-- What a trip stores, at a channel and a lane. -/
theorem pay4_at (n : Ideal .f32) (s ss : FVec Ideal S16x1 .f32) (x : Vec Ideal S1x16x8960 .bf16) (m : Vec Ideal S1x1x8960 .f32) (o : Fin 16) (L : Fin 8960) :
    (k0_pay4 (F := Ideal) n s ss x m (ix3 (0 : Fin 1) o L) : EReal) = normed n (s (ix2 o (0 : Fin 1))) (ss (ix2 o (0 : Fin 1))) (at3 x 0 o L) (at3 m 0 0 L) := by
  unfold k0_pay4
  rw [shapeCast_ab_1ab_apply]
  have hx : (shapeCast S16x8960 x shapeCasts_S1x16x8960_S16x8960 (ix2 o L) : EReal) = at3 x 0 o L := by
    refine (at2_ix _ o L).trans ?_
    exact squeeze_at (φ := .bf16) x _ o.isLt L.isLt
  have hm : (broadcastTo S16x8960 (shapeCast S1x8960 m shapeCasts_S1x1x8960_S1x8960 : FVec Ideal S1x8960 .f32) broadcasts_S1x8960_S16x8960 (ix2 o L) : EReal) = at3 m 0 0 L := by
    rw [broadcastTo_1b_ab_apply]
    refine (at2_ix _ (0 : Fin 1) L).trans ?_
    exact squeeze_at (φ := .f32) m _ Nat.one_pos L.isLt
  unfold normed
  rw [← hx, ← hm]
  show act _ = act _
  refine congrArg act ?_
  refine congrArg₂ (fun a b : EReal => a * b) (congrArg₂ (fun a b : EReal => a * b) ?_ ?_) rfl
  · refine congrArg₂ (fun a b : EReal => a - b) rfl ?_
    exact bcastCol_at _ _ o L
  · exact bcastCol_at _ _ o L

set_option maxHeartbeats 4000000 in
/-- One trip stores one plane, from the plane as it finds it. -/
theorem trip_stores (hc1 : k0_cond2 i = 1#1) (n : Ideal .f32) (s ss : FVec Ideal S16x1 .f32) (X7 : BufTy.Contents (Elt Ideal) arg7.view.ty)
    (G : BufTy.Contents (Elt Ideal) arg10.view.ty) (k : Fin k0_t1_loop.trips) :
    tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 hc1 n s ss X7 k G
      = [⟨Rect.unit (s := S66x16x8960) (k0_off3 k) S1x16x8960.size (k0_off3_inb i k hc1),
          k0_pay4 n s ss (View.ld (arg10.view.read (Elt Ideal) G) (Rect.unit (s := S66x16x8960) (k0_off3 k) S1x16x8960.size (k0_off3_inb i k hc1)))
            (View.ld (arg7.view.read (Elt Ideal) X7) (Rect.unit (s := S66x1x8960) (k0_off4 k) S1x1x8960.size (k0_off4_inb i k hc1)))⟩] := by
  unfold tripL_k0_t1 trip_k0_t1
  rfl

/-- **The loop's trips before `j` leave planes 1 to `j` normalised** and the others as they were. -/
theorem trips_at (hc1 : k0_cond2 i = 1#1) (n : Ideal .f32) (s ss : FVec Ideal S16x1 .f32) (G : BufTy.Contents (Elt Ideal) arg10.view.ty)
    (j : ℕ) (hj : j ≤ 64) (p o L : ℕ) (hp : p < 66) (ho : o < 16) (hL : L < 8960) :
    at3 (arg10.view.read (Elt Ideal) (arg10.view.writes (Elt Ideal) G (trips c i harg1 harg2 harg3 harg4 harg5 harg6 harg7 harg8 harg9 harg10 harg11 harg12 harg13 x7 hc1 n s ss G j)) : Vec Ideal S66x16x8960 .bf16) p o L
      = if 1 ≤ p ∧ p ≤ j then normed n (s (ix2 (⟨o, ho⟩ : Fin 16) (0 : Fin 1))) (ss (ix2 (⟨o, ho⟩ : Fin 16) (0 : Fin 1)))
          (at3 (arg10.view.read (Elt Ideal) G : Vec Ideal S66x16x8960 .bf16) p o L) (at3 x7 p 0 L)
        else at3 (arg10.view.read (Elt Ideal) G : Vec Ideal S66x16x8960 .bf16) p o L := by
  have htr : k0_t1_loop.trips = 64 := by decide
  induction j generalizing p o L with
  | zero => rw [if_neg (by omega)]; rfl
  | succ j ih =>
    have e := pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 hc1 n s ss (harg7.unread x7) G ⟨j, by omega⟩
    rw [trip_stores] at e
    have e' : trips c i harg1 harg2 harg3 harg4 harg5 harg6 harg7 harg8 harg9 harg10 harg11 harg12 harg13 x7 hc1 n s ss G (j + 1) = _ := e
    rw [e', View.writes_append]
    rw [at3_lt _ hp ho hL]
    by_cases h : p = j + 1
    · rw [if_pos (by omega)]
      refine (View.read_writes_cons_unit_of_mem arg10.view _ _ _ [] (ix3 (⟨p, hp⟩ : Fin 66) (⟨o, ho⟩ : Fin 16) (⟨L, hL⟩ : Fin 8960))
        (ix3 (0 : Fin 1) (⟨o, ho⟩ : Fin 16) (⟨L, hL⟩ : Fin 8960)) (k0_off3_eq ⟨j, by omega⟩) (fun x => ?_)).trans ?_
      · match x with
        | ⟨0, _⟩ => exact h
        | ⟨1, _⟩ => exact (Nat.zero_add _).symm
        | ⟨2, _⟩ => exact (Nat.zero_add _).symm
      rw [harg7.read_unread]
      refine (pay4_at _ _ _ _ _ _ _).trans ?_
      refine congr (congrArg _ ?_) ?_
      · refine (ld_plane16_at _ (j + 1) (by omega) _ (k0_off3_eq ⟨j, by omega⟩) _ ho hL).trans ?_
        refine (ih (by omega) (j + 1) o L (by omega) ho hL).trans ?_
        rw [if_neg (by omega), h]
      · refine (ld_plane_at x7 (j + 1) (by omega) _ (k0_off4_eq ⟨j, by omega⟩) _ Nat.one_pos hL).trans ?_
        rw [h]
    · refine (View.read_writes_cons_unit_of_not_mem arg10.view _ _ _ [] (ix3 (⟨p, hp⟩ : Fin 66) (⟨o, ho⟩ : Fin 16) (⟨L, hL⟩ : Fin 8960))
        (k0_off3_eq ⟨j, by omega⟩) 0 (by show p < j + 1 ∨ j + 1 + 1 ≤ p; omega)).trans ?_
      refine (at3_ix (arg10.view.read (Elt Ideal) (arg10.view.writes (Elt Ideal) G (trips c i harg1 harg2 harg3 harg4 harg5 harg6 harg7 harg8 harg9 harg10 harg11 harg12 harg13 x7 hc1 n s ss G j)) : Vec Ideal S66x16x8960 .bf16) _ _ _).trans ?_
      refine (ih (by omega) p o L hp ho hL).trans ?_
      by_cases h2 : 1 ≤ p ∧ p ≤ j
      · rw [if_pos h2, if_pos (by omega)]
      · rw [if_neg h2, if_neg (by omega)]

end Cert.Joined

end
-- ==== Proof.Planes.lean ====
/- A stack of planes stored one after the other, read back; a whole buffer owned, opened and closed. -/
module

public import proofs.«01_k».proof.Proof.Stencil
public import Idealize.ShloMosaic.Lib.WritesUnit
public import Idealize.ShloMosaic.Lib.Memref

@[expose] public section

set_option maxRecDepth 16384

noncomputable section

namespace Cert.Fat

open Idealize.ShloMosaic hiding ix1 ix2 ix3 ix4 eq_ix1 eq_ix2 eq_ix3 eq_ix4
open Idealize.ShloMosaic.ValueIdx

variable {sig : RefSig} {κ : Kind} {sp : Space} {e : EltTy} {N C D T : ℕ} {Val : EltTy → Type}
  (v : View sig κ sp ⟨3, ![N, C, D]⟩ e) (f : v.ty.Contents Val)
  (off : Fin T → Fin 3 → ℕ) (inb : ∀ i, ∀ a, off i a + (![1, C, D] : Fin 3 → ℕ) a ≤ (![N, C, D] : Fin 3 → ℕ) a)
  (P : Fin T → (⟨3, ![1, C, D]⟩ : Shape).Idx → Val e) (at' : Fin T → ℕ) (hoff : ∀ i, off i = ![at' i, 0, 0])
  (hinj : ∀ i i', i ≠ i' → at' i ≠ at' i')

include hoff hinj in
/-- Of planes stored one after the other, each at a place of its own, plane `i` is read at its place. -/
theorem plane_hit (j : ℕ) (hj : j ≤ T) (i : Fin T) (hij : i.val < j) (n : Fin N) (hn : n.val = at' i) (o : Fin C) (L : Fin D) :
    v.read Val (v.writes Val f (View.tilePieces (s := ⟨3, ![N, C, D]⟩) ![1, C, D] off inb P j hj)) (ix3 n o L)
      = P i (ix3 (0 : Fin 1) o L) := by
  refine View.read_tilePieces v f ![1, C, D] off inb P j hj (ix3 n o L) i hij (ix3 (0 : Fin 1) o L) (fun a => ?_) 0 (fun i' hi' => ?_)
  · rw [hoff]
    match a with
    | ⟨0, _⟩ => exact hn
    | ⟨1, _⟩ => exact (Nat.zero_add _).symm
    | ⟨2, _⟩ => exact (Nat.zero_add _).symm
  · rw [hoff]
    have := hinj i' i hi'
    show n.val < at' i' ∨ at' i' + 1 ≤ n.val
    omega

include hoff in
/-- A plane at none of the places stored to reads what was there before. -/
theorem plane_miss (j : ℕ) (hj : j ≤ T) (n : Fin N) (hn : ∀ i : Fin T, i.val < j → n.val ≠ at' i) (o : Fin C) (L : Fin D) :
    v.read Val (v.writes Val f (View.tilePieces (s := ⟨3, ![N, C, D]⟩) ![1, C, D] off inb P j hj)) (ix3 n o L)
      = v.read Val f (ix3 n o L) := by
  refine View.read_tilePieces_miss v f ![1, C, D] off inb P j hj (ix3 n o L) 0 (fun i' hi' => ?_)
  rw [hoff]
  have := hn i' hi'
  show n.val < at' i' ∨ at' i' + 1 ≤ n.val
  omega

/-- Two planes stored, the one at place `a` last: what either place, or another, reads. -/
theorem two_planes (a b : ℕ) (ha : ∀ x, (![a, 0, 0] : Fin 3 → ℕ) x + (![1, C, D] : Fin 3 → ℕ) x ≤ (![N, C, D] : Fin 3 → ℕ) x)
    (hb : ∀ x, (![b, 0, 0] : Fin 3 → ℕ) x + (![1, C, D] : Fin 3 → ℕ) x ≤ (![N, C, D] : Fin 3 → ℕ) x)
    (A B : (⟨3, ![1, C, D]⟩ : Shape).Idx → Val e) (n : Fin N) (o : Fin C) (L : Fin D) :
    v.read Val (v.writes Val f [(⟨Rect.unit (s := ⟨3, ![N, C, D]⟩) ![a, 0, 0] ![1, C, D] ha, A⟩ : View.Piece Val ⟨3, ![N, C, D]⟩ e),
        ⟨Rect.unit (s := ⟨3, ![N, C, D]⟩) ![b, 0, 0] ![1, C, D] hb, B⟩]) (ix3 n o L)
      = if n.val = a then A (ix3 (0 : Fin 1) o L) else if n.val = b then B (ix3 (0 : Fin 1) o L) else v.read Val f (ix3 n o L) := by
  by_cases h : n.val = a
  · rw [if_pos h]
    refine View.read_writes_cons_unit_of_mem v f ha A _ (ix3 n o L) (ix3 (0 : Fin 1) o L) rfl (fun x => ?_)
    match x with
    | ⟨0, _⟩ => exact h
    | ⟨1, _⟩ => exact (Nat.zero_add _).symm
    | ⟨2, _⟩ => exact (Nat.zero_add _).symm
  rw [if_neg h]
  refine (View.read_writes_cons_unit_of_not_mem v f ha A _ (ix3 n o L) rfl 0 (by show n.val < a ∨ a + 1 ≤ n.val; omega)).trans ?_
  by_cases h' : n.val = b
  · rw [if_pos h']
    refine View.read_writes_cons_unit_of_mem v f hb B _ (ix3 n o L) (ix3 (0 : Fin 1) o L) rfl (fun x => ?_)
    match x with
    | ⟨0, _⟩ => exact h'
    | ⟨1, _⟩ => exact (Nat.zero_add _).symm
    | ⟨2, _⟩ => exact (Nat.zero_add _).symm
  rw [if_neg h']
  refine (View.read_writes_cons_unit_of_not_mem v f hb B _ (ix3 n o L) rfl 0 (by show n.val < b ∨ b + 1 ≤ n.val; omega)).trans ?_
  rfl

section Owned

open Idealize.SL Idealize.SL.RA Idealize.SL.BI
open scoped Idealize.SL.BI
open Idealize.SL.BI.BIBase Idealize.SL.BI.Laws Idealize.SL.ProofMode Idealize.SL.Sem

variable {nD : ℕ} {τ : Topo} {Ix Name U Lvl : Type} [DecidableEq Ix] [DecidableEq Name] [URA U]
local notation "𝕄" => MT nD τ sig Ix Val Name U Lvl

/-- A whole buffer owned at known contents is its points-to at those contents. -/
theorem open_owned (c : Thread nD τ) {sp : Space} {sh : Shape} {e : EltTy} {m : Memref sig c.2.kind sp sh e} (h : m.IsWhole)
    (q : PosShare TreeShare) (X : sh.Idx → Val e) :
    (owns c m q X : sProp 𝕄) ⊢ m.view.loc c ↦[m.view.set]{q} h.unread X := by
  unfold owns
  iintro ⟨%f, %hf, H⟩
  obtain rfl := h.eq_unread hf
  iexact H

end Owned

end Cert.Fat

end
-- ==== Proof.JoinedLeft.lean ====
/- What the output and the three sums of the joined convolution's call hold after each grid point. -/
module

public import proofs.«01_k».proof.Proof.JoinedFirst
public import proofs.«01_k».proof.Proof.JoinedLast
public import proofs.«01_k».proof.Proof.Planes

@[expose] public section

set_option maxRecDepth 16384

noncomputable section

namespace Cert.Joined

open Idealize.ShloMosaic hiding ix1 ix2 ix3 ix4 eq_ix1 eq_ix2 eq_ix3 eq_ix4
open Idealize.ShloMosaic.ValueIdx Idealize.ShloMosaic.TcCoe
open Cert.KernelIdeal Cert.KernelIdeal.Gen Cert.Fat
open scoped BigOperators

/-! ## What the output ends with, as a function of the arrays the call reads -/

/-- Inside the rows of lanes that hold the grid, of a plane that holds a layer of it. -/
abbrev Inside (n L : ℕ) : Prop := 1 ≤ n ∧ n ≤ 64 ∧ 256 ≤ L ∧ L < 8704

/-- The sum of the two convolutions of the planes `P` and `U`, masked, at plane `n`, channel `o` and lane `L`; zero around the grid. -/
def first (P : Vec Ideal S66x16x8960 .f32) (U : Vec Ideal S66x32x8960 .bf16) (M : Vec Ideal S66x1x8960 .f32) (WA : Vec Ideal S9x16x48 .f32)
    (WB : Vec Ideal S9x16x96 .f32) (n o L : ℕ) : EReal :=
  if Inside n L then (stacked 16 (at3 WA) (at3 P) (n - 1) o L + stacked 32 (at3 WB) (at3 U) (n - 1) o L) * at3 M n 0 L else 0

/-- The sum of `f` over the grid's lanes of the first `4 j` planes of the grid. -/
def total (f : ℕ → ℕ → EReal) (j : ℕ) : EReal := ∑ n ∈ Finset.range (4 * j), ∑ l ∈ Finset.range 8448, f (n + 1) (256 + l)

theorem total_zero (f : ℕ → ℕ → EReal) : total f 0 = 0 := by simp [total]

theorem total_succ (f : ℕ → ℕ → EReal) (j : ℕ) :
    total f (j + 1) = total f j + ∑ k : Fin 4, ∑ l ∈ Finset.range 8448, f (4 * j + k.val + 1) (256 + l) := by
  unfold total
  rw [show 4 * (j + 1) = 4 * j + 4 by omega, Finset.sum_range_add, Finset.sum_range (n := 4)]

section

variable (P : Vec Ideal S66x16x8960 .f32) (U : Vec Ideal S66x32x8960 .bf16) (M : Vec Ideal S66x1x8960 .f32) (WA : Vec Ideal S9x16x48 .f32)
  (WB : Vec Ideal S9x16x96 .f32)

/-- The sum of channel `o` over the first `4 j` planes, -/
abbrev totalY (o j : ℕ) : EReal := total (fun n L => first P U M WA WB n o L) j
/-- the sum of its squares, -/
abbrev totalYY (o j : ℕ) : EReal := total (fun n L => first P U M WA WB n o L * first P U M WA WB n o L) j
/-- and the mask's sum. -/
abbrev totalM (j : ℕ) : EReal := total (fun n L => at3 M n 0 L) j

/-- The grid's layers normalised by the sums over all planes. -/
def final (n o L : ℕ) : EReal :=
  if 1 ≤ n ∧ n ≤ 64 then normed (totalM M 16) (totalY P U M WA WB o 16) (totalYY P U M WA WB o 16) (first P U M WA WB n o L) (at3 M n 0 L)
  else first P U M WA WB n o L

/-- What the output holds after `j` points: its planes below the grid, above it, and the layers so far; after all, the layers normalised. -/
def Good (j : ℕ) (X : Vec Ideal S66x16x8960 .bf16) : Prop :=
  1 ≤ j → ∀ n o L, (n = 0 ∨ n = 65 ∨ n ≤ 4 * j) → n < 66 → o < 16 → L < 8960 →
    at3 X n o L = if j = 16 then final P U M WA WB n o L else first P U M WA WB n o L

/-- What the three sums hold after `j` points, none or all apart. -/
def Sums (j : ℕ) (X11 X12 : Vec Ideal S16x1 .f32) (X13 : Vec Ideal S1 .f32) : Prop :=
  1 ≤ j → j < 16 → (∀ o : Fin 16, (X11 (ix2 o (0 : Fin 1)) : EReal) = totalY P U M WA WB o j)
    ∧ (∀ o : Fin 16, (X12 (ix2 o (0 : Fin 1)) : EReal) = totalYY P U M WA WB o j) ∧ (X13 (ix1 (0 : Fin 1)) : EReal) = totalM M j

theorem first_out {n o L : ℕ} (h : n = 0 ∨ n = 65) : first P U M WA WB n o L = 0 := if_neg (by unfold Inside; omega)

end

/-- Convolutions of planes that agree agree. -/
theorem stacked_congr {CI : ℕ} (hCI : 0 < CI) (W : ℕ → ℕ → ℕ → EReal) {V V' : ℕ → ℕ → ℕ → EReal} {n n' o L : ℕ} (hL : 256 ≤ L ∧ L < 8704)
    (h : ∀ k r l, k < 3 → r < CI → l < 8960 → V (n + k) r l = V' (n' + k) r l) : stacked CI W V n o L = stacked CI W V' n' o L := by
  unfold stacked
  refine Finset.sum_congr rfl fun q _ => Finset.sum_congr rfl fun r hr => ?_
  have hr' := Finset.mem_range.1 hr
  have hd : r / CI < 3 := Nat.div_lt_of_lt_mul (by rwa [Nat.mul_comm] at hr')
  rw [h (r / CI) (r % CI) (lane q (L - 256)) hd (Nat.mod_lt _ hCI) (by unfold lane; omega)]

variable (c : Dev nD) (i : grid0.Coords)
  {arg1 : Memref sig .tc .vmem S4x16x8960 .f32} (harg1 : arg1.IsWhole)
  {arg2 : Memref sig .tc .vmem S1x16x8960 .f32} (harg2 : arg2.IsWhole)
  {arg3 : Memref sig .tc .vmem S1x16x8960 .f32} (harg3 : arg3.IsWhole)
  {arg4 : Memref sig .tc .vmem S4x32x8960 .bf16} (harg4 : arg4.IsWhole)
  {arg5 : Memref sig .tc .vmem S1x32x8960 .bf16} (harg5 : arg5.IsWhole)
  {arg6 : Memref sig .tc .vmem S1x32x8960 .bf16} (harg6 : arg6.IsWhole)
  {arg7 : Memref sig .tc .vmem S66x1x8960 .f32} (harg7 : arg7.IsWhole)
  {arg8 : Memref sig .tc .vmem S9x16x48 .f32} (harg8 : arg8.IsWhole)
  {arg9 : Memref sig .tc .vmem S9x16x96 .f32} (harg9 : arg9.IsWhole)
  {arg10 : Memref sig .tc .vmem S66x16x8960 .bf16} (harg10 : arg10.IsWhole)
  {arg11 : Memref sig .tc .vmem S16x1 .f32} (harg11 : arg11.IsWhole)
  {arg12 : Memref sig .tc .vmem S16x1 .f32} (harg12 : arg12.IsWhole)
  {arg13 : Memref sig .tc .smem S1 .f32} (harg13 : arg13.IsWhole)
  (x1 : Vec Ideal S4x16x8960 .f32) (x2 : Vec Ideal S1x16x8960 .f32) (x3 : Vec Ideal S1x16x8960 .f32)
  (x4 : Vec Ideal S4x32x8960 .bf16) (x5 : Vec Ideal S1x32x8960 .bf16) (x6 : Vec Ideal S1x32x8960 .bf16)
  (x7 : Vec Ideal S66x1x8960 .f32) (x8 : Vec Ideal S9x16x48 .f32) (x9 : Vec Ideal S9x16x96 .f32)

/-- The store of the sums leaves the sums. -/
theorem storeSums_read {arg : Memref sig .tc .vmem S16x1 .f32} (f : BufTy.Contents (Elt Ideal) arg.view.ty) (s : FVec Ideal S16x1 .f32) (o : Fin 16) :
    arg.view.read (Elt Ideal) (arg.view.writes (Elt Ideal) f (storeSums s)) (ix2 o (0 : Fin 1)) = s (ix2 o (0 : Fin 1)) := by
  refine View.read_writes_cons_unit_of_mem arg.view _ _ _ [] (ix2 o (0 : Fin 1)) (ix2 o (0 : Fin 1)) rfl (fun x => ?_)
  match x with
  | ⟨0, _⟩ => exact (Nat.zero_add _).symm
  | ⟨1, _⟩ => rfl

/-- The store of the mask's sum leaves it. -/
theorem storeSum_read {arg : Memref sig .tc .smem S1 .f32} (f : BufTy.Contents (Elt Ideal) arg.view.ty) (s : Ideal .f32) :
    arg.view.read (Elt Ideal) (arg.view.writes (Elt Ideal) f (storeSum s)) (ix1 (0 : Fin 1)) = s := by
  refine View.read_writes_cons_unit_of_mem arg.view _ _ _ [] (ix1 (0 : Fin 1)) (ix1 (0 : Fin 1)) rfl (fun x => ?_)
  match x with
  | ⟨0, _⟩ => rfl

/-- The zeros of a plane. -/
theorem zeros16 (o : Fin 16) (L : Fin 8960) : (k0_pay7 (F := Ideal) (ix3 (0 : Fin 1) o L) : EReal) = 0 ∧ (k0_pay8 (F := Ideal) (ix3 (0 : Fin 1) o L) : EReal) = 0 := by
  have h : Ideal.ofBits .bf16 0x0000#16 = 0 := by simp [Ideal.ofBits, Ideal.ieee]
  unfold k0_pay7 k0_pay8
  exact ⟨h, h⟩

section

variable (P : Vec Ideal S66x16x8960 .f32) (U : Vec Ideal S66x32x8960 .bf16)
  (hsix : ∀ k r l, k < 6 → r < 16 → l < 8960 → six x1 x2 x3 k r l = at3 P (4 * (i 0).val + k) r l)
  (hsixU : ∀ k r l, k < 6 → r < 32 → l < 8960 → six x4 x5 x6 k r l = at3 U (4 * (i 0).val + k) r l)

include hsix hsixU in
/-- The masked sum at one of the point's four planes is `first`. -/
theorem masked_first (k : Fin 4) {o l : ℕ} (ho : o < 16) (hl : l < 8448) :
    at2 (masked i x1 x2 x3 x4 x5 x6 x7 x8 x9 k) o l = first P U x7 x8 x9 (4 * (i 0).val + k.val + 1) o (256 + l) := by
  have hi : (i 0).val < 16 := (i 0).isLt
  rw [masked_at i x1 x2 x3 x4 x5 x6 x7 x8 x9 k ho hl, first, if_pos (by unfold Inside; omega), Nat.add_sub_cancel]
  refine congrArg (· * _) (congr (congrArg _ ?_) ?_)
  · refine stacked_congr (by omega) _ (by omega) fun j r l hj hr hl => ?_
    rw [hsix _ _ _ (by omega) hr hl, Nat.add_assoc]
  · refine stacked_congr (by omega) _ (by omega) fun j r l hj hr hl => ?_
    rw [hsixU _ _ _ (by omega) hr hl, Nat.add_assoc]

include hsix hsixU in
/-- One of the four planes stored is the plane of `first`. -/
theorem plane_first (k : Fin 4) {n o L : ℕ} (hn : n = 4 * (i 0).val + k.val + 1) (ho : o < 16) (hL : L < 8960) :
    at3 (plane i x1 x2 x3 x4 x5 x6 x7 x8 x9 k) 0 o L = first P U x7 x8 x9 n o L := by
  rw [plane_at i x1 x2 x3 x4 x5 x6 x7 x8 x9 k ho hL]
  by_cases h : 256 ≤ L ∧ L < 8704
  · rw [if_pos h, masked_first i x1 x2 x3 x4 x5 x6 x7 x8 x9 P U hsix hsixU k ho (by omega), hn, Nat.add_sub_cancel' h.1]
  · rw [if_neg h, first, if_neg (by unfold Inside; omega)]

include hsix hsixU in
/-- The point's sums. -/
theorem sumY_at (o : Fin 16) : (sumY i x1 x2 x3 x4 x5 x6 x7 x8 x9 (ix2 o (0 : Fin 1)) : EReal)
    = ∑ k : Fin 4, ∑ l ∈ Finset.range 8448, first P U x7 x8 x9 (4 * (i 0).val + k.val + 1) o (256 + l) := by
  rw [sumY, sums4_at]
  refine Finset.sum_congr rfl fun k _ => (rowSums_at _ o).trans (Finset.sum_congr rfl fun l hl => ?_)
  exact masked_first i x1 x2 x3 x4 x5 x6 x7 x8 x9 P U hsix hsixU k o.isLt (Finset.mem_range.1 hl)

include hsix hsixU in
/-- The point's sums of squares. -/
theorem sumYY_at (o : Fin 16) : (sumYY i x1 x2 x3 x4 x5 x6 x7 x8 x9 (ix2 o (0 : Fin 1)) : EReal)
    = ∑ k : Fin 4, ∑ l ∈ Finset.range 8448, first P U x7 x8 x9 (4 * (i 0).val + k.val + 1) o (256 + l) * first P U x7 x8 x9 (4 * (i 0).val + k.val + 1) o (256 + l) := by
  rw [sumYY, sums4_at]
  refine Finset.sum_congr rfl fun k _ => (rowSums_at _ o).trans (Finset.sum_congr rfl fun l hl => ?_)
  have hl' := Finset.mem_range.1 hl
  rw [mulf_at _ _ o.isLt hl', masked_first i x1 x2 x3 x4 x5 x6 x7 x8 x9 P U hsix hsixU k o.isLt hl']

/-- The point's sum of the mask. -/
theorem sumM_at : (sumM i x7 : EReal) = ∑ k : Fin 4, ∑ l ∈ Finset.range 8448, at3 x7 (4 * (i 0).val + k.val + 1) 0 (256 + l) := by
  have hi : (i 0).val < 16 := (i 0).isLt
  rw [sumM, sum4_at]
  refine Finset.sum_congr rfl fun k _ => (rowSum_at _).trans (Finset.sum_congr rfl fun l hl => ?_)
  have hl' := Finset.mem_range.1 hl
  rw [maskRow_at _ hl']
  exact ld_plane_at x7 _ (by omega) _ (k0_off1_eq i k) _ Nat.one_pos (by omega)

theorem off2_at (k : Fin 4) : k0_off2 i (BitVec.ofNat 32 k.val) = ![4 * (i 0).val + k.val + 1, 0, 0] := k0_off2_eq i k

include hsix hsixU in
/-- **The stores of one point extend the output** by its four planes. -/
theorem stores_good (f : BufTy.Contents (Elt Ideal) arg10.view.ty)
    (hf : ∀ n o L, (n = 0 ∨ n = 65 ∨ n ≤ 4 * (i 0).val) → n < 66 → o < 16 → L < 8960 →
      at3 (arg10.view.read (Elt Ideal) f : Vec Ideal S66x16x8960 .bf16) n o L = first P U x7 x8 x9 n o L)
    (n o L : ℕ) (hn : n = 0 ∨ n = 65 ∨ n ≤ 4 * ((i 0).val + 1)) (hn66 : n < 66) (ho : o < 16) (hL : L < 8960) :
    at3 (arg10.view.read (Elt Ideal) (arg10.view.writes (Elt Ideal) f (stores i x1 x2 x3 x4 x5 x6 x7 x8 x9)) : Vec Ideal S66x16x8960 .bf16) n o L = first P U x7 x8 x9 n o L := by
  have hi : (i 0).val < 16 := (i 0).isLt
  have hinj : ∀ k k' : Fin 4, k ≠ k' → 4 * (i 0).val + k.val + 1 ≠ 4 * (i 0).val + k'.val + 1 := fun k k' h => by
    have := fun e => h (Fin.ext e)
    omega
  rw [at3_lt _ hn66 ho hL]
  by_cases h : 4 * (i 0).val + 1 ≤ n ∧ n ≤ 4 * (i 0).val + 4
  · refine (plane_hit arg10.view f _ (k0_off2_inb i) _ (fun k => 4 * (i 0).val + k.val + 1) (off2_at i) hinj 4 le_rfl ⟨n - (4 * (i 0).val + 1), by omega⟩
      (by show n - (4 * (i 0).val + 1) < 4; omega) ⟨n, hn66⟩ (by show n = 4 * (i 0).val + (n - (4 * (i 0).val + 1)) + 1; omega) ⟨o, ho⟩ ⟨L, hL⟩).trans ?_
    refine (at3_ix (plane i x1 x2 x3 x4 x5 x6 x7 x8 x9 _) 0 _ _).trans ?_
    exact plane_first i x1 x2 x3 x4 x5 x6 x7 x8 x9 P U hsix hsixU _ (by show n = 4 * (i 0).val + (n - (4 * (i 0).val + 1)) + 1; omega) ho hL
  · refine (plane_miss arg10.view f _ (k0_off2_inb i) _ (fun k => 4 * (i 0).val + k.val + 1) (off2_at i) 4 le_rfl ⟨n, hn66⟩
      (fun k _ => by show n ≠ 4 * (i 0).val + k.val + 1; omega) ⟨o, ho⟩ ⟨L, hL⟩).trans ?_
    refine (at3_ix (arg10.view.read (Elt Ideal) f) _ _ _).trans ?_
    exact hf n o L (by omega) hn66 ho hL

include hsix hsixU in
/-- After the first point. -/
theorem goodA (hi0 : (i 0).val = 0) (hc0 : startWord i = 1#1) (hc1 : ¬k0_cond2 i = 1#1) (f10 : BufTy.Contents (Elt Ideal) arg10.view.ty) (f11 : BufTy.Contents (Elt Ideal) arg11.view.ty)
    (f12 : BufTy.Contents (Elt Ideal) arg12.view.ty) (f13 : BufTy.Contents (Elt Ideal) arg13.view.ty) :
    Good P U x7 x8 x9 ((i 0).val + 1) (arg10.view.read (Elt Ideal) (arg10.view.writes (Elt Ideal) f10 (runA c i harg1 harg2 harg3 harg4 harg5 harg6 harg7 harg8 harg9 harg10 harg11 harg12 harg13 x1 x2 x3 x4 x5 x6 x7 x8 x9 hc0 hc1 f10 f11 f12 f13).1)) := by
  intro _ n o L hn hn66 ho hL
  rw [if_neg (by omega), runA_stores, View.writes_append]
  refine stores_good i x1 x2 x3 x4 x5 x6 x7 x8 x9 P U hsix hsixU _ (fun n o L hn hn66 ho hL => ?_) n o L hn hn66 ho hL
  have hn' : n = 65 ∨ n = 0 := by omega
  rw [first_out P U x7 x8 x9 (by omega), at3_lt _ hn66 ho hL]
  refine (two_planes arg10.view f10 65 0 inb_S66x16x8960_S1x16x8960_65_0_0 inb_S66x16x8960_S1x16x8960_0_0_0 (k0_pay8 (F := Ideal)) (k0_pay7 (F := Ideal)) ⟨n, hn66⟩ ⟨o, ho⟩ ⟨L, hL⟩).trans ?_
  rcases hn' with h | h
  · rw [if_pos h]; exact (zeros16 _ _).2
  · rw [if_neg (by show ¬n = 65; omega), if_pos h]; exact (zeros16 _ _).1

include hsix hsixU in
theorem sumsA (hi0 : (i 0).val = 0) (hc0 : startWord i = 1#1) (hc1 : ¬k0_cond2 i = 1#1) (f10 : BufTy.Contents (Elt Ideal) arg10.view.ty) (f11 : BufTy.Contents (Elt Ideal) arg11.view.ty)
    (f12 : BufTy.Contents (Elt Ideal) arg12.view.ty) (f13 : BufTy.Contents (Elt Ideal) arg13.view.ty) :
    Sums P U x7 x8 x9 ((i 0).val + 1) (arg11.view.read (Elt Ideal) (arg11.view.writes (Elt Ideal) f11 (runA c i harg1 harg2 harg3 harg4 harg5 harg6 harg7 harg8 harg9 harg10 harg11 harg12 harg13 x1 x2 x3 x4 x5 x6 x7 x8 x9 hc0 hc1 f10 f11 f12 f13).2.1))
      (arg12.view.read (Elt Ideal) (arg12.view.writes (Elt Ideal) f12 (runA c i harg1 harg2 harg3 harg4 harg5 harg6 harg7 harg8 harg9 harg10 harg11 harg12 harg13 x1 x2 x3 x4 x5 x6 x7 x8 x9 hc0 hc1 f10 f11 f12 f13).2.2.1))
      (arg13.view.read (Elt Ideal) (arg13.view.writes (Elt Ideal) f13 (runA c i harg1 harg2 harg3 harg4 harg5 harg6 harg7 harg8 harg9 harg10 harg11 harg12 harg13 x1 x2 x3 x4 x5 x6 x7 x8 x9 hc0 hc1 f10 f11 f12 f13).2.2.2.1)) := by
  intro _ _
  have e0 : (i 0).val + 1 = 0 + 1 := by omega
  refine ⟨fun o => ?_, fun o => ?_, ?_⟩
  · rw [runA_sums, View.writes_append, storeSums_read]
    show (k0_pay5 (F := Ideal) (ix2 o (0 : Fin 1)) : EReal) + sumY i x1 x2 x3 x4 x5 x6 x7 x8 x9 (ix2 o (0 : Fin 1)) = _
    rw [show (k0_pay5 (F := Ideal) (ix2 o (0 : Fin 1)) : EReal) = 0 from Ideal.ofBits_zero_f32, sumY_at i x1 x2 x3 x4 x5 x6 x7 x8 x9 P U hsix hsixU, e0]
    unfold totalY
    rw [total_succ, total_zero, hi0]
  · rw [runA_squares, View.writes_append, storeSums_read]
    show (k0_pay6 (F := Ideal) (ix2 o (0 : Fin 1)) : EReal) + sumYY i x1 x2 x3 x4 x5 x6 x7 x8 x9 (ix2 o (0 : Fin 1)) = _
    rw [show (k0_pay6 (F := Ideal) (ix2 o (0 : Fin 1)) : EReal) = 0 from Ideal.ofBits_zero_f32, sumYY_at i x1 x2 x3 x4 x5 x6 x7 x8 x9 P U hsix hsixU, e0]
    unfold totalYY
    rw [total_succ, total_zero, hi0]
  · rw [runA_count, View.writes_append, storeSum_read]
    show (Ideal.ofBits .f32 0x00000000#32 : EReal) + sumM i x7 = _
    rw [Ideal.ofBits_zero_f32, sumM_at, e0]
    unfold totalM
    rw [total_succ, total_zero, hi0]

include hsix hsixU in
/-- After a point between. -/
theorem goodB (hi0 : 1 ≤ (i 0).val ∧ (i 0).val < 15) (hc0 : ¬startWord i = 1#1) (hc1 : ¬k0_cond2 i = 1#1) (f10 : BufTy.Contents (Elt Ideal) arg10.view.ty) (f11 : BufTy.Contents (Elt Ideal) arg11.view.ty)
    (f12 : BufTy.Contents (Elt Ideal) arg12.view.ty) (f13 : BufTy.Contents (Elt Ideal) arg13.view.ty)
    (hf : Good P U x7 x8 x9 (i 0).val (arg10.view.read (Elt Ideal) f10)) :
    Good P U x7 x8 x9 ((i 0).val + 1) (arg10.view.read (Elt Ideal) (arg10.view.writes (Elt Ideal) f10 (runB c i harg1 harg2 harg3 harg4 harg5 harg6 harg7 harg8 harg9 harg10 harg11 harg12 harg13 x1 x2 x3 x4 x5 x6 x7 x8 x9 hc0 hc1 f10 f11 f12 f13).1)) := by
  intro _ n o L hn hn66 ho hL
  rw [if_neg (by omega), runB_stores]
  refine stores_good i x1 x2 x3 x4 x5 x6 x7 x8 x9 P U hsix hsixU _ (fun n o L hn hn66 ho hL => ?_) n o L hn hn66 ho hL
  rw [hf hi0.1 n o L hn hn66 ho hL, if_neg (by omega)]

include hsix hsixU in
/-- The sums with the point's added. -/
theorem sums_next (hi0 : 1 ≤ (i 0).val) (f11 : BufTy.Contents (Elt Ideal) arg11.view.ty)
    (f12 : BufTy.Contents (Elt Ideal) arg12.view.ty) (f13 : BufTy.Contents (Elt Ideal) arg13.view.ty)
    (hs : Sums P U x7 x8 x9 (i 0).val (arg11.view.read (Elt Ideal) f11) (arg12.view.read (Elt Ideal) f12) (arg13.view.read (Elt Ideal) f13)) :
    (∀ o : Fin 16, (addf (arg11.view.read (Elt Ideal) f11) (sumY i x1 x2 x3 x4 x5 x6 x7 x8 x9) (ix2 o (0 : Fin 1)) : EReal) = totalY P U x7 x8 x9 o ((i 0).val + 1))
      ∧ (∀ o : Fin 16, (addf (arg12.view.read (Elt Ideal) f12) (sumYY i x1 x2 x3 x4 x5 x6 x7 x8 x9) (ix2 o (0 : Fin 1)) : EReal) = totalYY P U x7 x8 x9 o ((i 0).val + 1))
      ∧ (Scalar.addf (arg13.view.read (Elt Ideal) f13 (ix1 0)) (sumM i x7) : EReal) = totalM x7 ((i 0).val + 1) := by
  have hi : (i 0).val < 16 := (i 0).isLt
  obtain ⟨h1, h2, h3⟩ := hs hi0 hi
  refine ⟨fun o => ?_, fun o => ?_, ?_⟩
  · show (arg11.view.read (Elt Ideal) f11 (ix2 o (0 : Fin 1)) : EReal) + sumY i x1 x2 x3 x4 x5 x6 x7 x8 x9 (ix2 o (0 : Fin 1)) = _
    rw [sumY_at i x1 x2 x3 x4 x5 x6 x7 x8 x9 P U hsix hsixU, h1 o]
    exact (total_succ _ _).symm
  · show (arg12.view.read (Elt Ideal) f12 (ix2 o (0 : Fin 1)) : EReal) + sumYY i x1 x2 x3 x4 x5 x6 x7 x8 x9 (ix2 o (0 : Fin 1)) = _
    rw [sumYY_at i x1 x2 x3 x4 x5 x6 x7 x8 x9 P U hsix hsixU, h2 o]
    exact (total_succ _ _).symm
  · show (arg13.view.read (Elt Ideal) f13 (ix1 0) : EReal) + sumM i x7 = _
    rw [sumM_at, h3]
    exact (total_succ _ _).symm

include hsix hsixU in
theorem sumsB (hi0 : 1 ≤ (i 0).val) (hc0 : ¬startWord i = 1#1) (hc1 : ¬k0_cond2 i = 1#1) (f10 : BufTy.Contents (Elt Ideal) arg10.view.ty) (f11 : BufTy.Contents (Elt Ideal) arg11.view.ty)
    (f12 : BufTy.Contents (Elt Ideal) arg12.view.ty) (f13 : BufTy.Contents (Elt Ideal) arg13.view.ty)
    (hs : Sums P U x7 x8 x9 (i 0).val (arg11.view.read (Elt Ideal) f11) (arg12.view.read (Elt Ideal) f12) (arg13.view.read (Elt Ideal) f13)) :
    Sums P U x7 x8 x9 ((i 0).val + 1) (arg11.view.read (Elt Ideal) (arg11.view.writes (Elt Ideal) f11 (runB c i harg1 harg2 harg3 harg4 harg5 harg6 harg7 harg8 harg9 harg10 harg11 harg12 harg13 x1 x2 x3 x4 x5 x6 x7 x8 x9 hc0 hc1 f10 f11 f12 f13).2.1))
      (arg12.view.read (Elt Ideal) (arg12.view.writes (Elt Ideal) f12 (runB c i harg1 harg2 harg3 harg4 harg5 harg6 harg7 harg8 harg9 harg10 harg11 harg12 harg13 x1 x2 x3 x4 x5 x6 x7 x8 x9 hc0 hc1 f10 f11 f12 f13).2.2.1))
      (arg13.view.read (Elt Ideal) (arg13.view.writes (Elt Ideal) f13 (runB c i harg1 harg2 harg3 harg4 harg5 harg6 harg7 harg8 harg9 harg10 harg11 harg12 harg13 x1 x2 x3 x4 x5 x6 x7 x8 x9 hc0 hc1 f10 f11 f12 f13).2.2.2.1)) := by
  intro _ _
  obtain ⟨h1, h2, h3⟩ := sums_next i x1 x2 x3 x4 x5 x6 x7 x8 x9 P U hsix hsixU hi0 f11 f12 f13 hs
  refine ⟨fun o => ?_, fun o => ?_, ?_⟩
  · rw [runB_sums, storeSums_read]; exact h1 o
  · rw [runB_squares, storeSums_read]; exact h2 o
  · rw [runB_count, storeSum_read]; exact h3

include hsix hsixU in
/-- After the last point every layer is normalised. -/
theorem goodC (hi0 : (i 0).val = 15) (hc0 : ¬startWord i = 1#1) (hc1 : k0_cond2 i = 1#1) (f10 : BufTy.Contents (Elt Ideal) arg10.view.ty) (f11 : BufTy.Contents (Elt Ideal) arg11.view.ty)
    (f12 : BufTy.Contents (Elt Ideal) arg12.view.ty) (f13 : BufTy.Contents (Elt Ideal) arg13.view.ty)
    (hf : Good P U x7 x8 x9 (i 0).val (arg10.view.read (Elt Ideal) f10))
    (hs : Sums P U x7 x8 x9 (i 0).val (arg11.view.read (Elt Ideal) f11) (arg12.view.read (Elt Ideal) f12) (arg13.view.read (Elt Ideal) f13)) :
    Good P U x7 x8 x9 ((i 0).val + 1) (arg10.view.read (Elt Ideal) (arg10.view.writes (Elt Ideal) f10 (runC c i harg1 harg2 harg3 harg4 harg5 harg6 harg7 harg8 harg9 harg10 harg11 harg12 harg13 x1 x2 x3 x4 x5 x6 x7 x8 x9 hc0 hc1 f10 f11 f12 f13).1)) := by
  intro _ n o L hn hn66 ho hL
  have e16 : (i 0).val + 1 = 16 := by omega
  obtain ⟨h1, h2, h3⟩ := sums_next i x1 x2 x3 x4 x5 x6 x7 x8 x9 P U hsix hsixU (by omega) f11 f12 f13 hs
  have hg := stores_good i x1 x2 x3 x4 x5 x6 x7 x8 x9 P U hsix hsixU f10 (fun n o L hn hn66 ho hL => by
    rw [hf (by omega) n o L hn hn66 ho hL, if_neg (by omega)]) n o L hn hn66 ho hL
  rw [if_pos e16, runC_stores, View.writes_append]
  refine (trips_at c i harg1 harg2 harg3 harg4 harg5 harg6 harg7 harg8 harg9 harg10 harg11 harg12 harg13 x7 hc1 _ _ _ _ _ (by decide) n o L hn66 ho hL).trans ?_
  have htr : k0_t1_loop.trips = 64 := by decide
  rw [h1, h2, h3, hg, htr, e16]
  unfold final
  rfl

end

end Cert.Joined

end
-- ==== Proof.JoinedStep.lean ====
/- One point of the joined convolution's grid, from what it is handed to what it hands back. -/
module

public import proofs.«01_k».proof.Proof.JoinedLeft

@[expose] public section

set_option maxRecDepth 16384

noncomputable section

namespace Cert.Joined

open Idealize.ShloMosaic hiding ix1 ix2 ix3 ix4 eq_ix1 eq_ix2 eq_ix3 eq_ix4
open Idealize.ShloMosaic.ValueIdx Idealize.ShloMosaic.TcCoe
open Cert.KernelIdeal Cert.KernelIdeal.Gen Cert.Fat
open scoped BigOperators
open Idealize.ShloMosaic.Tactic
open Idealize.SL Idealize.SL.RA Idealize.SL.BI
open scoped Idealize.SL.BI
open Idealize.SL.BI.BIBase Idealize.SL.BI.Laws Idealize.SL.ProofMode Idealize.SL.Sem

variable (c : Dev nD) (i : grid0.Coords)
  {arg1 : Memref sig .tc .vmem S4x16x8960 .f32} (harg1 : arg1.IsWhole)
  {arg2 : Memref sig .tc .vmem S1x16x8960 .f32} (harg2 : arg2.IsWhole)
  {arg3 : Memref sig .tc .vmem S1x16x8960 .f32} (harg3 : arg3.IsWhole)
  {arg4 : Memref sig .tc .vmem S4x32x8960 .bf16} (harg4 : arg4.IsWhole)
  {arg5 : Memref sig .tc .vmem S1x32x8960 .bf16} (harg5 : arg5.IsWhole)
  {arg6 : Memref sig .tc .vmem S1x32x8960 .bf16} (harg6 : arg6.IsWhole)
  {arg7 : Memref sig .tc .vmem S66x1x8960 .f32} (harg7 : arg7.IsWhole)
  {arg8 : Memref sig .tc .vmem S9x16x48 .f32} (harg8 : arg8.IsWhole)
  {arg9 : Memref sig .tc .vmem S9x16x96 .f32} (harg9 : arg9.IsWhole)
  {arg10 : Memref sig .tc .vmem S66x16x8960 .bf16} (harg10 : arg10.IsWhole)
  {arg11 : Memref sig .tc .vmem S16x1 .f32} (harg11 : arg11.IsWhole)
  {arg12 : Memref sig .tc .vmem S16x1 .f32} (harg12 : arg12.IsWhole)
  {arg13 : Memref sig .tc .smem S1 .f32} (harg13 : arg13.IsWhole)
  (x1 : Vec Ideal S4x16x8960 .f32) (x2 : Vec Ideal S1x16x8960 .f32) (x3 : Vec Ideal S1x16x8960 .f32)
  (x4 : Vec Ideal S4x32x8960 .bf16) (x5 : Vec Ideal S1x32x8960 .bf16) (x6 : Vec Ideal S1x32x8960 .bf16)
  (x7 : Vec Ideal S66x1x8960 .f32) (x8 : Vec Ideal S9x16x48 .f32) (x9 : Vec Ideal S9x16x96 .f32)

local notation "𝕄" => MT nD τ sig Unit (Elt Ideal) ℕ (UR sig nD τ) ℕ

/-- What the body is handed: the inputs, the output at `X10` and the three sums at `X11`, `X12` and `X13`. -/
abbrev Handed (arg1 : Memref sig .tc .vmem S4x16x8960 .f32) (arg2 : Memref sig .tc .vmem S1x16x8960 .f32) (arg3 : Memref sig .tc .vmem S1x16x8960 .f32)
    (arg4 : Memref sig .tc .vmem S4x32x8960 .bf16) (arg5 : Memref sig .tc .vmem S1x32x8960 .bf16) (arg6 : Memref sig .tc .vmem S1x32x8960 .bf16)
    (arg7 : Memref sig .tc .vmem S66x1x8960 .f32) (arg8 : Memref sig .tc .vmem S9x16x48 .f32) (arg9 : Memref sig .tc .vmem S9x16x96 .f32)
    (arg10 : Memref sig .tc .vmem S66x16x8960 .bf16) (arg11 : Memref sig .tc .vmem S16x1 .f32) (arg12 : Memref sig .tc .vmem S16x1 .f32) (arg13 : Memref sig .tc .smem S1 .f32)
    (X10 : Vec Ideal S66x16x8960 .bf16) (X11 X12 : Vec Ideal S16x1 .f32) (X13 : Vec Ideal S1 .f32) : sProp 𝕄 :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare X10 ∗ owns (c : Thread nD τ) arg11 fullShare X11 ∗ owns (c : Thread nD τ) arg12 fullShare X12 ∗ owns (c : Thread nD τ) arg13 fullShare X13)

/-- Opened, -/
theorem open_handed (X10 : Vec Ideal S66x16x8960 .bf16) (X11 X12 : Vec Ideal S16x1 .f32) (X13 : Vec Ideal S1 .f32) :
    (Handed c x1 x2 x3 x4 x5 x6 x7 x8 x9 arg1 arg2 arg3 arg4 arg5 arg6 arg7 arg8 arg9 arg10 arg11 arg12 arg13 X10 X11 X12 X13 : sProp 𝕄)
      ⊢ Held c harg1 harg2 harg3 harg4 harg5 harg6 harg7 harg8 harg9 (arg10 := arg10) (arg11 := arg11) (arg12 := arg12) (arg13 := arg13) x1 x2 x3 x4 x5 x6 x7 x8 x9
          (harg10.unread X10) (harg11.unread X11) (harg12.unread X12) (harg13.unread X13) := by
  iintro ⟨H1, H2, H3, H4, H5, H6, H7, H8, H9, H10, H11, H12, H13⟩
  isplitl [H1]; · iapply (open_owned (c : Thread nD τ) harg1 fullShare x1); iexact H1
  isplitl [H2]; · iapply (open_owned (c : Thread nD τ) harg2 fullShare x2); iexact H2
  isplitl [H3]; · iapply (open_owned (c : Thread nD τ) harg3 fullShare x3); iexact H3
  isplitl [H4]; · iapply (open_owned (c : Thread nD τ) harg4 fullShare x4); iexact H4
  isplitl [H5]; · iapply (open_owned (c : Thread nD τ) harg5 fullShare x5); iexact H5
  isplitl [H6]; · iapply (open_owned (c : Thread nD τ) harg6 fullShare x6); iexact H6
  isplitl [H7]; · iapply (open_owned (c : Thread nD τ) harg7 fullShare x7); iexact H7
  isplitl [H8]; · iapply (open_owned (c : Thread nD τ) harg8 fullShare x8); iexact H8
  isplitl [H9]; · iapply (open_owned (c : Thread nD τ) harg9 fullShare x9); iexact H9
  isplitl [H10]; · iapply (open_owned (c : Thread nD τ) harg10 fullShare X10); iexact H10
  isplitl [H11]; · iapply (open_owned (c : Thread nD τ) harg11 fullShare X11); iexact H11
  isplitl [H12]; · iapply (open_owned (c : Thread nD τ) harg12 fullShare X12); iexact H12
  iapply (open_owned (c : Thread nD τ) harg13 fullShare X13); iexact H13

/-- A whole buffer at contents known by their reading. -/
theorem close_owned {sp : Space} {sh : Shape} {e : EltTy} {mr : Memref sig .tc sp sh e} (h : mr.IsWhole) (X : sh.Idx → Elt Ideal e) :
    (mr.view.loc (c : Thread nD τ) ↦[mr.view.set]{fullShare} h.unread X : sProp 𝕄) ⊢ owns (c : Thread nD τ) mr fullShare X := by
  unfold owns
  iintro H
  iexists _; isplitr; · ipureintro; exact h.read_unread _
  iexact H

/-- and closed again, -/
theorem close_handed (f10 : BufTy.Contents (Elt Ideal) arg10.view.ty) (f11 : BufTy.Contents (Elt Ideal) arg11.view.ty)
    (f12 : BufTy.Contents (Elt Ideal) arg12.view.ty) (f13 : BufTy.Contents (Elt Ideal) arg13.view.ty) :
    Held c harg1 harg2 harg3 harg4 harg5 harg6 harg7 harg8 harg9 (arg10 := arg10) (arg11 := arg11) (arg12 := arg12) (arg13 := arg13) x1 x2 x3 x4 x5 x6 x7 x8 x9 f10 f11 f12 f13
      ⊢ (Handed c x1 x2 x3 x4 x5 x6 x7 x8 x9 arg1 arg2 arg3 arg4 arg5 arg6 arg7 arg8 arg9 arg10 arg11 arg12 arg13
          (arg10.view.read (Elt Ideal) f10) (arg11.view.read (Elt Ideal) f11) (arg12.view.read (Elt Ideal) f12) (arg13.view.read (Elt Ideal) f13) : sProp 𝕄) := by
  iintro ⟨H1, H2, H3, H4, H5, H6, H7, H8, H9, H10, H11, H12, H13⟩
  isplitl [H1]; · iapply (close_owned c harg1 x1); iexact H1
  isplitl [H2]; · iapply (close_owned c harg2 x2); iexact H2
  isplitl [H3]; · iapply (close_owned c harg3 x3); iexact H3
  isplitl [H4]; · iapply (close_owned c harg4 x4); iexact H4
  isplitl [H5]; · iapply (close_owned c harg5 x5); iexact H5
  isplitl [H6]; · iapply (close_owned c harg6 x6); iexact H6
  isplitl [H7]; · iapply (close_owned c harg7 x7); iexact H7
  isplitl [H8]; · iapply (close_owned c harg8 x8); iexact H8
  isplitl [H9]; · iapply (close_owned c harg9 x9); iexact H9
  isplitl [H10]; · iapply (owns_intro (c : Thread nD τ) arg10 fullShare f10); iexact H10
  isplitl [H11]; · iapply (owns_intro (c : Thread nD τ) arg11 fullShare f11); iexact H11
  isplitl [H12]; · iapply (owns_intro (c : Thread nD τ) arg12 fullShare f12); iexact H12
  iapply (owns_intro (c : Thread nD τ) arg13 fullShare f13); iexact H13

/-- also where nothing is known of the sums. -/
theorem close_any (f10 : BufTy.Contents (Elt Ideal) arg10.view.ty) :
    HeldAny c harg1 harg2 harg3 harg4 harg5 harg6 harg7 harg8 harg9 (arg10 := arg10) (arg11 := arg11) (arg12 := arg12) (arg13 := arg13) x1 x2 x3 x4 x5 x6 x7 x8 x9 f10
      ⊢ (iprop(∃ X11 : Vec Ideal S16x1 .f32, ∃ X12 : Vec Ideal S16x1 .f32, ∃ X13 : Vec Ideal S1 .f32, Handed c x1 x2 x3 x4 x5 x6 x7 x8 x9 arg1 arg2 arg3 arg4 arg5 arg6 arg7 arg8 arg9 arg10 arg11 arg12 arg13
          (arg10.view.read (Elt Ideal) f10) X11 X12 X13) : sProp 𝕄) := by
  iintro ⟨H1, H2, H3, H4, H5, H6, H7, H8, H9, H10, ⟨%f11, H11⟩, ⟨%f12, H12⟩, ⟨%f13, H13⟩⟩
  iexists _, _, _
  isplitl [H1]; · iapply (close_owned c harg1 x1); iexact H1
  isplitl [H2]; · iapply (close_owned c harg2 x2); iexact H2
  isplitl [H3]; · iapply (close_owned c harg3 x3); iexact H3
  isplitl [H4]; · iapply (close_owned c harg4 x4); iexact H4
  isplitl [H5]; · iapply (close_owned c harg5 x5); iexact H5
  isplitl [H6]; · iapply (close_owned c harg6 x6); iexact H6
  isplitl [H7]; · iapply (close_owned c harg7 x7); iexact H7
  isplitl [H8]; · iapply (close_owned c harg8 x8); iexact H8
  isplitl [H9]; · iapply (close_owned c harg9 x9); iexact H9
  isplitl [H10]; · iapply (owns_intro (c : Thread nD τ) arg10 fullShare f10); iexact H10
  isplitl [H11]; · iapply (owns_intro (c : Thread nD τ) arg11 fullShare f11); iexact H11
  isplitl [H12]; · iapply (owns_intro (c : Thread nD τ) arg12 fullShare f12); iexact H12
  iapply (owns_intro (c : Thread nD τ) arg13 fullShare f13); iexact H13

/-- What the body hands back: the output and the sums at contents that are good after the point. -/
abbrev HandedBack (P : Vec Ideal S66x16x8960 .f32) (U : Vec Ideal S66x32x8960 .bf16) (arg1 : Memref sig .tc .vmem S4x16x8960 .f32) (arg2 : Memref sig .tc .vmem S1x16x8960 .f32) (arg3 : Memref sig .tc .vmem S1x16x8960 .f32)
    (arg4 : Memref sig .tc .vmem S4x32x8960 .bf16) (arg5 : Memref sig .tc .vmem S1x32x8960 .bf16) (arg6 : Memref sig .tc .vmem S1x32x8960 .bf16)
    (arg7 : Memref sig .tc .vmem S66x1x8960 .f32) (arg8 : Memref sig .tc .vmem S9x16x48 .f32) (arg9 : Memref sig .tc .vmem S9x16x96 .f32)
    (arg10 : Memref sig .tc .vmem S66x16x8960 .bf16) (arg11 : Memref sig .tc .vmem S16x1 .f32) (arg12 : Memref sig .tc .vmem S16x1 .f32) (arg13 : Memref sig .tc .smem S1 .f32) : sProp 𝕄 :=
  iprop(∃ X10 : Vec Ideal S66x16x8960 .bf16, ∃ X11 : Vec Ideal S16x1 .f32, ∃ X12 : Vec Ideal S16x1 .f32, ∃ X13 : Vec Ideal S1 .f32,
    ⌜Good P U x7 x8 x9 ((i 0).val + 1) X10 ∧ Sums P U x7 x8 x9 ((i 0).val + 1) X11 X12 X13⌝
    ∗ Handed c x1 x2 x3 x4 x5 x6 x7 x8 x9 arg1 arg2 arg3 arg4 arg5 arg6 arg7 arg8 arg9 arg10 arg11 arg12 arg13 X10 X11 X12 X13)

/-- **One point of the grid**: from an output and sums good before it, the body leaves them good after it. -/
theorem step (P : Vec Ideal S66x16x8960 .f32) (U : Vec Ideal S66x32x8960 .bf16)
    (hsix : ∀ k r l, k < 6 → r < 16 → l < 8960 → six x1 x2 x3 k r l = at3 P (4 * (i 0).val + k) r l)
    (hsixU : ∀ k r l, k < 6 → r < 32 → l < 8960 → six x4 x5 x6 k r l = at3 U (4 * (i 0).val + k) r l)
    (hfirst : startWord i = 1#1 ↔ (i 0).val = 0) (hlast : k0_cond2 i = 1#1 ↔ (i 0).val = 15)
    (X10 : Vec Ideal S66x16x8960 .bf16) (X11 X12 : Vec Ideal S16x1 .f32) (X13 : Vec Ideal S1 .f32)
    (h10 : Good P U x7 x8 x9 (i 0).val X10) (hs : Sums P U x7 x8 x9 (i 0).val X11 X12 X13) :
    (Handed c x1 x2 x3 x4 x5 x6 x7 x8 x9 arg1 arg2 arg3 arg4 arg5 arg6 arg7 arg8 arg9 arg10 arg11 arg12 arg13 X10 X11 X12 X13 : sProp 𝕄)
      ⊢ wp frame (wpE (defs₀ (F := Ideal)) Variants.none (c : Thread nD τ) none) Set.univ
          (cc0_body (F := Ideal) i arg1 harg1 arg2 harg2 arg3 harg3 arg4 harg4 arg5 harg5 arg6 harg6 arg7 harg7 arg8 harg8 arg9 harg9 arg10 harg10 arg11 harg11 arg12 harg12 arg13 harg13)
          (fun _ => HandedBack c i x1 x2 x3 x4 x5 x6 x7 x8 x9 P U arg1 arg2 arg3 arg4 arg5 arg6 arg7 arg8 arg9 arg10 arg11 arg12 arg13) := by
  have hi : (i 0).val < 16 := (i 0).isLt
  refine (open_handed c harg1 harg2 harg3 harg4 harg5 harg6 harg7 harg8 harg9 harg10 harg11 harg12 harg13 x1 x2 x3 x4 x5 x6 x7 x8 x9 X10 X11 X12 X13).trans ?_
  have e10 : Good P U x7 x8 x9 (i 0).val (arg10.view.read (Elt Ideal) (harg10.unread X10)) := by rw [harg10.read_unread]; exact h10
  have es : Sums P U x7 x8 x9 (i 0).val (arg11.view.read (Elt Ideal) (harg11.unread X11)) (arg12.view.read (Elt Ideal) (harg12.unread X12))
      (arg13.view.read (Elt Ideal) (harg13.unread X13)) := by rw [harg11.read_unread, harg12.read_unread, harg13.read_unread]; exact hs
  by_cases h0 : (i 0).val = 0
  · have hc0 := hfirst.mpr h0
    have hc1 : ¬k0_cond2 i = 1#1 := fun h => by have := hlast.mp h; omega
    have hr := (runA c i harg1 harg2 harg3 harg4 harg5 harg6 harg7 harg8 harg9 harg10 harg11 harg12 harg13 x1 x2 x3 x4 x5 x6 x7 x8 x9 hc0 hc1 (harg10.unread X10) (harg11.unread X11) (harg12.unread X12) (harg13.unread X13)).2.2.2.2 Set.univ
    refine hr.trans (wp_mono _ _ _ fun _ => ?_)
    refine (close_handed c harg1 harg2 harg3 harg4 harg5 harg6 harg7 harg8 harg9 (arg10 := arg10) (arg11 := arg11) (arg12 := arg12) (arg13 := arg13) x1 x2 x3 x4 x5 x6 x7 x8 x9 _ _ _ _).trans ?_
    have ha := goodA c i harg1 harg2 harg3 harg4 harg5 harg6 harg7 harg8 harg9 harg10 harg11 harg12 harg13 x1 x2 x3 x4 x5 x6 x7 x8 x9 P U hsix hsixU h0 hc0 hc1 (harg10.unread X10) (harg11.unread X11) (harg12.unread X12) (harg13.unread X13)
    have hb := sumsA c i harg1 harg2 harg3 harg4 harg5 harg6 harg7 harg8 harg9 harg10 harg11 harg12 harg13 x1 x2 x3 x4 x5 x6 x7 x8 x9 P U hsix hsixU h0 hc0 hc1 (harg10.unread X10) (harg11.unread X11) (harg12.unread X12) (harg13.unread X13)
    iintro H
    iexists _, _, _, _
    isplitr
    · ipureintro
      exact ⟨ha, hb⟩
    · iexact H
  · have hc0 : ¬startWord i = 1#1 := fun h => h0 (hfirst.mp h)
    by_cases h1 : (i 0).val = 15
    · have hc1 := hlast.mpr h1
      have hr := (runC c i harg1 harg2 harg3 harg4 harg5 harg6 harg7 harg8 harg9 harg10 harg11 harg12 harg13 x1 x2 x3 x4 x5 x6 x7 x8 x9 hc0 hc1 (harg10.unread X10) (harg11.unread X11) (harg12.unread X12) (harg13.unread X13)).2 Set.univ
      refine hr.trans (wp_mono _ _ _ fun _ => ?_)
      refine (close_any c harg1 harg2 harg3 harg4 harg5 harg6 harg7 harg8 harg9 (arg10 := arg10) (arg11 := arg11) (arg12 := arg12) (arg13 := arg13) x1 x2 x3 x4 x5 x6 x7 x8 x9 _).trans ?_
      have ha := goodC c i harg1 harg2 harg3 harg4 harg5 harg6 harg7 harg8 harg9 harg10 harg11 harg12 harg13 x1 x2 x3 x4 x5 x6 x7 x8 x9 P U hsix hsixU h1 hc0 hc1 (harg10.unread X10) (harg11.unread X11) (harg12.unread X12) (harg13.unread X13) e10 es
      iintro ⟨%Y11, %Y12, %Y13, H⟩
      iexists _, _, _, _
      isplitr; swap
      · iexact H
      · ipureintro
        exact ⟨ha, fun _ h => absurd h (by omega)⟩
    · have hc1 : ¬k0_cond2 i = 1#1 := fun h => h1 (hlast.mp h)
      have hr := (runB c i harg1 harg2 harg3 harg4 harg5 harg6 harg7 harg8 harg9 harg10 harg11 harg12 harg13 x1 x2 x3 x4 x5 x6 x7 x8 x9 hc0 hc1 (harg10.unread X10) (harg11.unread X11) (harg12.unread X12) (harg13.unread X13)).2.2.2.2 Set.univ
      refine hr.trans (wp_mono _ _ _ fun _ => ?_)
      refine (close_handed c harg1 harg2 harg3 harg4 harg5 harg6 harg7 harg8 harg9 (arg10 := arg10) (arg11 := arg11) (arg12 := arg12) (arg13 := arg13) x1 x2 x3 x4 x5 x6 x7 x8 x9 _ _ _ _).trans ?_
      have ha := goodB c i harg1 harg2 harg3 harg4 harg5 harg6 harg7 harg8 harg9 harg10 harg11 harg12 harg13 x1 x2 x3 x4 x5 x6 x7 x8 x9 P U hsix hsixU (by omega) hc0 hc1 (harg10.unread X10) (harg11.unread X11) (harg12.unread X12) (harg13.unread X13) e10
      have hb := sumsB c i harg1 harg2 harg3 harg4 harg5 harg6 harg7 harg8 harg9 harg10 harg11 harg12 harg13 x1 x2 x3 x4 x5 x6 x7 x8 x9 P U hsix hsixU (by omega) hc0 hc1 (harg10.unread X10) (harg11.unread X11) (harg12.unread X12) (harg13.unread X13) es
      iintro H
      iexists _, _, _, _
      isplitr
      · ipureintro
        exact ⟨ha, hb⟩
      · iexact H

end Cert.Joined

end
-- ==== Proof.JoinedRun.lean ====
/- The run of the joined convolution's call: what its output array ends with. -/
module

public import proofs.«01_k».proof.Proof.JoinedStep
public import Idealize.ShloMosaic.Lib.Claim
public import Idealize.ShloMosaic.Lib.Pipeline.ArrRel
public import Idealize.ShloMosaic.Lib.Pipeline.ValueKit
public import Idealize.ShloMosaic.Lib.WordCmp

@[expose] public section

set_option maxRecDepth 16384

noncomputable section

namespace Cert.Joined

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)
open Cert.KernelIdeal Cert.KernelIdeal.Gen Cert.Fat

local notation "𝕄" => MT nD τ sig Unit (Elt Ideal) ℕ (UR sig nD τ) ℕ

variable (m : (ℓ : Loc nD τ sig) → Buf (Elt Ideal) ℓ) (ρ : Dev nD → PrngReg)

/-! ## The arrays the call reads, and its blocks of them -/

/-- The first volume's planes. -/
abbrev planesIn (c : Dev nD) : Vec Ideal S66x16x8960 .f32 := V m c main_v4
/-- The second volume's planes. -/
abbrev upIn (c : Dev nD) : Vec Ideal S66x32x8960 .bf16 := V m c main_v9
/-- The mask's planes. -/
abbrev maskIn (c : Dev nD) : Vec Ideal S66x1x8960 .f32 := V m c main_v13
/-- The first volume's weights. -/
abbrev weightsA (c : Dev nD) : Vec Ideal S9x16x48 .f32 := V m c main_v19
/-- The second volume's weights. -/
abbrev weightsB (c : Dev nD) : Vec Ideal S9x16x96 .f32 := V m c main_v23

theorem idx0 : ∀ t : Fin cfg0.N, win0_0.index t = ![t.val, 0, 0] := by decide +kernel
theorem idx1 : ∀ t : Fin cfg0.N, win0_1.index t = ![4 * t.val + 4, 0, 0] := by decide +kernel
theorem idx2 : ∀ t : Fin cfg0.N, win0_2.index t = ![4 * t.val + 5, 0, 0] := by decide +kernel
theorem idx3 : ∀ t : Fin cfg0.N, win0_3.index t = ![t.val, 0, 0] := by decide +kernel
theorem idx4 : ∀ t : Fin cfg0.N, win0_4.index t = ![4 * t.val + 4, 0, 0] := by decide +kernel
theorem idx5 : ∀ t : Fin cfg0.N, win0_5.index t = ![4 * t.val + 5, 0, 0] := by decide +kernel
theorem idx6 : ∀ t : Fin cfg0.N, win0_6.index t = ![0, 0, 0] := by decide +kernel
theorem idx7 : ∀ t : Fin cfg0.N, win0_7.index t = ![0, 0, 0] := by decide +kernel
theorem idx8 : ∀ t : Fin cfg0.N, win0_8.index t = ![0, 0, 0] := by decide +kernel

theorem mask_block (c : Dev nD) (t : Fin cfg0.N) : (iblk m c 6 t : Vec Ideal S66x1x8960 .f32) = maskIn m c := by
  funext j
  blk_ext [iblk, maskIn, idx6 t]

theorem weightA_block (c : Dev nD) (t : Fin cfg0.N) : (iblk m c 7 t : Vec Ideal S9x16x48 .f32) = weightsA m c := by
  funext j
  blk_ext [iblk, weightsA, idx7 t]

theorem weightB_block (c : Dev nD) (t : Fin cfg0.N) : (iblk m c 8 t : Vec Ideal S9x16x96 .f32) = weightsB m c := by
  funext j
  blk_ext [iblk, weightsB, idx8 t]

/-- The six planes a point reads are planes `4 t` to `4 t + 5` of the array. -/
theorem six_block (c : Dev nD) (t : Fin cfg0.N) (k r l : ℕ) (hk : k < 6) (hr : r < 16) (hl : l < 8960) :
    six (X0_0 m c t) (iblk m c 1 t) (iblk m c 2 t) k r l = at3 (planesIn m c) (4 * t.val + k) r l := by
  have ht : t.val < 16 := Nat.lt_of_lt_of_eq t.isLt N_0
  unfold six
  split
  · next h =>
    rw [at3_lt _ h hr hl, at3_lt _ (by omega : 4 * t.val + k < 66) hr hl]
    unfold X0_0 Pipeline.Window.fill
    rw [dif_pos (moved0_0 t _)]
    blk_ext [iblk, planesIn, idx0 t]
  · split
    · next h h' =>
      rw [at3_lt _ Nat.one_pos hr hl, at3_lt _ (by omega : 4 * t.val + k < 66) hr hl]
      blk_ext [iblk, planesIn, idx1 t]
    · next h h' =>
      rw [at3_lt _ Nat.one_pos hr hl, at3_lt _ (by omega : 4 * t.val + k < 66) hr hl]
      blk_ext [iblk, planesIn, idx2 t]

/-- The six planes a point reads are planes `4 t` to `4 t + 5` of the array. -/
theorem sixU_block (c : Dev nD) (t : Fin cfg0.N) (k r l : ℕ) (hk : k < 6) (hr : r < 32) (hl : l < 8960) :
    six (X0_3 m c t) (iblk m c 4 t) (iblk m c 5 t) k r l = at3 (upIn m c) (4 * t.val + k) r l := by
  have ht : t.val < 16 := Nat.lt_of_lt_of_eq t.isLt N_0
  unfold six
  split
  · next h =>
    rw [at3_lt _ h hr hl, at3_lt _ (by omega : 4 * t.val + k < 66) hr hl]
    unfold X0_3 Pipeline.Window.fill
    rw [dif_pos (moved0_3 t _)]
    blk_ext [iblk, upIn, idx3 t]
  · split
    · next h h' =>
      rw [at3_lt _ Nat.one_pos hr hl, at3_lt _ (by omega : 4 * t.val + k < 66) hr hl]
      blk_ext [iblk, upIn, idx4 t]
    · next h h' =>
      rw [at3_lt _ Nat.one_pos hr hl, at3_lt _ (by omega : 4 * t.val + k < 66) hr hl]
      blk_ext [iblk, upIn, idx5 t]

/-! ## The pipeline's data -/

theorem firstPoint : ∀ t : Fin cfg0.N, startWord (grid0.coords t) = 1#1 ↔ t.val = 0 := fun t => by
  have ht : t.val < 16 := Nat.lt_of_lt_of_eq t.isLt N_0
  have e0 : (grid0.coords t 0).val = t.val / 1 % 16 := Pipeline.Grid.coords_val t 0 (by decide) rfl
  have e : startWord (grid0.coords t) = 1#1 ↔ t.val % 16 = 0 := by
    simp only [startWord, e0]
    word_cmp
  rw [e]; omega

theorem lastPoint : ∀ t : Fin cfg0.N, k0_cond2 (grid0.coords t) = 1#1 ↔ t.val = 15 := fun t => by
  have ht : t.val < 16 := Nat.lt_of_lt_of_eq t.isLt N_0
  have e0 : (grid0.coords t 0).val = t.val / 1 % 16 := Pipeline.Grid.coords_val t 0 (by decide) rfl
  have e : k0_cond2 (grid0.coords t) = 1#1 ↔ t.val % 16 = 15 := by
    simp only [k0_cond2, e0]
    word_cmp
  rw [e]; omega

theorem point_val (t : Fin cfg0.N) : (grid0.coords t 0).val = t.val := by
  have ht : t.val < 16 := Nat.lt_of_lt_of_eq t.isLt N_0
  have e0 : (grid0.coords t 0).val = t.val / 1 % 16 := Pipeline.Grid.coords_val t 0 (by decide) rfl
  rw [e0]; omega

/-- Before point `j` the three sums are what the planes so far add up to. -/
def sumsAt (c : Dev nD) (j : ℕ) : sProp 𝕄 :=
  iprop((∃ X11 : Vec Ideal S16x1 .f32, ∃ X12 : Vec Ideal S16x1 .f32, ∃ X13 : Vec Ideal S1 .f32,
      ⌜Sums (planesIn m c) (upIn m c) (maskIn m c) (weightsA m c) (weightsB m c) j X11 X12 X13⌝
      ∗ owns (c : Thread nD τ) (Memref.whole cc0_scratch0) fullShare X11 ∗ owns (c : Thread nD τ) (Memref.whole cc0_scratch1) fullShare X12
      ∗ owns (c : Thread nD τ) (Memref.whole cc0_scratch2) fullShare X13) ∗ (∃ r, prngReg c r))

/-- The inputs stay at their blocks; of the output nothing is said here. -/
def blocks (c : Dev nD) : Dat τ (Elt Ideal) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => X0_3 m c t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Dat.unnamed (cfg := cfg0) ⟨9, h⟩ t
  Φ t := sumsAt m c t.val
  q w := Pipeline.shareOf spec0 w
  owed _ := 0

/-- The output holds, after each point, what the planes so far say. -/
def rels (c : Dev nD) : (w : Fin cfg0.W) → Option (Fin cfg0.N → (Y X : (cfg0.win w).block.Idx → Elt Ideal (cfg0.win w).elt) → Prop)
  | ⟨9, _⟩ => some fun t _ X => Good (planesIn m c) (upIn m c) (maskIn m c) (weightsA m c) (weightsB m c) (t.val + 1) X
  | _ => none

/-- The data of the run. -/
def rdat (c : Dev nD) : RDat τ (Elt Ideal) Unit ℕ (UR sig nD τ) ℕ cfg0 c := (blocks m c).toR.override (rels m c)

theorem A_eq (c : Dev nD) (w : Fin cfg0.W) : (blocks m c).A w = V m c (Pipeline.arrRef spec0 w) := by
  dsimp only [blocks]

theorem found0 (c : Dev nD) (t : Fin cfg0.N) (Y) (h : (rdat m c).Finds 0 t Y) : Y = X0_0 m c t := by
  obtain ⟨d, hd⟩ := (blocks m c).toR_finds 0 t Y (((blocks m c).toR.override_finds (ovr := rels m c) rfl t Y).mp h)
  exact hd.trans (before0_0_of m (blocks m c) (A_eq m c 0) (fun t => by dsimp only [blocks]) t d)

theorem found1 (c : Dev nD) (t : Fin cfg0.N) (Y) (h : (rdat m c).Finds 1 t Y) : Y = iblk m c 1 t := by
  obtain ⟨d, hd⟩ := (blocks m c).toR_finds 1 t Y (((blocks m c).toR.override_finds (ovr := rels m c) rfl t Y).mp h)
  exact hd.trans (before0_1_of m (blocks m c) (A_eq m c 1) (fun t => by dsimp only [blocks]) t d)

theorem found2 (c : Dev nD) (t : Fin cfg0.N) (Y) (h : (rdat m c).Finds 2 t Y) : Y = iblk m c 2 t := by
  obtain ⟨d, hd⟩ := (blocks m c).toR_finds 2 t Y (((blocks m c).toR.override_finds (ovr := rels m c) rfl t Y).mp h)
  exact hd.trans (before0_2_of m (blocks m c) (A_eq m c 2) (fun t => by dsimp only [blocks]) t d)

theorem found3 (c : Dev nD) (t : Fin cfg0.N) (Y) (h : (rdat m c).Finds 3 t Y) : Y = X0_3 m c t := by
  obtain ⟨d, hd⟩ := (blocks m c).toR_finds 3 t Y (((blocks m c).toR.override_finds (ovr := rels m c) rfl t Y).mp h)
  exact hd.trans (before0_3_of m (blocks m c) (A_eq m c 3) (fun t => by dsimp only [blocks]) t d)

theorem found4 (c : Dev nD) (t : Fin cfg0.N) (Y) (h : (rdat m c).Finds 4 t Y) : Y = iblk m c 4 t := by
  obtain ⟨d, hd⟩ := (blocks m c).toR_finds 4 t Y (((blocks m c).toR.override_finds (ovr := rels m c) rfl t Y).mp h)
  exact hd.trans (before0_4_of m (blocks m c) (A_eq m c 4) (fun t => by dsimp only [blocks]) t d)

theorem found5 (c : Dev nD) (t : Fin cfg0.N) (Y) (h : (rdat m c).Finds 5 t Y) : Y = iblk m c 5 t := by
  obtain ⟨d, hd⟩ := (blocks m c).toR_finds 5 t Y (((blocks m c).toR.override_finds (ovr := rels m c) rfl t Y).mp h)
  exact hd.trans (before0_5_of m (blocks m c) (A_eq m c 5) (fun t => by dsimp only [blocks]) t d)

theorem found6 (c : Dev nD) (t : Fin cfg0.N) (Y) (h : (rdat m c).Finds 6 t Y) : Y = iblk m c 6 t := by
  obtain ⟨d, hd⟩ := (blocks m c).toR_finds 6 t Y (((blocks m c).toR.override_finds (ovr := rels m c) rfl t Y).mp h)
  exact hd.trans (before0_6_of m (blocks m c) (A_eq m c 6) (fun t => by dsimp only [blocks]) t d)

theorem found7 (c : Dev nD) (t : Fin cfg0.N) (Y) (h : (rdat m c).Finds 7 t Y) : Y = iblk m c 7 t := by
  obtain ⟨d, hd⟩ := (blocks m c).toR_finds 7 t Y (((blocks m c).toR.override_finds (ovr := rels m c) rfl t Y).mp h)
  exact hd.trans (before0_7_of m (blocks m c) (A_eq m c 7) (fun t => by dsimp only [blocks]) t d)

theorem found8 (c : Dev nD) (t : Fin cfg0.N) (Y) (h : (rdat m c).Finds 8 t Y) : Y = iblk m c 8 t := by
  obtain ⟨d, hd⟩ := (blocks m c).toR_finds 8 t Y (((blocks m c).toR.override_finds (ovr := rels m c) rfl t Y).mp h)
  exact hd.trans (before0_8_of m (blocks m c) (A_eq m c 8) (fun t => by dsimp only [blocks]) t d)

/-- What a point finds in the output is what the points before it left. -/
theorem found9 (c : Dev nD) (t : Fin cfg0.N) (Y) (h : (rdat m c).Finds 9 t Y) : Good (planesIn m c) (upIn m c) (maskIn m c) (weightsA m c) (weightsB m c) t.val Y := by
  have ht : t.val < 16 := Nat.lt_of_lt_of_eq t.isLt N_0
  by_cases h0 : t.val = 0
  · intro h1; omega
  rcases ((rdat m c).finds_of_pos (by rfl) h0 Y).mp h with hf | ⟨Z, -, hZ⟩
  · have := (flush0_9 _).mp hf
    dsimp only at this
    omega
  · have e : (⟨t.val - 1, Nat.lt_of_le_of_lt (Nat.sub_le _ _) t.isLt⟩ : Fin cfg0.N).val + 1 = t.val := Nat.sub_add_cancel (Nat.pos_of_ne_zero h0)
    rw [← e]
    exact hZ

/-- A block left in place is what the data ask of an input. -/
theorem kept0 (c : Dev nD) (t : Fin cfg0.N) (Y) : (rdat m c).after 0 t Y (X0_0 m c t) := by
  show (blocks m c).Leaves 0 t (X0_0 m c t)
  exact ⟨X0_0 m c t, ((cfg0.win 0).fill_cut _ _).symm⟩
theorem kept1 (c : Dev nD) (t : Fin cfg0.N) (Y) : (rdat m c).after 1 t Y (iblk m c 1 t) := by
  show (blocks m c).Leaves 1 t (iblk m c 1 t)
  rfl
theorem kept2 (c : Dev nD) (t : Fin cfg0.N) (Y) : (rdat m c).after 2 t Y (iblk m c 2 t) := by
  show (blocks m c).Leaves 2 t (iblk m c 2 t)
  rfl
theorem kept3 (c : Dev nD) (t : Fin cfg0.N) (Y) : (rdat m c).after 3 t Y (X0_3 m c t) := by
  show (blocks m c).Leaves 3 t (X0_3 m c t)
  exact ⟨X0_3 m c t, ((cfg0.win 3).fill_cut _ _).symm⟩
theorem kept4 (c : Dev nD) (t : Fin cfg0.N) (Y) : (rdat m c).after 4 t Y (iblk m c 4 t) := by
  show (blocks m c).Leaves 4 t (iblk m c 4 t)
  rfl
theorem kept5 (c : Dev nD) (t : Fin cfg0.N) (Y) : (rdat m c).after 5 t Y (iblk m c 5 t) := by
  show (blocks m c).Leaves 5 t (iblk m c 5 t)
  rfl
theorem kept6 (c : Dev nD) (t : Fin cfg0.N) (Y) : (rdat m c).after 6 t Y (iblk m c 6 t) := by
  show (blocks m c).Leaves 6 t (iblk m c 6 t)
  rfl
theorem kept7 (c : Dev nD) (t : Fin cfg0.N) (Y) : (rdat m c).after 7 t Y (iblk m c 7 t) := by
  show (blocks m c).Leaves 7 t (iblk m c 7 t)
  rfl
theorem kept8 (c : Dev nD) (t : Fin cfg0.N) (Y) : (rdat m c).after 8 t Y (iblk m c 8 t) := by
  show (blocks m c).Leaves 8 t (iblk m c 8 t)
  rfl

/-- The scratch at anything. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- Before the first point anything will do, -/
theorem sums_enter (c : Dev nD) : (Pipeline.ΦA spec0 c : sProp 𝕄) ⊢ sumsAt m c 0 := by
  rw [scratch_eq]
  unfold sumsAt
  iintro ⟨⟨⟨%d0, H0⟩, ⟨%d1, H1⟩, ⟨%d2, H2⟩⟩, Hg⟩
  isplitl [H0 H1 H2]
  · iexists d0, d1, d2
    isplitr
    · ipureintro
      exact fun h => absurd h (by omega)
    isplitl [H0]; · iexact H0
    isplitl [H1]; · iexact H1
    iexact H2
  iexact Hg

/-- and the sums are scratch. -/
theorem sums_leave (c : Dev nD) (j : ℕ) : sumsAt m c j ⊢ (Pipeline.ΦA spec0 c : sProp 𝕄) := by
  rw [scratch_eq]
  unfold sumsAt
  iintro ⟨⟨%d0, %d1, %d2, -, H0, H1, H2⟩, Hg⟩
  isplitl [H0 H1 H2]
  · isplitl [H0]; · iexists _; iexact H0
    isplitl [H1]; · iexists _; iexact H1
    iexists _; iexact H2
  iexact Hg

/-- The body at a point, from the buffers it finds to the buffers it leaves. -/
theorem body_step (c : Dev nD) (t : Fin cfg0.N) (Y : (w : Fin cfg0.W) → (cfg0.win w).block.Idx → Elt Ideal (cfg0.win w).elt)
    (y0 : Vec Ideal S4x16x8960 .f32) (y1 : Vec Ideal S1x16x8960 .f32) (y2 : Vec Ideal S1x16x8960 .f32) (y3 : Vec Ideal S4x32x8960 .bf16) (y4 : Vec Ideal S1x32x8960 .bf16) (y5 : Vec Ideal S1x32x8960 .bf16) (y6 : Vec Ideal S66x1x8960 .f32) (y7 : Vec Ideal S9x16x48 .f32) (y8 : Vec Ideal S9x16x96 .f32) (y9 : Vec Ideal S66x16x8960 .bf16)
    (h0 : y0 = X0_0 m c t) (h1 : y1 = iblk m c 1 t) (h2 : y2 = iblk m c 2 t) (h3 : y3 = X0_3 m c t) (h4 : y4 = iblk m c 4 t) (h5 : y5 = iblk m c 5 t) (h6 : y6 = iblk m c 6 t) (h7 : y7 = iblk m c 7 t) (h8 : y8 = iblk m c 8 t)
    (h9 : Good (planesIn m c) (upIn m c) (maskIn m c) (weightsA m c) (weightsB m c) t.val y9) :
    iprop(sumsAt m c t.val ∗ (rdat m c).owesAt () t.castSucc
        ∗ owns (c : Thread nD τ) (win0_0.stage (cfg0.slots t 0)) fullShare y0
        ∗ owns (c : Thread nD τ) (win0_1.stage (cfg0.slots t 1)) fullShare y1
        ∗ owns (c : Thread nD τ) (win0_2.stage (cfg0.slots t 2)) fullShare y2
        ∗ owns (c : Thread nD τ) (win0_3.stage (cfg0.slots t 3)) fullShare y3
        ∗ owns (c : Thread nD τ) (win0_4.stage (cfg0.slots t 4)) fullShare y4
        ∗ owns (c : Thread nD τ) (win0_5.stage (cfg0.slots t 5)) fullShare y5
        ∗ owns (c : Thread nD τ) (win0_6.stage (cfg0.slots t 6)) fullShare y6
        ∗ owns (c : Thread nD τ) (win0_7.stage (cfg0.slots t 7)) fullShare y7
        ∗ owns (c : Thread nD τ) (win0_8.stage (cfg0.slots t 8)) fullShare y8
        ∗ owns (c : Thread nD τ) (win0_9.stage (cfg0.slots t 9)) fullShare y9)
      ⊢ wp frame (wpE (defs₀ (F := Ideal)) Variants.none (c : Thread nD τ) none) Set.univ (bodyAt0 t) (fun _ =>
        iprop(sumsAt m c (t.val + 1) ∗ (rdat m c).owesAt () t.castSucc
        ∗ (∃ X, ⌜(rdat m c).after 0 t (Y 0) X⌝ ∗ owns (c : Thread nD τ) (win0_0.stage (cfg0.slots t 0)) fullShare X)
        ∗ (∃ X, ⌜(rdat m c).after 1 t (Y 1) X⌝ ∗ owns (c : Thread nD τ) (win0_1.stage (cfg0.slots t 1)) fullShare X)
        ∗ (∃ X, ⌜(rdat m c).after 2 t (Y 2) X⌝ ∗ owns (c : Thread nD τ) (win0_2.stage (cfg0.slots t 2)) fullShare X)
        ∗ (∃ X, ⌜(rdat m c).after 3 t (Y 3) X⌝ ∗ owns (c : Thread nD τ) (win0_3.stage (cfg0.slots t 3)) fullShare X)
        ∗ (∃ X, ⌜(rdat m c).after 4 t (Y 4) X⌝ ∗ owns (c : Thread nD τ) (win0_4.stage (cfg0.slots t 4)) fullShare X)
        ∗ (∃ X, ⌜(rdat m c).after 5 t (Y 5) X⌝ ∗ owns (c : Thread nD τ) (win0_5.stage (cfg0.slots t 5)) fullShare X)
        ∗ (∃ X, ⌜(rdat m c).after 6 t (Y 6) X⌝ ∗ owns (c : Thread nD τ) (win0_6.stage (cfg0.slots t 6)) fullShare X)
        ∗ (∃ X, ⌜(rdat m c).after 7 t (Y 7) X⌝ ∗ owns (c : Thread nD τ) (win0_7.stage (cfg0.slots t 7)) fullShare X)
        ∗ (∃ X, ⌜(rdat m c).after 8 t (Y 8) X⌝ ∗ owns (c : Thread nD τ) (win0_8.stage (cfg0.slots t 8)) fullShare X)
        ∗ (∃ X, ⌜(rdat m c).after 9 t (Y 9) X⌝ ∗ owns (c : Thread nD τ) (win0_9.stage (cfg0.slots t 9)) fullShare X))) := by
  subst h0 h1 h2 h3 h4 h5 h6 h7 h8
  have e6 := mask_block m c t
  have e7 := weightA_block m c t
  have e8 := weightB_block m c t
  have hp := point_val t
  have hsix := six_block m c t
  have hsixU := sixU_block m c t
  rw [← hp] at hsix hsixU h9
  unfold sumsAt
  iintro ⟨⟨⟨%X11, %X12, %X13, %hs, HS0, HS1, HS2⟩, Hg⟩, Ho, H0, H1, H2, H3, H4, H5, H6, H7, H8, H9⟩
  rw [← hp] at hs
  have hstep := step c (grid0.coords t) (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (hstage0_8 ((cfg0.slots t 8).cast nbuf0_8)) (hstage0_9 ((cfg0.slots t 9).cast nbuf0_9))
    (Memref.isWhole_whole cc0_scratch0) (Memref.isWhole_whole cc0_scratch1) (Memref.isWhole_whole cc0_scratch2)
    (X0_0 m c t) (iblk m c 1 t) (iblk m c 2 t) (X0_3 m c t) (iblk m c 4 t) (iblk m c 5 t) (iblk m c 6 t) (iblk m c 7 t) (iblk m c 8 t)
    (planesIn m c) (upIn m c) hsix hsixU (by rw [hp]; exact firstPoint t) (by rw [hp]; exact lastPoint t) y9 X11 X12 X13
    (by rw [e6, e7, e8]; exact h9) (by rw [e6, e7, e8]; exact hs)
  iapply (wp_wand_r _ _ _)
  isplitl [HS0 HS1 HS2 H0 H1 H2 H3 H4 H5 H6 H7 H8 H9]
  · iapply hstep
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    iexact HS2
  iintro %u ⟨%Z10, %Z11, %Z12, %Z13, %hX, H0, H1, H2, H3, H4, H5, H6, H7, H8, H9, HS0, HS1, HS2⟩
  rw [hp, e6, e7, e8] at hX
  isplitl [HS0 HS1 HS2 Hg]
  · isplitl [HS0 HS1 HS2]
    · iexists Z11, Z12, Z13
      isplitr
      · ipureintro; exact hX.2
      isplitl [HS0]; · iexact HS0
      isplitl [HS1]; · iexact HS1
      iexact HS2
    iexact Hg
  isplitl [Ho]; · iexact Ho
  isplitl [H0]; · iexists _; isplitr; swap; · iexact H0
                  ipureintro; exact kept0 m c t _
  isplitl [H1]; · iexists _; isplitr; swap; · iexact H1
                  ipureintro; exact kept1 m c t _
  isplitl [H2]; · iexists _; isplitr; swap; · iexact H2
                  ipureintro; exact kept2 m c t _
  isplitl [H3]; · iexists _; isplitr; swap; · iexact H3
                  ipureintro; exact kept3 m c t _
  isplitl [H4]; · iexists _; isplitr; swap; · iexact H4
                  ipureintro; exact kept4 m c t _
  isplitl [H5]; · iexists _; isplitr; swap; · iexact H5
                  ipureintro; exact kept5 m c t _
  isplitl [H6]; · iexists _; isplitr; swap; · iexact H6
                  ipureintro; exact kept6 m c t _
  isplitl [H7]; · iexists _; isplitr; swap; · iexact H7
                  ipureintro; exact kept7 m c t _
  isplitl [H8]; · iexists _; isplitr; swap; · iexact H8
                  ipureintro; exact kept8 m c t _
  iexists _; isplitr; swap; · iexact H9
  ipureintro; exact hX.1

/-- The body table's row at a point's slots. -/
theorem row (t : Fin cfg0.N) : defs₀ (F := Ideal) .tc cfg0.body (cfg0.bodyArgs t (cfg0.slots t)) = bodyAt0 t := by
  unfold defs₀; rw [Defs.onTc_tc]

/-- The body's obligation at every point. -/
theorem body_ok (c : Dev nD) : (rdat m c).BodyObligation (defs₀ (F := Ideal)) Variants.none () Set.univ := fun t Y hY => by
  rw [bigSep_W0, bigSep_W0, row]
  exact triple_restated (body_step m c t Y _ _ _ _ _ _ _ _ _ _ (found0 m c t _ (hY 0)) (found1 m c t _ (hY 1)) (found2 m c t _ (hY 2)) (found3 m c t _ (hY 3)) (found4 m c t _ (hY 4)) (found5 m c t _ (hY 5)) (found6 m c t _ (hY 6)) (found7 m c t _ (hY 7)) (found8 m c t _ (hY 8)) (found9 m c t _ (hY 9))) rfl .rfl fun _ => .rfl

/-! ## The run -/

set_option backward.isDefEq.respectTransparency.types false in
/-- The launch: every execution ends, with the arrays as the data say and every counter at zero. -/
theorem run : θ_run defs (onTc (τ := τ) (main (F := Ideal))) (s₀ m ρ)
    (fun r => Pipeline.RDat.FramePost (cfgs 0) (rdat m) (V m) r ∧ r.2.sem = fun _ => 0) :=
  Pipeline.RDat.θ_run_frame_track_shared (Q' := _) cfgs (0 : Fin 1) launch₀0 defs₀ Variants.none (rdat m) m ρ main
    (hbody := body_ok m) (hq := fun _ _ _ => rfl) (howed := fun _ _ => rfl) (V := V m) (hmain := hmain m Variants.none)
    (hA := A_eq m) (hin := fun c => sums_enter m c) (hout := fun c => sums_leave m c _)

end Cert.Joined

end
-- ==== Proof.JoinedArrays.lean ====
/- What the output array of the joined convolution's call ends with, and that its arguments stay. -/
module

public import proofs.«01_k».proof.Proof.JoinedRun

@[expose] public section

set_option maxRecDepth 16384

noncomputable section

namespace Cert.Joined

open Idealize.ShloMosaic Idealize.ShloMosaic.TcCoe Idealize.ShloMosaic.Tactic
open Idealize.SL Idealize.SL.Sem
open Idealize.ShloMosaic.Pipeline (Dat RDat Cfg Window)
open Cert.KernelIdeal Cert.KernelIdeal.Gen Cert.Fat

variable (m : (ℓ : Loc nD τ sig) → Buf (Elt Ideal) ℓ) (ρ : Dev nD → PrngReg)

/-- The output: `final` at every index. -/
def outArray (c : Dev nD) : Vec Ideal S66x16x8960 .bf16 := fun j =>
  final (planesIn m c) (upIn m c) (maskIn m c) (weightsA m c) (weightsB m c) (j 0).val (j 1).val (j 2).val

/-- Contents good after all sixteen points are `outArray`. -/
theorem good_all (c : Dev nD) (X : Vec Ideal S66x16x8960 .bf16) (h : Good (planesIn m c) (upIn m c) (maskIn m c) (weightsA m c) (weightsB m c) 16 X) :
    X = outArray m c := by
  funext j
  have h0 : (j 0).val < 66 := (j 0).isLt
  have h1 : (j 1).val < 16 := (j 1).isLt
  have h2 : (j 2).val < 8960 := (j 2).isLt
  have e := h (by omega) (j 0).val (j 1).val (j 2).val (by omega) h0 h1 h2
  rw [at3_lt _ h0 h1 h2, if_pos rfl] at e
  refine Eq.trans (congrArg X (funext fun a => ?_)) e
  match a with
  | ⟨0, _⟩ => rfl
  | ⟨1, _⟩ => rfl
  | ⟨2, _⟩ => rfl

/-- **The array at the end of the run.** -/
theorem array_end (c : Dev nD) (r : PUnit × MemSt nD τ sig (Elt Ideal)) (h : Pipeline.RDat.FramePost (cfgs 0) (rdat m) (V m) r) :
    r.2.mem ((c.tc : Thread nD τ).loc main_v24) = outArray m c := by
  obtain ⟨after, hL, hA⟩ := h.exists_exact c
  have h9 : after 9 t0_15 = outArray m c := by
    obtain ⟨Y, -, hX⟩ := hL 9 t0_15 (by decide +kernel)
    exact good_all m c _ hX
  refine (hA 9).trans ?_
  refine Dat.arrAt_eq_of_after_last _ 9 t0_15 (by decide +kernel) _ fun j => ?_
  rw [RDat.withAfter_after, h9]
  blk_simp
  rfl

/-- The arguments at the end of the run. -/
theorem args_end (c : Dev nD) (r : PUnit × MemSt nD τ sig (Elt Ideal)) (h : Pipeline.RDat.FramePost (cfgs 0) (rdat m) (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

/-- Every execution leaves the arguments as they were and every counter at zero. -/
theorem frame_run : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => args_end m c r h.1, h.2⟩) (run m ρ)

/-- **What the call computes**: its result, with the arguments as they were. -/
theorem value_run : θ_run defs (onTc (τ := τ) (main (F := Ideal))) ⟨m, fun _ => 0, ρ⟩ (fun r => ∀ c : Dev nD,
      r.2.mem ((c.tc : Thread nD τ).loc main_v24) = outArray m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨array_end m c r h.1, args_end m c r h.1⟩) (run m ρ)

end Cert.Joined

end
-- ==== Proof.Moments.lean ====
/-
  Normalising by the mean and the variance, over the extended reals.

  The mean of the squares less the square of the mean is the mean of the squared distances from the mean, where the counted values are
  real and those not counted are zero. So dividing a value by the square root of the one is multiplying it by the inverse square root of
  the other.
-/
module

public import proofs.«01_k».proof.Proof.Stencil
public import Idealize.ShloMosaic.PureOps.Ideal.Laws

@[expose] public section

noncomputable section

namespace Cert.Fat

open Idealize.ShloMosaic
open scoped BigOperators

/-! ## Extended reals that are real -/

/-- Neither infinity. -/
def IsReal (x : EReal) : Prop := ∃ r : ℝ, x = (r : EReal)

theorem isReal_zero : IsReal 0 := ⟨0, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.sum {ι : Type*} (s : Finset ι) {f : ι → EReal} (h : ∀ i ∈ s, IsReal (f i)) : IsReal (∑ i ∈ s, f i) := by
  classical
  induction s using Finset.induction_on with
  | empty => exact isReal_zero
  | insert i s hi ih =>
    rw [Finset.sum_insert hi]
    exact (h i (Finset.mem_insert_self i s)).add (ih fun k hk => h k (Finset.mem_insert_of_mem hk))

/-- A sum of reals is the sum of the reals. -/
theorem coe_sum_real {ι : Type*} (s : Finset ι) (f : ι → ℝ) : ∑ i ∈ s, (f i : EReal) = ((∑ i ∈ s, f i : ℝ) : EReal) := by
  classical
  induction s using Finset.induction_on with
  | empty => rfl
  | insert i s hi ih => rw [Finset.sum_insert hi, Finset.sum_insert hi, ih, EReal.coe_add]

/-- A number whose size is less than infinity is real. -/
theorem isReal_of_abs_lt {x : EReal} (h : max x (-x) < ⊤) : IsReal x := by
  induction x using EReal.rec with
  | bot => simp at h
  | coe r => exact ⟨r, rfl⟩
  | top => simp at h

/-! ## The two constants, and the operations at reals -/

theorem one_word : Ideal.ofBits .f32 0x3F800000#32 = ((1 : ℝ) : EReal) := by
  simp [Ideal.ofBits, Ideal.ieee]
  rw [← EReal.coe_mul]
  norm_num

theorem top_word : Ideal.ofBits .f32 0x7F800000#32 = ⊤ := by
  simp [Ideal.ofBits, Ideal.ieee]

theorem eps_word : ∃ e : ℝ, 0 < e ∧ Ideal.ofBits .f32 0x3727C5AC#32 = (e : EReal) := by
  have h1 : ((0x3727C5AC#32 : BitVec 32).extractLsb' (8 + 23) 1 == 1#1) = false := by decide
  have h2 : ((0x3727C5AC#32 : BitVec 32).extractLsb' 23 8).toNat = 110 := by decide
  have h3 : ((0x3727C5AC#32 : BitVec 32).extractLsb' 0 23).toNat = 2606508 := by decide
  refine ⟨1 * ((2 ^ 23 + 2606508 : ℕ) : ℝ) * (2 : ℝ) ^ (((110 : ℕ) : ℤ) - (2 ^ (8 - 1) - 1) - ((23 : ℕ) : ℤ)), by positivity, ?_⟩
  simp only [Ideal.ofBits]
  unfold Ideal.ieee
  rw [h1, h2, h3]
  rw [if_neg (by decide), if_neg (by decide)]
  rfl

theorem div_real {a b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

theorem sqrt_real {r : ℝ} (h : 0 < r) : Ideal.sqrt (r : EReal) = ((Real.sqrt r : ℝ) : EReal) := by
  show (if r < 0 then (⊥ : EReal) else (Real.sqrt r : EReal)) = _
  rw [if_neg (not_lt.2 h.le)]

theorem rsqrt_real {r : ℝ} (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.2 h.le), if_neg h.ne']

/-! ## The two variances -/

variable {ι : Type*} [Fintype ι]

/-- Counting ones among zeros and ones, the count is at least one or every one is zero. -/
theorem count_or {m : ι → ℝ} (hm : ∀ i, m i = 0 ∨ m i = 1) : 1 ≤ ∑ i, m i ∨ ∀ i, m i = 0 := by
  by_cases h : ∀ i, m i = 0
  · exact .inr h
  · obtain ⟨i, hi⟩ := not_forall.1 h
    left
    have h0 : ∀ k ∈ Finset.univ, 0 ≤ m k := fun k _ => by rcases hm k with e | e <;> rw [e]; exact zero_le_one
    have := Finset.single_le_sum h0 (Finset.mem_univ i)
    rcases hm i with e | e
    · exact absurd e hi
    · rwa [e] at this

/-- The mean of the squared distances from the mean is the mean of the squares less the square of the mean. -/
theorem variance_eq {v m : ι → ℝ} (hm : ∀ i, m i = 0 ∨ m i = 1) (hv : ∀ i, v i * m i = v i) {n : ℝ} (hn : n = max (∑ i, m i) 1) :
    (∑ i, (v i - (∑ k, v k) / n) * (v i - (∑ k, v k) / n) * m i) / n
      = (∑ i, v i * v i) / n - (∑ i, v i) / n * ((∑ i, v i) / n) := by
  have hn1 : 1 ≤ n := hn ▸ le_max_right _ _
  have hn0 : n ≠ 0 := by linarith
  set μ := (∑ k, v k) / n with hμ
  have e : ∀ i, (v i - μ) * (v i - μ) * m i = v i * v i - 2 * μ * v i + μ * μ * m i := fun i => by
    have h := hv i
    calc (v i - μ) * (v i - μ) * m i = v i * (v i * m i) - 2 * μ * (v i * m i) + μ * μ * m i := by ring
      _ = _ := by rw [h]
  have hs : ∑ k, v k = μ * n := by rw [hμ]; field_simp
  have hc : μ * μ * (∑ i, m i) = μ * μ * n := by
    rcases count_or hm with h | h
    · rw [hn, max_eq_left h]
    · have h0 : ∑ k, v k = 0 := Finset.sum_eq_zero fun k _ => by rw [← hv k, h k, mul_zero]
      have : μ = 0 := by rw [hμ, h0, zero_div]
      rw [this]; ring
  rw [Finset.sum_congr rfl fun i _ => e i, Finset.sum_add_distrib, Finset.sum_sub_distrib, ← Finset.mul_sum, ← Finset.mul_sum, hc, hs]
  field_simp
  ring

/-- **Normalising the two ways is the same.** -/
theorem normalise_eq {v m : ι → EReal} (hv : ∀ i, IsReal (v i)) (hm : ∀ i, m i = 0 ∨ m i = 1) (hvm : ∀ i, v i * m i = v i) (i : ι) :
    (v i - Ideal.div (∑ k, v k) (max (∑ k, m k) (Ideal.ofBits .f32 0x3F800000#32)))
        * Ideal.rsqrt (Ideal.div (∑ k, v k * v k) (max (∑ k, m k) (Ideal.ofBits .f32 0x3F800000#32))
          - Ideal.div (∑ k, v k) (max (∑ k, m k) (Ideal.ofBits .f32 0x3F800000#32)) * Ideal.div (∑ k, v k) (max (∑ k, m k) (Ideal.ofBits .f32 0x3F800000#32))
          + Ideal.ofBits .f32 0x3727C5AC#32) * m i
      = Ideal.div ((v i - Ideal.div (∑ k, v k) (max (∑ k, m k) (Ideal.ofBits .f32 0x3F800000#32))) * m i)
          (Ideal.sqrt (Ideal.div (∑ k, (v k - Ideal.div (∑ k, v k) (max (∑ k, m k) (Ideal.ofBits .f32 0x3F800000#32)))
            * (v k - Ideal.div (∑ k, v k) (max (∑ k, m k) (Ideal.ofBits .f32 0x3F800000#32))) * m k)
            (max (∑ k, m k) (Ideal.ofBits .f32 0x3F800000#32)) + Ideal.ofBits .f32 0x3727C5AC#32)) := by
  choose v' hv' using hv
  have hm' : ∀ i, ∃ r : ℝ, m i = (r : EReal) ∧ (r = 0 ∨ r = 1) := fun i => by
    rcases hm i with e | e
    · exact ⟨0, e, .inl rfl⟩
    · exact ⟨1, e, .inr rfl⟩
  choose m' hm'1 hm'2 using hm'
  obtain rfl : v = fun i => (v' i : EReal) := funext hv'
  obtain rfl : m = fun i => (m' i : EReal) := funext hm'1
  have hvm' : ∀ i, v' i * m' i = v' i := fun i => by
    have h : ((v' i : ℝ) : EReal) * (m' i : EReal) = (v' i : EReal) := hvm i
    rw [← EReal.coe_mul] at h
    exact EReal.coe_injective h
  obtain ⟨e, he, hw⟩ := eps_word
  have hN : max (∑ k, (m' k : EReal)) (Ideal.ofBits .f32 0x3F800000#32) = ((max (∑ k, m' k) 1 : ℝ) : EReal) := by
    rw [one_word, coe_sum_real]
    exact (Monotone.map_max (f := fun r : ℝ => (r : EReal)) fun a b h => EReal.coe_le_coe_iff.2 h).symm
  obtain ⟨n, hn⟩ : ∃ n : ℝ, n = max (∑ k, m' k) 1 := ⟨_, rfl⟩
  have hn1 : 1 ≤ n := hn ▸ le_max_right _ _
  have hn0 : n ≠ 0 := by linarith
  dsimp only at *
  rw [hN, hw, ← hn]
  have hV := variance_eq hm'2 hvm' hn
  have hpos : 0 ≤ (∑ i, (v' i - (∑ k, v' k) / n) * (v' i - (∑ k, v' k) / n) * m' i) / n :=
    div_nonneg (Finset.sum_nonneg fun k _ => mul_nonneg (mul_self_nonneg _) (by rcases hm'2 k with e | e <;> rw [e]; exact zero_le_one)) (by linarith)
  simp only [← EReal.coe_mul, coe_sum_real, div_real hn0, ← EReal.coe_sub, ← EReal.coe_add]
  rw [← hV, rsqrt_real (by linarith), sqrt_real (by linarith), ← EReal.coe_mul, ← EReal.coe_mul, div_real (Real.sqrt_ne_zero'.2 (by linarith))]
  congr 1
  rw [div_eq_mul_inv]
  ring

end Cert.Fat

end
-- ==== Proof.Channels.lean ====
/-
  Convolutions of two volumes one after the other along their channels, and sums over a volume's planes: a convolution over all the
  channels is the sum of two over some of them, and a sum over the lanes of the planes is the sum over the voxels.
-/
module

public import proofs.«01_k».proof.Proof.Convolution
public import proofs.«01_k».proof.Proof.Moments

@[expose] public section

set_option maxRecDepth 16384

noncomputable section

namespace Cert.Fat

open Idealize.ShloMosaic hiding ix1 ix2 ix3 ix4 ix5 eq_ix1 eq_ix2 eq_ix3 eq_ix4 eq_ix5
open Idealize.ShloMosaic.ValueIdx
open scoped BigOperators

variable {C CO CI CT : ℕ}

/-! ## Some of a stencil's input channels -/

/-- The stencil of `CI` input channels from channel `off` on. -/
def channels (off CI : ℕ) (w : (⟨5, ![CO, CT, 3, 3, 3]⟩ : Shape).Idx → EReal) : (⟨5, ![CO, CI, 3, 3, 3]⟩ : Shape).Idx → EReal :=
  fun j => weight w (j 0).val (off + (j 1).val) (j 2).val (j 3).val (j 4).val

theorem weight_channels (off : ℕ) (w : (⟨5, ![CO, CT, 3, 3, 3]⟩ : Shape).Idx → EReal) {o k a b c : ℕ} (ho : o < CO) (hk : k < CI) (ha : a < 3)
    (hb : b < 3) (hc : c < 3) : weight (channels off CI w) o k a b c = weight w o (off + k) a b c := by
  rw [weight_lt _ ho hk ha hb hc]
  rfl

/-- The weights of the nine products, from some of the input channels. -/
theorem slab_part_at (W : (⟨5, ![CO, CT, 3, 3, 3]⟩ : Shape).Idx → EReal) {K : ℕ} (off : ℕ) (hoff : off + CI ≤ CT) (hK : K = 3 * CI)
    (h₁ : (⟨5, ![CO, CT, 3, 3, 3]⟩ : Shape).Transposes [2, 3, 4, 0, 1] ⟨5, ![3, 3, 3, CO, CT]⟩)
    (h₂ : (⟨5, ![3, 3, 3, CO, CT]⟩ : Shape).ShapeCasts ⟨3, ![27, CO, CT]⟩)
    (hs : (⟨3, ![27, CO, CT]⟩ : Shape).Slices ![0, 0, off] ⟨3, ![27, CO, CI]⟩)
    (h₃ : (⟨3, ![27, CO, CI]⟩ : Shape).ShapeCasts ⟨5, ![3, 3, 3, CO, CI]⟩)
    (h₄ : (⟨5, ![3, 3, 3, CO, CI]⟩ : Shape).Transposes [1, 2, 3, 0, 4] ⟨5, ![3, 3, CO, 3, CI]⟩)
    (h₅ : (⟨5, ![3, 3, CO, 3, CI]⟩ : Shape).ShapeCasts ⟨3, ![9, CO, K]⟩) {q o k : ℕ} (hq : q < 9) (ho : o < CO) (hk : k < K) :
    at3 (shapeCast ⟨3, ![9, CO, K]⟩ (transpose ⟨5, ![3, 3, CO, 3, CI]⟩ [1, 2, 3, 0, 4] (shapeCast ⟨5, ![3, 3, 3, CO, CI]⟩
      (extractStridedSlice ⟨3, ![27, CO, CI]⟩ ![0, 0, off]
        (shapeCast ⟨3, ![27, CO, CT]⟩ (transpose ⟨5, ![3, 3, 3, CO, CT]⟩ [2, 3, 4, 0, 1] W h₁) h₂) hs) h₃) h₄) h₅) q o k
      = weight (channels off CI W) o (k % CI) (k / CI) (q / 3) (q % 3) := by
  subst hK
  have hCI : 0 < CI := by omega
  have ha : k / CI < 3 := Nat.div_lt_of_lt_mul (by rwa [Nat.mul_comm] at hk)
  have hm : k % CI < CI := Nat.mod_lt _ hCI
  rw [at3_lt _ hq ho hk, weight_channels off W ho hm ha (by omega : q / 3 < 3) (by omega : q % 3 < 3),
    weight_lt W ho (by omega : off + k % CI < CT) ha (by omega : q / 3 < 3) (by omega : q % 3 < 3)]
  rw [shapeCast_apply (k := ix5 (⟨q / 3, by omega⟩ : Fin 3) (⟨q % 3, by omega⟩ : Fin 3) (⟨o, ho⟩ : Fin CO) (⟨k / CI, ha⟩ : Fin 3) (⟨k % CI, hm⟩ : Fin CI)) _ _ _ (by
    rw [Shape.rowMajor_val_five, Shape.rowMajor_val_three]
    show (((q / 3 * 3 + q % 3) * CO + o) * 3 + k / CI) * CI + k % CI = (q * CO + o) * (3 * CI) + k
    rw [Nat.div_add_mod', Nat.add_mul, Nat.add_assoc, Nat.div_add_mod', Nat.mul_assoc])]
  refine (transpose_apply _ _ _ _ (ix5 (⟨k / CI, ha⟩ : Fin 3) (⟨q / 3, by omega⟩ : Fin 3) (⟨q % 3, by omega⟩ : Fin 3) (⟨o, ho⟩ : Fin CO) (⟨k % CI, hm⟩ : Fin CI)) (fun b => by
    match b with
    | ⟨0, _⟩ => rfl
    | ⟨1, _⟩ => rfl
    | ⟨2, _⟩ => rfl
    | ⟨3, _⟩ => rfl
    | ⟨4, _⟩ => rfl)).trans ?_
  rw [shapeCast_apply (k := ix3 (⟨(k / CI * 3 + q / 3) * 3 + q % 3, by omega⟩ : Fin 27) (⟨o, ho⟩ : Fin CO) (⟨k % CI, hm⟩ : Fin CI)) _ _ _ (by
    rw [Shape.rowMajor_val_five, Shape.rowMajor_val_three]; rfl)]
  refine (extractStridedSlice_apply _ _ _ _ (ix3 (⟨(k / CI * 3 + q / 3) * 3 + q % 3, by omega⟩ : Fin 27) (⟨o, ho⟩ : Fin CO) (⟨off + k % CI, by omega⟩ : Fin CT)) fun ax => by
    match ax with
    | ⟨0, _⟩ => exact (Nat.zero_add _).symm
    | ⟨1, _⟩ => exact (Nat.zero_add _).symm
    | ⟨2, _⟩ => rfl).trans ?_
  rw [shapeCast_apply (k := ix5 (⟨k / CI, ha⟩ : Fin 3) (⟨q / 3, by omega⟩ : Fin 3) (⟨q % 3, by omega⟩ : Fin 3) (⟨o, ho⟩ : Fin CO) (⟨off + k % CI, by omega⟩ : Fin CT)) _ _ _ (by
    rw [Shape.rowMajor_val_five, Shape.rowMajor_val_three]; rfl)]
  exact transpose_apply _ _ _ _ _ (fun b => by
    match b with
    | ⟨0, _⟩ => rfl
    | ⟨1, _⟩ => rfl
    | ⟨2, _⟩ => rfl
    | ⟨3, _⟩ => rfl
    | ⟨4, _⟩ => rfl)

/-- **The convolution of two volumes' channels is the sum of their two convolutions.** -/
theorem stencil_split {A B : ℕ} (w : (⟨5, ![CO, A + B, 3, 3, 3]⟩ : Shape).Idx → EReal) (X XA XB : ℕ → ℕ → ℕ → ℕ → EReal)
    (hA : ∀ k z y x, k < A → X k z y x = XA k z y x) (hB : ∀ k z y x, k < B → X (A + k) z y x = XB k z y x) {o : ℕ} (ho : o < CO) (z y x : ℕ) :
    stencil w X o z y x = stencil (channels 0 A w) XA o z y x + stencil (channels A B w) XB o z y x := by
  unfold stencil
  rw [← Finset.sum_add_distrib]
  refine Finset.sum_congr rfl fun t ht => ?_
  have ht' := Finset.mem_range.1 ht
  rw [Finset.sum_range_add]
  refine congr (congrArg _ (Finset.sum_congr rfl fun k hk => ?_)) (Finset.sum_congr rfl fun k hk => ?_)
  · rw [weight_channels 0 w ho (Finset.mem_range.1 hk) (by omega) (by omega) (by omega), hA _ _ _ _ (Finset.mem_range.1 hk), Nat.zero_add]
  · rw [weight_channels A w ho (Finset.mem_range.1 hk) (by omega) (by omega) (by omega), hB _ _ _ _ (Finset.mem_range.1 hk)]

/-! ## Real convolutions -/

theorem isReal_voxel {x : (⟨4, ![C, 64, 64, 64]⟩ : Shape).Idx → EReal} (h : ∀ j, IsReal (x j)) (c z y w : ℕ) : IsReal (voxel x c z y w) := by
  unfold voxel
  split
  · exact h _
  · exact isReal_zero

theorem isReal_weight {w : (⟨5, ![CO, CI, 3, 3, 3]⟩ : Shape).Idx → EReal} (h : ∀ j, IsReal (w j)) (o k a b c : ℕ) : IsReal (weight w o k a b c) := by
  unfold weight
  split
  · exact h _
  · exact isReal_zero

theorem isReal_stencil {w : (⟨5, ![CO, CI, 3, 3, 3]⟩ : Shape).Idx → EReal} {X : ℕ → ℕ → ℕ → ℕ → EReal} (hw : ∀ j, IsReal (w j))
    (hX : ∀ c z y x, IsReal (X c z y x)) (o z y x : ℕ) : IsReal (stencil w X o z y x) :=
  IsReal.sum _ fun t _ => IsReal.sum _ fun k _ => (isReal_weight hw _ _ _ _ _).mul (hX _ _ _ _)

/-! ## Sums over planes -/

/-- A sum over a grid's border and inside, of what is zero on the border. -/
theorem sum_inside (f : ℕ → EReal) (N : ℕ) (h0 : f 0 = 0) (hN : ∀ k, 65 ≤ k → k < 65 + N → f k = 0) :
    ∑ k ∈ Finset.range (65 + N), f k = ∑ k : Fin 64, f (k.val + 1) := by
  rw [Finset.sum_range_add, Finset.sum_eq_zero (s := Finset.range N) fun k hk => hN _ (by omega) (by have := Finset.mem_range.1 hk; omega), add_zero,
    Finset.sum_range_succ', h0, add_zero, Finset.sum_range]

/-- **The sum over the grid's lanes of a volume's planes is the sum over its voxels.** -/
theorem sum_planes (x : (⟨4, ![C, 64, 64, 64]⟩ : Shape).Idx → EReal) (o : Fin C) :
    ∑ n ∈ Finset.range 64, ∑ l ∈ Finset.range 8448, planes x (n + 1) o.val (256 + l) = ∑ z : Fin 64, ∑ y : Fin 64, ∑ w : Fin 64, x (ix4 o z y w) := by
  rw [Finset.sum_range]
  refine Finset.sum_congr rfl fun z _ => ?_
  refine (sum_split 66 128 _).trans ?_
  have e : ∀ a b, a < 66 → b < 128 → planes x (z.val + 1) o.val (256 + (a * 128 + b)) = voxel x o.val (z.val + 1) a b := fun a b ha hb => by
    unfold planes
    rw [if_pos (by omega)]
    congr 1 <;> omega
  rw [Finset.sum_congr rfl fun a ha => Finset.sum_congr rfl fun b hb => e a b (Finset.mem_range.1 ha) (Finset.mem_range.1 hb)]
  refine (sum_inside (fun a => ∑ b ∈ Finset.range 128, voxel x o.val (z.val + 1) a b) 1
    (Finset.sum_eq_zero fun b _ => voxel_out x (by omega)) (fun a h h' => Finset.sum_eq_zero fun b _ => voxel_out x (by omega))).trans ?_
  refine Finset.sum_congr rfl fun y _ => ?_
  refine (sum_inside (fun b => voxel x o.val (z.val + 1) (y.val + 1) b) 63
    (voxel_out x (by omega)) (fun b h h' => voxel_out x (by omega))).trans ?_
  exact Finset.sum_congr rfl fun w _ => voxel_ix x o z y w

/-- A reduction over the three axes of a volume, at a channel. -/
theorem hostSum_at {t : Shape} (ht : t = ⟨1, ![C]⟩) (h : (⟨4, ![C, 64, 64, 64]⟩ : Shape).ReducesTo [1, 2, 3] t) (x : (⟨4, ![C, 64, 64, 64]⟩ : Shape).Idx → EReal)
    (a : EReal) (j : t.Idx) (o : Fin C) (hj : ∀ b, (j b).val = o.val) :
    Ideal.hostReduceAdd h x a j = a + ∑ z : Fin 64, ∑ y : Fin 64, ∑ w : Fin 64, x (ix4 o z y w) := by
  subst ht
  unfold Ideal.hostReduceAdd
  refine congrArg _ ?_
  refine (Finset.sum_filter_eq_sum_of_fiber _ (fun k : Fin 64 × Fin 64 × Fin 64 => ix4 o k.1 k.2.1 k.2.2)
    (fun _ _ e => Prod.ext (congrFun e 1) (Prod.ext (congrFun e 2) (congrFun e 3))) (fun i => ⟨fun e => ?_, ?_⟩) x).trans ?_
  · have e0 := congrArg Fin.val (congrFun e 0)
    rw [hj 0] at e0
    refine ⟨((i 1 : Fin 64), (i 2 : Fin 64), (i 3 : Fin 64)), funext fun b => ?_⟩
    match b with
    | ⟨0, _⟩ => exact Fin.ext e0.symm
    | ⟨1, _⟩ => rfl
    | ⟨2, _⟩ => rfl
    | ⟨3, _⟩ => rfl
  · rintro ⟨k, rfl⟩
    refine funext fun b => Fin.ext ?_
    rw [hj b]
    match b with
    | ⟨0, _⟩ => rfl
  · rw [Fintype.sum_prod_type]
    exact Finset.sum_congr rfl fun z _ => Fintype.sum_prod_type _

/-- The sum of a channel over the voxels. -/
def overVoxels (x : (⟨4, ![C, 64, 64, 64]⟩ : Shape).Idx → EReal) (o : Fin C) : EReal := ∑ z : Fin 64, ∑ y : Fin 64, ∑ w : Fin 64, x (ix4 o z y w)

/-- The same as one sum. -/
theorem overVoxels_eq (x : (⟨4, ![C, 64, 64, 64]⟩ : Shape).Idx → EReal) (o : Fin C) :
    overVoxels x o = ∑ k : Fin 64 × Fin 64 × Fin 64, x (ix4 o k.1 k.2.1 k.2.2) := by
  unfold overVoxels
  rw [Fintype.sum_prod_type]
  exact Finset.sum_congr rfl fun z _ => (Fintype.sum_prod_type (f := fun k : Fin 64 × Fin 64 => x (ix4 o z k.1 k.2))).symm

end Cert.Fat

end
-- ==== Proof.JoinedEntry.lean ====
/- The arrays that the joined convolution's call is given, and its output as planes of a volume. -/
module

public import proofs.«01_k».proof.Proof.JoinedArrays
public import proofs.«01_k».proof.Proof.Channels

@[expose] public section

set_option maxRecDepth 16384

noncomputable section

namespace Cert.Joined

open Idealize.ShloMosaic hiding ix1 ix2 ix3 ix4 ix5 eq_ix1 eq_ix2 eq_ix3 eq_ix4 eq_ix5
open Idealize.ShloMosaic.ValueIdx Idealize.ShloMosaic.TcCoe Idealize.ShloMosaic.Tactic
open Cert.KernelIdeal Cert.KernelIdeal.Gen Cert.Fat
open scoped BigOperators

variable (m : (ℓ : Loc nD τ sig) → Buf (Elt Ideal) ℓ)

/-- The first volume convolved. -/
abbrev volumeA (c : Dev nD) : Vec Ideal S16x64x64x64 .f32 := m ((c.tc : Thread nD τ).loc main_arg0)
/-- The second volume convolved. -/
abbrev volumeB (c : Dev nD) : Vec Ideal S32x64x64x64 .f32 := m ((c.tc : Thread nD τ).loc main_arg1)
/-- The mask's values. -/
def maskVolume (c : Dev nD) : FVec Ideal S1x64x64x64 .f32 := sitofp (s := S1x64x64x64) .f32 (m ((c.tc : Thread nD τ).loc main_arg2))
/-- The convolution's weights. -/
abbrev stencilW (c : Dev nD) : Vec Ideal S16x48x3x3x3 .f32 := m ((c.tc : Thread nD τ).loc main_arg3)

/-- The integer zero as a float is zero. -/
theorem zero_word {φ : FTy} {s : Shape} (i : s.Idx) : (sitofp φ (constantI s 32 0#32) : FVec Ideal s φ) i = (0 : EReal) := by
  show ((((0#32 : BitVec 32).toInt : ℝ)) : EReal) = 0
  simp

/-- The zero that a pad puts round an array. -/
def nought (φ : FTy) : FVec Ideal S_ φ := sitofp (s := S_) φ (constantI S_ 32 0#32)

theorem planesIn_eq (c : Dev nD) : planesIn m c = pad S66x16x8960 ![0, 0, 256] ![0, 0, 256] ![0, 0, 0] (transpose S66x16x8448 [1, 0, 2]
      (shapeCast S16x66x8448 (pad S16x66x66x128 ![0, 1, 1, 1] ![0, 1, 1, 63] ![0, 0, 0, 0] (volumeA m c) (nought .f32)
        pads_S16x64x64x64_S16x66x66x128_000_110_110_1630 h_S_) shapeCasts_S16x66x66x128_S16x66x8448)
      transposes_S16x66x8448_S66x16x8448_1_0_2) (nought .f32) pads_S66x16x8448_S66x16x8960_000_000_2562560 h_S_ := by
  unfold planesIn
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.after_cons, StableHlo.after_nil]
  after_results_simp
  rfl

theorem upIn_eq (c : Dev nD) : upIn m c = pad S66x32x8960 ![0, 0, 256] ![0, 0, 256] ![0, 0, 0] (transpose S66x32x8448 [1, 0, 2]
      (shapeCast S32x66x8448 (pad S32x66x66x128 ![0, 1, 1, 1] ![0, 1, 1, 63] ![0, 0, 0, 0] (truncf (F := Ideal) .bf16 (volumeB m c) bitsLt_bf16_f32) (nought .bf16)
        pads_S32x64x64x64_S32x66x66x128_000_110_110_1630 h_S_) shapeCasts_S32x66x66x128_S32x66x8448)
      transposes_S32x66x8448_S66x32x8448_1_0_2) (nought .bf16) pads_S66x32x8448_S66x32x8960_000_000_2562560 h_S_ := by
  unfold upIn
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.after_cons, StableHlo.after_nil]
  after_results_simp
  rfl

theorem maskIn_eq (c : Dev nD) : maskIn m c = pad S66x1x8960 ![0, 0, 256] ![0, 0, 256] ![0, 0, 0] (transpose S66x1x8448 [1, 0, 2]
      (shapeCast S1x66x8448 (pad S1x66x66x128 ![0, 1, 1, 1] ![0, 1, 1, 63] ![0, 0, 0, 0] (maskVolume m c) (nought .f32)
        pads_S1x64x64x64_S1x66x66x128_000_110_110_1630 h_S_) shapeCasts_S1x66x66x128_S1x66x8448)
      transposes_S1x66x8448_S66x1x8448_1_0_2) (nought .f32) pads_S66x1x8448_S66x1x8960_000_000_2562560 h_S_ := by
  unfold maskIn
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.after_cons, StableHlo.after_nil]
  after_results_simp
  rfl

theorem weightsA_eq (c : Dev nD) : weightsA m c = shapeCast S9x16x48 (transpose S3x3x16x3x16 [1, 2, 3, 0, 4] (shapeCast S3x3x3x16x16
      (extractStridedSlice S27x16x16 ![0, 0, 0] (shapeCast S27x16x48 (transpose S3x3x3x16x48 [2, 3, 4, 0, 1] (stencilW m c) transposes_S16x48x3x3x3_S3x3x3x16x48_2_3_4_0_1)
        shapeCasts_S3x3x3x16x48_S27x16x48) slices_S27x16x48_S27x16x16_0_0_0)
      shapeCasts_S27x16x16_S3x3x3x16x16) transposes_S3x3x3x16x16_S3x3x16x3x16_1_2_3_0_4) shapeCasts_S3x3x16x3x16_S9x16x48 := by
  unfold weightsA
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.after_cons, StableHlo.after_nil]
  after_results_simp
  rfl

theorem weightsB_eq (c : Dev nD) : weightsB m c = shapeCast S9x16x96 (transpose S3x3x16x3x32 [1, 2, 3, 0, 4] (shapeCast S3x3x3x16x32
      (extractStridedSlice S27x16x32 ![0, 0, 16] (shapeCast S27x16x48 (transpose S3x3x3x16x48 [2, 3, 4, 0, 1] (stencilW m c) transposes_S16x48x3x3x3_S3x3x3x16x48_2_3_4_0_1)
        shapeCasts_S3x3x3x16x48_S27x16x48) slices_S27x16x48_S27x16x32_0_0_16)
      shapeCasts_S27x16x32_S3x3x3x16x32) transposes_S3x3x3x16x32_S3x3x16x3x32_1_2_3_0_4) shapeCasts_S3x3x16x3x32_S9x16x96 := by
  unfold weightsB
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.after_cons, StableHlo.after_nil]
  after_results_simp
  rfl

theorem planes_in (c : Dev nD) {n k l : ℕ} (hn : n < 66) (hk : k < 16) (hl : l < 8960) : at3 (planesIn m c) n k l = planes (volumeA m c) n k l := by
  rw [planesIn_eq]
  exact to_planes_at (volumeA m c) (nought .f32) (nought .f32) (fun i => zero_word i) (fun i => zero_word i) _ _ _ _ _ hn hk hl

theorem up_in (c : Dev nD) {n k l : ℕ} (hn : n < 66) (hk : k < 32) (hl : l < 8960) : at3 (upIn m c) n k l = planes (volumeB m c) n k l := by
  rw [upIn_eq]
  exact to_planes_at (volumeB m c) (nought .bf16) (nought .bf16) (fun i => zero_word i) (fun i => zero_word i) _ _ _ _ _ hn hk hl

theorem mask_in (c : Dev nD) {n l : ℕ} (hn : n < 66) (hl : l < 8960) : at3 (maskIn m c) n 0 l = planes (maskVolume m c) n 0 l := by
  rw [maskIn_eq]
  exact to_planes_at (maskVolume m c) (nought .f32) (nought .f32) (fun i => zero_word i) (fun i => zero_word i) _ _ _ _ _ hn Nat.one_pos hl

theorem weightsA_in (c : Dev nD) {q o k : ℕ} (hq : q < 9) (ho : o < 16) (hk : k < 48) :
    at3 (weightsA m c) q o k = Cert.Fat.weight (channels 0 16 (stencilW m c)) o (k % 16) (k / 16) (q / 3) (q % 3) := by
  rw [weightsA_eq]
  exact slab_part_at (CO := 16) (CI := 16) (CT := 48) (stencilW m c) 0 (by decide) rfl _ _ _ _ _ _ hq ho hk

theorem weightsB_in (c : Dev nD) {q o k : ℕ} (hq : q < 9) (ho : o < 16) (hk : k < 96) :
    at3 (weightsB m c) q o k = Cert.Fat.weight (channels 16 32 (stencilW m c)) o (k % 32) (k / 32) (q / 3) (q % 3) := by
  rw [weightsB_eq]
  exact slab_part_at (CO := 16) (CI := 32) (CT := 48) (stencilW m c) 16 (by decide) rfl _ _ _ _ _ _ hq ho hk

/-! ## The output as planes of a volume -/

/-- The two convolutions' sum, masked. -/
def convVolume (c : Dev nD) : Vec Ideal S16x64x64x64 .f32 := fun j =>
  (stencil (channels 0 16 (stencilW m c)) (voxel (volumeA m c)) (j 0).val (j 1).val (j 2).val (j 3).val
    + stencil (channels 16 32 (stencilW m c)) (voxel (volumeB m c)) (j 0).val (j 1).val (j 2).val (j 3).val) * maskVolume m c (ix4 0 (j 1) (j 2) (j 3))

/-- Before it is normalised the output is the planes of `convVolume`. -/
theorem first_planes (c : Dev nD) {n o L : ℕ} (hn : n < 66) (ho : o < 16) (hL : L < 8960) :
    first (planesIn m c) (upIn m c) (maskIn m c) (weightsA m c) (weightsB m c) n o L = planes (convVolume m c) n o L := by
  by_cases hg : (1 ≤ n ∧ n < 65) ∧ OnGrid L
  · obtain ⟨hn', hL'⟩ := hg
    have hin : Inside n L := by have := hL'.1; unfold Inside; omega
    unfold first
    rw [if_pos hin, planes_on _ ho hn' hL', mask_in m c hn hL, planes_on _ Nat.one_pos hn' hL']
    have eA := stacked_eq (channels 0 16 (stencilW m c)) (at3 (weightsA m c)) (at3 (planesIn m c)) (volumeA m c) o
      (fun q k hq hk => weightsA_in m c hq ho hk) (fun n k l hn hk hl => planes_in m c hn hk hl) hn' hL'
    have eB := stacked_eq (channels 16 32 (stencilW m c)) (at3 (weightsB m c)) (at3 (upIn m c)) (volumeB m c) o
      (fun q k hq hk => weightsB_in m c hq ho hk) (fun n k l hn hk hl => up_in m c hn hk hl) hn' hL'
    exact congrArg₂ (fun a b : EReal => (a + b) * _) eA eB
  · rw [planes_out _ hg]
    unfold first
    split
    · rw [mask_in m c hn hL, planes_out _ hg, mul_zero]
    · rfl

/-! ## The three sums -/

theorem total_planes {C : ℕ} (x : (⟨4, ![C, 64, 64, 64]⟩ : Shape).Idx → EReal) (o : Fin C) (f : ℕ → ℕ → EReal)
    (hf : ∀ n L, n < 66 → L < 8960 → f n L = planes x n o.val L) : total f 16 = overVoxels x o := by
  unfold total
  rw [show 4 * 16 = 64 from rfl]
  refine (Finset.sum_congr rfl fun n hn => Finset.sum_congr rfl fun l hl => ?_).trans (sum_planes x o)
  have := Finset.mem_range.1 hn
  have := Finset.mem_range.1 hl
  exact hf _ _ (by omega) (by omega)

theorem totalY_eq (c : Dev nD) (o : Fin 16) :
    totalY (planesIn m c) (upIn m c) (maskIn m c) (weightsA m c) (weightsB m c) o.val 16 = overVoxels (convVolume m c) o :=
  total_planes _ o _ fun n L hn hL => first_planes m c hn o.isLt hL

theorem planes_sq {C : ℕ} (x : (⟨4, ![C, 64, 64, 64]⟩ : Shape).Idx → EReal) (n c L : ℕ) :
    planes x n c L * planes x n c L = planes (fun j => x j * x j) n c L := by
  unfold planes
  split
  · unfold voxel
    split
    · rfl
    · exact mul_zero _
  · exact mul_zero _

theorem totalYY_eq (c : Dev nD) (o : Fin 16) :
    totalYY (planesIn m c) (upIn m c) (maskIn m c) (weightsA m c) (weightsB m c) o.val 16 = overVoxels (fun j => convVolume m c j * convVolume m c j) o :=
  total_planes _ o _ fun n L hn hL => by
    rw [first_planes m c hn o.isLt hL]
    exact planes_sq _ _ _ _

theorem totalM_eq (c : Dev nD) : totalM (maskIn m c) 16 = overVoxels (maskVolume m c) 0 :=
  total_planes _ (0 : Fin 1) _ fun n L hn hL => mask_in m c hn hL

/-- The result's volume: the convolution normalised over the voxels, masked and rectified. -/
def normVolume (c : Dev nD) : Vec Ideal S16x64x64x64 .f32 := fun j =>
  normed (overVoxels (maskVolume m c) 0) (overVoxels (convVolume m c) (j 0)) (overVoxels (fun j => convVolume m c j * convVolume m c j) (j 0))
    (convVolume m c j) (maskVolume m c (ix4 0 (j 1) (j 2) (j 3)))

/-- **The output is the planes of `normVolume`.** -/
theorem final_planes (c : Dev nD) {n o L : ℕ} (hn : n < 66) (ho : o < 16) (hL : L < 8960) :
    final (planesIn m c) (upIn m c) (maskIn m c) (weightsA m c) (weightsB m c) n o L = planes (normVolume m c) n o L := by
  unfold final
  rw [first_planes m c hn ho hL]
  by_cases hg : (1 ≤ n ∧ n < 65) ∧ OnGrid L
  · obtain ⟨hn', hL'⟩ := hg
    rw [if_pos (by omega), mask_in m c hn hL, totalM_eq, totalY_eq m c ⟨o, ho⟩, totalYY_eq m c ⟨o, ho⟩,
      planes_on _ ho hn' hL', planes_on _ Nat.one_pos hn' hL', planes_on _ ho hn' hL']
    rfl
  · rw [planes_out _ hg, planes_out _ hg]
    split
    · rw [mask_in m c hn hL, planes_out _ hg]
      unfold normed
      rw [mul_zero, act_zero]
    · rfl

end Cert.Joined

end
-- ==== Proof.JoinedReference.lean ====
/- What the joined convolution's reference computes: its result laid out, off the volume it computes. -/
module

public import proofs.«01_k».proof.Proof.Gen.ReferenceIdeal.Run
public import proofs.«01_k».proof.Proof.Channels
public import Idealize.ShloMosaic.Lib.Quiescent

@[expose] public section

set_option maxRecDepth 16384

noncomputable section

namespace Cert.Joined.Plain

open Idealize.ShloMosaic hiding ix1 ix2 ix3 ix4 ix5 eq_ix1 eq_ix2 eq_ix3 eq_ix4 eq_ix5
open Idealize.ShloMosaic.ValueIdx Idealize.ShloMosaic.TcCoe Idealize.SL.Sem Idealize.ShloMosaic.StableHlo
open Cert.ReferenceIdeal Cert.ReferenceIdeal.Gen Cert.ReferenceIdeal.Value Cert.Fat
open scoped BigOperators

variable (V0 : Valuation τ sig (Elt Ideal))

/-- The reference's arguments. -/
abbrev volumeA : Vec Ideal S16x64x64x64 .f32 := V0 (Proc.devRef .tc main_arg0)
abbrev volumeB : Vec Ideal S32x64x64x64 .f32 := V0 (Proc.devRef .tc main_arg1)
abbrev weights : Vec Ideal S16x48x3x3x3 .f32 := V0 (Proc.devRef .tc main_arg3)

/-- The integer zero as a float is zero. -/
theorem zero_word {φ : FTy} {s : Shape} (i : s.Idx) : (sitofp φ (constantI s 32 0#32) : FVec Ideal s φ) i = (0 : EReal) := by
  show ((((0#32 : BitVec 32).toInt : ℝ)) : EReal) = 0
  simp

/-- The two volumes' channels one after the other. -/
def joined : FVec Ideal S48x64x64x64 .f32 :=
  concatenate S48x64x64x64 0 [⟨S16x64x64x64, volumeA V0⟩, ⟨S32x64x64x64, volumeB V0⟩] concatenates_S16x64x64x64_S32x64x64x64_S48x64x64x64_d0

theorem joined_left (o : Fin 16) (z y w : Fin 64) (o' : Fin 48) (h : o'.val = o.val) : joined V0 (ix4 o' z y w) = volumeA V0 (ix4 o z y w) := by
  unfold joined
  refine concatenate_pair_apply_left (t := S48x64x64x64) (s₁ := S16x64x64x64) (s₂ := S32x64x64x64) 0 _ _ _ _ rfl _ fun b => ?_
  match b with
  | ⟨0, _⟩ => exact h.symm
  | ⟨1, _⟩ => rfl
  | ⟨2, _⟩ => rfl
  | ⟨3, _⟩ => rfl

theorem joined_right (o : Fin 32) (z y w : Fin 64) (o' : Fin 48) (h : o'.val = 16 + o.val) : joined V0 (ix4 o' z y w) = volumeB V0 (ix4 o z y w) := by
  unfold joined
  refine concatenate_pair_apply_right (t := S48x64x64x64) (s₁ := S16x64x64x64) (s₂ := S32x64x64x64) 0 _ _ _ _ rfl rfl _ (fun b hb => ?_) ?_
  · match b with
    | ⟨0, _⟩ => exact absurd rfl hb
    | ⟨1, _⟩ => rfl
    | ⟨2, _⟩ => rfl
    | ⟨3, _⟩ => rfl
  · show o.val + 16 = o'.val
    omega

theorem voxel_left (k z y w : ℕ) (hk : k < 16) : voxel (joined V0) k z y w = voxel (volumeA V0) k z y w := by
  by_cases h : (1 ≤ z ∧ z < 65) ∧ (1 ≤ y ∧ y < 65) ∧ (1 ≤ w ∧ w < 65)
  · rw [voxel_in _ (by omega) h.1 h.2.1 h.2.2, voxel_in _ hk h.1 h.2.1 h.2.2]
    exact joined_left V0 ⟨k, hk⟩ _ _ _ _ rfl
  · rw [voxel_out _ h, voxel_out _ h]

theorem voxel_right (k z y w : ℕ) (hk : k < 32) : voxel (joined V0) (16 + k) z y w = voxel (volumeB V0) k z y w := by
  by_cases h : (1 ≤ z ∧ z < 65) ∧ (1 ≤ y ∧ y < 65) ∧ (1 ≤ w ∧ w < 65)
  · rw [voxel_in _ (by omega) h.1 h.2.1 h.2.2, voxel_in _ hk h.1 h.2.1 h.2.2]
    exact joined_right V0 ⟨k, hk⟩ _ _ _ _ rfl
  · rw [voxel_out _ h, voxel_out _ h]

theorem border_at (k : Fin 48) (z y w : Fin 66) : res_main_v2 V0 (ix4 k z y w) = voxel (joined V0) k z y w :=
  pad_border _ _ (fun i => zero_word i) _ _ k z y w

/-- The convolution is the host's products added up in order. -/
theorem conv_eq : res_main_v138 V0 = mulf (hostConv (weights V0) (res_main_v2 V0)) (broadcastInDim S16x64x64x64 ![0, 1, 2, 3] bcast_S1x64x64x64_S16x64x64x64_0_1_2_3 (res_main_v0 V0)) := by
  unfold res_main_v138 res_main_v121 res_main_v61
  rfl

/-! ## Values spread over the channels and the voxels -/

/-- The mask spread over the channels is the mask. -/
theorem mask_spread (v : FVec Ideal S1x64x64x64 .f32) (o : Fin 16) (z y w : Fin 64) :
    broadcastInDim S16x64x64x64 ![0, 1, 2, 3] bcast_S1x64x64x64_S16x64x64x64_0_1_2_3 v (ix4 o z y w) = v (ix4 0 z y w) := by
  rw [broadcastInDim]
  refine congrArg v (funext fun a => ?_)
  match a with
  | ⟨0, _⟩ => rfl
  | ⟨1, _⟩ => rfl
  | ⟨2, _⟩ => rfl
  | ⟨3, _⟩ => rfl

/-- A channel's value spread over the voxels. -/
theorem voxel_spread (v : FVec Ideal S16x1x1x1 .f32) (o : Fin 16) (z y w : Fin 64) :
    broadcastInDim S16x64x64x64 ![0, 1, 2, 3] bcast_S16x1x1x1_S16x64x64x64_0_1_2_3 v (ix4 o z y w) = v (ix4 o 0 0 0) := by
  rw [broadcastInDim]
  refine congrArg v (funext fun a => ?_)
  match a with
  | ⟨0, _⟩ => rfl
  | ⟨1, _⟩ => rfl
  | ⟨2, _⟩ => rfl
  | ⟨3, _⟩ => rfl

/-- One value spread over the channels. -/
theorem channel_spread (v : FVec Ideal S1x1x1x1 .f32) (o : Fin 16) :
    broadcastInDim S16x1x1x1 ![0, 1, 2, 3] bcast_S1x1x1x1_S16x1x1x1_0_1_2_3 v (ix4 o 0 0 0) = v (ix4 0 0 0 0) := by
  rw [broadcastInDim]
  refine congrArg v (funext fun a => ?_)
  match a with
  | ⟨0, _⟩ => rfl
  | ⟨1, _⟩ => rfl
  | ⟨2, _⟩ => rfl
  | ⟨3, _⟩ => rfl

/-- A channel's sum over the voxels. -/
theorem sum_at (x : FVec Ideal S16x64x64x64 .f32) (o : Fin 16) :
    broadcastInDim S16x1x1x1 ![0] bcast_S16_S16x1x1x1_0 (Host.reduceAdd x (constant S_ .f32 0x00000000#32) reducesTo_S16x64x64x64_S16_d1_2_3 h_S_) (ix4 o 0 0 0)
      = overVoxels x o := by
  rw [broadcastInDim]
  refine (hostSum_at (C := 16) rfl reducesTo_S16x64x64x64_S16_d1_2_3 x (Ideal.ofBits .f32 0x00000000#32) _ o fun b => ?_).trans ?_
  · match b with
    | ⟨0, _⟩ => rfl
  · rw [Ideal.ofBits_zero_f32, zero_add]
    rfl

/-- The mask's sum over the voxels. -/
theorem mask_sum_at (x : FVec Ideal S1x64x64x64 .f32) :
    broadcastInDim S1x1x1x1 ![0] bcast_S1_S1x1x1x1_0 (Host.reduceAdd x (constant S_ .f32 0x00000000#32) reducesTo_S1x64x64x64_S1_d1_2_3 h_S_) (ix4 0 0 0 0)
      = overVoxels x 0 := by
  rw [broadcastInDim]
  refine (hostSum_at (C := 1) rfl reducesTo_S1x64x64x64_S1_d1_2_3 x (Ideal.ofBits .f32 0x00000000#32) _ 0 fun b => ?_).trans ?_
  · match b with
    | ⟨0, _⟩ => rfl
  · rw [Ideal.ofBits_zero_f32, zero_add]
    rfl

/-! ## The steps of normalising, for any volume -/

/-- A count that is at least one. -/
theorem at_least_one (M : FVec Ideal S1x64x64x64 .f32) :
    maximumf (broadcastInDim S1x1x1x1 ![0] bcast_S1_S1x1x1x1_0 (Host.reduceAdd M (constant S_ .f32 0x00000000#32) reducesTo_S1x64x64x64_S1_d1_2_3 h_S_))
      (broadcastInDim S1x1x1x1 ![] bcast_S_S1x1x1x1 (constant S_ .f32 0x3F800000#32)) (ix4 0 0 0 0) = max (overVoxels M 0) (Ideal.ofBits .f32 0x3F800000#32) := by
  rw [← mask_sum_at]
  rfl

/-- A channel's mean over the voxels counted. -/
theorem mean_of (X : FVec Ideal S16x64x64x64 .f32) (M : FVec Ideal S1x64x64x64 .f32) (n : FVec Ideal S1x1x1x1 .f32) (o : Fin 16) :
    Host.divf (broadcastInDim S16x1x1x1 ![0] bcast_S16_S16x1x1x1_0 (Host.reduceAdd (mulf X (broadcastInDim S16x64x64x64 ![0, 1, 2, 3] bcast_S1x64x64x64_S16x64x64x64_0_1_2_3 M))
      (constant S_ .f32 0x00000000#32) reducesTo_S16x64x64x64_S16_d1_2_3 h_S_)) (broadcastInDim S16x1x1x1 ![0, 1, 2, 3] bcast_S1x1x1x1_S16x1x1x1_0_1_2_3 n) (ix4 o 0 0 0)
      = Ideal.div (∑ z : Fin 64, ∑ y : Fin 64, ∑ w : Fin 64, (X (ix4 o z y w) : EReal) * M (ix4 0 z y w)) (n (ix4 0 0 0 0)) := by
  refine (congrArg₂ Ideal.div (sum_at _ o) (channel_spread n o)).trans ?_
  unfold overVoxels
  refine congrArg (fun s : EReal => Ideal.div s _) (Finset.sum_congr rfl fun z _ => Finset.sum_congr rfl fun y _ => Finset.sum_congr rfl fun w _ => ?_)
  exact congrArg (fun s : EReal => X (ix4 o z y w) * s) (mask_spread M o z y w)

/-- A channel less its mean. -/
theorem centred_of (X : FVec Ideal S16x64x64x64 .f32) (mu : FVec Ideal S16x1x1x1 .f32) (o : Fin 16) (z y w : Fin 64) :
    subf X (broadcastInDim S16x64x64x64 ![0, 1, 2, 3] bcast_S16x1x1x1_S16x64x64x64_0_1_2_3 mu) (ix4 o z y w) = (X (ix4 o z y w) : EReal) - mu (ix4 o 0 0 0) :=
  congrArg (fun s : EReal => X (ix4 o z y w) - s) (voxel_spread mu o z y w)

/-- The quotient by the standard deviation. -/
theorem quotient_of (X : FVec Ideal S16x64x64x64 .f32) (M : FVec Ideal S1x64x64x64 .f32) (v : FVec Ideal S16x1x1x1 .f32) (o : Fin 16) (z y w : Fin 64) :
    Host.divf (mulf X (broadcastInDim S16x64x64x64 ![0, 1, 2, 3] bcast_S1x64x64x64_S16x64x64x64_0_1_2_3 M))
      (broadcastInDim S16x64x64x64 ![0, 1, 2, 3] bcast_S16x1x1x1_S16x64x64x64_0_1_2_3
        (Host.sqrt (addf v (broadcastInDim S16x1x1x1 ![] bcast_S_S16x1x1x1 (constant S_ .f32 0x3727C5AC#32))))) (ix4 o z y w)
      = Ideal.div ((X (ix4 o z y w) : EReal) * M (ix4 0 z y w)) (Ideal.sqrt ((v (ix4 o 0 0 0) : EReal) + Ideal.ofBits .f32 0x3727C5AC#32)) :=
  congrArg₂ Ideal.div (congrArg (fun s : EReal => X (ix4 o z y w) * s) (mask_spread M o z y w)) (voxel_spread _ o z y w)

/-- The rectifier. -/
theorem rectifier_of (X : FVec Ideal S16x64x64x64 .f32) (j : S16x64x64x64.Idx) :
    select (cmpf .oge X (broadcastInDim S16x64x64x64 ![] bcast_S_S16x64x64x64 (constant S_ .f32 0x00000000#32)))
      X (mulf (broadcastInDim S16x64x64x64 ![] bcast_S_S16x64x64x64 (constant S_ .f32 0x3E4CCCCD#32)) X) j = act (X j) := rfl

/-! ## The volume computed, voxel by voxel -/

/-- The masked convolution and the mask. -/
def conv : (⟨4, ![16, 64, 64, 64]⟩ : Shape).Idx → EReal := res_main_v138 V0
def mask : (⟨4, ![1, 64, 64, 64]⟩ : Shape).Idx → EReal := res_main_v0 V0

/-- The convolution of the joined volume is the sum of the two volumes' convolutions, masked. -/
theorem conv_at (o : Fin 16) (z y w : Fin 64) : conv V0 (ix4 o z y w)
    = (stencil (channels 0 16 (weights V0)) (voxel (volumeA V0)) o z y w + stencil (channels 16 32 (weights V0)) (voxel (volumeB V0)) o z y w)
      * mask V0 (ix4 0 z y w) := by
  unfold conv mask
  rw [conv_eq]
  show hostConv (weights V0) (res_main_v2 V0) (ix4 o z y w) * _ = _
  rw [hostConv_at _ _ _ (border_at V0) o z y w, mask_spread]
  exact congrArg (fun s : EReal => s * _) (stencil_split (A := 16) (B := 32) (weights V0) _ _ _
    (fun k z y x hk => voxel_left V0 k z y x hk) (fun k z y x hk => voxel_right V0 k z y x hk) o.isLt z y w)

/-- The number of active voxels, at least one. -/
def count : EReal := max (overVoxels (mask V0) 0) (Ideal.ofBits .f32 0x3F800000#32)

/-- A channel's mean over the active voxels. -/
def meanOf (o : Fin 16) : EReal := Ideal.div (∑ z : Fin 64, ∑ y : Fin 64, ∑ w : Fin 64, conv V0 (ix4 o z y w) * mask V0 (ix4 0 z y w)) (count V0)

/-- A channel's variance over the active voxels. -/
def varOf (o : Fin 16) : EReal :=
  Ideal.div (∑ z : Fin 64, ∑ y : Fin 64, ∑ w : Fin 64, (conv V0 (ix4 o z y w) - meanOf V0 o) * (conv V0 (ix4 o z y w) - meanOf V0 o) * mask V0 (ix4 0 z y w)) (count V0)

theorem count_at : res_main_v142 V0 (ix4 0 0 0 0) = count V0 := by
  unfold res_main_v142
  exact at_least_one (res_main_v0 V0)

theorem mean_at (o : Fin 16) : res_main_v148 V0 (ix4 o 0 0 0) = meanOf V0 o := by
  unfold res_main_v148
  refine (mean_of (res_main_v138 V0) (res_main_v0 V0) (res_main_v142 V0) o).trans ?_
  rw [count_at]
  rfl

theorem centred_at (o : Fin 16) (z y w : Fin 64) : res_main_v150 V0 (ix4 o z y w) = conv V0 (ix4 o z y w) - meanOf V0 o := by
  unfold res_main_v150
  refine (centred_of (res_main_v138 V0) (res_main_v148 V0) o z y w).trans ?_
  rw [mean_at]
  rfl

/-- The normalised convolution, voxel by voxel. -/
theorem normed_at (o : Fin 16) (z y w : Fin 64) : res_main_v166 V0 (ix4 o z y w)
    = Ideal.div ((conv V0 (ix4 o z y w) - meanOf V0 o) * mask V0 (ix4 0 z y w)) (Ideal.sqrt (varOf V0 o + Ideal.ofBits .f32 0x3727C5AC#32)) := by
  unfold res_main_v166
  refine (quotient_of _ (res_main_v0 V0) _ o z y w).trans (congrArg₂ Ideal.div ?_ (congrArg (fun s : EReal => Ideal.sqrt (s + Ideal.ofBits .f32 0x3727C5AC#32)) ?_))
  · refine congrArg (fun s : EReal => s * mask V0 (ix4 0 z y w)) ((centred_of (res_main_v138 V0) (res_main_v148 V0) o z y w).trans ?_)
    rw [mean_at]
    rfl
  · refine (mean_of (mulf (res_main_v150 V0) (res_main_v150 V0)) (res_main_v0 V0) (res_main_v142 V0) o).trans ?_
    rw [count_at]
    unfold varOf
    refine congrArg (fun s : EReal => Ideal.div s _) (Finset.sum_congr rfl fun z _ => Finset.sum_congr rfl fun y _ => Finset.sum_congr rfl fun w _ => ?_)
    have e := centred_at V0 o z y w
    exact congrArg (fun s : EReal => s * mask V0 (ix4 0 z y w)) (congrArg₂ (fun a b : EReal => a * b) e e)

/-- The result's volume. -/
def rectified : FVec Ideal S16x64x64x64 .f32 := select (cmpf .oge (res_main_v166 V0) (broadcastInDim S16x64x64x64 ![] bcast_S_S16x64x64x64 (constant S_ .f32 0x00000000#32)))
  (res_main_v166 V0) (mulf (broadcastInDim S16x64x64x64 ![] bcast_S_S16x64x64x64 (constant S_ .f32 0x3E4CCCCD#32)) (res_main_v166 V0))

theorem rectified_at (o : Fin 16) (z y w : Fin 64) : rectified V0 (ix4 o z y w)
    = act (Ideal.div ((conv V0 (ix4 o z y w) - meanOf V0 o) * mask V0 (ix4 0 z y w)) (Ideal.sqrt (varOf V0 o + Ideal.ofBits .f32 0x3727C5AC#32))) := by
  unfold rectified
  exact (rectifier_of (res_main_v166 V0) _).trans (congrArg act (normed_at V0 o z y w))

/-! ## The run -/

variable (m : (ℓ : Loc nD τ sig) → Buf (Elt Ideal) ℓ) (ρ : Dev nD → PrngReg)

/-- The result: the volume laid out. -/
def laid (c : Dev nD) : FVec Ideal S66x16x8960 .f32 :=
  transpose S66x16x8960 [1, 0, 2] (pad S16x66x8960 ![0, 0, 256] ![0, 0, 256] ![0, 0, 0] (shapeCast _ (pad S16x66x66x128 ![0, 1, 1, 1] ![0, 1, 1, 63] ![0, 0, 0, 0] (rectified (launchContents m c)) (sitofp .f32 (constantI S_ 32 0#32)) pads_S16x64x64x64_S16x66x66x128_000_110_110_1630 h_S_) shapeCasts_S16x66x66x128_S16x66x8448) (sitofp .f32 (constantI S_ 32 0#32)) pads_S16x66x8448_S16x66x8960_000_000_2562560 h_S_) transposes_S16x66x8960_S66x16x8960_1_0_2

theorem laid_at (c : Dev nD) {n k L : ℕ} (hn : n < 66) (hk : k < 16) (hL : L < 8960) :
    at3 (laid m c) n k L = planes (rectified (launchContents m c)) n k L :=
  laid_out_at (rectified (launchContents m c)) _ _ (fun i => zero_word i) (fun i => zero_word i) _ _ _ _ _ hn hk hL

/-- **What the reference computes**: its result, with the arguments as they were. -/
theorem value_run : θ_run defs (onTc (τ := τ) (main (F := Ideal))) ⟨m, fun _ => 0, ρ⟩ fun r => ∀ c : Dev nD,
      r.2.mem ((c.tc : Thread nD τ).loc main_v176) = truncf (F := Ideal) .bf16 (laid m c) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans rfl, (h c).2⟩) (run m ρ)

/-- Every execution leaves the arguments as they were and every counter at zero. -/
theorem frame_run : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => (h c).2, sem_eq_zero_of_no_sems rfl r.2⟩) (run m ρ)

end Cert.Joined.Plain

end
-- ==== Proof.JoinedEqual.lean ====
/- The joined convolution's call and its reference compute the same array, on arguments in range. -/
module

public import proofs.«01_k».proof.Proof.JoinedEntry
public import proofs.«01_k».proof.Proof.JoinedReference
public import proofs.«01_k».proof.Pre_in_range
public import Idealize.ShloMosaic.Lib.ReduceAll

@[expose] public section

set_option maxRecDepth 16384

noncomputable section

namespace Cert.Joined

open Idealize.ShloMosaic hiding ix1 ix2 ix3 ix4 ix5 eq_ix1 eq_ix2 eq_ix3 eq_ix4 eq_ix5
open Idealize.ShloMosaic.ValueIdx Idealize.ShloMosaic.TcCoe Idealize.ShloMosaic.StableHlo
open Cert.Fat Cert.ReferenceIdeal.Value
open scoped BigOperators

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two programs' arguments agree. -/
structure Agree : Prop where
  left : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  right : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  mask : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  stencil : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)

/-- The arguments are in range: the floats are real numbers and the mask is 0 or 1. -/
structure InRange : Prop where
  left : ∀ j, IsReal (volumeA m c j)
  right : ∀ j, IsReal (volumeB m c j)
  stencil : ∀ j, IsReal (stencilW m c j)
  mask : ∀ j, maskVolume m c j = 0 ∨ maskVolume m c j = 1

/-- A value whose size is below the infinite word is a real number. -/
theorem isReal_of_below {x : EReal} (h : Ideal.cmp .olt (max x (-x)) (Ideal.ofBits .f32 0x7F800000#32) = 1#1) : IsReal x := by
  rw [top_word] at h
  refine isReal_of_abs_lt ?_
  have h' : BitVec.ofBool (decide (max x (-x) < ⊤)) = 1#1 := h
  by_contra hn
  rw [decide_eq_false hn] at h'
  exact absurd h' (by decide)

/-- The precondition says that the arguments are in range. -/
theorem inRange_of [Cert.Pre_in_range.Facts]
    (h : (Cert.Pre_in_range.fn (F := Ideal) (volumeA m c) (volumeB m c) (m ((c.tc : Thread Cert.KernelIdeal.nD Cert.KernelIdeal.τ).loc Cert.KernelIdeal.main_arg2)) (stencilW m c)) = fun _ => 1#1) :
    InRange m c := by
  have h0 := congrFun h (fun a => a.elim0)
  unfold Cert.Pre_in_range.fn Cert.Pre_in_range.fn_part1 at h0
  dsimp only at h0
  haveI : Subsingleton Cert.Pre_in_range.S_.Idx := ⟨fun a b => funext fun i => i.elim0⟩
  obtain ⟨h123, h4⟩ := IntOp.andi_eq_one.1 h0
  obtain ⟨h12, h3⟩ := IntOp.andi_eq_one.1 h123
  obtain ⟨h1, h2⟩ := IntOp.andi_eq_one.1 h12
  refine ⟨fun j => isReal_of_below (Host.reduce_andi_all _ _ _ _ _ h1 j), fun j => isReal_of_below (Host.reduce_andi_all _ _ _ _ _ h2 j),
    fun j => isReal_of_below (Host.reduce_andi_all _ _ _ _ _ h3 j), fun j => ?_⟩
  rcases IntOp.ori_eq_one.1 (Host.reduce_andi_all _ _ _ _ _ h4 j) with e | e
  · have e' : m ((c.tc : Thread Cert.KernelIdeal.nD Cert.KernelIdeal.τ).loc Cert.KernelIdeal.main_arg2) j = 0#32 := IntOp.cmpi_eq.1 e
    refine .inl ?_
    show (((m ((c.tc : Thread Cert.KernelIdeal.nD Cert.KernelIdeal.τ).loc Cert.KernelIdeal.main_arg2) j : BitVec 32).toInt : ℝ) : EReal) = 0
    rw [e']
    simp
  · have e' : m ((c.tc : Thread Cert.KernelIdeal.nD Cert.KernelIdeal.τ).loc Cert.KernelIdeal.main_arg2) j = 1#32 := IntOp.cmpi_eq.1 e
    refine .inr ?_
    show (((m ((c.tc : Thread Cert.KernelIdeal.nD Cert.KernelIdeal.τ).loc Cert.KernelIdeal.main_arg2) j : BitVec 32).toInt : ℝ) : EReal) = 1
    rw [e']
    simp

variable {m m' c}

/-- The masked convolution is real, -/
theorem conv_real (h : InRange m c) (j : (⟨4, ![16, 64, 64, 64]⟩ : Shape).Idx) : IsReal (convVolume m c j) := by
  unfold convVolume
  refine IsReal.mul (IsReal.add (isReal_stencil (fun j => isReal_weight h.stencil _ _ _ _ _) (fun c z y x => isReal_voxel h.left c z y x) _ _ _ _)
    (isReal_stencil (fun j => isReal_weight h.stencil _ _ _ _ _) (fun c z y x => isReal_voxel h.right c z y x) _ _ _ _)) ?_
  rcases h.mask (ix4 0 (j 1) (j 2) (j 3)) with e | e
  · rw [e]; exact isReal_zero
  · rw [e]; exact ⟨1, rfl⟩

/-- and masking it again changes nothing. -/
theorem conv_masked (h : InRange m c) (o : Fin 16) (z y w : Fin 64) : convVolume m c (ix4 o z y w) * maskVolume m c (ix4 0 z y w) = convVolume m c (ix4 o z y w) := by
  unfold convVolume
  show _ * maskVolume m c (ix4 0 z y w) * _ = _ * maskVolume m c (ix4 0 z y w)
  rcases h.mask (ix4 0 z y w) with e | e
  · rw [e, mul_zero, mul_zero]
  · rw [e, mul_one]

/-- The masks agree, -/
theorem mask_agree (h : Agree m m' c) : Plain.mask (launchContents m' c) = maskVolume m c := by
  unfold Plain.mask res_main_v0 maskVolume
  exact congrArg (fun x => sitofp (F := Ideal) (s := Cert.KernelIdeal.S1x64x64x64) .f32 x) h.mask

/-- the convolutions, -/
theorem conv_agree (h : Agree m m' c) : Plain.conv (launchContents m' c) = convVolume m c := by
  refine funext fun (j : (⟨4, ![16, 64, 64, 64]⟩ : Shape).Idx) => ?_
  obtain ⟨o, z, y, w, rfl⟩ : ∃ (o : Fin 16) (z y w : Fin 64), j = ix4 o z y w := ⟨_, _, _, _, eq_ix4 j⟩
  have ha : Plain.volumeA (launchContents m' c) = volumeA m c := h.left
  have hb : Plain.volumeB (launchContents m' c) = volumeB m c := h.right
  have hw : Plain.weights (launchContents m' c) = stencilW m c := h.stencil
  refine (Plain.conv_at (launchContents m' c) o z y w).trans ?_
  rw [ha, hb, hw, mask_agree h]
  rfl

/-- **and the normalised volumes.** -/
theorem norm_agree (h : Agree m m' c) (hr : InRange m c) : Plain.rectified (launchContents m' c) = normVolume m c := by
  refine funext fun (j : (⟨4, ![16, 64, 64, 64]⟩ : Shape).Idx) => ?_
  obtain ⟨o, z, y, w, rfl⟩ : ∃ (o : Fin 16) (z y w : Fin 64), j = ix4 o z y w := ⟨_, _, _, _, eq_ix4 j⟩
  refine (Plain.rectified_at (launchContents m' c) o z y w).trans ?_
  have key := normalise_eq (ι := Fin 64 × Fin 64 × Fin 64) (v := fun k => convVolume m c (ix4 o k.1 k.2.1 k.2.2)) (m := fun k => maskVolume m c (ix4 0 k.1 k.2.1 k.2.2))
    (fun k => conv_real hr _) (fun k => hr.mask _) (fun k => conv_masked hr o k.1 k.2.1 k.2.2) (z, y, w)
  have eM : (∑ k : Fin 64 × Fin 64 × Fin 64, maskVolume m c (ix4 0 k.1 k.2.1 k.2.2)) = overVoxels (maskVolume m c) 0 := (overVoxels_eq (maskVolume m c) 0).symm
  have eV : (∑ k : Fin 64 × Fin 64 × Fin 64, convVolume m c (ix4 o k.1 k.2.1 k.2.2)) = overVoxels (convVolume m c) o := (overVoxels_eq (convVolume m c) o).symm
  have eVV : (∑ k : Fin 64 × Fin 64 × Fin 64, convVolume m c (ix4 o k.1 k.2.1 k.2.2) * convVolume m c (ix4 o k.1 k.2.1 k.2.2))
      = overVoxels (fun j => convVolume m c j * convVolume m c j) o := (overVoxels_eq (fun j => convVolume m c j * convVolume m c j) o).symm
  have eN : Plain.count (launchContents m' c) = max (overVoxels (maskVolume m c) 0) (Ideal.ofBits .f32 0x3F800000#32) := by
    unfold Plain.count
    rw [mask_agree h]
  have eMu : Plain.meanOf (launchContents m' c) o = mean (overVoxels (maskVolume m c) 0) (overVoxels (convVolume m c) o) := by
    unfold Plain.meanOf mean
    rw [eN, conv_agree h, mask_agree h]
    exact congrArg (fun s : EReal => Ideal.div s _) (Finset.sum_congr rfl fun z _ => Finset.sum_congr rfl fun y _ => Finset.sum_congr rfl fun w _ => conv_masked hr o z y w)
  have eVar : Plain.varOf (launchContents m' c) o = Ideal.div (∑ k : Fin 64 × Fin 64 × Fin 64,
      (convVolume m c (ix4 o k.1 k.2.1 k.2.2) - mean (overVoxels (maskVolume m c) 0) (overVoxels (convVolume m c) o))
        * (convVolume m c (ix4 o k.1 k.2.1 k.2.2) - mean (overVoxels (maskVolume m c) 0) (overVoxels (convVolume m c) o)) * maskVolume m c (ix4 0 k.1 k.2.1 k.2.2))
      (max (overVoxels (maskVolume m c) 0) (Ideal.ofBits .f32 0x3F800000#32)) := by
    unfold Plain.varOf
    rw [eN, eMu, conv_agree h, mask_agree h]
    refine congrArg (fun s : EReal => Ideal.div s _) ?_
    exact overVoxels_eq (fun j => (convVolume m c j - mean (overVoxels (maskVolume m c) 0) (overVoxels (convVolume m c) o))
        * (convVolume m c j - mean (overVoxels (maskVolume m c) 0) (overVoxels (convVolume m c) o)) * maskVolume m c (ix4 0 (j 1) (j 2) (j 3))) o
  dsimp only at key
  rw [eM, eV, eVV] at key
  rw [eVar, eMu, conv_agree h, mask_agree h]
  show _ = act _
  exact congrArg act key.symm

/-- **The results are equal.** -/
theorem equal (h : Agree m m' c) (hr : InRange m c) : truncf (F := Ideal) .bf16 (Plain.laid m' c) Cert.ReferenceIdeal.Gen.bitsLt_bf16_f32 = outArray m c := by
  refine funext fun (j : (⟨3, ![66, 16, 8960]⟩ : Shape).Idx) => ?_
  obtain ⟨n, o, L, rfl⟩ : ∃ (n : Fin 66) (o : Fin 16) (L : Fin 8960), j = ix3 n o L := ⟨_, _, _, eq_ix3 j⟩
  show Plain.laid m' c (ix3 n o L) = _
  refine (at3_lt (Plain.laid m' c) n.isLt o.isLt L.isLt).symm.trans ?_
  refine (Plain.laid_at m' c n.isLt o.isLt L.isLt).trans ?_
  rw [norm_agree h hr]
  exact (final_planes m c n.isLt o.isLt L.isLt).symm

end Cert.Joined

end
-- ==== Proof.SecondFrame.lean ====
/- The second convolution's call at machine words: it ends, leaves its arguments alone and its counters at zero. -/
module

public import proofs.«01_k».proof.Proof.Gen.Kernel2.Frame
public import proofs.«01_k».proof.Proof.Gen.Kernel2.Loops
public import Idealize.ShloMosaic.Lib.Claim
public import Idealize.ShloMosaic.Lib.Pipeline.ArrRel

@[expose] public section

set_option maxRecDepth 16384

noncomputable section

namespace Cert.Second.Words

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)
open Cert.Kernel2 Cert.Kernel2.Gen

variable {F : FTy → Type} [FloatOps F]
local notation "𝕄" => MT nD τ sig Unit (Elt F) ℕ (UR sig nD τ) ℕ

variable (c : Dev nD) (i : grid0.Coords)
  {arg1 : Memref sig .tc .vmem S8x16x8960 .bf16} (harg1 : arg1.IsWhole)
  {arg2 : Memref sig .tc .vmem S1x16x8960 .bf16} (harg2 : arg2.IsWhole)
  {arg3 : Memref sig .tc .vmem S1x16x8960 .bf16} (harg3 : arg3.IsWhole)
  {arg4 : Memref sig .tc .vmem S66x1x8960 .f32} (harg4 : arg4.IsWhole)
  {arg5 : Memref sig .tc .vmem S9x16x48 .f32} (harg5 : arg5.IsWhole)
  {arg6 : Memref sig .tc .vmem S9x1x48 .f32} (harg6 : arg6.IsWhole)
  {arg7 : Memref sig .tc .vmem S66x16x8960 .f32} (harg7 : arg7.IsWhole)
  {arg8 : Memref sig .tc .vmem S66x1x8960 .f32} (harg8 : arg8.IsWhole)
  {arg9 : Memref sig .tc .vmem S16x1 .f32} (harg9 : arg9.IsWhole)
  {arg10 : Memref sig .tc .vmem S16x1 .f32} (harg10 : arg10.IsWhole)
  {arg11 : Memref sig .tc .smem S1 .f32} (harg11 : arg11.IsWhole)

/-- A buffer held at some contents. -/
abbrev Any {sp : Space} {sh : Shape} {e : EltTy} (mr : Memref sig .tc sp sh e) : sProp 𝕄 :=
  iprop(∃ f, mr.view.loc (c : Thread nD τ) ↦[mr.view.set]{fullShare} f)

/-- Contents known by their reading are some contents, -/
theorem open_any {sp : Space} {sh : Shape} {e : EltTy} (mr : Memref sig .tc sp sh e) (X : sh.Idx → Elt F e) :
    (owns (c : Thread nD τ) mr fullShare X : sProp 𝕄) ⊢ Any c mr := by
  unfold owns
  iintro ⟨%f, %hf, H⟩
  iexists f
  iexact H

/-- and some contents have a reading. -/
theorem close_any {sp : Space} {sh : Shape} {e : EltTy} (mr : Memref sig .tc sp sh e) :
    (Any c mr : sProp 𝕄) ⊢ iprop(∃ X, owns (c : Thread nD τ) mr fullShare X) := by
  iintro ⟨%f, H⟩
  iexists _
  iapply (owns_intro (c : Thread nD τ) mr fullShare f)
  iexact H

/-- The body's buffers, each at some contents. -/
abbrev AllAny (arg1 : Memref sig .tc .vmem S8x16x8960 .bf16) (arg2 : Memref sig .tc .vmem S1x16x8960 .bf16)
    (arg3 : Memref sig .tc .vmem S1x16x8960 .bf16) (arg4 : Memref sig .tc .vmem S66x1x8960 .f32) (arg5 : Memref sig .tc .vmem S9x16x48 .f32)
    (arg6 : Memref sig .tc .vmem S9x1x48 .f32) (arg7 : Memref sig .tc .vmem S66x16x8960 .f32) (arg8 : Memref sig .tc .vmem S66x1x8960 .f32)
    (arg9 : Memref sig .tc .vmem S16x1 .f32) (arg10 : Memref sig .tc .vmem S16x1 .f32) (arg11 : Memref sig .tc .smem S1 .f32) : sProp 𝕄 :=
  iprop(Any c arg1 ∗ Any c arg2 ∗ Any c arg3 ∗ Any c arg4 ∗ Any c arg5 ∗ Any c arg6 ∗ Any c arg7 ∗ Any c arg8 ∗ Any c arg9 ∗ Any c arg10 ∗ Any c arg11)

set_option maxHeartbeats 4000000 in
/-- **The body runs**, at any contents of its buffers and at every point of the grid. -/
theorem body_runs (E : Set ℕ) :
    (AllAny c arg1 arg2 arg3 arg4 arg5 arg6 arg7 arg8 arg9 arg10 arg11 : sProp 𝕄)
      ⊢ wp frame (wpE (defs₀ (F := F)) Variants.none (c : Thread nD τ) none) E (cc0_body (F := F) i arg1 harg1 arg2 harg2 arg3 harg3 arg4 harg4 arg5 harg5 arg6 harg6 arg7 harg7 arg8 harg8 arg9 harg9 arg10 harg10 arg11 harg11)
          (fun _ => AllAny c arg1 arg2 arg3 arg4 arg5 arg6 arg7 arg8 arg9 arg10 arg11) := by
  simp only [cc0_body_eq_skeleton]; unfold cc0_body_skel
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  iintro ⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩⟩
  by_cases hc0 : k0_cond1 i = 1#1
  · by_cases hc1 : k0_cond2 i = 1#1
    · sl_exec (disch := first | sl_exact hc0 | sl_exact hc1)
      sl_step
      sl_close
    · sl_exec (disch := first | sl_exact hc0 | sl_exact hc1)
      sl_step
      sl_close
  · by_cases hc1 : k0_cond2 i = 1#1
    · sl_exec (disch := first | sl_exact hc0 | sl_exact hc1)
      sl_step
      sl_close
    · sl_exec (disch := first | sl_exact hc0 | sl_exact hc1)
      sl_step
      sl_close

/-! ## The launch -/

variable (m : (ℓ : Loc nD τ sig) → Buf (Elt F) ℓ) (ρ : Dev nD → PrngReg)

/-- The data of the run: the arrays as the call finds them, and nothing said of what a point leaves. -/
def rdat (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

/-- The invariant hands the body its scratch at anything, and takes it back. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- Whatever a point leaves in a window's buffer is allowed. -/
theorem close_left (c : Dev nD) (t : Fin cfg0.N) (w : Fin cfg0.W) (Y : (cfg0.win w).block.Idx → Elt F (cfg0.win w).elt) {sp : Space}
    {mr : Memref sig .tc sp (cfg0.win w).block (cfg0.win w).elt} :
    (Any c mr : sProp 𝕄) ⊢ iprop(∃ X, ⌜(rdat m c).after w t Y X⌝ ∗ owns (c : Thread nD τ) mr fullShare X) := by
  iintro ⟨%f, H⟩
  iexists _
  isplitr; swap
  · iapply (owns_intro (c : Thread nD τ) mr fullShare f)
    iexact H
  · ipureintro; exact trivial

/-- The body at a point, from the buffers it finds to the buffers it leaves. -/
theorem body_step (c : Dev nD) (t : Fin cfg0.N) (Y : (w : Fin cfg0.W) → (cfg0.win w).block.Idx → Elt F (cfg0.win w).elt)
    (y0 : Vec F S8x16x8960 .bf16) (y1 y2 : Vec F S1x16x8960 .bf16) (y3 : Vec F S66x1x8960 .f32) (y4 : Vec F S9x16x48 .f32) (y5 : Vec F S9x1x48 .f32)
    (y6 : Vec F S66x16x8960 .f32) (y7 : Vec F S66x1x8960 .f32) :
    iprop(Pipeline.ΦA spec0 c ∗ (rdat m c).owesAt () t.castSucc
        ∗ owns (c : Thread nD τ) (win0_0.stage (cfg0.slots t 0)) fullShare y0
        ∗ owns (c : Thread nD τ) (win0_1.stage (cfg0.slots t 1)) fullShare y1
        ∗ owns (c : Thread nD τ) (win0_2.stage (cfg0.slots t 2)) fullShare y2
        ∗ owns (c : Thread nD τ) (win0_3.stage (cfg0.slots t 3)) fullShare y3
        ∗ owns (c : Thread nD τ) (win0_4.stage (cfg0.slots t 4)) fullShare y4
        ∗ owns (c : Thread nD τ) (win0_5.stage (cfg0.slots t 5)) fullShare y5
        ∗ owns (c : Thread nD τ) (win0_6.stage (cfg0.slots t 6)) fullShare y6
        ∗ owns (c : Thread nD τ) (win0_7.stage (cfg0.slots t 7)) fullShare y7)
      ⊢ wp frame (wpE (defs₀ (F := F)) Variants.none (c : Thread nD τ) none) Set.univ (bodyAt0 t) (fun _ =>
        iprop(Pipeline.ΦA spec0 c ∗ (rdat m c).owesAt () t.castSucc
        ∗ (∃ X, ⌜(rdat m c).after 0 t (Y 0) X⌝ ∗ owns (c : Thread nD τ) (win0_0.stage (cfg0.slots t 0)) fullShare X)
        ∗ (∃ X, ⌜(rdat m c).after 1 t (Y 1) X⌝ ∗ owns (c : Thread nD τ) (win0_1.stage (cfg0.slots t 1)) fullShare X)
        ∗ (∃ X, ⌜(rdat m c).after 2 t (Y 2) X⌝ ∗ owns (c : Thread nD τ) (win0_2.stage (cfg0.slots t 2)) fullShare X)
        ∗ (∃ X, ⌜(rdat m c).after 3 t (Y 3) X⌝ ∗ owns (c : Thread nD τ) (win0_3.stage (cfg0.slots t 3)) fullShare X)
        ∗ (∃ X, ⌜(rdat m c).after 4 t (Y 4) X⌝ ∗ owns (c : Thread nD τ) (win0_4.stage (cfg0.slots t 4)) fullShare X)
        ∗ (∃ X, ⌜(rdat m c).after 5 t (Y 5) X⌝ ∗ owns (c : Thread nD τ) (win0_5.stage (cfg0.slots t 5)) fullShare X)
        ∗ (∃ X, ⌜(rdat m c).after 6 t (Y 6) X⌝ ∗ owns (c : Thread nD τ) (win0_6.stage (cfg0.slots t 6)) fullShare X)
        ∗ (∃ X, ⌜(rdat m c).after 7 t (Y 7) X⌝ ∗ owns (c : Thread nD τ) (win0_7.stage (cfg0.slots t 7)) fullShare X))) := by
  have hs := body_runs (F := F) c (grid0.coords t) (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7))
    (Memref.isWhole_whole cc0_scratch0) (Memref.isWhole_whole cc0_scratch1) (Memref.isWhole_whole cc0_scratch2) Set.univ
  rw [scratch_eq]
  iintro ⟨⟨⟨⟨%d0, HS0⟩, ⟨%d1, HS1⟩, ⟨%d2, HS2⟩⟩, Hg⟩, Ho, H0, H1, H2, H3, H4, H5, H6, H7⟩
  iapply (wp_wand_r _ _ _)
  isplitl [HS0 HS1 HS2 H0 H1 H2 H3 H4 H5 H6 H7]
  · iapply hs
    isplitl [H0]; · iapply (open_any c _ _); iexact H0
    isplitl [H1]; · iapply (open_any c _ _); iexact H1
    isplitl [H2]; · iapply (open_any c _ _); iexact H2
    isplitl [H3]; · iapply (open_any c _ _); iexact H3
    isplitl [H4]; · iapply (open_any c _ _); iexact H4
    isplitl [H5]; · iapply (open_any c _ _); iexact H5
    isplitl [H6]; · iapply (open_any c _ _); iexact H6
    isplitl [H7]; · iapply (open_any c _ _); iexact H7
    isplitl [HS0]; · iapply (open_any c _ _); iexact HS0
    isplitl [HS1]; · iapply (open_any c _ _); iexact HS1
    iapply (open_any c _ _); iexact HS2
  iintro %u ⟨H0, H1, H2, H3, H4, H5, H6, H7, HS0, HS1, HS2⟩
  isplitl [HS0 HS1 HS2 Hg]
  · isplitl [HS0 HS1 HS2]
    · isplitl [HS0]; · iapply (close_any c _); iexact HS0
      isplitl [HS1]; · iapply (close_any c _); iexact HS1
      iapply (close_any c _); iexact HS2
    iexact Hg
  isplitl [Ho]; · iexact Ho
  isplitl [H0]; · iapply (close_left m c t 0 _); iexact H0
  isplitl [H1]; · iapply (close_left m c t 1 _); iexact H1
  isplitl [H2]; · iapply (close_left m c t 2 _); iexact H2
  isplitl [H3]; · iapply (close_left m c t 3 _); iexact H3
  isplitl [H4]; · iapply (close_left m c t 4 _); iexact H4
  isplitl [H5]; · iapply (close_left m c t 5 _); iexact H5
  isplitl [H6]; · iapply (close_left m c t 6 _); iexact H6
  iapply (close_left m c t 7 _); iexact H7

/-- The body table's row at a point's slots. -/
theorem row (t : Fin cfg0.N) : defs₀ (F := F) .tc cfg0.body (cfg0.bodyArgs t (cfg0.slots t)) = bodyAt0 t := by
  unfold defs₀; rw [Defs.onTc_tc]

/-- The body's obligation at every point. -/
theorem body_ok (c : Dev nD) : (rdat m c).BodyObligation (defs₀ (F := F)) Variants.none () Set.univ := fun t Y hY => by
  rw [bigSep_W0, bigSep_W0, row]
  exact triple_restated (body_step m c t Y _ _ _ _ _ _ _ _) rfl .rfl fun _ => .rfl

set_option backward.isDefEq.respectTransparency.types false in
/-- The launch: every execution ends, with every counter at zero. -/
theorem run : θ_run defs (onTc (τ := τ) (main (F := F))) (s₀ m ρ)
    (fun r => Pipeline.RDat.FramePost (cfgs 0) (rdat m) (V m) r ∧ r.2.sem = fun _ => 0) :=
  Pipeline.RDat.θ_run_frame_track_shared (Q' := _) cfgs (0 : Fin 1) launch₀0 defs₀ Variants.none (rdat m) m ρ main
    (hbody := body_ok m) (hq := fun _ _ _ => rfl) (howed := fun _ _ => rfl) (V := V m) (hmain := hmain m Variants.none)
    (hA := fun _ _ => rfl) (hin := fun _ => .rfl) (hout := fun _ => .rfl)

/-- Every execution leaves the arguments as they were and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run m ρ)

end Cert.Second.Words

end
-- ==== Proof.ThirdFrame.lean ====
/- The call of the first down block's second convolution at machine words: it ends, leaves its arguments alone and its counters at zero. -/
module

public import proofs.«01_k».proof.Proof.Gen.Kernel3.Skeleton
public import proofs.«01_k».proof.Proof.Gen.Kernel3.Frame
public import Idealize.ShloMosaic.Lib.Claim
public import Idealize.ShloMosaic.Lib.Pipeline.ArrRel

@[expose] public section

set_option maxRecDepth 16384

noncomputable section

namespace Cert.Third.Words

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)
open Cert.Kernel3 Cert.Kernel3.Gen

variable {F : FTy → Type} [FloatOps F]
local notation "𝕄" => MT nD τ sig Unit (Elt F) ℕ (UR sig nD τ) ℕ

variable (c : Dev nD) (i : grid0.Coords)
  {arg1 : Memref sig .tc .vmem S8x16x8960 .f32} (harg1 : arg1.IsWhole)
  {arg2 : Memref sig .tc .vmem S1x16x8960 .f32} (harg2 : arg2.IsWhole)
  {arg3 : Memref sig .tc .vmem S1x16x8960 .f32} (harg3 : arg3.IsWhole)
  {arg4 : Memref sig .tc .vmem S66x1x8960 .f32} (harg4 : arg4.IsWhole)
  {arg5 : Memref sig .tc .vmem S9x16x48 .f32} (harg5 : arg5.IsWhole)
  {arg6 : Memref sig .tc .vmem S66x16x8960 .f32} (harg6 : arg6.IsWhole)
  {arg7 : Memref sig .tc .vmem S16x1 .f32} (harg7 : arg7.IsWhole)
  {arg8 : Memref sig .tc .vmem S16x1 .f32} (harg8 : arg8.IsWhole)
  {arg9 : Memref sig .tc .smem S1 .f32} (harg9 : arg9.IsWhole)

/-- The word that is one at the first grid point and zero elsewhere. -/
abbrev startWord : BitVec 1 := Scalar.cmpi .ne (Scalar.extui (Scalar.cmpi .eq (BitVec.ofNat 32 (i 0).val) 0#32) : BitVec 32) 0#32

/-- A buffer held at some contents. -/
abbrev Any {sp : Space} {sh : Shape} {e : EltTy} (mr : Memref sig .tc sp sh e) : sProp 𝕄 :=
  iprop(∃ f, mr.view.loc (c : Thread nD τ) ↦[mr.view.set]{fullShare} f)

/-- Contents known by their reading are some contents, -/
theorem open_any {sp : Space} {sh : Shape} {e : EltTy} (mr : Memref sig .tc sp sh e) (X : sh.Idx → Elt F e) :
    (owns (c : Thread nD τ) mr fullShare X : sProp 𝕄) ⊢ Any c mr := by
  unfold owns
  iintro ⟨%f, %hf, H⟩
  iexists f
  iexact H

/-- and some contents have a reading. -/
theorem close_any {sp : Space} {sh : Shape} {e : EltTy} (mr : Memref sig .tc sp sh e) :
    (Any c mr : sProp 𝕄) ⊢ iprop(∃ X, owns (c : Thread nD τ) mr fullShare X) := by
  iintro ⟨%f, H⟩
  iexists _
  iapply (owns_intro (c : Thread nD τ) mr fullShare f)
  iexact H

/-- The body's buffers, each at some contents. -/
abbrev AllAny (arg1 : Memref sig .tc .vmem S8x16x8960 .f32) (arg2 : Memref sig .tc .vmem S1x16x8960 .f32)
    (arg3 : Memref sig .tc .vmem S1x16x8960 .f32) (arg4 : Memref sig .tc .vmem S66x1x8960 .f32) (arg5 : Memref sig .tc .vmem S9x16x48 .f32)
    (arg6 : Memref sig .tc .vmem S66x16x8960 .f32) (arg7 : Memref sig .tc .vmem S16x1 .f32) (arg8 : Memref sig .tc .vmem S16x1 .f32)
    (arg9 : Memref sig .tc .smem S1 .f32) : sProp 𝕄 :=
  iprop(Any c arg1 ∗ Any c arg2 ∗ Any c arg3 ∗ Any c arg4 ∗ Any c arg5 ∗ Any c arg6 ∗ Any c arg7 ∗ Any c arg8 ∗ Any c arg9)

set_option maxHeartbeats 4000000 in
/-- **The body runs**, at any contents of its buffers and at every point of the grid. -/
theorem body_runs (E : Set ℕ) :
    (AllAny c arg1 arg2 arg3 arg4 arg5 arg6 arg7 arg8 arg9 : sProp 𝕄)
      ⊢ wp frame (wpE (defs₀ (F := F)) Variants.none (c : Thread nD τ) none) E (cc0_body (F := F) i arg1 harg1 arg2 harg2 arg3 harg3 arg4 harg4 arg5 harg5 arg6 harg6 arg7 harg7 arg8 harg8 arg9 harg9)
          (fun _ => AllAny c arg1 arg2 arg3 arg4 arg5 arg6 arg7 arg8 arg9) := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  iintro ⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩⟩
  by_cases hc0 : startWord i = 1#1
  · sl_exec (disch := sl_exact hc0)
    sl_step
    sl_close
  · sl_exec (disch := sl_exact hc0)
    sl_step
    sl_close

/-! ## The launch -/

variable (m : (ℓ : Loc nD τ sig) → Buf (Elt F) ℓ) (ρ : Dev nD → PrngReg)

/-- The data of the run: the arrays as the call finds them, and nothing said of what a point leaves. -/
def rdat (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

/-- The invariant hands the body its scratch at anything, and takes it back. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- Whatever a point leaves in a window's buffer is allowed. -/
theorem close_left (c : Dev nD) (t : Fin cfg0.N) (w : Fin cfg0.W) (Y : (cfg0.win w).block.Idx → Elt F (cfg0.win w).elt) {sp : Space}
    {mr : Memref sig .tc sp (cfg0.win w).block (cfg0.win w).elt} :
    (Any c mr : sProp 𝕄) ⊢ iprop(∃ X, ⌜(rdat m c).after w t Y X⌝ ∗ owns (c : Thread nD τ) mr fullShare X) := by
  iintro ⟨%f, H⟩
  iexists _
  isplitr; swap
  · iapply (owns_intro (c : Thread nD τ) mr fullShare f)
    iexact H
  · ipureintro; exact trivial

/-- The body at a point, from the buffers it finds to the buffers it leaves. -/
theorem body_step (c : Dev nD) (t : Fin cfg0.N) (Y : (w : Fin cfg0.W) → (cfg0.win w).block.Idx → Elt F (cfg0.win w).elt)
    (y0 : Vec F S8x16x8960 .f32) (y1 y2 : Vec F S1x16x8960 .f32) (y3 : Vec F S66x1x8960 .f32) (y4 : Vec F S9x16x48 .f32)
    (y5 : Vec F S66x16x8960 .f32) :
    iprop(Pipeline.ΦA spec0 c ∗ (rdat m c).owesAt () t.castSucc
        ∗ owns (c : Thread nD τ) (win0_0.stage (cfg0.slots t 0)) fullShare y0
        ∗ owns (c : Thread nD τ) (win0_1.stage (cfg0.slots t 1)) fullShare y1
        ∗ owns (c : Thread nD τ) (win0_2.stage (cfg0.slots t 2)) fullShare y2
        ∗ owns (c : Thread nD τ) (win0_3.stage (cfg0.slots t 3)) fullShare y3
        ∗ owns (c : Thread nD τ) (win0_4.stage (cfg0.slots t 4)) fullShare y4
        ∗ owns (c : Thread nD τ) (win0_5.stage (cfg0.slots t 5)) fullShare y5)
      ⊢ wp frame (wpE (defs₀ (F := F)) Variants.none (c : Thread nD τ) none) Set.univ (bodyAt0 t) (fun _ =>
        iprop(Pipeline.ΦA spec0 c ∗ (rdat m c).owesAt () t.castSucc
        ∗ (∃ X, ⌜(rdat m c).after 0 t (Y 0) X⌝ ∗ owns (c : Thread nD τ) (win0_0.stage (cfg0.slots t 0)) fullShare X)
        ∗ (∃ X, ⌜(rdat m c).after 1 t (Y 1) X⌝ ∗ owns (c : Thread nD τ) (win0_1.stage (cfg0.slots t 1)) fullShare X)
        ∗ (∃ X, ⌜(rdat m c).after 2 t (Y 2) X⌝ ∗ owns (c : Thread nD τ) (win0_2.stage (cfg0.slots t 2)) fullShare X)
        ∗ (∃ X, ⌜(rdat m c).after 3 t (Y 3) X⌝ ∗ owns (c : Thread nD τ) (win0_3.stage (cfg0.slots t 3)) fullShare X)
        ∗ (∃ X, ⌜(rdat m c).after 4 t (Y 4) X⌝ ∗ owns (c : Thread nD τ) (win0_4.stage (cfg0.slots t 4)) fullShare X)
        ∗ (∃ X, ⌜(rdat m c).after 5 t (Y 5) X⌝ ∗ owns (c : Thread nD τ) (win0_5.stage (cfg0.slots t 5)) fullShare X))) := by
  have hs := body_runs (F := F) c (grid0.coords t) (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5))
    (Memref.isWhole_whole cc0_scratch0) (Memref.isWhole_whole cc0_scratch1) (Memref.isWhole_whole cc0_scratch2) Set.univ
  rw [scratch_eq]
  iintro ⟨⟨⟨⟨%d0, HS0⟩, ⟨%d1, HS1⟩, ⟨%d2, HS2⟩⟩, Hg⟩, Ho, H0, H1, H2, H3, H4, H5⟩
  iapply (wp_wand_r _ _ _)
  isplitl [HS0 HS1 HS2 H0 H1 H2 H3 H4 H5]
  · iapply hs
    isplitl [H0]; · iapply (open_any c _ _); iexact H0
    isplitl [H1]; · iapply (open_any c _ _); iexact H1
    isplitl [H2]; · iapply (open_any c _ _); iexact H2
    isplitl [H3]; · iapply (open_any c _ _); iexact H3
    isplitl [H4]; · iapply (open_any c _ _); iexact H4
    isplitl [H5]; · iapply (open_any c _ _); iexact H5
    isplitl [HS0]; · iapply (open_any c _ _); iexact HS0
    isplitl [HS1]; · iapply (open_any c _ _); iexact HS1
    iapply (open_any c _ _); iexact HS2
  iintro %u ⟨H0, H1, H2, H3, H4, H5, HS0, HS1, HS2⟩
  isplitl [HS0 HS1 HS2 Hg]
  · isplitl [HS0 HS1 HS2]
    · isplitl [HS0]; · iapply (close_any c _); iexact HS0
      isplitl [HS1]; · iapply (close_any c _); iexact HS1
      iapply (close_any c _); iexact HS2
    iexact Hg
  isplitl [Ho]; · iexact Ho
  isplitl [H0]; · iapply (close_left m c t 0 _); iexact H0
  isplitl [H1]; · iapply (close_left m c t 1 _); iexact H1
  isplitl [H2]; · iapply (close_left m c t 2 _); iexact H2
  isplitl [H3]; · iapply (close_left m c t 3 _); iexact H3
  isplitl [H4]; · iapply (close_left m c t 4 _); iexact H4
  iapply (close_left m c t 5 _); iexact H5

/-- The body table's row at a point's slots. -/
theorem row (t : Fin cfg0.N) : defs₀ (F := F) .tc cfg0.body (cfg0.bodyArgs t (cfg0.slots t)) = bodyAt0 t := by
  unfold defs₀; rw [Defs.onTc_tc]

/-- The body's obligation at every point. -/
theorem body_ok (c : Dev nD) : (rdat m c).BodyObligation (defs₀ (F := F)) Variants.none () Set.univ := fun t Y hY => by
  rw [bigSep_W0, bigSep_W0, row]
  exact triple_restated (body_step m c t Y _ _ _ _ _ _) rfl .rfl fun _ => .rfl

set_option backward.isDefEq.respectTransparency.types false in
/-- The launch: every execution ends, with every counter at zero. -/
theorem run : θ_run defs (onTc (τ := τ) (main (F := F))) (s₀ m ρ)
    (fun r => Pipeline.RDat.FramePost (cfgs 0) (rdat m) (V m) r ∧ r.2.sem = fun _ => 0) :=
  Pipeline.RDat.θ_run_frame_track_shared (Q' := _) cfgs (0 : Fin 1) launch₀0 defs₀ Variants.none (rdat m) m ρ main
    (hbody := body_ok m) (hq := fun _ _ _ => rfl) (howed := fun _ _ => rfl) (V := V m) (hmain := hmain m Variants.none)
    (hA := fun _ _ => rfl) (hin := fun _ => .rfl) (hout := fun _ => .rfl)

/-- Every execution leaves the arguments as they were and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run m ρ)

end Cert.Third.Words

end
-- ==== Proof.SecondHeld.lean ====
/- What the body of the second convolution's call is handed and hands back. -/
module

public import proofs.«01_k».proof.Proof.Gen.Kernel2Ideal.Frame
public import proofs.«01_k».proof.Proof.Gen.Kernel2Ideal.Loops

@[expose] public section

set_option maxRecDepth 16384

noncomputable section

namespace Cert.Second

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]
local notation "𝕄" => MT nD τ sig Unit (Elt F) ℕ (UR sig nD τ) ℕ

variable (c : Dev nD) (i : grid0.Coords)
  {arg1 : Memref sig .tc .vmem S8x16x8960 .bf16} (harg1 : arg1.IsWhole)
  {arg2 : Memref sig .tc .vmem S1x16x8960 .bf16} (harg2 : arg2.IsWhole)
  {arg3 : Memref sig .tc .vmem S1x16x8960 .bf16} (harg3 : arg3.IsWhole)
  {arg4 : Memref sig .tc .vmem S66x1x8960 .f32} (harg4 : arg4.IsWhole)
  {arg5 : Memref sig .tc .vmem S9x16x48 .f32} (harg5 : arg5.IsWhole)
  {arg6 : Memref sig .tc .vmem S9x1x48 .f32} (harg6 : arg6.IsWhole)
  {arg7 : Memref sig .tc .vmem S66x16x8960 .f32} (harg7 : arg7.IsWhole)
  {arg8 : Memref sig .tc .vmem S66x1x8960 .f32} (harg8 : arg8.IsWhole)
  {arg9 : Memref sig .tc .vmem S16x1 .f32} (harg9 : arg9.IsWhole)
  {arg10 : Memref sig .tc .vmem S16x1 .f32} (harg10 : arg10.IsWhole)
  {arg11 : Memref sig .tc .smem S1 .f32} (harg11 : arg11.IsWhole)
  (x1 : Vec F S8x16x8960 .bf16) (x2 : Vec F S1x16x8960 .bf16) (x3 : Vec F S1x16x8960 .bf16)
  (x4 : Vec F S66x1x8960 .f32) (x5 : Vec F S9x16x48 .f32) (x6 : Vec F S9x1x48 .f32)

/-- What the body is handed and hands back: the six inputs at their contents, the two outputs at `f7` and `f8`, the scratch at anything. -/
abbrev Held (f7 : BufTy.Contents (Elt F) arg7.view.ty) (f8 : BufTy.Contents (Elt F) arg8.view.ty) : sProp 𝕄 :=
  iprop((arg1.view.loc (c : Thread nD τ) ↦[arg1.view.set]{fullShare} harg1.unread x1)
    ∗ (arg2.view.loc (c : Thread nD τ) ↦[arg2.view.set]{fullShare} harg2.unread x2)
    ∗ (arg3.view.loc (c : Thread nD τ) ↦[arg3.view.set]{fullShare} harg3.unread x3)
    ∗ (arg4.view.loc (c : Thread nD τ) ↦[arg4.view.set]{fullShare} harg4.unread x4)
    ∗ (arg5.view.loc (c : Thread nD τ) ↦[arg5.view.set]{fullShare} harg5.unread x5)
    ∗ (arg6.view.loc (c : Thread nD τ) ↦[arg6.view.set]{fullShare} harg6.unread x6)
    ∗ (arg7.view.loc (c : Thread nD τ) ↦[arg7.view.set]{fullShare} f7)
    ∗ (arg8.view.loc (c : Thread nD τ) ↦[arg8.view.set]{fullShare} f8)
    ∗ (∃ f, arg9.view.loc (c : Thread nD τ) ↦[arg9.view.set]{fullShare} f)
    ∗ (∃ f, arg10.view.loc (c : Thread nD τ) ↦[arg10.view.set]{fullShare} f)
    ∗ (∃ f, arg11.view.loc (c : Thread nD τ) ↦[arg11.view.set]{fullShare} f))

end Cert.Second

end
-- ==== Proof.SecondRunB.lean ====
/- The body of the second convolution's call, run once per kind of grid point. -/
module

public import proofs.«01_k».proof.Proof.SecondHeld
public import proofs.«01_k».proof.Proof.Gen.Kernel2Ideal.Loops

@[expose] public section

set_option maxRecDepth 16384

noncomputable section

namespace Cert.Second

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]
local notation "𝕄" => MT nD τ sig Unit (Elt F) ℕ (UR sig nD τ) ℕ

variable (c : Dev nD) (i : grid0.Coords)
  {arg1 : Memref sig .tc .vmem S8x16x8960 .bf16} (harg1 : arg1.IsWhole)
  {arg2 : Memref sig .tc .vmem S1x16x8960 .bf16} (harg2 : arg2.IsWhole)
  {arg3 : Memref sig .tc .vmem S1x16x8960 .bf16} (harg3 : arg3.IsWhole)
  {arg4 : Memref sig .tc .vmem S66x1x8960 .f32} (harg4 : arg4.IsWhole)
  {arg5 : Memref sig .tc .vmem S9x16x48 .f32} (harg5 : arg5.IsWhole)
  {arg6 : Memref sig .tc .vmem S9x1x48 .f32} (harg6 : arg6.IsWhole)
  {arg7 : Memref sig .tc .vmem S66x16x8960 .f32} (harg7 : arg7.IsWhole)
  {arg8 : Memref sig .tc .vmem S66x1x8960 .f32} (harg8 : arg8.IsWhole)
  {arg9 : Memref sig .tc .vmem S16x1 .f32} (harg9 : arg9.IsWhole)
  {arg10 : Memref sig .tc .vmem S16x1 .f32} (harg10 : arg10.IsWhole)
  {arg11 : Memref sig .tc .smem S1 .f32} (harg11 : arg11.IsWhole)
  (x1 : Vec F S8x16x8960 .bf16) (x2 : Vec F S1x16x8960 .bf16) (x3 : Vec F S1x16x8960 .bf16)
  (x4 : Vec F S66x1x8960 .f32) (x5 : Vec F S9x16x48 .f32) (x6 : Vec F S9x1x48 .f32)

set_option maxHeartbeats 1000000 in
def runB (hc0 : ¬k0_cond1 i = 1#1) (hc1 : ¬k0_cond2 i = 1#1) (f7 : BufTy.Contents (Elt F) arg7.view.ty) :
    { L7 : List (View.Piece (Elt F) S66x16x8960 .f32) //
      ∀ (E : Set ℕ) (f8 : BufTy.Contents (Elt F) arg8.view.ty),
      Held c harg1 harg2 harg3 harg4 harg5 harg6 (arg7 := arg7) (arg8 := arg8) (arg9 := arg9) (arg10 := arg10) (arg11 := arg11) x1 x2 x3 x4 x5 x6 f7 f8
      ⊢ wp frame (wpE (defs₀ (F := F)) Variants.none (c : Thread nD τ) none) E (cc0_body (F := F) i arg1 harg1 arg2 harg2 arg3 harg3 arg4 harg4 arg5 harg5 arg6 harg6 arg7 harg7 arg8 harg8 arg9 harg9 arg10 harg10 arg11 harg11)
          (fun _ => Held c harg1 harg2 harg3 harg4 harg5 harg6 (arg7 := arg7) (arg8 := arg8) (arg9 := arg9) (arg10 := arg10) (arg11 := arg11) x1 x2 x3 x4 x5 x6
            (arg7.view.writes (Elt F) f7 L7) f8) } := by
  refine ⟨?_, fun E f8 => ?run⟩
  case run =>
    simp only [cc0_body_eq_skeleton]; unfold cc0_body_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    iintro ⟨H1, H2, H3, H4, H5, H6, H7, H8, ⟨%f9, H9⟩, ⟨%f10, H10⟩, ⟨%f11, H11⟩⟩
    sl_exec (disch := first | sl_exact hc0 | sl_exact hc1)
    sl_step
    sl_close

end Cert.Second

end
-- ==== Proof.SecondPlane.lean ====
/- The planes that one grid point of the second convolution's call stores, and what each holds. -/
module

public import proofs.«01_k».proof.Proof.Stencil
public import proofs.«01_k».proof.Proof.SecondRunB
public import Idealize.ShloMosaic.Lib.WritesUnit

@[expose] public section

set_option maxRecDepth 16384

noncomputable section

namespace Cert.Second

open Idealize.ShloMosaic hiding ix1 ix2 ix3 ix4 eq_ix1 eq_ix2 eq_ix3 eq_ix4
open Idealize.ShloMosaic.ValueIdx Idealize.ShloMosaic.TcCoe
open Cert.Kernel2Ideal Cert.Kernel2Ideal.Gen Cert.Fat
open scoped BigOperators

variable (c : Dev nD) (i : grid0.Coords)
  {arg1 : Memref sig .tc .vmem S8x16x8960 .bf16} (harg1 : arg1.IsWhole)
  {arg2 : Memref sig .tc .vmem S1x16x8960 .bf16} (harg2 : arg2.IsWhole)
  {arg3 : Memref sig .tc .vmem S1x16x8960 .bf16} (harg3 : arg3.IsWhole)
  {arg4 : Memref sig .tc .vmem S66x1x8960 .f32} (harg4 : arg4.IsWhole)
  {arg5 : Memref sig .tc .vmem S9x16x48 .f32} (harg5 : arg5.IsWhole)
  {arg6 : Memref sig .tc .vmem S9x1x48 .f32} (harg6 : arg6.IsWhole)
  {arg7 : Memref sig .tc .vmem S66x16x8960 .f32} (harg7 : arg7.IsWhole)
  {arg8 : Memref sig .tc .vmem S66x1x8960 .f32} (harg8 : arg8.IsWhole)
  {arg9 : Memref sig .tc .vmem S16x1 .f32} (harg9 : arg9.IsWhole)
  {arg10 : Memref sig .tc .vmem S16x1 .f32} (harg10 : arg10.IsWhole)
  {arg11 : Memref sig .tc .smem S1 .f32} (harg11 : arg11.IsWhole)
  (x1 : Vec Ideal S8x16x8960 .bf16) (x2 : Vec Ideal S1x16x8960 .bf16) (x3 : Vec Ideal S1x16x8960 .bf16)
  (x4 : Vec Ideal S66x1x8960 .f32) (x5 : Vec Ideal S9x16x48 .f32) (x6 : Vec Ideal S9x1x48 .f32)

/-- The weights of offset `q` within a plane. -/
def weight (x5 : Vec Ideal S9x16x48 .f32) (q : Fin 9) : Vec Ideal S1x16x48 .f32 :=
  View.ld x5 (Rect.unit (s := S9x16x48) ![q.val, 0, 0] S1x16x48.size (fun a => by fin_cases a <;> simp <;> omega))

/-- The three planes around plane `k` of the point's eight, stacked. -/
def stack (x1 : Vec Ideal S8x16x8960 .bf16) (x2 x3 : Vec Ideal S1x16x8960 .bf16) : Fin 8 → FVec Ideal S48x8960 .f32 :=
  ![k0_pay18 x1, k0_pay27 (k0_pay15 x1), k0_pay34 (k0_pay15 x1), k0_pay40 (k0_pay15 x1), k0_pay48 (k0_pay15 x1), k0_pay56 (k0_pay15 x1),
    k0_pay64 (k0_pay15 x1) (k0_pay16 x2), k0_pay72 (k0_pay15 x1) (k0_pay16 x2) (k0_pay17 x3)]

/-- The mask's plane for plane `k` of the point's eight. -/
def maskPlane (x4 : Vec Ideal S66x1x8960 .f32) (k : Fin 8) : Vec Ideal S1x1x8960 .f32 :=
  View.ld x4 (Rect.unit (s := S66x1x8960) (k0_off1 i (BitVec.ofNat 32 k.val)) S1x1x8960.size (k0_off1_inb i k))

/-- What is stored at plane `k` of the point's eight. -/
def plane (k : Fin 8) : FVec Ideal S1x16x8960 .f32 :=
  framed (rectified (taps (stack x1 x2 x3 k) (weight x5)) (maskRows (maskPlane i x4 k) broadcasts_S1x8448_S16x8448))
    concatenates_S16x256_S16x8448_S16x8704_d1 concatenates_S16x8704_S16x256_S16x8960_d1

/-- The eight stores of one grid point. -/
abbrev stores : List (View.Piece (Elt Ideal) S66x16x8960 .f32) :=
  View.tilePieces (s := S66x16x8960) (Val := Elt Ideal) (e := .f32) S1x16x8960.size (fun k : Fin 8 => k0_off2 i (BitVec.ofNat 32 k.val)) (k0_off2_inb i) (plane i x1 x2 x3 x4 x5) 8 le_rfl

set_option maxHeartbeats 4000000 in
/-- The eight stores of a point between the first and the last, as the run found them. -/
theorem runB_stores_raw (hc0 : ¬k0_cond1 i = 1#1) (hc1 : ¬k0_cond2 i = 1#1) (f7 : BufTy.Contents (Elt Ideal) arg7.view.ty) :
    (runB c i harg1 harg2 harg3 harg4 harg5 harg6 harg7 harg8 harg9 harg10 harg11 x1 x2 x3 x4 x5 x6 hc0 hc1 f7).1
      = stores i (View.ld (arg1.view.read (Elt Ideal) (harg1.unread x1)) (Rect.unit (s := S8x16x8960) ![0, 0, 0] S8x16x8960.size inb_S8x16x8960_S8x16x8960_0_0_0))
          (View.ld (arg2.view.read (Elt Ideal) (harg2.unread x2)) (Rect.unit (s := S1x16x8960) ![0, 0, 0] S1x16x8960.size inb_S1x16x8960_S1x16x8960_0_0_0))
          (View.ld (arg3.view.read (Elt Ideal) (harg3.unread x3)) (Rect.unit (s := S1x16x8960) ![0, 0, 0] S1x16x8960.size inb_S1x16x8960_S1x16x8960_0_0_0))
          (arg4.view.read (Elt Ideal) (harg4.unread x4)) (arg5.view.read (Elt Ideal) (harg5.unread x5)) := by
  rfl

theorem zero3 : (![0, 0, 0] : Fin 3 → ℕ) = fun _ => 0 := by
  funext a; fin_cases a <;> rfl

/-- **What a point between the first and the last stores**: its eight planes. -/
theorem runB_stores (hc0 : ¬k0_cond1 i = 1#1) (hc1 : ¬k0_cond2 i = 1#1) (f7 : BufTy.Contents (Elt Ideal) arg7.view.ty) :
    (runB c i harg1 harg2 harg3 harg4 harg5 harg6 harg7 harg8 harg9 harg10 harg11 x1 x2 x3 x4 x5 x6 hc0 hc1 f7).1
      = stores i x1 x2 x3 x4 x5 := by
  rw [runB_stores_raw, harg1.read_unread, harg2.read_unread, harg3.read_unread, harg4.read_unread, harg5.read_unread]
  rw [View.ld_unit_zero zero3, View.ld_unit_zero zero3, View.ld_unit_zero zero3]

/-! ## What each plane holds -/

/-- The sum of the products around plane `n`, at output channel `o` and lane `L` of the frame's inside: `V` the planes, `W` the weights. -/
def conv {CO : ℕ} (W : (⟨3, ![9, CO, 48]⟩ : Shape).Idx → EReal) (V : ℕ → ℕ → ℕ → EReal) (n o L : ℕ) : EReal :=
  ∑ q : Fin 9, ∑ k ∈ Finset.range 48, at3 W q o k * V (n + k / 16) (k % 16) (lane q (L - 256))

/-- The block of eight planes and the two planes after it, as one run of ten planes. -/
def ten (x1 : Vec Ideal S8x16x8960 .bf16) (x2 x3 : Vec Ideal S1x16x8960 .bf16) (n o L : ℕ) : EReal :=
  if n < 8 then at3 x1 n o L else if n = 8 then at3 x2 0 o L else at3 x3 0 o L

theorem squeeze_at (x : Vec Ideal S1x16x8960 .bf16) {r l : ℕ} (hr : r < 16) (hl : l < 8960) :
    at2 (shapeCast S16x8960 x shapeCasts_S1x16x8960_S16x8960) r l = at3 x 0 r l := by
  rw [at2_lt _ hr hl, at3_lt _ Nat.one_pos hr hl]
  exact shapeCast_1ab_ab_apply _ _ _ _

theorem extf_at (x : FVec Ideal S48x8960 .bf16) (r l : ℕ) : at2 (extf .f32 x bitsLt_bf16_f32 : FVec Ideal S48x8960 .f32) r l = at2 x r l := rfl

theorem whole_block (x1 : Vec Ideal S8x16x8960 .bf16) : k0_pay15 x1 = x1 := shapeCast_self _ _

theorem inner_at (x1 : Vec Ideal S8x16x8960 .bf16) (x2 x3 : Vec Ideal S1x16x8960 .bf16) (o : ℕ) (h : o + 3 ≤ 8) {r l : ℕ}
    (hr : r < 48) (hl : l < 8960) :
    at2 (extf .f32 (shapeCast S48x8960 (extractStridedSlice S3x16x8960 ![o, 0, 0] (k0_pay15 x1) (slices3 o h)) shapeCasts_S3x16x8960_S48x8960 : FVec Ideal S48x8960 .bf16) bitsLt_bf16_f32 : FVec Ideal S48x8960 .f32) r l
      = ten x1 x2 x3 (o + r / 16) (r % 16) l := by
  rw [ten, if_pos (by omega), whole_block, extf_at]
  exact stack_at (φ := .bf16) (a := 8) (a' := 3) (b := 16) (n := 48) x1 o h rfl hr hl

theorem upper_at (x1 : Vec Ideal S8x16x8960 .bf16) (x2 x3 : Vec Ideal S1x16x8960 .bf16) {r l : ℕ} (hr : r < 48) (hl : l < 8960) :
    at2 (k0_pay64 (k0_pay15 x1) (k0_pay16 x2)) r l = ten x1 x2 x3 (6 + r / 16) (r % 16) l := by
  unfold k0_pay64
  dsimp only
  rw [extf_at, whole_block, cat0_at (a := 32) (b := 16) (n := 48) (φ := .bf16) _ _ concatenates_S32x8960_S16x8960_S48x8960_d0 rfl hr hl, ten]
  by_cases h : r < 32
  · rw [if_pos h, if_pos (by omega)]
    exact stack_at (φ := .bf16) (a := 8) (a' := 2) (b := 16) (n := 32) x1 6 (by omega) rfl h hl
  · rw [if_neg h, if_neg (by omega), if_pos (by omega)]
    refine (squeeze_at x2 (by omega) hl).trans ?_
    rw [show r - 32 = r % 16 by omega]

theorem last_at (x1 : Vec Ideal S8x16x8960 .bf16) (x2 x3 : Vec Ideal S1x16x8960 .bf16) {r l : ℕ} (hr : r < 48) (hl : l < 8960) :
    at2 (k0_pay72 (k0_pay15 x1) (k0_pay16 x2) (k0_pay17 x3)) r l = ten x1 x2 x3 (7 + r / 16) (r % 16) l := by
  unfold k0_pay72
  dsimp only
  rw [extf_at, whole_block, cat0_three_at (a := 16) (b := 16) (c := 16) (n := 48) (φ := .bf16) _ _ _ concatenates_S16x8960_S16x8960_S16x8960_S48x8960_d0 rfl hr hl, ten]
  by_cases h : r < 16
  · rw [if_pos h, if_pos (by omega)]
    exact stack_at (φ := .bf16) (a := 8) (a' := 1) (b := 16) (n := 16) x1 7 (by omega) rfl h hl
  · rw [if_neg h, if_neg (show ¬ 7 + r / 16 < 8 by omega)]
    by_cases h2 : r - 16 < 16
    · rw [if_pos h2, if_pos (show 7 + r / 16 = 8 by omega)]
      refine (squeeze_at x2 (by omega) hl).trans ?_
      rw [show r - 16 = r % 16 by omega]
    · rw [if_neg h2, if_neg (show ¬ 7 + r / 16 = 8 by omega)]
      refine (squeeze_at x3 (by omega) hl).trans ?_
      rw [show r - 16 - 16 = r % 16 by omega]

/-- Row `r` of the stack around plane `k` is channel `r % 16` of plane `k + r / 16` of the ten. -/
theorem stack_read (x1 : Vec Ideal S8x16x8960 .bf16) (x2 x3 : Vec Ideal S1x16x8960 .bf16) (k : Fin 8) {r l : ℕ} (hr : r < 48)
    (hl : l < 8960) : at2 (stack x1 x2 x3 k) r l = ten x1 x2 x3 (k.val + r / 16) (r % 16) l := by
  match k with
  | ⟨0, _⟩ => exact inner_at x1 x2 x3 0 (by omega) hr hl
  | ⟨1, _⟩ => exact inner_at x1 x2 x3 1 (by omega) hr hl
  | ⟨2, _⟩ => exact inner_at x1 x2 x3 2 (by omega) hr hl
  | ⟨3, _⟩ => exact inner_at x1 x2 x3 3 (by omega) hr hl
  | ⟨4, _⟩ => exact inner_at x1 x2 x3 4 (by omega) hr hl
  | ⟨5, _⟩ => exact inner_at x1 x2 x3 5 (by omega) hr hl
  | ⟨6, _⟩ => exact upper_at x1 x2 x3 hr hl
  | ⟨7, _⟩ => exact last_at x1 x2 x3 hr hl

theorem ld_plane_at {a b c : ℕ} (x : Vec Ideal ⟨3, ![a, b, c]⟩ .f32) (n : ℕ) (hn : n < a) (off : Fin 3 → ℕ) (hoff : off = ![n, 0, 0])
    (inb : ∀ d, off d + (![1, b, c] : Fin 3 → ℕ) d ≤ (⟨3, ![a, b, c]⟩ : Shape).size d) {r l : ℕ} (hr : r < b) (hl : l < c) :
    at3 (a := 1) (View.ld x (Rect.unit (s := ⟨3, ![a, b, c]⟩) off ![1, b, c] inb)) 0 r l = at3 x n r l := by
  subst hoff
  rw [at3_lt _ Nat.one_pos hr hl, at3_lt _ hn hr hl, View.ld_unit]
  exact extractStridedSlice_apply _ _ _ _ _ (fun ax => by
    match ax with
    | ⟨0, _⟩ => rfl
    | ⟨1, _⟩ => exact (Nat.zero_add _).symm
    | ⟨2, _⟩ => exact (Nat.zero_add _).symm)

/-- **What is stored at plane `k` of a point's eight**, at a channel and a lane. -/
theorem plane_at (k : Fin 8) {o L : ℕ} (ho : o < 16) (hL : L < 8960) :
    at3 (plane i x1 x2 x3 x4 x5 k) 0 o L
      = if 256 ≤ L ∧ L < 8704 then act (conv x5 (ten x1 x2 x3) k o L * at3 x4 (8 * (i 0).val + k.val + 1) 0 L) else 0 := by
  have hi : (i 0).val < 8 := (i 0).isLt
  rw [plane, framed_at (CO := 16) _ _ _ ho hL]
  by_cases h : 256 ≤ L ∧ L < 8704
  · rw [if_pos h, if_pos h, rectified_at _ _ ho (by omega), maskRows_at _ _ ho (by omega), taps_at _ _ ho (by omega)]
    refine congrArg act (congr (congrArg _ ?_) ?_)
    · unfold conv
      refine Finset.sum_congr rfl fun q _ => Finset.sum_congr rfl fun r hr => ?_
      have hr' := Finset.mem_range.1 hr
      rw [stack_read x1 x2 x3 k hr' (by unfold lane; omega)]
      refine congrArg (· * _) ?_
      exact ld_plane_at x5 q.val q.isLt _ rfl _ ho hr'
    · rw [show 256 + (L - 256) = L by omega]
      exact ld_plane_at x4 _ (by omega) _ (k0_off1_eq i k) _ Nat.one_pos hL
  · rw [if_neg h, if_neg h]

end Cert.Second

end
-- ==== Proof.SecondRunA.lean ====
/- The body of the second convolution's call, run once per kind of grid point. -/
module

public import proofs.«01_k».proof.Proof.SecondHeld
public import proofs.«01_k».proof.Proof.Gen.Kernel2Ideal.Loops

@[expose] public section

set_option maxRecDepth 16384

noncomputable section

namespace Cert.Second

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]
local notation "𝕄" => MT nD τ sig Unit (Elt F) ℕ (UR sig nD τ) ℕ

variable (c : Dev nD) (i : grid0.Coords)
  {arg1 : Memref sig .tc .vmem S8x16x8960 .bf16} (harg1 : arg1.IsWhole)
  {arg2 : Memref sig .tc .vmem S1x16x8960 .bf16} (harg2 : arg2.IsWhole)
  {arg3 : Memref sig .tc .vmem S1x16x8960 .bf16} (harg3 : arg3.IsWhole)
  {arg4 : Memref sig .tc .vmem S66x1x8960 .f32} (harg4 : arg4.IsWhole)
  {arg5 : Memref sig .tc .vmem S9x16x48 .f32} (harg5 : arg5.IsWhole)
  {arg6 : Memref sig .tc .vmem S9x1x48 .f32} (harg6 : arg6.IsWhole)
  {arg7 : Memref sig .tc .vmem S66x16x8960 .f32} (harg7 : arg7.IsWhole)
  {arg8 : Memref sig .tc .vmem S66x1x8960 .f32} (harg8 : arg8.IsWhole)
  {arg9 : Memref sig .tc .vmem S16x1 .f32} (harg9 : arg9.IsWhole)
  {arg10 : Memref sig .tc .vmem S16x1 .f32} (harg10 : arg10.IsWhole)
  {arg11 : Memref sig .tc .smem S1 .f32} (harg11 : arg11.IsWhole)
  (x1 : Vec F S8x16x8960 .bf16) (x2 : Vec F S1x16x8960 .bf16) (x3 : Vec F S1x16x8960 .bf16)
  (x4 : Vec F S66x1x8960 .f32) (x5 : Vec F S9x16x48 .f32) (x6 : Vec F S9x1x48 .f32)

set_option maxHeartbeats 1000000 in
def runA (hc0 : k0_cond1 i = 1#1) (hc1 : ¬k0_cond2 i = 1#1) (f7 : BufTy.Contents (Elt F) arg7.view.ty) :
    Σ' L7 : List (View.Piece (Elt F) S66x16x8960 .f32), { L8 : List (View.Piece (Elt F) S66x1x8960 .f32) //
      ∀ (E : Set ℕ) (f8 : BufTy.Contents (Elt F) arg8.view.ty),
      Held c harg1 harg2 harg3 harg4 harg5 harg6 (arg7 := arg7) (arg8 := arg8) (arg9 := arg9) (arg10 := arg10) (arg11 := arg11) x1 x2 x3 x4 x5 x6 f7 f8
      ⊢ wp frame (wpE (defs₀ (F := F)) Variants.none (c : Thread nD τ) none) E (cc0_body (F := F) i arg1 harg1 arg2 harg2 arg3 harg3 arg4 harg4 arg5 harg5 arg6 harg6 arg7 harg7 arg8 harg8 arg9 harg9 arg10 harg10 arg11 harg11)
          (fun _ => Held c harg1 harg2 harg3 harg4 harg5 harg6 (arg7 := arg7) (arg8 := arg8) (arg9 := arg9) (arg10 := arg10) (arg11 := arg11) x1 x2 x3 x4 x5 x6
            (arg7.view.writes (Elt F) f7 L7) (arg8.view.writes (Elt F) f8 L8)) } := by
  refine ⟨?_, ?_, fun E f8 => ?run⟩
  case run =>
    simp only [cc0_body_eq_skeleton]; unfold cc0_body_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    iintro ⟨H1, H2, H3, H4, H5, H6, H7, H8, ⟨%f9, H9⟩, ⟨%f10, H10⟩, ⟨%f11, H11⟩⟩
    sl_exec (disch := first | sl_exact hc0 | sl_exact hc1)
    sl_step
    sl_close

end Cert.Second

end
-- ==== Proof.SecondRunC.lean ====
/- The body of the second convolution's call, run once per kind of grid point. -/
module

public import proofs.«01_k».proof.Proof.SecondHeld
public import proofs.«01_k».proof.Proof.Gen.Kernel2Ideal.Loops

@[expose] public section

set_option maxRecDepth 16384

noncomputable section

namespace Cert.Second

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]
local notation "𝕄" => MT nD τ sig Unit (Elt F) ℕ (UR sig nD τ) ℕ

variable (c : Dev nD) (i : grid0.Coords)
  {arg1 : Memref sig .tc .vmem S8x16x8960 .bf16} (harg1 : arg1.IsWhole)
  {arg2 : Memref sig .tc .vmem S1x16x8960 .bf16} (harg2 : arg2.IsWhole)
  {arg3 : Memref sig .tc .vmem S1x16x8960 .bf16} (harg3 : arg3.IsWhole)
  {arg4 : Memref sig .tc .vmem S66x1x8960 .f32} (harg4 : arg4.IsWhole)
  {arg5 : Memref sig .tc .vmem S9x16x48 .f32} (harg5 : arg5.IsWhole)
  {arg6 : Memref sig .tc .vmem S9x1x48 .f32} (harg6 : arg6.IsWhole)
  {arg7 : Memref sig .tc .vmem S66x16x8960 .f32} (harg7 : arg7.IsWhole)
  {arg8 : Memref sig .tc .vmem S66x1x8960 .f32} (harg8 : arg8.IsWhole)
  {arg9 : Memref sig .tc .vmem S16x1 .f32} (harg9 : arg9.IsWhole)
  {arg10 : Memref sig .tc .vmem S16x1 .f32} (harg10 : arg10.IsWhole)
  {arg11 : Memref sig .tc .smem S1 .f32} (harg11 : arg11.IsWhole)
  (x1 : Vec F S8x16x8960 .bf16) (x2 : Vec F S1x16x8960 .bf16) (x3 : Vec F S1x16x8960 .bf16)
  (x4 : Vec F S66x1x8960 .f32) (x5 : Vec F S9x16x48 .f32) (x6 : Vec F S9x1x48 .f32)

set_option maxHeartbeats 1000000 in
def runC (hc0 : ¬k0_cond1 i = 1#1) (hc1 : k0_cond2 i = 1#1) (f7 : BufTy.Contents (Elt F) arg7.view.ty) :
    Σ' L7 : List (View.Piece (Elt F) S66x16x8960 .f32), { L8 : List (View.Piece (Elt F) S66x1x8960 .f32) //
      ∀ (E : Set ℕ) (f8 : BufTy.Contents (Elt F) arg8.view.ty),
      Held c harg1 harg2 harg3 harg4 harg5 harg6 (arg7 := arg7) (arg8 := arg8) (arg9 := arg9) (arg10 := arg10) (arg11 := arg11) x1 x2 x3 x4 x5 x6 f7 f8
      ⊢ wp frame (wpE (defs₀ (F := F)) Variants.none (c : Thread nD τ) none) E (cc0_body (F := F) i arg1 harg1 arg2 harg2 arg3 harg3 arg4 harg4 arg5 harg5 arg6 harg6 arg7 harg7 arg8 harg8 arg9 harg9 arg10 harg10 arg11 harg11)
          (fun _ => Held c harg1 harg2 harg3 harg4 harg5 harg6 (arg7 := arg7) (arg8 := arg8) (arg9 := arg9) (arg10 := arg10) (arg11 := arg11) x1 x2 x3 x4 x5 x6
            (arg7.view.writes (Elt F) f7 L7) (arg8.view.writes (Elt F) f8 L8)) } := by
  refine ⟨?_, ?_, fun E f8 => ?run⟩
  case run =>
    simp only [cc0_body_eq_skeleton]; unfold cc0_body_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    iintro ⟨H1, H2, H3, H4, H5, H6, H7, H8, ⟨%f9, H9⟩, ⟨%f10, H10⟩, ⟨%f11, H11⟩⟩
    sl_exec (disch := first | sl_exact hc0 | sl_exact hc1)
    sl_step
    sl_close

end Cert.Second

end
-- ==== Proof.SecondHead.lean ====
/- What the first and the last grid point of the second convolution's call store, and what the head's planes hold. -/
module

public import proofs.«01_k».proof.Proof.SecondPlane
public import proofs.«01_k».proof.Proof.SecondRunA
public import proofs.«01_k».proof.Proof.SecondRunC

@[expose] public section

set_option maxRecDepth 16384

noncomputable section

namespace Cert.Second

open Idealize.ShloMosaic hiding ix1 ix2 ix3 ix4 eq_ix1 eq_ix2 eq_ix3 eq_ix4
open Idealize.ShloMosaic.ValueIdx Idealize.ShloMosaic.TcCoe
open Cert.Kernel2Ideal Cert.Kernel2Ideal.Gen Cert.Fat
open scoped BigOperators

variable (c : Dev nD) (i : grid0.Coords)
  {arg1 : Memref sig .tc .vmem S8x16x8960 .bf16} (harg1 : arg1.IsWhole)
  {arg2 : Memref sig .tc .vmem S1x16x8960 .bf16} (harg2 : arg2.IsWhole)
  {arg3 : Memref sig .tc .vmem S1x16x8960 .bf16} (harg3 : arg3.IsWhole)
  {arg4 : Memref sig .tc .vmem S66x1x8960 .f32} (harg4 : arg4.IsWhole)
  {arg5 : Memref sig .tc .vmem S9x16x48 .f32} (harg5 : arg5.IsWhole)
  {arg6 : Memref sig .tc .vmem S9x1x48 .f32} (harg6 : arg6.IsWhole)
  {arg7 : Memref sig .tc .vmem S66x16x8960 .f32} (harg7 : arg7.IsWhole)
  {arg8 : Memref sig .tc .vmem S66x1x8960 .f32} (harg8 : arg8.IsWhole)
  {arg9 : Memref sig .tc .vmem S16x1 .f32} (harg9 : arg9.IsWhole)
  {arg10 : Memref sig .tc .vmem S16x1 .f32} (harg10 : arg10.IsWhole)
  {arg11 : Memref sig .tc .smem S1 .f32} (harg11 : arg11.IsWhole)
  (x1 : Vec Ideal S8x16x8960 .bf16) (x2 : Vec Ideal S1x16x8960 .bf16) (x3 : Vec Ideal S1x16x8960 .bf16)
  (x4 : Vec Ideal S66x1x8960 .f32) (x5 : Vec Ideal S9x16x48 .f32) (x6 : Vec Ideal S9x1x48 .f32)

/-- The head's weights of offset `q` within a plane. -/
def weightH (x6 : Vec Ideal S9x1x48 .f32) (q : Fin 9) : Vec Ideal S1x1x48 .f32 :=
  View.ld x6 (Rect.unit (s := S9x1x48) ![q.val, 0, 0] S1x1x48.size (fun a => by fin_cases a <;> simp <;> omega))

/-- What trip `k` of the head's loop stores, from the mask, the head's weights and the planes. -/
def headPlane (x4 : Vec Ideal S66x1x8960 .f32) (x6 : Vec Ideal S9x1x48 .f32) (y : Vec Ideal S66x16x8960 .f32) (hc1 : k0_cond2 i = 1#1)
    (k : Fin k0_t1_loop.trips) : FVec Ideal S1x1x8960 .f32 :=
  framed (mulf (taps (k0_pay3 (View.ld y (Rect.unit (s := S66x16x8960) (k0_off3 k) S3x16x8960.size (k0_off3_inb i k hc1)))) (weightH x6))
      (maskRow (View.ld x4 (Rect.unit (s := S66x1x8960) (k0_off4 k) S1x1x8960.size (k0_off4_inb i k hc1)))))
    concatenates_S1x256_S1x8448_S1x8704_d1 concatenates_S1x8704_S1x256_S1x8960_d1

set_option maxHeartbeats 4000000 in
/-- One trip of the head's loop stores one plane. -/
theorem trip_stores (hc1 : k0_cond2 i = 1#1) (X4 : BufTy.Contents (Elt Ideal) arg4.view.ty) (X6 : BufTy.Contents (Elt Ideal) arg6.view.ty)
    (X7 : BufTy.Contents (Elt Ideal) arg7.view.ty) (k : Fin k0_t1_loop.trips) :
    tripL_k0_t1 (F := Ideal) Variants.none c none i arg1 harg1 arg2 harg2 arg3 harg3 arg4 harg4 arg5 harg5 arg6 harg6 arg7 harg7 arg8 harg8 arg9 harg9 arg10 harg10 arg11 harg11 hc1 X4 X6 X7 k
      = [⟨Rect.unit (s := S66x1x8960) (k0_off4 k) S1x1x8960.size (k0_off4_inb i k hc1),
          headPlane i (arg4.view.read (Elt Ideal) X4) (arg6.view.read (Elt Ideal) X6) (arg7.view.read (Elt Ideal) X7) hc1 k⟩] := by
  unfold tripL_k0_t1 trip_k0_t1
  rfl

/-- The trips before `j` store their planes one after the other. -/
theorem trips_stores (hc1 : k0_cond2 i = 1#1) (X4 : BufTy.Contents (Elt Ideal) arg4.view.ty) (X6 : BufTy.Contents (Elt Ideal) arg6.view.ty)
    (X7 : BufTy.Contents (Elt Ideal) arg7.view.ty) (j : ℕ) (hj : j ≤ k0_t1_loop.trips) :
    pb_k0_t1 (F := Ideal) Variants.none c none i arg1 harg1 arg2 harg2 arg3 harg3 arg4 harg4 arg5 harg5 arg6 harg6 arg7 harg7 arg8 harg8 arg9 harg9 arg10 harg10 arg11 harg11 hc1 X4 X6 X7 j
      = View.tilePieces (s := S66x1x8960) (Val := Elt Ideal) (e := .f32) S1x1x8960.size k0_off4 (fun k => k0_off4_inb i k hc1)
          (headPlane i (arg4.view.read (Elt Ideal) X4) (arg6.view.read (Elt Ideal) X6) (arg7.view.read (Elt Ideal) X7) hc1) j hj := by
  induction j with
  | zero => rfl
  | succ j ih =>
    rw [View.tilePieces_succ, ← ih (Nat.le_of_succ_le hj)]
    have e := pb_k0_t1_succ (F := Ideal) Variants.none c none i arg1 harg1 arg2 harg2 arg3 harg3 arg4 harg4 arg5 harg5 arg6 harg6 arg7 harg7 arg8 harg8 arg9 harg9 arg10 harg10 arg11 harg11 hc1 X4 X6 X7 ⟨j, hj⟩
    rw [trip_stores] at e
    exact e

set_option maxHeartbeats 4000000 in
/-- **What the last point stores in the first output**: its eight planes. -/
theorem runC_stores (hc0 : ¬k0_cond1 i = 1#1) (hc1 : k0_cond2 i = 1#1) (f7 : BufTy.Contents (Elt Ideal) arg7.view.ty) :
    (runC c i harg1 harg2 harg3 harg4 harg5 harg6 harg7 harg8 harg9 harg10 harg11 x1 x2 x3 x4 x5 x6 hc0 hc1 f7).1
      = stores i x1 x2 x3 x4 x5 := by
  have e : (runC c i harg1 harg2 harg3 harg4 harg5 harg6 harg7 harg8 harg9 harg10 harg11 x1 x2 x3 x4 x5 x6 hc0 hc1 f7).1
      = stores i (View.ld (arg1.view.read (Elt Ideal) (harg1.unread x1)) (Rect.unit (s := S8x16x8960) ![0, 0, 0] S8x16x8960.size inb_S8x16x8960_S8x16x8960_0_0_0))
          (View.ld (arg2.view.read (Elt Ideal) (harg2.unread x2)) (Rect.unit (s := S1x16x8960) ![0, 0, 0] S1x16x8960.size inb_S1x16x8960_S1x16x8960_0_0_0))
          (View.ld (arg3.view.read (Elt Ideal) (harg3.unread x3)) (Rect.unit (s := S1x16x8960) ![0, 0, 0] S1x16x8960.size inb_S1x16x8960_S1x16x8960_0_0_0))
          (arg4.view.read (Elt Ideal) (harg4.unread x4)) (arg5.view.read (Elt Ideal) (harg5.unread x5)) := by
    rfl
  rw [e, harg1.read_unread, harg2.read_unread, harg3.read_unread, harg4.read_unread, harg5.read_unread]
  rw [View.ld_unit_zero zero3, View.ld_unit_zero zero3, View.ld_unit_zero zero3]

/-- **What the last point stores in the second output**: the head's planes, from the first output as it then is. -/
theorem runC_head (hc0 : ¬k0_cond1 i = 1#1) (hc1 : k0_cond2 i = 1#1) (f7 : BufTy.Contents (Elt Ideal) arg7.view.ty) :
    (runC c i harg1 harg2 harg3 harg4 harg5 harg6 harg7 harg8 harg9 harg10 harg11 x1 x2 x3 x4 x5 x6 hc0 hc1 f7).2.1
      = View.tilePieces (s := S66x1x8960) (Val := Elt Ideal) (e := .f32) S1x1x8960.size k0_off4 (fun k => k0_off4_inb i k hc1)
          (headPlane i x4 x6 (arg7.view.read (Elt Ideal) (arg7.view.writes (Elt Ideal) f7 (stores i x1 x2 x3 x4 x5))) hc1)
          k0_t1_loop.trips le_rfl := by
  have e : (runC c i harg1 harg2 harg3 harg4 harg5 harg6 harg7 harg8 harg9 harg10 harg11 x1 x2 x3 x4 x5 x6 hc0 hc1 f7).2.1
      = pb_k0_t1 (F := Ideal) Variants.none c none i arg1 harg1 arg2 harg2 arg3 harg3 arg4 harg4 arg5 harg5 arg6 harg6 arg7 harg7 arg8 harg8 arg9 harg9 arg10 harg10 arg11 harg11 hc1
          (harg4.unread x4) (harg6.unread x6) (arg7.view.writes (Elt Ideal) f7 (runC c i harg1 harg2 harg3 harg4 harg5 harg6 harg7 harg8 harg9 harg10 harg11 x1 x2 x3 x4 x5 x6 hc0 hc1 f7).1) k0_t1_loop.trips := rfl
  rw [e, trips_stores c i harg1 harg2 harg3 harg4 harg5 harg6 harg7 harg8 harg9 harg10 harg11 hc1 _ _ _ _ le_rfl, harg4.read_unread, harg6.read_unread, runC_stores]

set_option maxHeartbeats 4000000 in
/-- **What the first point stores in the first output**: zeros in the planes below and above the grid, then its eight planes. -/
theorem runA_stores (hc0 : k0_cond1 i = 1#1) (hc1 : ¬k0_cond2 i = 1#1) (f7 : BufTy.Contents (Elt Ideal) arg7.view.ty) :
    (runA c i harg1 harg2 harg3 harg4 harg5 harg6 harg7 harg8 harg9 harg10 harg11 x1 x2 x3 x4 x5 x6 hc0 hc1 f7).1
      = stores i x1 x2 x3 x4 x5 ++ [⟨Rect.unit (s := S66x16x8960) ![65, 0, 0] S1x16x8960.size inb_S66x16x8960_S1x16x8960_65_0_0, k0_pay12 (F := Ideal)⟩,
          ⟨Rect.unit (s := S66x16x8960) ![0, 0, 0] S1x16x8960.size inb_S66x16x8960_S1x16x8960_0_0_0, k0_pay11 (F := Ideal)⟩] := by
  have e : (runA c i harg1 harg2 harg3 harg4 harg5 harg6 harg7 harg8 harg9 harg10 harg11 x1 x2 x3 x4 x5 x6 hc0 hc1 f7).1
      = stores i (View.ld (arg1.view.read (Elt Ideal) (harg1.unread x1)) (Rect.unit (s := S8x16x8960) ![0, 0, 0] S8x16x8960.size inb_S8x16x8960_S8x16x8960_0_0_0))
          (View.ld (arg2.view.read (Elt Ideal) (harg2.unread x2)) (Rect.unit (s := S1x16x8960) ![0, 0, 0] S1x16x8960.size inb_S1x16x8960_S1x16x8960_0_0_0))
          (View.ld (arg3.view.read (Elt Ideal) (harg3.unread x3)) (Rect.unit (s := S1x16x8960) ![0, 0, 0] S1x16x8960.size inb_S1x16x8960_S1x16x8960_0_0_0))
          (arg4.view.read (Elt Ideal) (harg4.unread x4)) (arg5.view.read (Elt Ideal) (harg5.unread x5))
          ++ [⟨Rect.unit (s := S66x16x8960) ![65, 0, 0] S1x16x8960.size inb_S66x16x8960_S1x16x8960_65_0_0, k0_pay12 (F := Ideal)⟩,
          ⟨Rect.unit (s := S66x16x8960) ![0, 0, 0] S1x16x8960.size inb_S66x16x8960_S1x16x8960_0_0_0, k0_pay11 (F := Ideal)⟩] := by
    rfl
  rw [e, harg1.read_unread, harg2.read_unread, harg3.read_unread, harg4.read_unread, harg5.read_unread]
  rw [View.ld_unit_zero zero3, View.ld_unit_zero zero3, View.ld_unit_zero zero3]

/-- **What the first point stores in the second output**: zeros in the planes below and above the grid. -/
theorem runA_head (hc0 : k0_cond1 i = 1#1) (hc1 : ¬k0_cond2 i = 1#1) (f7 : BufTy.Contents (Elt Ideal) arg7.view.ty) :
    (runA c i harg1 harg2 harg3 harg4 harg5 harg6 harg7 harg8 harg9 harg10 harg11 x1 x2 x3 x4 x5 x6 hc0 hc1 f7).2.1
      = [⟨Rect.unit (s := S66x1x8960) ![65, 0, 0] S1x1x8960.size inb_S66x1x8960_S1x1x8960_65_0_0, k0_pay14 (F := Ideal)⟩,
          ⟨Rect.unit (s := S66x1x8960) ![0, 0, 0] S1x1x8960.size inb_S66x1x8960_S1x1x8960_0_0_0, k0_pay13 (F := Ideal)⟩] := rfl

/-! ## What the head's planes hold -/

/-- Row `r` of the three planes stacked is channel `r % 16` of plane `k + r / 16`. -/
theorem three_at (y : Vec Ideal S66x16x8960 .f32) (hc1 : k0_cond2 i = 1#1) (k : Fin k0_t1_loop.trips) {r l : ℕ} (hr : r < 48) (hl : l < 8960) :
    at2 (k0_pay3 (View.ld y (Rect.unit (s := S66x16x8960) (k0_off3 k) S3x16x8960.size (k0_off3_inb i k hc1)))) r l
      = at3 y (k.val + r / 16) (r % 16) l := by
  have hk : k.val < 64 := Nat.lt_of_lt_of_le k.isLt k0_t1_abs.2.1
  rw [at2_lt _ hr hl, at3_lt _ (by omega : k.val + r / 16 < 66) (by omega) hl]
  unfold k0_pay3
  dsimp only
  rw [shapeCast_self, shapeCast_apply (k := ix3 (⟨r / 16, by omega⟩ : Fin 3) (⟨r % 16, by omega⟩ : Fin 16) (⟨l, hl⟩ : Fin 8960)) _ _ _ (by
    rw [Shape.rowMajor_val_three, Shape.rowMajor_val_two]
    show (r / 16 * 16 + r % 16) * 8960 + l = r * 8960 + l
    rw [Nat.div_add_mod'])]
  rw [View.ld_unit]
  have e := k0_off3_eq k
  exact extractStridedSlice_apply _ _ _ _ _ (fun ax => by
    match ax with
    | ⟨0, _⟩ => exact congrArg (· + r / 16) (congrFun e 0).symm
    | ⟨1, _⟩ => exact (Nat.zero_add _).symm.trans (congrArg (· + r % 16) (congrFun e 1).symm)
    | ⟨2, _⟩ => exact (Nat.zero_add _).symm.trans (congrArg (· + l) (congrFun e 2).symm))

/-- **What trip `k` of the head's loop stores**, at a lane. -/
theorem headPlane_at (y : Vec Ideal S66x16x8960 .f32) (hc1 : k0_cond2 i = 1#1) (k : Fin k0_t1_loop.trips) {L : ℕ} (hL : L < 8960) :
    at3 (headPlane i x4 x6 y hc1 k) 0 0 L
      = if 256 ≤ L ∧ L < 8704 then conv x6 (at3 y) k 0 L * at3 x4 (k.val + 1) 0 L else 0 := by
  have hk : k.val < 64 := Nat.lt_of_lt_of_le k.isLt k0_t1_abs.2.1
  rw [headPlane, framed_at (CO := 1) _ _ _ Nat.one_pos hL]
  by_cases h : 256 ≤ L ∧ L < 8704
  · rw [if_pos h, if_pos h, mulf_at _ _ Nat.one_pos (by omega), maskRow_at _ (by omega), taps_at _ _ Nat.one_pos (by omega)]
    refine congr (congrArg _ ?_) ?_
    · unfold conv
      refine Finset.sum_congr rfl fun q _ => Finset.sum_congr rfl fun r hr => ?_
      have hr' := Finset.mem_range.1 hr
      rw [three_at i y hc1 k hr' (by unfold lane; omega)]
      refine congrArg (· * _) ?_
      exact ld_plane_at x6 q.val q.isLt _ rfl _ Nat.one_pos hr'
    · rw [show 256 + (L - 256) = L by omega]
      exact ld_plane_at x4 _ (by omega) _ (k0_off4_eq k) _ Nat.one_pos hL
  · rw [if_neg h, if_neg h]

end Cert.Second

end
-- ==== Proof.SecondLeft.lean ====
/- What the two outputs of the second convolution's call hold after each grid point. -/
module

public import proofs.«01_k».proof.Proof.SecondHead
public import proofs.«01_k».proof.Proof.Planes

@[expose] public section

set_option maxRecDepth 16384

noncomputable section

namespace Cert.Second

open Idealize.ShloMosaic hiding ix1 ix2 ix3 ix4 eq_ix1 eq_ix2 eq_ix3 eq_ix4
open Idealize.ShloMosaic.ValueIdx Idealize.ShloMosaic.TcCoe
open Cert.Kernel2Ideal Cert.Kernel2Ideal.Gen Cert.Fat
open scoped BigOperators

variable (c : Dev nD) (i : grid0.Coords)
  {arg1 : Memref sig .tc .vmem S8x16x8960 .bf16} (harg1 : arg1.IsWhole)
  {arg2 : Memref sig .tc .vmem S1x16x8960 .bf16} (harg2 : arg2.IsWhole)
  {arg3 : Memref sig .tc .vmem S1x16x8960 .bf16} (harg3 : arg3.IsWhole)
  {arg4 : Memref sig .tc .vmem S66x1x8960 .f32} (harg4 : arg4.IsWhole)
  {arg5 : Memref sig .tc .vmem S9x16x48 .f32} (harg5 : arg5.IsWhole)
  {arg6 : Memref sig .tc .vmem S9x1x48 .f32} (harg6 : arg6.IsWhole)
  {arg7 : Memref sig .tc .vmem S66x16x8960 .f32} (harg7 : arg7.IsWhole)
  {arg8 : Memref sig .tc .vmem S66x1x8960 .f32} (harg8 : arg8.IsWhole)
  {arg9 : Memref sig .tc .vmem S16x1 .f32} (harg9 : arg9.IsWhole)
  {arg10 : Memref sig .tc .vmem S16x1 .f32} (harg10 : arg10.IsWhole)
  {arg11 : Memref sig .tc .smem S1 .f32} (harg11 : arg11.IsWhole)
  (x1 : Vec Ideal S8x16x8960 .bf16) (x2 : Vec Ideal S1x16x8960 .bf16) (x3 : Vec Ideal S1x16x8960 .bf16)
  (x4 : Vec Ideal S66x1x8960 .f32) (x5 : Vec Ideal S9x16x48 .f32) (x6 : Vec Ideal S9x1x48 .f32)

/-! ## What the two outputs end with, as functions of the arrays the call reads -/

/-- Inside the rows of lanes that hold the grid, of a plane that holds a layer of it. -/
abbrev Inside (n L : ℕ) : Prop := 1 ≤ n ∧ n ≤ 64 ∧ 256 ≤ L ∧ L < 8704

/-- The convolution of the planes `P`, masked and rectified, at plane `n`, channel `o` and lane `L`; zero around the grid. -/
def first (P : Vec Ideal S66x16x8960 .bf16) (M : Vec Ideal S66x1x8960 .f32) (W : Vec Ideal S9x16x48 .f32) (n o L : ℕ) : EReal :=
  if Inside n L then act (conv W (at3 P) (n - 1) o L * at3 M n 0 L) else 0

/-- The head: the convolution of `first`, masked. -/
def headed (P : Vec Ideal S66x16x8960 .bf16) (M : Vec Ideal S66x1x8960 .f32) (W : Vec Ideal S9x16x48 .f32) (H : Vec Ideal S9x1x48 .f32) (n o L : ℕ) : EReal :=
  if Inside n L then conv H (first P M W) (n - 1) o L * at3 M n 0 L else 0

/-- What the first output holds after `j` points: its planes below the grid, above it, and the layers so far. -/
def Good (P : Vec Ideal S66x16x8960 .bf16) (M : Vec Ideal S66x1x8960 .f32) (W : Vec Ideal S9x16x48 .f32) (j : ℕ) (X : Vec Ideal S66x16x8960 .f32) : Prop :=
  1 ≤ j → ∀ n o L, (n = 0 ∨ n = 65 ∨ n ≤ 8 * j) → n < 66 → o < 16 → L < 8960 → at3 X n o L = first P M W n o L

/-- What the second output holds after `j` points: its outer planes, and after all eight every plane. -/
def GoodHead (P : Vec Ideal S66x16x8960 .bf16) (M : Vec Ideal S66x1x8960 .f32) (W : Vec Ideal S9x16x48 .f32) (H : Vec Ideal S9x1x48 .f32) (j : ℕ)
    (X : Vec Ideal S66x1x8960 .f32) : Prop :=
  1 ≤ j → ∀ n L, (n = 0 ∨ n = 65 ∨ 8 ≤ j) → n < 66 → L < 8960 → at3 X n 0 L = headed P M W H n 0 L

theorem first_out (P : Vec Ideal S66x16x8960 .bf16) (M : Vec Ideal S66x1x8960 .f32) (W : Vec Ideal S9x16x48 .f32) {n o L : ℕ} (h : n = 0 ∨ n = 65) :
    first P M W n o L = 0 := if_neg (by unfold Inside; omega)

theorem headed_out (P : Vec Ideal S66x16x8960 .bf16) (M : Vec Ideal S66x1x8960 .f32) (W : Vec Ideal S9x16x48 .f32) (H : Vec Ideal S9x1x48 .f32) {n o L : ℕ}
    (h : n = 0 ∨ n = 65) : headed P M W H n o L = 0 := if_neg (by unfold Inside; omega)

/-- Convolutions of planes that agree agree. -/
theorem conv_congr {a : ℕ} (W : Vec Ideal ⟨3, ![9, a, 48]⟩ .f32) {V V' : ℕ → ℕ → ℕ → EReal} {n n' o L : ℕ} (hL : 256 ≤ L ∧ L < 8704)
    (h : ∀ k r l, k < 3 → r < 16 → l < 8960 → V (n + k) r l = V' (n' + k) r l) : conv W V n o L = conv W V' n' o L := by
  unfold conv
  refine Finset.sum_congr rfl fun q _ => Finset.sum_congr rfl fun r hr => ?_
  have hr' := Finset.mem_range.1 hr
  rw [h (r / 16) (r % 16) (lane q (L - 256)) (by omega) (by omega) (by unfold lane; omega)]

section

variable (P : Vec Ideal S66x16x8960 .bf16)
  (hten : ∀ k r l, k < 10 → r < 16 → l < 8960 → ten x1 x2 x3 k r l = at3 P (8 * (i 0).val + k) r l)

theorem off2_at (k : Fin 8) : k0_off2 i (BitVec.ofNat 32 k.val) = ![8 * (i 0).val + k.val + 1, 0, 0] := k0_off2_eq i k

include hten in
/-- One of the eight planes stored is the plane of `first`. -/
theorem plane_first (k : Fin 8) {n o L : ℕ} (hn : n = 8 * (i 0).val + k.val + 1) (ho : o < 16) (hL : L < 8960) :
    at3 (plane i x1 x2 x3 x4 x5 k) 0 o L = first P x4 x5 n o L := by
  have hi : (i 0).val < 8 := (i 0).isLt
  rw [plane_at i x1 x2 x3 x4 x5 k ho hL, first]
  by_cases h : 256 ≤ L ∧ L < 8704
  · rw [if_pos h, if_pos (by unfold Inside; omega), hn]
    refine congrArg act (congrArg (· * _) (conv_congr _ h fun j r l hj hr hl => ?_))
    rw [hten _ _ _ (by omega) hr hl]
    congr 1
    omega
  · rw [if_neg h, if_neg (by unfold Inside; omega)]

include hten in
/-- **The stores of one point extend the first output** by its eight planes. -/
theorem stores_good (f : BufTy.Contents (Elt Ideal) arg7.view.ty)
    (hf : ∀ n o L, (n = 0 ∨ n = 65 ∨ n ≤ 8 * (i 0).val) → n < 66 → o < 16 → L < 8960 →
      at3 (arg7.view.read (Elt Ideal) f : Vec Ideal S66x16x8960 .f32) n o L = first P x4 x5 n o L) :
    Good P x4 x5 ((i 0).val + 1) (arg7.view.read (Elt Ideal) (arg7.view.writes (Elt Ideal) f (stores i x1 x2 x3 x4 x5))) := by
  intro _ n o L hn hn66 ho hL
  have hi : (i 0).val < 8 := (i 0).isLt
  have hinj : ∀ k k' : Fin 8, k ≠ k' → 8 * (i 0).val + k.val + 1 ≠ 8 * (i 0).val + k'.val + 1 := fun k k' h => by
    have := fun e => h (Fin.ext e)
    omega
  rw [at3_lt _ hn66 ho hL]
  by_cases h : 8 * (i 0).val + 1 ≤ n ∧ n ≤ 8 * (i 0).val + 8
  · refine (plane_hit arg7.view f _ (k0_off2_inb i) _ (fun k => 8 * (i 0).val + k.val + 1) (off2_at i) hinj 8 le_rfl ⟨n - (8 * (i 0).val + 1), by omega⟩
      (by show n - (8 * (i 0).val + 1) < 8; omega) ⟨n, hn66⟩ (by show n = 8 * (i 0).val + (n - (8 * (i 0).val + 1)) + 1; omega) ⟨o, ho⟩ ⟨L, hL⟩).trans ?_
    refine (at3_ix (plane i x1 x2 x3 x4 x5 _) 0 _ _).trans ?_
    exact plane_first i x1 x2 x3 x4 x5 P hten _ (by show n = 8 * (i 0).val + (n - (8 * (i 0).val + 1)) + 1; omega) ho hL
  · refine (plane_miss arg7.view f _ (k0_off2_inb i) _ (fun k => 8 * (i 0).val + k.val + 1) (off2_at i) 8 le_rfl ⟨n, hn66⟩
      (fun k _ => by show n ≠ 8 * (i 0).val + k.val + 1; omega) ⟨o, ho⟩ ⟨L, hL⟩).trans ?_
    refine (at3_ix (arg7.view.read (Elt Ideal) f) _ _ _).trans ?_
    exact hf n o L (by omega) hn66 ho hL

/-- A plane of zeros. -/
theorem zeros16 (o : Fin 16) (L : Fin 8960) : (k0_pay11 (F := Ideal) (ix3 (0 : Fin 1) o L) : EReal) = 0 ∧ (k0_pay12 (F := Ideal) (ix3 (0 : Fin 1) o L) : EReal) = 0 := by
  unfold k0_pay11 k0_pay12
  exact ⟨Ideal.ofBits_zero_f32, Ideal.ofBits_zero_f32⟩

theorem zeros1 (o : Fin 1) (L : Fin 8960) : (k0_pay13 (F := Ideal) (ix3 (0 : Fin 1) o L) : EReal) = 0 ∧ (k0_pay14 (F := Ideal) (ix3 (0 : Fin 1) o L) : EReal) = 0 := by
  unfold k0_pay13 k0_pay14
  exact ⟨Ideal.ofBits_zero_f32, Ideal.ofBits_zero_f32⟩

include hten in
/-- After the first point. -/
theorem goodA (hi0 : (i 0).val = 0) (hc0 : k0_cond1 i = 1#1) (hc1 : ¬k0_cond2 i = 1#1) (f7 : BufTy.Contents (Elt Ideal) arg7.view.ty) :
    Good P x4 x5 ((i 0).val + 1) (arg7.view.read (Elt Ideal) (arg7.view.writes (Elt Ideal) f7
      (runA c i harg1 harg2 harg3 harg4 harg5 harg6 harg7 harg8 harg9 harg10 harg11 x1 x2 x3 x4 x5 x6 hc0 hc1 f7).1)) := by
  rw [runA_stores, View.writes_append]
  refine stores_good i x1 x2 x3 x4 x5 P hten _ fun n o L hn hn66 ho hL => ?_
  have hn' : n = 65 ∨ n = 0 := by omega
  rw [first_out P x4 x5 (by omega), at3_lt _ hn66 ho hL]
  refine (two_planes arg7.view f7 65 0 inb_S66x16x8960_S1x16x8960_65_0_0 inb_S66x16x8960_S1x16x8960_0_0_0 (k0_pay12 (F := Ideal)) (k0_pay11 (F := Ideal)) ⟨n, hn66⟩ ⟨o, ho⟩ ⟨L, hL⟩).trans ?_
  rcases hn' with h | h
  · rw [if_pos h]; exact (zeros16 _ _).2
  · rw [if_neg (by show ¬n = 65; omega), if_pos h]; exact (zeros16 _ _).1

/-- After the first point the head's outer planes are zero. -/
theorem goodHeadA (H : Vec Ideal S9x1x48 .f32) (hi0 : (i 0).val = 0) (hc0 : k0_cond1 i = 1#1) (hc1 : ¬k0_cond2 i = 1#1) (f7 : BufTy.Contents (Elt Ideal) arg7.view.ty)
    (f8 : BufTy.Contents (Elt Ideal) arg8.view.ty) :
    GoodHead P x4 x5 H ((i 0).val + 1) (arg8.view.read (Elt Ideal) (arg8.view.writes (Elt Ideal) f8
      (runA c i harg1 harg2 harg3 harg4 harg5 harg6 harg7 harg8 harg9 harg10 harg11 x1 x2 x3 x4 x5 x6 hc0 hc1 f7).2.1)) := by
  intro _ n L hn hn66 hL
  have hn' : n = 65 ∨ n = 0 := by omega
  rw [runA_head, headed_out P x4 x5 H (by omega), at3_lt _ hn66 Nat.one_pos hL]
  refine (two_planes arg8.view f8 65 0 inb_S66x1x8960_S1x1x8960_65_0_0 inb_S66x1x8960_S1x1x8960_0_0_0 (k0_pay14 (F := Ideal)) (k0_pay13 (F := Ideal)) ⟨n, hn66⟩ ⟨0, Nat.one_pos⟩ ⟨L, hL⟩).trans ?_
  rcases hn' with h | h
  · rw [if_pos h]; exact (zeros1 _ _).2
  · rw [if_neg (by show ¬n = 65; omega), if_pos h]; exact (zeros1 _ _).1

include hten in
/-- After a point between. -/
theorem goodB (hi0 : 1 ≤ (i 0).val) (hc0 : ¬k0_cond1 i = 1#1) (hc1 : ¬k0_cond2 i = 1#1) (f7 : BufTy.Contents (Elt Ideal) arg7.view.ty)
    (hf : Good P x4 x5 (i 0).val (arg7.view.read (Elt Ideal) f7)) :
    Good P x4 x5 ((i 0).val + 1) (arg7.view.read (Elt Ideal) (arg7.view.writes (Elt Ideal) f7
      (runB c i harg1 harg2 harg3 harg4 harg5 harg6 harg7 harg8 harg9 harg10 harg11 x1 x2 x3 x4 x5 x6 hc0 hc1 f7).1)) := by
  rw [runB_stores]
  exact stores_good i x1 x2 x3 x4 x5 P hten _ (hf hi0)

include hten in
/-- After the last point. -/
theorem goodC (hi0 : 1 ≤ (i 0).val) (hc0 : ¬k0_cond1 i = 1#1) (hc1 : k0_cond2 i = 1#1) (f7 : BufTy.Contents (Elt Ideal) arg7.view.ty)
    (hf : Good P x4 x5 (i 0).val (arg7.view.read (Elt Ideal) f7)) :
    Good P x4 x5 ((i 0).val + 1) (arg7.view.read (Elt Ideal) (arg7.view.writes (Elt Ideal) f7
      (runC c i harg1 harg2 harg3 harg4 harg5 harg6 harg7 harg8 harg9 harg10 harg11 x1 x2 x3 x4 x5 x6 hc0 hc1 f7).1)) := by
  rw [runC_stores]
  exact stores_good i x1 x2 x3 x4 x5 P hten _ (hf hi0)

include hten in
/-- After the last point the head is complete. -/
theorem goodHeadC (hi0 : (i 0).val = 7) (hc0 : ¬k0_cond1 i = 1#1) (hc1 : k0_cond2 i = 1#1) (f7 : BufTy.Contents (Elt Ideal) arg7.view.ty)
    (f8 : BufTy.Contents (Elt Ideal) arg8.view.ty) (hf : Good P x4 x5 (i 0).val (arg7.view.read (Elt Ideal) f7))
    (hf8 : GoodHead P x4 x5 x6 (i 0).val (arg8.view.read (Elt Ideal) f8)) :
    GoodHead P x4 x5 x6 ((i 0).val + 1) (arg8.view.read (Elt Ideal) (arg8.view.writes (Elt Ideal) f8
      (runC c i harg1 harg2 harg3 harg4 harg5 harg6 harg7 harg8 harg9 harg10 harg11 x1 x2 x3 x4 x5 x6 hc0 hc1 f7).2.1)) := by
  intro _ n L hn hn66 hL
  have hall := stores_good i x1 x2 x3 x4 x5 P hten f7 (hf (by omega))
  have hinj : ∀ k k' : Fin k0_t1_loop.trips, k ≠ k' → k.val + 1 ≠ k'.val + 1 := fun k k' h => by
    have := fun e => h (Fin.ext e)
    omega
  have htr : k0_t1_loop.trips = 64 := by decide
  rw [runC_head, at3_lt _ hn66 Nat.one_pos hL]
  by_cases h : 1 ≤ n ∧ n ≤ 64
  · refine (plane_hit arg8.view f8 _ (fun k => k0_off4_inb i k hc1) _ (fun k => k.val + 1) k0_off4_eq hinj _ le_rfl ⟨n - 1, by omega⟩
      (by show n - 1 < _; omega) ⟨n, hn66⟩ (by show n = n - 1 + 1; omega) ⟨0, Nat.one_pos⟩ ⟨L, hL⟩).trans ?_
    refine (at3_ix (headPlane i x4 x6 _ hc1 _) 0 _ _).trans ?_
    refine (headPlane_at i x4 x6 _ hc1 ⟨n - 1, by omega⟩ hL).trans ?_
    rw [headed]
    by_cases hl : 256 ≤ L ∧ L < 8704
    · rw [if_pos hl, if_pos (by unfold Inside; omega)]
      refine congr (congrArg _ (conv_congr x6 hl fun k r l hk hr hl => ?_)) (by
        show at3 x4 (n - 1 + 1) 0 L = _
        rw [Nat.sub_add_cancel h.1])
      exact hall (by omega) _ _ _ (by omega) (by show n - 1 + k < 66; omega) hr hl
    · rw [if_neg hl, if_neg (by unfold Inside; omega)]
  · refine (plane_miss arg8.view f8 _ (fun k => k0_off4_inb i k hc1) _ (fun k => k.val + 1) k0_off4_eq _ le_rfl ⟨n, hn66⟩
      (fun k hk => by show n ≠ k.val + 1; omega) ⟨0, Nat.one_pos⟩ ⟨L, hL⟩).trans ?_
    refine (at3_ix (arg8.view.read (Elt Ideal) f8) _ _ _).trans ?_
    exact hf8 (by omega) n L (by omega) hn66 hL

end

end Cert.Second

end
-- ==== Proof.SecondStep.lean ====
/- One grid point of the second convolution's call, from what it is handed to what it hands back. -/
module

public import proofs.«01_k».proof.Proof.SecondLeft

@[expose] public section

set_option maxRecDepth 16384

noncomputable section

namespace Cert.Second

open Idealize.ShloMosaic hiding ix1 ix2 ix3 ix4 eq_ix1 eq_ix2 eq_ix3 eq_ix4
open Idealize.ShloMosaic.ValueIdx Idealize.ShloMosaic.TcCoe
open Cert.Kernel2Ideal Cert.Kernel2Ideal.Gen Cert.Fat
open scoped BigOperators
open Idealize.ShloMosaic.Tactic
open Idealize.SL Idealize.SL.RA Idealize.SL.BI
open scoped Idealize.SL.BI
open Idealize.SL.BI.BIBase Idealize.SL.BI.Laws Idealize.SL.ProofMode Idealize.SL.Sem

variable (c : Dev nD) (i : grid0.Coords)
  {arg1 : Memref sig .tc .vmem S8x16x8960 .bf16} (harg1 : arg1.IsWhole)
  {arg2 : Memref sig .tc .vmem S1x16x8960 .bf16} (harg2 : arg2.IsWhole)
  {arg3 : Memref sig .tc .vmem S1x16x8960 .bf16} (harg3 : arg3.IsWhole)
  {arg4 : Memref sig .tc .vmem S66x1x8960 .f32} (harg4 : arg4.IsWhole)
  {arg5 : Memref sig .tc .vmem S9x16x48 .f32} (harg5 : arg5.IsWhole)
  {arg6 : Memref sig .tc .vmem S9x1x48 .f32} (harg6 : arg6.IsWhole)
  {arg7 : Memref sig .tc .vmem S66x16x8960 .f32} (harg7 : arg7.IsWhole)
  {arg8 : Memref sig .tc .vmem S66x1x8960 .f32} (harg8 : arg8.IsWhole)
  {arg9 : Memref sig .tc .vmem S16x1 .f32} (harg9 : arg9.IsWhole)
  {arg10 : Memref sig .tc .vmem S16x1 .f32} (harg10 : arg10.IsWhole)
  {arg11 : Memref sig .tc .smem S1 .f32} (harg11 : arg11.IsWhole)
  (x1 : Vec Ideal S8x16x8960 .bf16) (x2 : Vec Ideal S1x16x8960 .bf16) (x3 : Vec Ideal S1x16x8960 .bf16)
  (x4 : Vec Ideal S66x1x8960 .f32) (x5 : Vec Ideal S9x16x48 .f32) (x6 : Vec Ideal S9x1x48 .f32)

local notation "𝕄" => MT nD τ sig Unit (Elt Ideal) ℕ (UR sig nD τ) ℕ

/-- What the body is handed: the inputs, the two outputs at `X7` and `X8`, and the scratch at anything. -/
abbrev Handed (arg1 : Memref sig .tc .vmem S8x16x8960 .bf16) (arg2 : Memref sig .tc .vmem S1x16x8960 .bf16)
    (arg3 : Memref sig .tc .vmem S1x16x8960 .bf16) (arg4 : Memref sig .tc .vmem S66x1x8960 .f32) (arg5 : Memref sig .tc .vmem S9x16x48 .f32)
    (arg6 : Memref sig .tc .vmem S9x1x48 .f32) (arg7 : Memref sig .tc .vmem S66x16x8960 .f32) (arg8 : Memref sig .tc .vmem S66x1x8960 .f32)
    (arg9 : Memref sig .tc .vmem S16x1 .f32) (arg10 : Memref sig .tc .vmem S16x1 .f32) (arg11 : Memref sig .tc .smem S1 .f32)
    (X7 : Vec Ideal S66x16x8960 .f32) (X8 : Vec Ideal S66x1x8960 .f32) : sProp 𝕄 :=
  iprop(owns (c : Thread nD τ) arg1 fullShare x1 ∗ owns (c : Thread nD τ) arg2 fullShare x2 ∗ owns (c : Thread nD τ) arg3 fullShare x3
    ∗ owns (c : Thread nD τ) arg4 fullShare x4 ∗ owns (c : Thread nD τ) arg5 fullShare x5 ∗ owns (c : Thread nD τ) arg6 fullShare x6
    ∗ owns (c : Thread nD τ) arg7 fullShare X7 ∗ owns (c : Thread nD τ) arg8 fullShare X8
    ∗ (∃ d, owns (c : Thread nD τ) arg9 fullShare d) ∗ (∃ d, owns (c : Thread nD τ) arg10 fullShare d) ∗ (∃ d, owns (c : Thread nD τ) arg11 fullShare d))

include harg9 harg10 harg11 in
/-- Opened, -/
theorem open_handed (X7 : Vec Ideal S66x16x8960 .f32) (X8 : Vec Ideal S66x1x8960 .f32) :
    (Handed c x1 x2 x3 x4 x5 x6 arg1 arg2 arg3 arg4 arg5 arg6 arg7 arg8 arg9 arg10 arg11 X7 X8 : sProp 𝕄)
      ⊢ Held c harg1 harg2 harg3 harg4 harg5 harg6 (arg7 := arg7) (arg8 := arg8) (arg9 := arg9) (arg10 := arg10) (arg11 := arg11) x1 x2 x3 x4 x5 x6
          (harg7.unread X7) (harg8.unread X8) := by
  iintro ⟨H1, H2, H3, H4, H5, H6, H7, H8, ⟨%d9, H9⟩, ⟨%d10, H10⟩, ⟨%d11, H11⟩⟩
  isplitl [H1]; · iapply (open_owned (c : Thread nD τ) harg1 fullShare x1); iexact H1
  isplitl [H2]; · iapply (open_owned (c : Thread nD τ) harg2 fullShare x2); iexact H2
  isplitl [H3]; · iapply (open_owned (c : Thread nD τ) harg3 fullShare x3); iexact H3
  isplitl [H4]; · iapply (open_owned (c : Thread nD τ) harg4 fullShare x4); iexact H4
  isplitl [H5]; · iapply (open_owned (c : Thread nD τ) harg5 fullShare x5); iexact H5
  isplitl [H6]; · iapply (open_owned (c : Thread nD τ) harg6 fullShare x6); iexact H6
  isplitl [H7]; · iapply (open_owned (c : Thread nD τ) harg7 fullShare X7); iexact H7
  isplitl [H8]; · iapply (open_owned (c : Thread nD τ) harg8 fullShare X8); iexact H8
  isplitl [H9]; · iexists _; iapply (open_owned (c : Thread nD τ) harg9 fullShare d9); iexact H9
  isplitl [H10]; · iexists _; iapply (open_owned (c : Thread nD τ) harg10 fullShare d10); iexact H10
  iexists _; iapply (open_owned (c : Thread nD τ) harg11 fullShare d11); iexact H11

/-- A whole buffer at contents known by their reading. -/
theorem close_owned {sp : Space} {sh : Shape} {e : EltTy} {mr : Memref sig .tc sp sh e} (h : mr.IsWhole) (X : sh.Idx → Elt Ideal e) :
    (mr.view.loc (c : Thread nD τ) ↦[mr.view.set]{fullShare} h.unread X : sProp 𝕄) ⊢ owns (c : Thread nD τ) mr fullShare X := by
  unfold owns
  iintro H
  iexists _; isplitr; · ipureintro; exact h.read_unread _
  iexact H

/-- and closed again. -/
theorem close_handed (f7 : BufTy.Contents (Elt Ideal) arg7.view.ty) (f8 : BufTy.Contents (Elt Ideal) arg8.view.ty) :
    Held c harg1 harg2 harg3 harg4 harg5 harg6 (arg7 := arg7) (arg8 := arg8) (arg9 := arg9) (arg10 := arg10) (arg11 := arg11) x1 x2 x3 x4 x5 x6 f7 f8
      ⊢ (Handed c x1 x2 x3 x4 x5 x6 arg1 arg2 arg3 arg4 arg5 arg6 arg7 arg8 arg9 arg10 arg11
          (arg7.view.read (Elt Ideal) f7) (arg8.view.read (Elt Ideal) f8) : sProp 𝕄) := by
  iintro ⟨H1, H2, H3, H4, H5, H6, H7, H8, ⟨%d9, H9⟩, ⟨%d10, H10⟩, ⟨%d11, H11⟩⟩
  isplitl [H1]; · iapply (close_owned c harg1 x1); iexact H1
  isplitl [H2]; · iapply (close_owned c harg2 x2); iexact H2
  isplitl [H3]; · iapply (close_owned c harg3 x3); iexact H3
  isplitl [H4]; · iapply (close_owned c harg4 x4); iexact H4
  isplitl [H5]; · iapply (close_owned c harg5 x5); iexact H5
  isplitl [H6]; · iapply (close_owned c harg6 x6); iexact H6
  isplitl [H7]; · iapply (owns_intro (c : Thread nD τ) arg7 fullShare f7); iexact H7
  isplitl [H8]; · iapply (owns_intro (c : Thread nD τ) arg8 fullShare f8); iexact H8
  isplitl [H9]; · iexists _; iapply (owns_intro (c : Thread nD τ) arg9 fullShare d9); iexact H9
  isplitl [H10]; · iexists _; iapply (owns_intro (c : Thread nD τ) arg10 fullShare d10); iexact H10
  iexists _; iapply (owns_intro (c : Thread nD τ) arg11 fullShare d11); iexact H11

/-- What the body hands back: the two outputs at contents that are good after the point. -/
abbrev HandedBack (P : Vec Ideal S66x16x8960 .bf16) (arg1 : Memref sig .tc .vmem S8x16x8960 .bf16) (arg2 : Memref sig .tc .vmem S1x16x8960 .bf16)
    (arg3 : Memref sig .tc .vmem S1x16x8960 .bf16) (arg4 : Memref sig .tc .vmem S66x1x8960 .f32) (arg5 : Memref sig .tc .vmem S9x16x48 .f32)
    (arg6 : Memref sig .tc .vmem S9x1x48 .f32) (arg7 : Memref sig .tc .vmem S66x16x8960 .f32) (arg8 : Memref sig .tc .vmem S66x1x8960 .f32)
    (arg9 : Memref sig .tc .vmem S16x1 .f32) (arg10 : Memref sig .tc .vmem S16x1 .f32) (arg11 : Memref sig .tc .smem S1 .f32) : sProp 𝕄 :=
  iprop(∃ X7 : Vec Ideal S66x16x8960 .f32, ∃ X8 : Vec Ideal S66x1x8960 .f32,
    ⌜Good P x4 x5 ((i 0).val + 1) X7 ∧ GoodHead P x4 x5 x6 ((i 0).val + 1) X8⌝
    ∗ Handed c x1 x2 x3 x4 x5 x6 arg1 arg2 arg3 arg4 arg5 arg6 arg7 arg8 arg9 arg10 arg11 X7 X8)

/-- **One point of the grid**: from outputs good before it, the body leaves outputs good after it. -/
theorem step (P : Vec Ideal S66x16x8960 .bf16)
    (hten : ∀ k r l, k < 10 → r < 16 → l < 8960 → ten x1 x2 x3 k r l = at3 P (8 * (i 0).val + k) r l)
    (hfirst : k0_cond1 i = 1#1 ↔ (i 0).val = 0) (hlast : k0_cond2 i = 1#1 ↔ (i 0).val = 7)
    (X7 : Vec Ideal S66x16x8960 .f32) (X8 : Vec Ideal S66x1x8960 .f32)
    (h7 : Good P x4 x5 (i 0).val X7) (h8 : GoodHead P x4 x5 x6 (i 0).val X8) :
    (Handed c x1 x2 x3 x4 x5 x6 arg1 arg2 arg3 arg4 arg5 arg6 arg7 arg8 arg9 arg10 arg11 X7 X8 : sProp 𝕄)
      ⊢ wp frame (wpE (defs₀ (F := Ideal)) Variants.none (c : Thread nD τ) none) Set.univ
          (cc0_body (F := Ideal) i arg1 harg1 arg2 harg2 arg3 harg3 arg4 harg4 arg5 harg5 arg6 harg6 arg7 harg7 arg8 harg8 arg9 harg9 arg10 harg10 arg11 harg11)
          (fun _ => HandedBack c i x1 x2 x3 x4 x5 x6 P arg1 arg2 arg3 arg4 arg5 arg6 arg7 arg8 arg9 arg10 arg11) := by
  refine (open_handed c harg1 harg2 harg3 harg4 harg5 harg6 harg7 harg8 harg9 harg10 harg11 x1 x2 x3 x4 x5 x6 X7 X8).trans ?_
  have e7 : Good P x4 x5 (i 0).val (arg7.view.read (Elt Ideal) (harg7.unread X7)) := by rw [harg7.read_unread]; exact h7
  have e8 : GoodHead P x4 x5 x6 (i 0).val (arg8.view.read (Elt Ideal) (harg8.unread X8)) := by rw [harg8.read_unread]; exact h8
  by_cases h0 : (i 0).val = 0
  · have hc0 := hfirst.mpr h0
    have hc1 : ¬k0_cond2 i = 1#1 := fun h => by have := hlast.mp h; omega
    have hr := (runA c i harg1 harg2 harg3 harg4 harg5 harg6 harg7 harg8 harg9 harg10 harg11 x1 x2 x3 x4 x5 x6 hc0 hc1 (harg7.unread X7)).2.2 Set.univ (harg8.unread X8)
    refine hr.trans (wp_mono _ _ _ fun _ => ?_)
    refine (close_handed (arg9 := arg9) (arg10 := arg10) (arg11 := arg11) c harg1 harg2 harg3 harg4 harg5 harg6 x1 x2 x3 x4 x5 x6 _ _).trans ?_
    have ha := goodA c i harg1 harg2 harg3 harg4 harg5 harg6 harg7 harg8 harg9 harg10 harg11 x1 x2 x3 x4 x5 x6 P hten h0 hc0 hc1 (harg7.unread X7)
    have hb := goodHeadA c i harg1 harg2 harg3 harg4 harg5 harg6 harg7 harg8 harg9 harg10 harg11 x1 x2 x3 x4 x5 x6 P x6 h0 hc0 hc1 (harg7.unread X7) (harg8.unread X8)
    iintro H
    iexists _, _
    isplitr
    · ipureintro
      exact ⟨ha, hb⟩
    · iexact H
  · have hc0 : ¬k0_cond1 i = 1#1 := fun h => h0 (hfirst.mp h)
    by_cases h1 : (i 0).val = 7
    · have hc1 := hlast.mpr h1
      have hr := (runC c i harg1 harg2 harg3 harg4 harg5 harg6 harg7 harg8 harg9 harg10 harg11 x1 x2 x3 x4 x5 x6 hc0 hc1 (harg7.unread X7)).2.2 Set.univ (harg8.unread X8)
      refine hr.trans (wp_mono _ _ _ fun _ => ?_)
      refine (close_handed (arg9 := arg9) (arg10 := arg10) (arg11 := arg11) c harg1 harg2 harg3 harg4 harg5 harg6 x1 x2 x3 x4 x5 x6 _ _).trans ?_
      iintro H
      iexists _, _
      isplitr
      · ipureintro
        exact ⟨goodC c i harg1 harg2 harg3 harg4 harg5 harg6 harg7 harg8 harg9 harg10 harg11 x1 x2 x3 x4 x5 x6 P hten (by omega) hc0 hc1 _ e7,
          goodHeadC c i harg1 harg2 harg3 harg4 harg5 harg6 harg7 harg8 harg9 harg10 harg11 x1 x2 x3 x4 x5 x6 P hten h1 hc0 hc1 _ _ e7 e8⟩
      · iexact H
    · have hc1 : ¬k0_cond2 i = 1#1 := fun h => h1 (hlast.mp h)
      have hi : (i 0).val < 8 := (i 0).isLt
      have hr := (runB c i harg1 harg2 harg3 harg4 harg5 harg6 harg7 harg8 harg9 harg10 harg11 x1 x2 x3 x4 x5 x6 hc0 hc1 (harg7.unread X7)).2 Set.univ (harg8.unread X8)
      refine hr.trans (wp_mono _ _ _ fun _ => ?_)
      refine (close_handed (arg9 := arg9) (arg10 := arg10) (arg11 := arg11) c harg1 harg2 harg3 harg4 harg5 harg6 x1 x2 x3 x4 x5 x6 _ _).trans ?_
      iintro H
      iexists _, _
      isplitr
      · ipureintro
        exact ⟨goodB c i harg1 harg2 harg3 harg4 harg5 harg6 harg7 harg8 harg9 harg10 harg11 x1 x2 x3 x4 x5 x6 P hten (by omega) hc0 hc1 _ e7,
          fun _ n L hn hn66 hL => e8 (by omega) n L (by omega) hn66 hL⟩
      · iexact H

end Cert.Second

end
-- ==== Proof.SecondRun.lean ====
/- The run of the second convolution's call: what its two output arrays end with. -/
module

public import proofs.«01_k».proof.Proof.SecondStep
public import Idealize.ShloMosaic.Lib.Claim
public import Idealize.ShloMosaic.Lib.Pipeline.ArrRel
public import Idealize.ShloMosaic.Lib.Pipeline.ValueKit
public import Idealize.ShloMosaic.Lib.WordCmp

@[expose] public section

set_option maxRecDepth 16384

noncomputable section

namespace Cert.Second

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)
open Cert.Kernel2Ideal Cert.Kernel2Ideal.Gen Cert.Fat

local notation "𝕄" => MT nD τ sig Unit (Elt Ideal) ℕ (UR sig nD τ) ℕ

variable (m : (ℓ : Loc nD τ sig) → Buf (Elt Ideal) ℓ) (ρ : Dev nD → PrngReg)

/-! ## The arrays the call reads, and its blocks of them -/

/-- The planes convolved. -/
abbrev planesIn (c : Dev nD) : Vec Ideal S66x16x8960 .bf16 := V m c main_v5
/-- The mask's planes. -/
abbrev maskIn (c : Dev nD) : Vec Ideal S66x1x8960 .f32 := V m c main_v9
/-- The weights. -/
abbrev weightsIn (c : Dev nD) : Vec Ideal S9x16x48 .f32 := V m c main_v16
/-- The head's weights. -/
abbrev headIn (c : Dev nD) : Vec Ideal S9x1x48 .f32 := V m c main_v19

theorem idx0 : ∀ t : Fin cfg0.N, win0_0.index t = ![t.val, 0, 0] := by decide +kernel
theorem idx1 : ∀ t : Fin cfg0.N, win0_1.index t = ![8 * t.val + 8, 0, 0] := by decide +kernel
theorem idx2 : ∀ t : Fin cfg0.N, win0_2.index t = ![8 * t.val + 9, 0, 0] := by decide +kernel
theorem idx3 : ∀ t : Fin cfg0.N, win0_3.index t = ![0, 0, 0] := by decide +kernel
theorem idx4 : ∀ t : Fin cfg0.N, win0_4.index t = ![0, 0, 0] := by decide +kernel
theorem idx5 : ∀ t : Fin cfg0.N, win0_5.index t = ![0, 0, 0] := by decide +kernel

theorem mask_block (c : Dev nD) (t : Fin cfg0.N) : (iblk m c 3 t : Vec Ideal S66x1x8960 .f32) = maskIn m c := by
  funext j
  blk_ext [iblk, maskIn, idx3 t]

theorem weight_block (c : Dev nD) (t : Fin cfg0.N) : (iblk m c 4 t : Vec Ideal S9x16x48 .f32) = weightsIn m c := by
  funext j
  blk_ext [iblk, weightsIn, idx4 t]

theorem head_block (c : Dev nD) (t : Fin cfg0.N) : (iblk m c 5 t : Vec Ideal S9x1x48 .f32) = headIn m c := by
  funext j
  blk_ext [iblk, headIn, idx5 t]

/-- The ten planes a point reads are planes `8 t` to `8 t + 9` of the array. -/
theorem ten_block (c : Dev nD) (t : Fin cfg0.N) (k r l : ℕ) (hk : k < 10) (hr : r < 16) (hl : l < 8960) :
    ten (X0_0 m c t) (iblk m c 1 t) (iblk m c 2 t) k r l = at3 (planesIn m c) (8 * t.val + k) r l := by
  have ht : t.val < 8 := Nat.lt_of_lt_of_eq t.isLt N_0
  unfold ten
  split
  · next h =>
    rw [at3_lt _ h hr hl, at3_lt _ (by omega : 8 * t.val + k < 66) hr hl]
    unfold X0_0 Pipeline.Window.fill
    rw [dif_pos (moved0_0 t _)]
    blk_ext [iblk, planesIn, idx0 t]
  · split
    · next h h' =>
      rw [at3_lt _ Nat.one_pos hr hl, at3_lt _ (by omega : 8 * t.val + k < 66) hr hl]
      blk_ext [iblk, planesIn, idx1 t]
    · next h h' =>
      rw [at3_lt _ Nat.one_pos hr hl, at3_lt _ (by omega : 8 * t.val + k < 66) hr hl]
      blk_ext [iblk, planesIn, idx2 t]

/-! ## The pipeline's data -/

theorem firstPoint : ∀ t : Fin cfg0.N, k0_cond1 (grid0.coords t) = 1#1 ↔ t.val = 0 := fun t => by
  have ht : t.val < 8 := Nat.lt_of_lt_of_eq t.isLt N_0
  have e0 : (grid0.coords t 0).val = t.val / 1 % 8 := Pipeline.Grid.coords_val t 0 (by decide) rfl
  have e : k0_cond1 (grid0.coords t) = 1#1 ↔ t.val % 8 = 0 := by
    simp only [k0_cond1, e0]
    word_cmp
  rw [e]; omega

theorem lastPoint : ∀ t : Fin cfg0.N, k0_cond2 (grid0.coords t) = 1#1 ↔ t.val = 7 := fun t => by
  have ht : t.val < 8 := Nat.lt_of_lt_of_eq t.isLt N_0
  have e0 : (grid0.coords t 0).val = t.val / 1 % 8 := Pipeline.Grid.coords_val t 0 (by decide) rfl
  have e : k0_cond2 (grid0.coords t) = 1#1 ↔ t.val % 8 = 7 := by
    simp only [k0_cond2, e0]
    word_cmp
  rw [e]; omega

theorem point_val (t : Fin cfg0.N) : (grid0.coords t 0).val = t.val := by
  have ht : t.val < 8 := Nat.lt_of_lt_of_eq t.isLt N_0
  have e0 : (grid0.coords t 0).val = t.val / 1 % 8 := Pipeline.Grid.coords_val t 0 (by decide) rfl
  rw [e0]; omega

/-- The inputs stay at their blocks; of the two outputs nothing is said here. -/
def blocks (c : Dev nD) : Dat τ (Elt Ideal) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Dat.unnamed (cfg := cfg0) ⟨6, h⟩ t
    | ⟨7, h⟩ => Dat.unnamed (cfg := cfg0) ⟨7, h⟩ t
  Φ _ := Pipeline.ΦA spec0 c
  q w := Pipeline.shareOf spec0 w
  owed _ := 0

/-- The two outputs hold, after each point, what the planes so far say. -/
def rels (c : Dev nD) : (w : Fin cfg0.W) → Option (Fin cfg0.N → (Y X : (cfg0.win w).block.Idx → Elt Ideal (cfg0.win w).elt) → Prop)
  | ⟨6, _⟩ => some fun t _ X => Good (planesIn m c) (maskIn m c) (weightsIn m c) (t.val + 1) X
  | ⟨7, _⟩ => some fun t _ X => GoodHead (planesIn m c) (maskIn m c) (weightsIn m c) (headIn m c) (t.val + 1) X
  | _ => none

/-- The data of the run. -/
def rdat (c : Dev nD) : RDat τ (Elt Ideal) Unit ℕ (UR sig nD τ) ℕ cfg0 c := (blocks m c).toR.override (rels m c)

theorem A_eq (c : Dev nD) (w : Fin cfg0.W) : (blocks m c).A w = V m c (Pipeline.arrRef spec0 w) := by
  dsimp only [blocks]

theorem found0 (c : Dev nD) (t : Fin cfg0.N) (Y) (h : (rdat m c).Finds 0 t Y) : Y = X0_0 m c t := by
  obtain ⟨d, hd⟩ := (blocks m c).toR_finds 0 t Y (((blocks m c).toR.override_finds (ovr := rels m c) rfl t Y).mp h)
  exact hd.trans (before0_0_of m (blocks m c) (A_eq m c 0) (fun t => by dsimp only [blocks]) t d)

theorem found1 (c : Dev nD) (t : Fin cfg0.N) (Y) (h : (rdat m c).Finds 1 t Y) : Y = iblk m c 1 t := by
  obtain ⟨d, hd⟩ := (blocks m c).toR_finds 1 t Y (((blocks m c).toR.override_finds (ovr := rels m c) rfl t Y).mp h)
  exact hd.trans (before0_1_of m (blocks m c) (A_eq m c 1) (fun t => by dsimp only [blocks]) t d)

theorem found2 (c : Dev nD) (t : Fin cfg0.N) (Y) (h : (rdat m c).Finds 2 t Y) : Y = iblk m c 2 t := by
  obtain ⟨d, hd⟩ := (blocks m c).toR_finds 2 t Y (((blocks m c).toR.override_finds (ovr := rels m c) rfl t Y).mp h)
  exact hd.trans (before0_2_of m (blocks m c) (A_eq m c 2) (fun t => by dsimp only [blocks]) t d)

theorem found3 (c : Dev nD) (t : Fin cfg0.N) (Y) (h : (rdat m c).Finds 3 t Y) : Y = iblk m c 3 t := by
  obtain ⟨d, hd⟩ := (blocks m c).toR_finds 3 t Y (((blocks m c).toR.override_finds (ovr := rels m c) rfl t Y).mp h)
  exact hd.trans (before0_3_of m (blocks m c) (A_eq m c 3) (fun t => by dsimp only [blocks]) t d)

theorem found4 (c : Dev nD) (t : Fin cfg0.N) (Y) (h : (rdat m c).Finds 4 t Y) : Y = iblk m c 4 t := by
  obtain ⟨d, hd⟩ := (blocks m c).toR_finds 4 t Y (((blocks m c).toR.override_finds (ovr := rels m c) rfl t Y).mp h)
  exact hd.trans (before0_4_of m (blocks m c) (A_eq m c 4) (fun t => by dsimp only [blocks]) t d)

theorem found5 (c : Dev nD) (t : Fin cfg0.N) (Y) (h : (rdat m c).Finds 5 t Y) : Y = iblk m c 5 t := by
  obtain ⟨d, hd⟩ := (blocks m c).toR_finds 5 t Y (((blocks m c).toR.override_finds (ovr := rels m c) rfl t Y).mp h)
  exact hd.trans (before0_5_of m (blocks m c) (A_eq m c 5) (fun t => by dsimp only [blocks]) t d)

/-- What a point finds in the first output is what the points before it left. -/
theorem found6 (c : Dev nD) (t : Fin cfg0.N) (Y) (h : (rdat m c).Finds 6 t Y) : Good (planesIn m c) (maskIn m c) (weightsIn m c) t.val Y := by
  have ht : t.val < 8 := Nat.lt_of_lt_of_eq t.isLt N_0
  by_cases h0 : t.val = 0
  · intro h1; omega
  rcases ((rdat m c).finds_of_pos (by rfl) h0 Y).mp h with hf | ⟨Z, -, hZ⟩
  · have := (flush0_6 _).mp hf
    dsimp only at this
    omega
  · have e : (⟨t.val - 1, Nat.lt_of_le_of_lt (Nat.sub_le _ _) t.isLt⟩ : Fin cfg0.N).val + 1 = t.val := Nat.sub_add_cancel (Nat.pos_of_ne_zero h0)
    rw [← e]
    exact hZ

/-- What a point finds in the second output is what the points before it left. -/
theorem found7 (c : Dev nD) (t : Fin cfg0.N) (Y) (h : (rdat m c).Finds 7 t Y) :
    GoodHead (planesIn m c) (maskIn m c) (weightsIn m c) (headIn m c) t.val Y := by
  have ht : t.val < 8 := Nat.lt_of_lt_of_eq t.isLt N_0
  by_cases h0 : t.val = 0
  · intro h1; omega
  rcases ((rdat m c).finds_of_pos (by rfl) h0 Y).mp h with hf | ⟨Z, -, hZ⟩
  · have := (flush0_7 _).mp hf
    dsimp only at this
    omega
  · have e : (⟨t.val - 1, Nat.lt_of_le_of_lt (Nat.sub_le _ _) t.isLt⟩ : Fin cfg0.N).val + 1 = t.val := Nat.sub_add_cancel (Nat.pos_of_ne_zero h0)
    rw [← e]
    exact hZ

/-- A block left in place is what the data ask of an input. -/
theorem kept0 (c : Dev nD) (t : Fin cfg0.N) (Y) : (rdat m c).after 0 t Y (X0_0 m c t) := by
  show (blocks m c).Leaves 0 t (X0_0 m c t)
  exact ⟨X0_0 m c t, ((cfg0.win 0).fill_cut _ _).symm⟩
theorem kept1 (c : Dev nD) (t : Fin cfg0.N) (Y) : (rdat m c).after 1 t Y (iblk m c 1 t) := by
  show (blocks m c).Leaves 1 t (iblk m c 1 t)
  rfl
theorem kept2 (c : Dev nD) (t : Fin cfg0.N) (Y) : (rdat m c).after 2 t Y (iblk m c 2 t) := by
  show (blocks m c).Leaves 2 t (iblk m c 2 t)
  rfl
theorem kept3 (c : Dev nD) (t : Fin cfg0.N) (Y) : (rdat m c).after 3 t Y (iblk m c 3 t) := by
  show (blocks m c).Leaves 3 t (iblk m c 3 t)
  rfl
theorem kept4 (c : Dev nD) (t : Fin cfg0.N) (Y) : (rdat m c).after 4 t Y (iblk m c 4 t) := by
  show (blocks m c).Leaves 4 t (iblk m c 4 t)
  rfl
theorem kept5 (c : Dev nD) (t : Fin cfg0.N) (Y) : (rdat m c).after 5 t Y (iblk m c 5 t) := by
  show (blocks m c).Leaves 5 t (iblk m c 5 t)
  rfl

/-- The invariant hands the body its scratch at anything, and takes it back. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- The body at a point, from the buffers it finds to the buffers it leaves. -/
theorem body_step (c : Dev nD) (t : Fin cfg0.N) (Y : (w : Fin cfg0.W) → (cfg0.win w).block.Idx → Elt Ideal (cfg0.win w).elt)
    (y0 : Vec Ideal S8x16x8960 .bf16) (y1 y2 : Vec Ideal S1x16x8960 .bf16) (y3 : Vec Ideal S66x1x8960 .f32) (y4 : Vec Ideal S9x16x48 .f32) (y5 : Vec Ideal S9x1x48 .f32)
    (y6 : Vec Ideal S66x16x8960 .f32) (y7 : Vec Ideal S66x1x8960 .f32)
    (h0 : y0 = X0_0 m c t) (h1 : y1 = iblk m c 1 t) (h2 : y2 = iblk m c 2 t) (h3 : y3 = iblk m c 3 t) (h4 : y4 = iblk m c 4 t) (h5 : y5 = iblk m c 5 t)
    (h6 : Good (planesIn m c) (maskIn m c) (weightsIn m c) t.val y6)
    (h7 : GoodHead (planesIn m c) (maskIn m c) (weightsIn m c) (headIn m c) t.val y7) :
    iprop(Pipeline.ΦA spec0 c ∗ (rdat m c).owesAt () t.castSucc
        ∗ owns (c : Thread nD τ) (win0_0.stage (cfg0.slots t 0)) fullShare y0 ∗ owns (c : Thread nD τ) (win0_1.stage (cfg0.slots t 1)) fullShare y1
        ∗ owns (c : Thread nD τ) (win0_2.stage (cfg0.slots t 2)) fullShare y2 ∗ owns (c : Thread nD τ) (win0_3.stage (cfg0.slots t 3)) fullShare y3
        ∗ owns (c : Thread nD τ) (win0_4.stage (cfg0.slots t 4)) fullShare y4 ∗ owns (c : Thread nD τ) (win0_5.stage (cfg0.slots t 5)) fullShare y5
        ∗ owns (c : Thread nD τ) (win0_6.stage (cfg0.slots t 6)) fullShare y6 ∗ owns (c : Thread nD τ) (win0_7.stage (cfg0.slots t 7)) fullShare y7)
      ⊢ wp frame (wpE (defs₀ (F := Ideal)) Variants.none (c : Thread nD τ) none) Set.univ (bodyAt0 t) (fun _ =>
        iprop(Pipeline.ΦA spec0 c ∗ (rdat m c).owesAt () t.castSucc
        ∗ (∃ X, ⌜(rdat m c).after 0 t (Y 0) X⌝ ∗ owns (c : Thread nD τ) (win0_0.stage (cfg0.slots t 0)) fullShare X)
        ∗ (∃ X, ⌜(rdat m c).after 1 t (Y 1) X⌝ ∗ owns (c : Thread nD τ) (win0_1.stage (cfg0.slots t 1)) fullShare X)
        ∗ (∃ X, ⌜(rdat m c).after 2 t (Y 2) X⌝ ∗ owns (c : Thread nD τ) (win0_2.stage (cfg0.slots t 2)) fullShare X)
        ∗ (∃ X, ⌜(rdat m c).after 3 t (Y 3) X⌝ ∗ owns (c : Thread nD τ) (win0_3.stage (cfg0.slots t 3)) fullShare X)
        ∗ (∃ X, ⌜(rdat m c).after 4 t (Y 4) X⌝ ∗ owns (c : Thread nD τ) (win0_4.stage (cfg0.slots t 4)) fullShare X)
        ∗ (∃ X, ⌜(rdat m c).after 5 t (Y 5) X⌝ ∗ owns (c : Thread nD τ) (win0_5.stage (cfg0.slots t 5)) fullShare X)
        ∗ (∃ X, ⌜(rdat m c).after 6 t (Y 6) X⌝ ∗ owns (c : Thread nD τ) (win0_6.stage (cfg0.slots t 6)) fullShare X)
        ∗ (∃ X, ⌜(rdat m c).after 7 t (Y 7) X⌝ ∗ owns (c : Thread nD τ) (win0_7.stage (cfg0.slots t 7)) fullShare X))) := by
  subst h0 h1 h2 h3 h4 h5
  have e3 := mask_block m c t
  have e4 := weight_block m c t
  have e5 := head_block m c t
  have hp := point_val t
  have hten := ten_block m c t
  rw [← hp] at hten h6 h7
  have hs := step c (grid0.coords t) (hstage0_0 ((cfg0.slots t 0).cast nbuf0_0)) (hstage0_1 ((cfg0.slots t 1).cast nbuf0_1)) (hstage0_2 ((cfg0.slots t 2).cast nbuf0_2))
    (hstage0_3 ((cfg0.slots t 3).cast nbuf0_3)) (hstage0_4 ((cfg0.slots t 4).cast nbuf0_4)) (hstage0_5 ((cfg0.slots t 5).cast nbuf0_5))
    (hstage0_6 ((cfg0.slots t 6).cast nbuf0_6)) (hstage0_7 ((cfg0.slots t 7).cast nbuf0_7))
    (Memref.isWhole_whole cc0_scratch0) (Memref.isWhole_whole cc0_scratch1) (Memref.isWhole_whole cc0_scratch2)
    (X0_0 m c t) (iblk m c 1 t) (iblk m c 2 t) (iblk m c 3 t) (iblk m c 4 t) (iblk m c 5 t)
    (planesIn m c) hten (by rw [hp]; exact firstPoint t) (by rw [hp]; exact lastPoint t) y6 y7
    (by rw [e3, e4]; exact h6) (by rw [e3, e4, e5]; exact h7)
  rw [scratch_eq]
  iintro ⟨⟨⟨HS0, HS1, HS2⟩, Hg⟩, Ho, H0, H1, H2, H3, H4, H5, H6, H7⟩
  iapply (wp_wand_r _ _ _)
  isplitl [HS0 HS1 HS2 H0 H1 H2 H3 H4 H5 H6 H7]
  · iapply hs
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iexact HS2
  iintro %u ⟨%X7, %X8, %hX, H0, H1, H2, H3, H4, H5, H6, H7, HS0, HS1, HS2⟩
  rw [hp, e3, e4, e5] at hX
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexists _; isplitr; swap; · iexact H0
                  ipureintro; exact kept0 m c t _
  isplitl [H1]; · iexists _; isplitr; swap; · iexact H1
                  ipureintro; exact kept1 m c t _
  isplitl [H2]; · iexists _; isplitr; swap; · iexact H2
                  ipureintro; exact kept2 m c t _
  isplitl [H3]; · iexists _; isplitr; swap; · iexact H3
                  ipureintro; exact kept3 m c t _
  isplitl [H4]; · iexists _; isplitr; swap; · iexact H4
                  ipureintro; exact kept4 m c t _
  isplitl [H5]; · iexists _; isplitr; swap; · iexact H5
                  ipureintro; exact kept5 m c t _
  isplitl [H6]; · iexists _; isplitr; swap; · iexact H6
                  ipureintro; exact hX.1
  iexists _; isplitr; swap; · iexact H7
  ipureintro; exact hX.2

/-- The body table's row at a point's slots. -/
theorem row (t : Fin cfg0.N) : defs₀ (F := Ideal) .tc cfg0.body (cfg0.bodyArgs t (cfg0.slots t)) = bodyAt0 t := by
  unfold defs₀; rw [Defs.onTc_tc]

/-- The body's obligation at every point. -/
theorem body_ok (c : Dev nD) : (rdat m c).BodyObligation (defs₀ (F := Ideal)) Variants.none () Set.univ := fun t Y hY => by
  rw [bigSep_W0, bigSep_W0, row]
  exact triple_restated (body_step m c t Y _ _ _ _ _ _ _ _ (found0 m c t _ (hY 0)) (found1 m c t _ (hY 1)) (found2 m c t _ (hY 2))
    (found3 m c t _ (hY 3)) (found4 m c t _ (hY 4)) (found5 m c t _ (hY 5)) (found6 m c t _ (hY 6)) (found7 m c t _ (hY 7))) rfl .rfl fun _ => .rfl

/-! ## The run -/

set_option backward.isDefEq.respectTransparency.types false in
/-- The launch: every execution ends, with the arrays as the data say and every counter at zero. -/
theorem run : θ_run defs (onTc (τ := τ) (main (F := Ideal))) (s₀ m ρ)
    (fun r => Pipeline.RDat.FramePost (cfgs 0) (rdat m) (V m) r ∧ r.2.sem = fun _ => 0) :=
  Pipeline.RDat.θ_run_frame_track_shared (Q' := _) cfgs (0 : Fin 1) launch₀0 defs₀ Variants.none (rdat m) m ρ main
    (hbody := body_ok m) (hq := fun _ _ _ => rfl) (howed := fun _ _ => rfl) (V := V m) (hmain := hmain m Variants.none)
    (hA := A_eq m) (hin := fun _ => .rfl) (hout := fun _ => .rfl)

end Cert.Second

end
-- ==== Proof.SecondArrays.lean ====
/- What the two output arrays of the second convolution's call end with, and that its arguments stay. -/
module

public import proofs.«01_k».proof.Proof.SecondRun

@[expose] public section

set_option maxRecDepth 16384

noncomputable section

namespace Cert.Second

open Idealize.ShloMosaic Idealize.ShloMosaic.TcCoe Idealize.ShloMosaic.Tactic
open Idealize.SL Idealize.SL.Sem
open Idealize.ShloMosaic.Pipeline (Dat RDat Cfg Window)
open Cert.Kernel2Ideal Cert.Kernel2Ideal.Gen Cert.Fat

variable (m : (ℓ : Loc nD τ sig) → Buf (Elt Ideal) ℓ) (ρ : Dev nD → PrngReg)

/-- The first output: `first` at every index. -/
def firstArray (c : Dev nD) : Vec Ideal S66x16x8960 .f32 := fun j =>
  first (planesIn m c) (maskIn m c) (weightsIn m c) (j 0).val (j 1).val (j 2).val

/-- The second output: `headed` at every index. -/
def headArray (c : Dev nD) : Vec Ideal S66x1x8960 .f32 := fun j =>
  headed (planesIn m c) (maskIn m c) (weightsIn m c) (headIn m c) (j 0).val (j 1).val (j 2).val

/-- Contents good after all eight points are `firstArray`. -/
theorem good_all (c : Dev nD) (X : Vec Ideal S66x16x8960 .f32) (h : Good (planesIn m c) (maskIn m c) (weightsIn m c) 8 X) : X = firstArray m c := by
  funext j
  have h0 : (j 0).val < 66 := (j 0).isLt
  have h1 : (j 1).val < 16 := (j 1).isLt
  have h2 : (j 2).val < 8960 := (j 2).isLt
  have e := h (by omega) (j 0).val (j 1).val (j 2).val (by omega) h0 h1 h2
  rw [at3_lt _ h0 h1 h2] at e
  refine Eq.trans (congrArg X (funext fun a => ?_)) e
  match a with
  | ⟨0, _⟩ => rfl
  | ⟨1, _⟩ => rfl
  | ⟨2, _⟩ => rfl

/-- Contents good after all eight points are `headArray`. -/
theorem goodHead_all (c : Dev nD) (X : Vec Ideal S66x1x8960 .f32) (h : GoodHead (planesIn m c) (maskIn m c) (weightsIn m c) (headIn m c) 8 X) : X = headArray m c := by
  funext j
  have h0 : (j 0).val < 66 := (j 0).isLt
  have h1 : (j 1).val < 1 := (j 1).isLt
  have h2 : (j 2).val < 8960 := (j 2).isLt
  have e := h (by omega) (j 0).val (j 2).val (by omega) h0 h2
  rw [at3_lt _ h0 Nat.one_pos h2] at e
  have e1 : (j 1).val = 0 := by omega
  refine Eq.trans (congrArg X (funext fun a => ?_)) (e.trans ?_)
  · match a with
    | ⟨0, _⟩ => rfl
    | ⟨1, _⟩ => exact Fin.ext e1
    | ⟨2, _⟩ => rfl
  · unfold headArray; rw [e1]

/-- **The arrays at the end of the run.** -/
theorem arrays_end (c : Dev nD) (r : PUnit × MemSt nD τ sig (Elt Ideal)) (h : Pipeline.RDat.FramePost (cfgs 0) (rdat m) (V m) r) :
    r.2.mem ((c.tc : Thread nD τ).loc main_v20_0) = firstArray m c ∧ r.2.mem ((c.tc : Thread nD τ).loc main_v20_1) = headArray m c := by
  obtain ⟨after, hL, hA⟩ := h.exists_exact c
  have h6 : after 6 t0_7 = firstArray m c := by
    obtain ⟨Y, -, hX⟩ := hL 6 t0_7 (by decide +kernel)
    exact good_all m c _ hX
  have h7 : after 7 t0_7 = headArray m c := by
    obtain ⟨Y, -, hX⟩ := hL 7 t0_7 (by decide +kernel)
    exact goodHead_all m c _ hX
  constructor
  · refine (hA 6).trans ?_
    refine Dat.arrAt_eq_of_after_last _ 6 t0_7 (by decide +kernel) _ fun j => ?_
    rw [RDat.withAfter_after, h6]
    blk_simp
    rfl
  · refine (hA 7).trans ?_
    refine Dat.arrAt_eq_of_after_last _ 7 t0_7 (by decide +kernel) _ fun j => ?_
    rw [RDat.withAfter_after, h7]
    blk_simp
    rfl

/-- The arguments at the end of the run. -/
theorem args_end (c : Dev nD) (r : PUnit × MemSt nD τ sig (Elt Ideal)) (h : Pipeline.RDat.FramePost (cfgs 0) (rdat m) (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

/-- Every execution leaves the arguments as they were and every counter at zero. -/
theorem frame_run : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => args_end m c r h.1, h.2⟩) (run m ρ)

/-- **What the call computes**: its two results, with the arguments as they were. -/
theorem value_run : θ_run defs (onTc (τ := τ) (main (F := Ideal))) ⟨m, fun _ => 0, ρ⟩ (fun r => ∀ c : Dev nD,
      r.2.mem ((c.tc : Thread nD τ).loc main_v20_0) = firstArray m c
      ∧ r.2.mem ((c.tc : Thread nD τ).loc main_v20_1) = headArray m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(arrays_end m c r h.1).1, (arrays_end m c r h.1).2, args_end m c r h.1⟩) (run m ρ)

end Cert.Second

end
-- ==== Proof.SecondEntry.lean ====
/- The arrays that the second convolution's call is given: the planes of its arguments, and their weights laid out. -/
module

public import proofs.«01_k».proof.Proof.SecondArrays
public import proofs.«01_k».proof.Proof.Convolution

@[expose] public section

set_option maxRecDepth 16384

noncomputable section

namespace Cert.Second

open Idealize.ShloMosaic hiding ix1 ix2 ix3 ix4 ix5 eq_ix1 eq_ix2 eq_ix3 eq_ix4 eq_ix5
open Idealize.ShloMosaic.ValueIdx Idealize.ShloMosaic.TcCoe Idealize.ShloMosaic.Tactic
open Cert.Kernel2Ideal Cert.Kernel2Ideal.Gen Cert.Fat

variable (m : (ℓ : Loc nD τ sig) → Buf (Elt Ideal) ℓ)

/-- The volume convolved. -/
abbrev volume (c : Dev nD) : Vec Ideal S16x64x64x64 .f32 := m ((c.tc : Thread nD τ).loc main_arg0)
/-- The mask's values. -/
def maskVolume (c : Dev nD) : FVec Ideal S1x64x64x64 .f32 := sitofp (s := S1x64x64x64) .f32 (m ((c.tc : Thread nD τ).loc main_arg1))
/-- The convolution's weights. -/
abbrev stencilW (c : Dev nD) : Vec Ideal S16x16x3x3x3 .f32 := m ((c.tc : Thread nD τ).loc main_arg2)
/-- The head's weights. -/
abbrev stencilH (c : Dev nD) : Vec Ideal S1x16x3x3x3 .f32 := m ((c.tc : Thread nD τ).loc main_arg3)

/-- The integer zero as a float is zero. -/
theorem zero_word {φ : FTy} {s : Shape} (i : s.Idx) : (sitofp φ (constantI s 32 0#32) : FVec Ideal s φ) i = (0 : EReal) := by
  show ((((0#32 : BitVec 32).toInt : ℝ)) : EReal) = 0
  simp

/-- The zero that a pad puts round an array. -/
def nought (φ : FTy) : FVec Ideal S_ φ := sitofp (s := S_) φ (constantI S_ 32 0#32)

theorem planesIn_eq (c : Dev nD) : planesIn m c = pad S66x16x8960 ![0, 0, 256] ![0, 0, 256] ![0, 0, 0] (transpose S66x16x8448 [1, 0, 2]
      (shapeCast S16x66x8448 (pad S16x66x66x128 ![0, 1, 1, 1] ![0, 1, 1, 63] ![0, 0, 0, 0] (volume m c) (nought .bf16)
        pads_S16x64x64x64_S16x66x66x128_000_110_110_1630 h_S_) shapeCasts_S16x66x66x128_S16x66x8448)
      transposes_S16x66x8448_S66x16x8448_1_0_2) (nought .bf16) pads_S66x16x8448_S66x16x8960_000_000_2562560 h_S_ := by
  unfold planesIn
  simp only [V, hostOps0, hostOps0_1, hostOps0_2, hostOps0_3, hostOps0_4, hostOps0_5, hostOps0_6, hostOps0_7, hostOps0_8, List.flatten_cons, List.flatten_nil, List.append_nil, List.cons_append, List.nil_append, StableHlo.after_cons, StableHlo.after_nil]
  after_results_simp
  rfl

theorem maskIn_eq (c : Dev nD) : maskIn m c = pad S66x1x8960 ![0, 0, 256] ![0, 0, 256] ![0, 0, 0] (transpose S66x1x8448 [1, 0, 2]
      (shapeCast S1x66x8448 (pad S1x66x66x128 ![0, 1, 1, 1] ![0, 1, 1, 63] ![0, 0, 0, 0] (maskVolume m c) (nought .f32)
        pads_S1x64x64x64_S1x66x66x128_000_110_110_1630 h_S_) shapeCasts_S1x66x66x128_S1x66x8448)
      transposes_S1x66x8448_S66x1x8448_1_0_2) (nought .f32) pads_S66x1x8448_S66x1x8960_000_000_2562560 h_S_ := by
  unfold maskIn
  simp only [V, hostOps0, hostOps0_1, hostOps0_2, hostOps0_3, hostOps0_4, hostOps0_5, hostOps0_6, hostOps0_7, hostOps0_8, List.flatten_cons, List.flatten_nil, List.append_nil, List.cons_append, List.nil_append, StableHlo.after_cons, StableHlo.after_nil]
  after_results_simp
  rfl

theorem weightsIn_eq (c : Dev nD) : weightsIn m c = shapeCast S9x16x48 (transpose S3x3x16x3x16 [1, 2, 3, 0, 4] (shapeCast S3x3x3x16x16
      (shapeCast S27x16x16 (transpose S3x3x3x16x16 [2, 3, 4, 0, 1] (stencilW m c) transposes_S16x16x3x3x3_S3x3x3x16x16_2_3_4_0_1) shapeCasts_S3x3x3x16x16_S27x16x16)
      shapeCasts_S27x16x16_S3x3x3x16x16) transposes_S3x3x3x16x16_S3x3x16x3x16_1_2_3_0_4) shapeCasts_S3x3x16x3x16_S9x16x48 := by
  unfold weightsIn
  simp only [V, hostOps0, hostOps0_1, hostOps0_2, hostOps0_3, hostOps0_4, hostOps0_5, hostOps0_6, hostOps0_7, hostOps0_8, List.flatten_cons, List.flatten_nil, List.append_nil, List.cons_append, List.nil_append, StableHlo.after_cons, StableHlo.after_nil]
  after_results_simp
  rfl

theorem headIn_eq (c : Dev nD) : headIn m c = shapeCast S9x1x48 (transpose S3x3x1x3x16 [1, 2, 3, 0, 4] (shapeCast S3x3x3x1x16
      (shapeCast S27x1x16 (transpose S3x3x3x1x16 [2, 3, 4, 0, 1] (stencilH m c) transposes_S1x16x3x3x3_S3x3x3x1x16_2_3_4_0_1) shapeCasts_S3x3x3x1x16_S27x1x16)
      shapeCasts_S27x1x16_S3x3x3x1x16) transposes_S3x3x3x1x16_S3x3x1x3x16_1_2_3_0_4) shapeCasts_S3x3x1x3x16_S9x1x48 := by
  unfold headIn
  simp only [V, hostOps0, hostOps0_1, hostOps0_2, hostOps0_3, hostOps0_4, hostOps0_5, hostOps0_6, hostOps0_7, hostOps0_8, List.flatten_cons, List.flatten_nil, List.append_nil, List.cons_append, List.nil_append, StableHlo.after_cons, StableHlo.after_nil]
  after_results_simp
  rfl

theorem planes_in (c : Dev nD) {n k l : ℕ} (hn : n < 66) (hk : k < 16) (hl : l < 8960) : at3 (planesIn m c) n k l = planes (volume m c) n k l := by
  rw [planesIn_eq]
  exact to_planes_at (volume m c) (nought .bf16) (nought .bf16) (fun i => zero_word i) (fun i => zero_word i) _ _ _ _ _ hn hk hl

theorem mask_in (c : Dev nD) {n l : ℕ} (hn : n < 66) (hl : l < 8960) : at3 (maskIn m c) n 0 l = planes (maskVolume m c) n 0 l := by
  rw [maskIn_eq]
  exact to_planes_at (maskVolume m c) (nought .f32) (nought .f32) (fun i => zero_word i) (fun i => zero_word i) _ _ _ _ _ hn Nat.one_pos hl

theorem weights_in (c : Dev nD) {q o k : ℕ} (hq : q < 9) (ho : o < 16) (hk : k < 48) :
    at3 (weightsIn m c) q o k = Cert.Fat.weight (stencilW m c) o (k % 16) (k / 16) (q / 3) (q % 3) := by
  rw [weightsIn_eq]
  exact slab_at (CO := 16) (CI := 16) (stencilW m c) rfl _ _ _ _ _ hq ho hk

theorem head_in (c : Dev nD) {q k : ℕ} (hq : q < 9) (hk : k < 48) :
    at3 (headIn m c) q 0 k = Cert.Fat.weight (stencilH m c) 0 (k % 16) (k / 16) (q / 3) (q % 3) := by
  rw [headIn_eq]
  exact slab_at (CO := 1) (CI := 16) (stencilH m c) rfl _ _ _ _ _ hq Nat.one_pos hk

/-! ## The two results as planes of two volumes -/

/-- The first result's volume: the convolution, masked and rectified. -/
def firstVolume (c : Dev nD) : Vec Ideal S16x64x64x64 .f32 := fun j =>
  act (stencil (stencilW m c) (voxel (volume m c)) (j 0).val (j 1).val (j 2).val (j 3).val * maskVolume m c (ix4 0 (j 1) (j 2) (j 3)))

/-- The second result's volume: the head's convolution of the first, masked. -/
def headVolume (c : Dev nD) : Vec Ideal S1x64x64x64 .f32 := fun j =>
  stencil (stencilH m c) (voxel (firstVolume m c)) (j 0).val (j 1).val (j 2).val (j 3).val * maskVolume m c (ix4 0 (j 1) (j 2) (j 3))

/-- The first output is the planes of `firstVolume`. -/
theorem first_planes (c : Dev nD) {n o L : ℕ} (hn : n < 66) (ho : o < 16) (hL : L < 8960) :
    first (planesIn m c) (maskIn m c) (weightsIn m c) n o L = planes (firstVolume m c) n o L := by
  by_cases hg : (1 ≤ n ∧ n < 65) ∧ OnGrid L
  · obtain ⟨hn', hL'⟩ := hg
    have hin : Inside n L := by have := hL'.1; unfold Inside; omega
    unfold first
    rw [if_pos hin, planes_on _ ho hn' hL', mask_in m c hn hL, planes_on _ Nat.one_pos hn' hL']
    have e := stacked_eq (stencilW m c) (at3 (weightsIn m c)) (at3 (planesIn m c)) (volume m c) o
      (fun q k hq hk => weights_in m c hq ho hk) (fun n k l hn hk hl => planes_in m c hn hk hl) hn' hL'
    exact congrArg (fun v => act (v * _)) e
  · rw [planes_out _ hg]
    unfold first
    split
    · rw [mask_in m c hn hL, planes_out _ hg, mul_zero, act_zero]
    · rfl

/-- The second output is the planes of `headVolume`. -/
theorem headed_planes (c : Dev nD) {n L : ℕ} (hn : n < 66) (hL : L < 8960) :
    headed (planesIn m c) (maskIn m c) (weightsIn m c) (headIn m c) n 0 L = planes (headVolume m c) n 0 L := by
  by_cases hg : (1 ≤ n ∧ n < 65) ∧ OnGrid L
  · obtain ⟨hn', hL'⟩ := hg
    have hin : Inside n L := by have := hL'.1; unfold Inside; omega
    unfold headed
    rw [if_pos hin, planes_on _ Nat.one_pos hn' hL', mask_in m c hn hL, planes_on _ Nat.one_pos hn' hL']
    have e := stacked_eq (stencilH m c) (at3 (headIn m c)) (first (planesIn m c) (maskIn m c) (weightsIn m c)) (firstVolume m c) 0
      (fun q k hq hk => head_in m c hq hk) (fun n k l hn hk hl => first_planes m c hn hk hl) hn' hL'
    exact congrArg (fun v => v * _) e
  · rw [planes_out _ hg]
    unfold headed
    split
    · rw [mask_in m c hn hL, planes_out _ hg, mul_zero]
    · rfl

end Cert.Second

end
-- ==== Proof.SecondReference.lean ====
/- What the second convolution's reference computes: its two results laid out, off the volumes it computes. -/
module

public import proofs.«01_k».proof.Proof.Gen.Reference2Ideal.Run
public import proofs.«01_k».proof.Proof.Convolution
public import Idealize.ShloMosaic.Lib.Quiescent

@[expose] public section

set_option maxRecDepth 16384

noncomputable section

namespace Cert.Second.Plain

open Idealize.ShloMosaic hiding ix1 ix2 ix3 ix4 ix5 eq_ix1 eq_ix2 eq_ix3 eq_ix4 eq_ix5
open Idealize.ShloMosaic.ValueIdx Idealize.ShloMosaic.TcCoe Idealize.SL.Sem Idealize.ShloMosaic.StableHlo
open Cert.Reference2Ideal Cert.Reference2Ideal.Gen Cert.Reference2Ideal.Value Cert.Fat

variable (V0 : Valuation τ sig (Elt Ideal))

/-- The reference's arguments. -/
abbrev volume : Vec Ideal S16x64x64x64 .f32 := V0 (Proc.devRef .tc main_arg0)
abbrev weightsW : Vec Ideal S16x16x3x3x3 .f32 := V0 (Proc.devRef .tc main_arg2)
abbrev weightsH : Vec Ideal S1x16x3x3x3 .f32 := V0 (Proc.devRef .tc main_arg3)
theorem zero_word {φ : FTy} {s : Shape} (i : s.Idx) : (sitofp φ (constantI s 32 0#32) : FVec Ideal s φ) i = (0 : EReal) := by
  show ((((0#32 : BitVec 32).toInt : ℝ)) : EReal) = 0
  simp

/-- The second result's volume: the head's convolution of the first's, masked. -/
def headVolume : FVec Ideal S1x64x64x64 .f32 := mulf (hostConv (weightsH V0) (res_main_v143 V0)) (res_main_v0 V0)

/-- The first convolution is the host's products added up in order. -/
theorem conv1_eq : res_main_v137 V0 = mulf (hostConv (weightsW V0) (res_main_v1 V0)) (broadcastInDim S16x64x64x64 ![0, 1, 2, 3] bcast_S1x64x64x64_S16x64x64x64_0_1_2_3 (res_main_v0 V0)) := by
  unfold res_main_v137 res_main_v120 res_main_v60
  rfl

/-- The mask spread over the channels is the mask. -/
theorem mask_spread (v : FVec Ideal S1x64x64x64 .f32) (o : Fin 16) (z y w : Fin 64) :
    broadcastInDim S16x64x64x64 ![0, 1, 2, 3] bcast_S1x64x64x64_S16x64x64x64_0_1_2_3 v (ix4 o z y w) = v (ix4 0 z y w) := by
  rw [broadcastInDim]
  refine congrArg v (funext fun a => ?_)
  match a with
  | ⟨0, _⟩ => rfl
  | ⟨1, _⟩ => rfl
  | ⟨2, _⟩ => rfl
  | ⟨3, _⟩ => rfl

theorem border_at (k : Fin 16) (z y w : Fin 66) : res_main_v1 V0 (ix4 k z y w) = voxel (volume V0) k z y w :=
  pad_border _ _ (fun i => zero_word i) _ _ k z y w

theorem border2_at (k : Fin 16) (z y w : Fin 66) : res_main_v143 V0 (ix4 k z y w) = voxel (res_main_v142 V0) k z y w :=
  pad_border _ _ (fun i => zero_word i) _ _ k z y w

/-- The first result's volume, voxel by voxel. -/
theorem first_at (o : Fin 16) (z y w : Fin 64) :
    res_main_v142 V0 (ix4 o z y w) = act (stencil (weightsW V0) (voxel (volume V0)) o z y w * res_main_v0 V0 (ix4 0 z y w)) := by
  have e : res_main_v137 V0 (ix4 o z y w) = stencil (weightsW V0) (voxel (volume V0)) o z y w * res_main_v0 V0 (ix4 0 z y w) := by
    rw [conv1_eq]
    show hostConv (weightsW V0) (res_main_v1 V0) (ix4 o z y w) * _ = _
    rw [hostConv_at _ _ _ (border_at V0) o z y w, mask_spread]
  unfold res_main_v142
  rw [← e]
  rfl

/-- The second result's volume, voxel by voxel. -/
theorem head_at (o : Fin 1) (z y w : Fin 64) :
    headVolume V0 (ix4 o z y w) = stencil (weightsH V0) (voxel (res_main_v142 V0)) o z y w * res_main_v0 V0 (ix4 o z y w) := by
  show hostConv (weightsH V0) (res_main_v143 V0) (ix4 o z y w) * _ = _
  rw [hostConv_at _ _ _ (border2_at V0) o z y w]

/-! ## The run -/

variable (m : (ℓ : Loc nD τ sig) → Buf (Elt Ideal) ℓ) (ρ : Dev nD → PrngReg)

/-- The first result: the first volume laid out. -/
def firstLaid (c : Dev nD) : FVec Ideal S66x16x8960 .f32 :=
  transpose S66x16x8960 [1, 0, 2] (pad S16x66x8960 ![0, 0, 256] ![0, 0, 256] ![0, 0, 0] (shapeCast _ (pad S16x66x66x128 ![0, 1, 1, 1] ![0, 1, 1, 63] ![0, 0, 0, 0] (res_main_v142 (launchContents m c)) (sitofp .f32 (constantI S_ 32 0#32)) pads_S16x64x64x64_S16x66x66x128_000_110_110_1630 h_S_) shapeCasts_S16x66x66x128_S16x66x8448) (sitofp .f32 (constantI S_ 32 0#32)) pads_S16x66x8448_S16x66x8960_000_000_2562560 h_S_) transposes_S16x66x8960_S66x16x8960_1_0_2

/-- The second result: the second volume laid out. -/
def headLaid (c : Dev nD) : FVec Ideal S66x1x8960 .f32 :=
  transpose S66x1x8960 [1, 0, 2] (pad S1x66x8960 ![0, 0, 256] ![0, 0, 256] ![0, 0, 0] (shapeCast _ (pad S1x66x66x128 ![0, 1, 1, 1] ![0, 1, 1, 63] ![0, 0, 0, 0] (headVolume (launchContents m c)) (sitofp .f32 (constantI S_ 32 0#32)) pads_S1x64x64x64_S1x66x66x128_000_110_110_1630 h_S_) shapeCasts_S1x66x66x128_S1x66x8448) (sitofp .f32 (constantI S_ 32 0#32)) pads_S1x66x8448_S1x66x8960_000_000_2562560 h_S_) transposes_S1x66x8960_S66x1x8960_1_0_2

theorem firstLaid_at (c : Dev nD) {n k L : ℕ} (hn : n < 66) (hk : k < 16) (hL : L < 8960) :
    at3 (firstLaid m c) n k L = planes (res_main_v142 (launchContents m c)) n k L :=
  laid_out_at (res_main_v142 (launchContents m c)) _ _ (fun i => zero_word i) (fun i => zero_word i) _ _ _ _ _ hn hk hL

theorem headLaid_at (c : Dev nD) {n L : ℕ} (hn : n < 66) (hL : L < 8960) :
    at3 (headLaid m c) n 0 L = planes (headVolume (launchContents m c)) n 0 L :=
  laid_out_at (headVolume (launchContents m c)) _ _ (fun i => zero_word i) (fun i => zero_word i) _ _ _ _ _ hn Nat.one_pos hL

/-- **What the reference computes**: its two results, with the arguments as they were. -/
theorem value_run : θ_run defs (onTc (τ := τ) (main (F := Ideal))) ⟨m, fun _ => 0, ρ⟩ fun r => ∀ c : Dev nD,
      r.2.mem ((c.tc : Thread nD τ).loc main_v282) = firstLaid m c
      ∧ r.2.mem ((c.tc : Thread nD τ).loc main_v286) = headLaid m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1, (h c).2.1.trans rfl, (h c).2.2⟩) (run m ρ)

/-- Every execution leaves the arguments as they were and every counter at zero. -/
theorem frame_run : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => (h c).2.2, sem_eq_zero_of_no_sems rfl r.2⟩) (run m ρ)

end Cert.Second.Plain

end
-- ==== Proof.SecondEqual.lean ====
/- The second convolution's call and its reference compute the same two arrays. -/
module

public import proofs.«01_k».proof.Proof.SecondEntry
public import proofs.«01_k».proof.Proof.SecondReference

@[expose] public section

set_option maxRecDepth 16384

noncomputable section

namespace Cert.Second

open Idealize.ShloMosaic hiding ix1 ix2 ix3 ix4 ix5 eq_ix1 eq_ix2 eq_ix3 eq_ix4 eq_ix5
open Idealize.ShloMosaic.ValueIdx Idealize.ShloMosaic.TcCoe Idealize.ShloMosaic.StableHlo
open Cert.Fat Cert.Reference2Ideal.Value

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ) (c : Dev Cert.Kernel2Ideal.nD)

/-- The two programs' arguments agree. -/
structure Agree : Prop where
  volume : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
  mask : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
  stencil : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
  head : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)

variable {m m' c}

/-- The masks then agree, -/
theorem mask_agree (h : Agree m m' c) : res_main_v0 (launchContents m' c) = maskVolume m c := by
  unfold res_main_v0 maskVolume
  exact congrArg (fun x => sitofp (F := Ideal) (s := Cert.Kernel2Ideal.S1x64x64x64) .f32 x) h.mask

/-- the first volumes, -/
theorem first_agree (h : Agree m m' c) : res_main_v142 (launchContents m' c) = firstVolume m c := by
  refine funext fun (j : (⟨4, ![16, 64, 64, 64]⟩ : Shape).Idx) => ?_
  obtain ⟨o, z, y, w, rfl⟩ : ∃ (o : Fin 16) (z y w : Fin 64), j = ix4 o z y w := ⟨_, _, _, _, eq_ix4 j⟩
  have hv : Plain.volume (launchContents m' c) = volume m c := h.volume
  have hw : Plain.weightsW (launchContents m' c) = stencilW m c := h.stencil
  refine (Plain.first_at (launchContents m' c) o z y w).trans ?_
  rw [hv, hw, mask_agree h]
  rfl

/-- and the second ones. -/
theorem head_agree (h : Agree m m' c) : Plain.headVolume (launchContents m' c) = headVolume m c := by
  refine funext fun (j : (⟨4, ![1, 64, 64, 64]⟩ : Shape).Idx) => ?_
  obtain ⟨o, z, y, w, rfl⟩ : ∃ (o : Fin 1) (z y w : Fin 64), j = ix4 o z y w := ⟨_, _, _, _, eq_ix4 j⟩
  obtain rfl : o = 0 := Subsingleton.elim _ _
  have hw : Plain.weightsH (launchContents m' c) = stencilH m c := h.head
  refine (Plain.head_at (launchContents m' c) 0 z y w).trans ?_
  rw [hw, mask_agree h, first_agree h]
  rfl

/-- **The first results are equal.** -/
theorem first_equal (h : Agree m m' c) : Plain.firstLaid m' c = firstArray m c := by
  refine funext fun (j : (⟨3, ![66, 16, 8960]⟩ : Shape).Idx) => ?_
  obtain ⟨n, o, L, rfl⟩ : ∃ (n : Fin 66) (o : Fin 16) (L : Fin 8960), j = ix3 n o L := ⟨_, _, _, eq_ix3 j⟩
  refine (at3_lt (Plain.firstLaid m' c) n.isLt o.isLt L.isLt).symm.trans ?_
  refine (Plain.firstLaid_at m' c n.isLt o.isLt L.isLt).trans ?_
  rw [first_agree h]
  exact (first_planes m c n.isLt o.isLt L.isLt).symm

/-- **The second results are equal.** -/
theorem head_equal (h : Agree m m' c) : Plain.headLaid m' c = headArray m c := by
  refine funext fun (j : (⟨3, ![66, 1, 8960]⟩ : Shape).Idx) => ?_
  obtain ⟨n, o, L, rfl⟩ : ∃ (n : Fin 66) (o : Fin 1) (L : Fin 8960), j = ix3 n o L := ⟨_, _, _, eq_ix3 j⟩
  obtain rfl : o = 0 := Subsingleton.elim _ _
  refine (at3_lt (Plain.headLaid m' c) n.isLt Nat.one_pos L.isLt).symm.trans ?_
  refine (Plain.headLaid_at m' c n.isLt L.isLt).trans ?_
  rw [head_agree h]
  exact (headed_planes m c n.isLt L.isLt).symm

end Cert.Second

end
-- ==== Proof.ThirdHeld.lean ====
/- What the body of the call of the first down block's second convolution is handed and hands back. -/
module

public import proofs.«01_k».proof.Proof.Gen.Kernel3Ideal.Skeleton
public import proofs.«01_k».proof.Proof.Gen.Kernel3Ideal.Frame

@[expose] public section

set_option maxRecDepth 16384

noncomputable section

namespace Cert.Third

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F]
local notation "𝕄" => MT nD τ sig Unit (Elt F) ℕ (UR sig nD τ) ℕ

variable (c : Dev nD) (i : grid0.Coords)
  {arg1 : Memref sig .tc .vmem S8x16x8960 .f32} (harg1 : arg1.IsWhole)
  {arg2 : Memref sig .tc .vmem S1x16x8960 .f32} (harg2 : arg2.IsWhole)
  {arg3 : Memref sig .tc .vmem S1x16x8960 .f32} (harg3 : arg3.IsWhole)
  {arg4 : Memref sig .tc .vmem S66x1x8960 .f32} (harg4 : arg4.IsWhole)
  {arg5 : Memref sig .tc .vmem S9x16x48 .f32} (harg5 : arg5.IsWhole)
  {arg6 : Memref sig .tc .vmem S66x16x8960 .f32} (harg6 : arg6.IsWhole)
  {arg7 : Memref sig .tc .vmem S16x1 .f32} (harg7 : arg7.IsWhole)
  {arg8 : Memref sig .tc .vmem S16x1 .f32} (harg8 : arg8.IsWhole)
  {arg9 : Memref sig .tc .smem S1 .f32} (harg9 : arg9.IsWhole)
  (x1 : Vec F S8x16x8960 .f32) (x2 : Vec F S1x16x8960 .f32) (x3 : Vec F S1x16x8960 .f32)
  (x4 : Vec F S66x1x8960 .f32) (x5 : Vec F S9x16x48 .f32)

/-- The word that is one at the first grid point and zero elsewhere. -/
abbrev startWord : BitVec 1 := Scalar.cmpi .ne (Scalar.extui (Scalar.cmpi .eq (BitVec.ofNat 32 (i 0).val) 0#32) : BitVec 32) 0#32

/-- What the body is handed and hands back: the five inputs at their contents, the output at `f6`, the scratch at anything. -/
abbrev Held (f6 : BufTy.Contents (Elt F) arg6.view.ty) : sProp 𝕄 :=
  iprop((arg1.view.loc (c : Thread nD τ) ↦[arg1.view.set]{fullShare} harg1.unread x1)
    ∗ (arg2.view.loc (c : Thread nD τ) ↦[arg2.view.set]{fullShare} harg2.unread x2)
    ∗ (arg3.view.loc (c : Thread nD τ) ↦[arg3.view.set]{fullShare} harg3.unread x3)
    ∗ (arg4.view.loc (c : Thread nD τ) ↦[arg4.view.set]{fullShare} harg4.unread x4)
    ∗ (arg5.view.loc (c : Thread nD τ) ↦[arg5.view.set]{fullShare} harg5.unread x5)
    ∗ (arg6.view.loc (c : Thread nD τ) ↦[arg6.view.set]{fullShare} f6)
    ∗ (∃ f, arg7.view.loc (c : Thread nD τ) ↦[arg7.view.set]{fullShare} f)
    ∗ (∃ f, arg8.view.loc (c : Thread nD τ) ↦[arg8.view.set]{fullShare} f)
    ∗ (∃ f, arg9.view.loc (c : Thread nD τ) ↦[arg9.view.set]{fullShare} f))

end Cert.Third

end
-- ==== Proof.ThirdRunA.lean ====
/- The body of the call of the first down block's second convolution, run at the first grid point. -/
module

public import proofs.«01_k».proof.Proof.ThirdHeld

@[expose] public section

set_option maxRecDepth 16384

noncomputable section

namespace Cert.Third

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F]
local notation "𝕄" => MT nD τ sig Unit (Elt F) ℕ (UR sig nD τ) ℕ

variable (c : Dev nD) (i : grid0.Coords)
  {arg1 : Memref sig .tc .vmem S8x16x8960 .f32} (harg1 : arg1.IsWhole)
  {arg2 : Memref sig .tc .vmem S1x16x8960 .f32} (harg2 : arg2.IsWhole)
  {arg3 : Memref sig .tc .vmem S1x16x8960 .f32} (harg3 : arg3.IsWhole)
  {arg4 : Memref sig .tc .vmem S66x1x8960 .f32} (harg4 : arg4.IsWhole)
  {arg5 : Memref sig .tc .vmem S9x16x48 .f32} (harg5 : arg5.IsWhole)
  {arg6 : Memref sig .tc .vmem S66x16x8960 .f32} (harg6 : arg6.IsWhole)
  {arg7 : Memref sig .tc .vmem S16x1 .f32} (harg7 : arg7.IsWhole)
  {arg8 : Memref sig .tc .vmem S16x1 .f32} (harg8 : arg8.IsWhole)
  {arg9 : Memref sig .tc .smem S1 .f32} (harg9 : arg9.IsWhole)
  (x1 : Vec F S8x16x8960 .f32) (x2 : Vec F S1x16x8960 .f32) (x3 : Vec F S1x16x8960 .f32)
  (x4 : Vec F S66x1x8960 .f32) (x5 : Vec F S9x16x48 .f32)

set_option maxHeartbeats 1000000 in
/-- The body run at the first grid point: what it stores in the output. -/
def runA (hc0 : startWord i = 1#1) (f6 : BufTy.Contents (Elt F) arg6.view.ty) :
    { L6 : List (View.Piece (Elt F) S66x16x8960 .f32) //
      ∀ (E : Set ℕ),
      Held c harg1 harg2 harg3 harg4 harg5 (arg6 := arg6) (arg7 := arg7) (arg8 := arg8) (arg9 := arg9) x1 x2 x3 x4 x5 f6
      ⊢ wp frame (wpE (defs₀ (F := F)) Variants.none (c : Thread nD τ) none) E (cc0_body (F := F) i arg1 harg1 arg2 harg2 arg3 harg3 arg4 harg4 arg5 harg5 arg6 harg6 arg7 harg7 arg8 harg8 arg9 harg9)
          (fun _ => Held c harg1 harg2 harg3 harg4 harg5 (arg6 := arg6) (arg7 := arg7) (arg8 := arg8) (arg9 := arg9) x1 x2 x3 x4 x5
            (arg6.view.writes (Elt F) f6 L6)) } := by
  refine ⟨?_, fun E => ?run⟩
  case run =>
    simp only [cc0_body_eq_skeleton]; unfold cc0_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    iintro ⟨H1, H2, H3, H4, H5, H6, ⟨%f7, H7⟩, ⟨%f8, H8⟩, ⟨%f9, H9⟩⟩
    sl_exec (disch := sl_exact hc0)
    sl_step
    sl_close

end Cert.Third

end
-- ==== Proof.ThirdRunB.lean ====
/- The body of the call of the first down block's second convolution, run at a later grid point. -/
module

public import proofs.«01_k».proof.Proof.ThirdHeld

@[expose] public section

set_option maxRecDepth 16384

noncomputable section

namespace Cert.Third

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F]
local notation "𝕄" => MT nD τ sig Unit (Elt F) ℕ (UR sig nD τ) ℕ

variable (c : Dev nD) (i : grid0.Coords)
  {arg1 : Memref sig .tc .vmem S8x16x8960 .f32} (harg1 : arg1.IsWhole)
  {arg2 : Memref sig .tc .vmem S1x16x8960 .f32} (harg2 : arg2.IsWhole)
  {arg3 : Memref sig .tc .vmem S1x16x8960 .f32} (harg3 : arg3.IsWhole)
  {arg4 : Memref sig .tc .vmem S66x1x8960 .f32} (harg4 : arg4.IsWhole)
  {arg5 : Memref sig .tc .vmem S9x16x48 .f32} (harg5 : arg5.IsWhole)
  {arg6 : Memref sig .tc .vmem S66x16x8960 .f32} (harg6 : arg6.IsWhole)
  {arg7 : Memref sig .tc .vmem S16x1 .f32} (harg7 : arg7.IsWhole)
  {arg8 : Memref sig .tc .vmem S16x1 .f32} (harg8 : arg8.IsWhole)
  {arg9 : Memref sig .tc .smem S1 .f32} (harg9 : arg9.IsWhole)
  (x1 : Vec F S8x16x8960 .f32) (x2 : Vec F S1x16x8960 .f32) (x3 : Vec F S1x16x8960 .f32)
  (x4 : Vec F S66x1x8960 .f32) (x5 : Vec F S9x16x48 .f32)

set_option maxHeartbeats 1000000 in
/-- The body run at a later grid point: what it stores in the output. -/
def runB (hc0 : ¬startWord i = 1#1) (f6 : BufTy.Contents (Elt F) arg6.view.ty) :
    { L6 : List (View.Piece (Elt F) S66x16x8960 .f32) //
      ∀ (E : Set ℕ),
      Held c harg1 harg2 harg3 harg4 harg5 (arg6 := arg6) (arg7 := arg7) (arg8 := arg8) (arg9 := arg9) x1 x2 x3 x4 x5 f6
      ⊢ wp frame (wpE (defs₀ (F := F)) Variants.none (c : Thread nD τ) none) E (cc0_body (F := F) i arg1 harg1 arg2 harg2 arg3 harg3 arg4 harg4 arg5 harg5 arg6 harg6 arg7 harg7 arg8 harg8 arg9 harg9)
          (fun _ => Held c harg1 harg2 harg3 harg4 harg5 (arg6 := arg6) (arg7 := arg7) (arg8 := arg8) (arg9 := arg9) x1 x2 x3 x4 x5
            (arg6.view.writes (Elt F) f6 L6)) } := by
  refine ⟨?_, fun E => ?run⟩
  case run =>
    simp only [cc0_body_eq_skeleton]; unfold cc0_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    iintro ⟨H1, H2, H3, H4, H5, H6, ⟨%f7, H7⟩, ⟨%f8, H8⟩, ⟨%f9, H9⟩⟩
    sl_exec (disch := sl_exact hc0)
    sl_step
    sl_close

end Cert.Third

end
-- ==== Proof.ThirdPlane.lean ====
/- The planes that one grid point of the call of the first down block's second convolution stores, and what each holds. -/
module

public import proofs.«01_k».proof.Proof.Stencil
public import proofs.«01_k».proof.Proof.ThirdRunA
public import proofs.«01_k».proof.Proof.ThirdRunB
public import Idealize.ShloMosaic.Lib.WritesUnit

@[expose] public section

set_option maxRecDepth 16384

noncomputable section

namespace Cert.Third

open Idealize.ShloMosaic hiding ix1 ix2 ix3 ix4 eq_ix1 eq_ix2 eq_ix3 eq_ix4
open Idealize.ShloMosaic.ValueIdx Idealize.ShloMosaic.TcCoe
open Cert.Kernel3Ideal Cert.Kernel3Ideal.Gen Cert.Fat
open scoped BigOperators

variable (c : Dev nD) (i : grid0.Coords)
  {arg1 : Memref sig .tc .vmem S8x16x8960 .f32} (harg1 : arg1.IsWhole)
  {arg2 : Memref sig .tc .vmem S1x16x8960 .f32} (harg2 : arg2.IsWhole)
  {arg3 : Memref sig .tc .vmem S1x16x8960 .f32} (harg3 : arg3.IsWhole)
  {arg4 : Memref sig .tc .vmem S66x1x8960 .f32} (harg4 : arg4.IsWhole)
  {arg5 : Memref sig .tc .vmem S9x16x48 .f32} (harg5 : arg5.IsWhole)
  {arg6 : Memref sig .tc .vmem S66x16x8960 .f32} (harg6 : arg6.IsWhole)
  {arg7 : Memref sig .tc .vmem S16x1 .f32} (harg7 : arg7.IsWhole)
  {arg8 : Memref sig .tc .vmem S16x1 .f32} (harg8 : arg8.IsWhole)
  {arg9 : Memref sig .tc .smem S1 .f32} (harg9 : arg9.IsWhole)
  (x1 : Vec Ideal S8x16x8960 .f32) (x2 : Vec Ideal S1x16x8960 .f32) (x3 : Vec Ideal S1x16x8960 .f32)
  (x4 : Vec Ideal S66x1x8960 .f32) (x5 : Vec Ideal S9x16x48 .f32)

/-- The weights of offset `q` within a plane. -/
def weight (x5 : Vec Ideal S9x16x48 .f32) (q : Fin 9) : Vec Ideal S1x16x48 .f32 :=
  View.ld x5 (Rect.unit (s := S9x16x48) ![q.val, 0, 0] S1x16x48.size (fun a => by fin_cases a <;> simp <;> omega))

/-- The three planes around plane `k` of the point's eight, stacked. -/
def stack (x1 : Vec Ideal S8x16x8960 .f32) (x2 x3 : Vec Ideal S1x16x8960 .f32) : Fin 8 → FVec Ideal S48x8960 .f32 :=
  ![k0_pay9 x1, k0_pay16 (k0_pay6 x1), k0_pay24 (k0_pay6 x1), k0_pay32 (k0_pay6 x1), k0_pay41 (k0_pay6 x1), k0_pay49 (k0_pay6 x1),
    k0_pay57 (k0_pay6 x1) (k0_pay7 x2), k0_pay65 (k0_pay6 x1) (k0_pay7 x2) (k0_pay8 x3)]

/-- The mask's plane for plane `k` of the point's eight. -/
def maskPlane (x4 : Vec Ideal S66x1x8960 .f32) (k : Fin 8) : Vec Ideal S1x1x8960 .f32 :=
  View.ld x4 (Rect.unit (s := S66x1x8960) (k0_off1 i (BitVec.ofNat 32 k.val)) S1x1x8960.size (k0_off1_inb i k))

/-- What is stored at plane `k` of the point's eight. -/
def plane (k : Fin 8) : FVec Ideal S1x16x8960 .f32 :=
  framed (rectified (taps (stack x1 x2 x3 k) (weight x5)) (maskRows (maskPlane i x4 k) broadcasts_S1x8448_S16x8448))
    concatenates_S16x256_S16x8448_S16x8704_d1 concatenates_S16x8704_S16x256_S16x8960_d1

/-- The eight stores of one grid point. -/
abbrev stores : List (View.Piece (Elt Ideal) S66x16x8960 .f32) :=
  View.tilePieces (s := S66x16x8960) (Val := Elt Ideal) (e := .f32) S1x16x8960.size (fun k : Fin 8 => k0_off2 i (BitVec.ofNat 32 k.val)) (k0_off2_inb i) (plane i x1 x2 x3 x4 x5) 8 le_rfl

theorem zero3 : (![0, 0, 0] : Fin 3 → ℕ) = fun _ => 0 := by
  funext a; fin_cases a <;> rfl

/-- The eight stores, off the blocks as the body reads them, are the eight stores off the blocks. -/
theorem stores_read :
    stores i (View.ld (arg1.view.read (Elt Ideal) (harg1.unread x1)) (Rect.unit (s := S8x16x8960) ![0, 0, 0] S8x16x8960.size inb_S8x16x8960_S8x16x8960_0_0_0))
          (View.ld (arg2.view.read (Elt Ideal) (harg2.unread x2)) (Rect.unit (s := S1x16x8960) ![0, 0, 0] S1x16x8960.size inb_S1x16x8960_S1x16x8960_0_0_0))
          (View.ld (arg3.view.read (Elt Ideal) (harg3.unread x3)) (Rect.unit (s := S1x16x8960) ![0, 0, 0] S1x16x8960.size inb_S1x16x8960_S1x16x8960_0_0_0))
          (arg4.view.read (Elt Ideal) (harg4.unread x4)) (arg5.view.read (Elt Ideal) (harg5.unread x5)) = stores i x1 x2 x3 x4 x5 := by
  rw [harg1.read_unread, harg2.read_unread, harg3.read_unread, harg4.read_unread, harg5.read_unread]
  rw [View.ld_unit_zero zero3, View.ld_unit_zero zero3, View.ld_unit_zero zero3]

/-- The two stores of zeros, below and above the grid. -/
abbrev edges : List (View.Piece (Elt Ideal) S66x16x8960 .f32) :=
  [⟨Rect.unit (s := S66x16x8960) ![65, 0, 0] S1x16x8960.size inb_S66x16x8960_S1x16x8960_65_0_0, k0_pay5 (F := Ideal)⟩,
    ⟨Rect.unit (s := S66x16x8960) ![0, 0, 0] S1x16x8960.size inb_S66x16x8960_S1x16x8960_0_0_0, k0_pay4 (F := Ideal)⟩]

set_option maxHeartbeats 4000000 in
/-- **What a point after the first stores**: its eight planes. -/
theorem runB_stores (hc0 : ¬startWord i = 1#1) (f6 : BufTy.Contents (Elt Ideal) arg6.view.ty) :
    (runB c i harg1 harg2 harg3 harg4 harg5 harg6 harg7 harg8 harg9 x1 x2 x3 x4 x5 hc0 f6).1 = stores i x1 x2 x3 x4 x5 := by
  have e : (runB c i harg1 harg2 harg3 harg4 harg5 harg6 harg7 harg8 harg9 x1 x2 x3 x4 x5 hc0 f6).1
      = stores i (View.ld (arg1.view.read (Elt Ideal) (harg1.unread x1)) (Rect.unit (s := S8x16x8960) ![0, 0, 0] S8x16x8960.size inb_S8x16x8960_S8x16x8960_0_0_0))
          (View.ld (arg2.view.read (Elt Ideal) (harg2.unread x2)) (Rect.unit (s := S1x16x8960) ![0, 0, 0] S1x16x8960.size inb_S1x16x8960_S1x16x8960_0_0_0))
          (View.ld (arg3.view.read (Elt Ideal) (harg3.unread x3)) (Rect.unit (s := S1x16x8960) ![0, 0, 0] S1x16x8960.size inb_S1x16x8960_S1x16x8960_0_0_0))
          (arg4.view.read (Elt Ideal) (harg4.unread x4)) (arg5.view.read (Elt Ideal) (harg5.unread x5)) := by
    rfl
  exact e.trans (stores_read i harg1 harg2 harg3 harg4 harg5 x1 x2 x3 x4 x5)

set_option maxHeartbeats 4000000 in
/-- **What the first point stores**: zeros in the planes below and above the grid, then its eight planes. -/
theorem runA_stores (hc0 : startWord i = 1#1) (f6 : BufTy.Contents (Elt Ideal) arg6.view.ty) :
    (runA c i harg1 harg2 harg3 harg4 harg5 harg6 harg7 harg8 harg9 x1 x2 x3 x4 x5 hc0 f6).1 = stores i x1 x2 x3 x4 x5 ++ edges := by
  have e : (runA c i harg1 harg2 harg3 harg4 harg5 harg6 harg7 harg8 harg9 x1 x2 x3 x4 x5 hc0 f6).1
      = stores i (View.ld (arg1.view.read (Elt Ideal) (harg1.unread x1)) (Rect.unit (s := S8x16x8960) ![0, 0, 0] S8x16x8960.size inb_S8x16x8960_S8x16x8960_0_0_0))
          (View.ld (arg2.view.read (Elt Ideal) (harg2.unread x2)) (Rect.unit (s := S1x16x8960) ![0, 0, 0] S1x16x8960.size inb_S1x16x8960_S1x16x8960_0_0_0))
          (View.ld (arg3.view.read (Elt Ideal) (harg3.unread x3)) (Rect.unit (s := S1x16x8960) ![0, 0, 0] S1x16x8960.size inb_S1x16x8960_S1x16x8960_0_0_0))
          (arg4.view.read (Elt Ideal) (harg4.unread x4)) (arg5.view.read (Elt Ideal) (harg5.unread x5))
          ++ edges := by
    rfl
  exact e.trans (congrArg (· ++ edges) (stores_read i harg1 harg2 harg3 harg4 harg5 x1 x2 x3 x4 x5))

/-! ## What each plane holds -/

/-- The sum of the products around plane `n`, at output channel `o` and lane `L` of the frame's inside: `V` the planes, `W` the weights. -/
def conv {CO : ℕ} (W : (⟨3, ![9, CO, 48]⟩ : Shape).Idx → EReal) (V : ℕ → ℕ → ℕ → EReal) (n o L : ℕ) : EReal :=
  ∑ q : Fin 9, ∑ k ∈ Finset.range 48, at3 W q o k * V (n + k / 16) (k % 16) (lane q (L - 256))

/-- The block of eight planes and the two planes after it, as one run of ten planes. -/
def ten (x1 : Vec Ideal S8x16x8960 .f32) (x2 x3 : Vec Ideal S1x16x8960 .f32) (n o L : ℕ) : EReal :=
  if n < 8 then at3 x1 n o L else if n = 8 then at3 x2 0 o L else at3 x3 0 o L

theorem squeeze_at (x : Vec Ideal S1x16x8960 .f32) {r l : ℕ} (hr : r < 16) (hl : l < 8960) :
    at2 (shapeCast S16x8960 x shapeCasts_S1x16x8960_S16x8960) r l = at3 x 0 r l := by
  rw [at2_lt _ hr hl, at3_lt _ Nat.one_pos hr hl]
  exact shapeCast_1ab_ab_apply _ _ _ _

theorem whole_block (x1 : Vec Ideal S8x16x8960 .f32) : k0_pay6 x1 = x1 := shapeCast_self _ _

theorem inner_at (x1 : Vec Ideal S8x16x8960 .f32) (x2 x3 : Vec Ideal S1x16x8960 .f32) (o : ℕ) (h : o + 3 ≤ 8) {r l : ℕ}
    (hr : r < 48) (hl : l < 8960) :
    at2 (shapeCast S48x8960 (extractStridedSlice S3x16x8960 ![o, 0, 0] (k0_pay6 x1) (slices3 o h)) shapeCasts_S3x16x8960_S48x8960 : FVec Ideal S48x8960 .f32) r l
      = ten x1 x2 x3 (o + r / 16) (r % 16) l := by
  rw [ten, if_pos (by omega), whole_block]
  exact stack_at (φ := .f32) (a := 8) (a' := 3) (b := 16) (n := 48) x1 o h rfl hr hl

theorem upper_at (x1 : Vec Ideal S8x16x8960 .f32) (x2 x3 : Vec Ideal S1x16x8960 .f32) {r l : ℕ} (hr : r < 48) (hl : l < 8960) :
    at2 (k0_pay57 (k0_pay6 x1) (k0_pay7 x2)) r l = ten x1 x2 x3 (6 + r / 16) (r % 16) l := by
  unfold k0_pay57
  dsimp only
  rw [whole_block, cat0_at (a := 32) (b := 16) (n := 48) (φ := .f32) _ _ concatenates_S32x8960_S16x8960_S48x8960_d0 rfl hr hl, ten]
  by_cases h : r < 32
  · rw [if_pos h, if_pos (by omega)]
    exact stack_at (φ := .f32) (a := 8) (a' := 2) (b := 16) (n := 32) x1 6 (by omega) rfl h hl
  · rw [if_neg h, if_neg (by omega), if_pos (by omega)]
    refine (squeeze_at x2 (by omega) hl).trans ?_
    rw [show r - 32 = r % 16 by omega]

theorem last_at (x1 : Vec Ideal S8x16x8960 .f32) (x2 x3 : Vec Ideal S1x16x8960 .f32) {r l : ℕ} (hr : r < 48) (hl : l < 8960) :
    at2 (k0_pay65 (k0_pay6 x1) (k0_pay7 x2) (k0_pay8 x3)) r l = ten x1 x2 x3 (7 + r / 16) (r % 16) l := by
  unfold k0_pay65
  dsimp only
  rw [whole_block, cat0_three_at (a := 16) (b := 16) (c := 16) (n := 48) (φ := .f32) _ _ _ concatenates_S16x8960_S16x8960_S16x8960_S48x8960_d0 rfl hr hl, ten]
  by_cases h : r < 16
  · rw [if_pos h, if_pos (by omega)]
    exact stack_at (φ := .f32) (a := 8) (a' := 1) (b := 16) (n := 16) x1 7 (by omega) rfl h hl
  · rw [if_neg h, if_neg (show ¬ 7 + r / 16 < 8 by omega)]
    by_cases h2 : r - 16 < 16
    · rw [if_pos h2, if_pos (show 7 + r / 16 = 8 by omega)]
      refine (squeeze_at x2 (by omega) hl).trans ?_
      rw [show r - 16 = r % 16 by omega]
    · rw [if_neg h2, if_neg (show ¬ 7 + r / 16 = 8 by omega)]
      refine (squeeze_at x3 (by omega) hl).trans ?_
      rw [show r - 16 - 16 = r % 16 by omega]

/-- Row `r` of the stack around plane `k` is channel `r % 16` of plane `k + r / 16` of the ten. -/
theorem stack_read (x1 : Vec Ideal S8x16x8960 .f32) (x2 x3 : Vec Ideal S1x16x8960 .f32) (k : Fin 8) {r l : ℕ} (hr : r < 48)
    (hl : l < 8960) : at2 (stack x1 x2 x3 k) r l = ten x1 x2 x3 (k.val + r / 16) (r % 16) l := by
  match k with
  | ⟨0, _⟩ => exact inner_at x1 x2 x3 0 (by omega) hr hl
  | ⟨1, _⟩ => exact inner_at x1 x2 x3 1 (by omega) hr hl
  | ⟨2, _⟩ => exact inner_at x1 x2 x3 2 (by omega) hr hl
  | ⟨3, _⟩ => exact inner_at x1 x2 x3 3 (by omega) hr hl
  | ⟨4, _⟩ => exact inner_at x1 x2 x3 4 (by omega) hr hl
  | ⟨5, _⟩ => exact inner_at x1 x2 x3 5 (by omega) hr hl
  | ⟨6, _⟩ => exact upper_at x1 x2 x3 hr hl
  | ⟨7, _⟩ => exact last_at x1 x2 x3 hr hl

theorem ld_plane_at {a b c : ℕ} (x : Vec Ideal ⟨3, ![a, b, c]⟩ .f32) (n : ℕ) (hn : n < a) (off : Fin 3 → ℕ) (hoff : off = ![n, 0, 0])
    (inb : ∀ d, off d + (![1, b, c] : Fin 3 → ℕ) d ≤ (⟨3, ![a, b, c]⟩ : Shape).size d) {r l : ℕ} (hr : r < b) (hl : l < c) :
    at3 (a := 1) (View.ld x (Rect.unit (s := ⟨3, ![a, b, c]⟩) off ![1, b, c] inb)) 0 r l = at3 x n r l := by
  subst hoff
  rw [at3_lt _ Nat.one_pos hr hl, at3_lt _ hn hr hl, View.ld_unit]
  exact extractStridedSlice_apply _ _ _ _ _ (fun ax => by
    match ax with
    | ⟨0, _⟩ => rfl
    | ⟨1, _⟩ => exact (Nat.zero_add _).symm
    | ⟨2, _⟩ => exact (Nat.zero_add _).symm)

/-- **What is stored at plane `k` of a point's eight**, at a channel and a lane. -/
theorem plane_at (k : Fin 8) {o L : ℕ} (ho : o < 16) (hL : L < 8960) :
    at3 (plane i x1 x2 x3 x4 x5 k) 0 o L
      = if 256 ≤ L ∧ L < 8704 then act (conv x5 (ten x1 x2 x3) k o L * at3 x4 (8 * (i 0).val + k.val + 1) 0 L) else 0 := by
  have hi : (i 0).val < 8 := (i 0).isLt
  rw [plane, framed_at (CO := 16) _ _ _ ho hL]
  by_cases h : 256 ≤ L ∧ L < 8704
  · rw [if_pos h, if_pos h, rectified_at _ _ ho (by omega), maskRows_at _ _ ho (by omega), taps_at _ _ ho (by omega)]
    refine congrArg act (congr (congrArg _ ?_) ?_)
    · unfold conv
      refine Finset.sum_congr rfl fun q _ => Finset.sum_congr rfl fun r hr => ?_
      have hr' := Finset.mem_range.1 hr
      rw [stack_read x1 x2 x3 k hr' (by unfold lane; omega)]
      refine congrArg (· * _) ?_
      exact ld_plane_at x5 q.val q.isLt _ rfl _ ho hr'
    · rw [show 256 + (L - 256) = L by omega]
      exact ld_plane_at x4 _ (by omega) _ (k0_off1_eq i k) _ Nat.one_pos hL
  · rw [if_neg h, if_neg h]

end Cert.Third

end
-- ==== Proof.ThirdLeft.lean ====
/- What the two outputs of the call of the first down block's second convolution hold after each grid point. -/
module

public import proofs.«01_k».proof.Proof.ThirdPlane
public import proofs.«01_k».proof.Proof.Planes

@[expose] public section

set_option maxRecDepth 16384

noncomputable section

namespace Cert.Third

open Idealize.ShloMosaic hiding ix1 ix2 ix3 ix4 eq_ix1 eq_ix2 eq_ix3 eq_ix4
open Idealize.ShloMosaic.ValueIdx Idealize.ShloMosaic.TcCoe
open Cert.Kernel3Ideal Cert.Kernel3Ideal.Gen Cert.Fat
open scoped BigOperators

variable (c : Dev nD) (i : grid0.Coords)
  {arg1 : Memref sig .tc .vmem S8x16x8960 .f32} (harg1 : arg1.IsWhole)
  {arg2 : Memref sig .tc .vmem S1x16x8960 .f32} (harg2 : arg2.IsWhole)
  {arg3 : Memref sig .tc .vmem S1x16x8960 .f32} (harg3 : arg3.IsWhole)
  {arg4 : Memref sig .tc .vmem S66x1x8960 .f32} (harg4 : arg4.IsWhole)
  {arg5 : Memref sig .tc .vmem S9x16x48 .f32} (harg5 : arg5.IsWhole)
  {arg6 : Memref sig .tc .vmem S66x16x8960 .f32} (harg6 : arg6.IsWhole)
  {arg7 : Memref sig .tc .vmem S16x1 .f32} (harg7 : arg7.IsWhole)
  {arg8 : Memref sig .tc .vmem S16x1 .f32} (harg8 : arg8.IsWhole)
  {arg9 : Memref sig .tc .smem S1 .f32} (harg9 : arg9.IsWhole)
  (x1 : Vec Ideal S8x16x8960 .f32) (x2 : Vec Ideal S1x16x8960 .f32) (x3 : Vec Ideal S1x16x8960 .f32)
  (x4 : Vec Ideal S66x1x8960 .f32) (x5 : Vec Ideal S9x16x48 .f32)

/-! ## What the output ends with, as a function of the arrays the call reads -/

/-- Inside the rows of lanes that hold the grid, of a plane that holds a layer of it. -/
abbrev Inside (n L : ℕ) : Prop := 1 ≤ n ∧ n ≤ 64 ∧ 256 ≤ L ∧ L < 8704

/-- The convolution of the planes `P`, masked and rectified, at plane `n`, channel `o` and lane `L`; zero around the grid. -/
def first (P : Vec Ideal S66x16x8960 .f32) (M : Vec Ideal S66x1x8960 .f32) (W : Vec Ideal S9x16x48 .f32) (n o L : ℕ) : EReal :=
  if Inside n L then act (conv W (at3 P) (n - 1) o L * at3 M n 0 L) else 0

/-- What the output holds after `j` points: its planes below the grid, above it, and the layers so far. -/
def Good (P : Vec Ideal S66x16x8960 .f32) (M : Vec Ideal S66x1x8960 .f32) (W : Vec Ideal S9x16x48 .f32) (j : ℕ) (X : Vec Ideal S66x16x8960 .f32) : Prop :=
  1 ≤ j → ∀ n o L, (n = 0 ∨ n = 65 ∨ n ≤ 8 * j) → n < 66 → o < 16 → L < 8960 → at3 X n o L = first P M W n o L

theorem first_out (P : Vec Ideal S66x16x8960 .f32) (M : Vec Ideal S66x1x8960 .f32) (W : Vec Ideal S9x16x48 .f32) {n o L : ℕ} (h : n = 0 ∨ n = 65) :
    first P M W n o L = 0 := if_neg (by unfold Inside; omega)

/-- Convolutions of planes that agree agree. -/
theorem conv_congr {a : ℕ} (W : Vec Ideal ⟨3, ![9, a, 48]⟩ .f32) {V V' : ℕ → ℕ → ℕ → EReal} {n n' o L : ℕ} (hL : 256 ≤ L ∧ L < 8704)
    (h : ∀ k r l, k < 3 → r < 16 → l < 8960 → V (n + k) r l = V' (n' + k) r l) : conv W V n o L = conv W V' n' o L := by
  unfold conv
  refine Finset.sum_congr rfl fun q _ => Finset.sum_congr rfl fun r hr => ?_
  have hr' := Finset.mem_range.1 hr
  rw [h (r / 16) (r % 16) (lane q (L - 256)) (by omega) (by omega) (by unfold lane; omega)]

section

variable (P : Vec Ideal S66x16x8960 .f32)
  (hten : ∀ k r l, k < 10 → r < 16 → l < 8960 → ten x1 x2 x3 k r l = at3 P (8 * (i 0).val + k) r l)

theorem off2_at (k : Fin 8) : k0_off2 i (BitVec.ofNat 32 k.val) = ![8 * (i 0).val + k.val + 1, 0, 0] := k0_off2_eq i k

include hten in
/-- One of the eight planes stored is the plane of `first`. -/
theorem plane_first (k : Fin 8) {n o L : ℕ} (hn : n = 8 * (i 0).val + k.val + 1) (ho : o < 16) (hL : L < 8960) :
    at3 (plane i x1 x2 x3 x4 x5 k) 0 o L = first P x4 x5 n o L := by
  have hi : (i 0).val < 8 := (i 0).isLt
  rw [plane_at i x1 x2 x3 x4 x5 k ho hL, first]
  by_cases h : 256 ≤ L ∧ L < 8704
  · rw [if_pos h, if_pos (by unfold Inside; omega), hn]
    refine congrArg act (congrArg (· * _) (conv_congr _ h fun j r l hj hr hl => ?_))
    rw [hten _ _ _ (by omega) hr hl]
    congr 1
    omega
  · rw [if_neg h, if_neg (by unfold Inside; omega)]

include hten in
/-- **The stores of one point extend the output** by its eight planes. -/
theorem stores_good (f : BufTy.Contents (Elt Ideal) arg6.view.ty)
    (hf : ∀ n o L, (n = 0 ∨ n = 65 ∨ n ≤ 8 * (i 0).val) → n < 66 → o < 16 → L < 8960 →
      at3 (arg6.view.read (Elt Ideal) f : Vec Ideal S66x16x8960 .f32) n o L = first P x4 x5 n o L) :
    Good P x4 x5 ((i 0).val + 1) (arg6.view.read (Elt Ideal) (arg6.view.writes (Elt Ideal) f (stores i x1 x2 x3 x4 x5))) := by
  intro _ n o L hn hn66 ho hL
  have hi : (i 0).val < 8 := (i 0).isLt
  have hinj : ∀ k k' : Fin 8, k ≠ k' → 8 * (i 0).val + k.val + 1 ≠ 8 * (i 0).val + k'.val + 1 := fun k k' h => by
    have := fun e => h (Fin.ext e)
    omega
  rw [at3_lt _ hn66 ho hL]
  by_cases h : 8 * (i 0).val + 1 ≤ n ∧ n ≤ 8 * (i 0).val + 8
  · refine (plane_hit arg6.view f _ (k0_off2_inb i) _ (fun k => 8 * (i 0).val + k.val + 1) (off2_at i) hinj 8 le_rfl ⟨n - (8 * (i 0).val + 1), by omega⟩
      (by show n - (8 * (i 0).val + 1) < 8; omega) ⟨n, hn66⟩ (by show n = 8 * (i 0).val + (n - (8 * (i 0).val + 1)) + 1; omega) ⟨o, ho⟩ ⟨L, hL⟩).trans ?_
    refine (at3_ix (plane i x1 x2 x3 x4 x5 _) 0 _ _).trans ?_
    exact plane_first i x1 x2 x3 x4 x5 P hten _ (by show n = 8 * (i 0).val + (n - (8 * (i 0).val + 1)) + 1; omega) ho hL
  · refine (plane_miss arg6.view f _ (k0_off2_inb i) _ (fun k => 8 * (i 0).val + k.val + 1) (off2_at i) 8 le_rfl ⟨n, hn66⟩
      (fun k _ => by show n ≠ 8 * (i 0).val + k.val + 1; omega) ⟨o, ho⟩ ⟨L, hL⟩).trans ?_
    refine (at3_ix (arg6.view.read (Elt Ideal) f) _ _ _).trans ?_
    exact hf n o L (by omega) hn66 ho hL

/-- A plane of zeros. -/
theorem zeros16 (o : Fin 16) (L : Fin 8960) : (k0_pay4 (F := Ideal) (ix3 (0 : Fin 1) o L) : EReal) = 0 ∧ (k0_pay5 (F := Ideal) (ix3 (0 : Fin 1) o L) : EReal) = 0 := by
  unfold k0_pay4 k0_pay5
  exact ⟨Ideal.ofBits_zero_f32, Ideal.ofBits_zero_f32⟩

include hten in
/-- After the first point. -/
theorem goodA (hi0 : (i 0).val = 0) (hc0 : startWord i = 1#1) (f6 : BufTy.Contents (Elt Ideal) arg6.view.ty) :
    Good P x4 x5 ((i 0).val + 1) (arg6.view.read (Elt Ideal) (arg6.view.writes (Elt Ideal) f6
      (runA c i harg1 harg2 harg3 harg4 harg5 harg6 harg7 harg8 harg9 x1 x2 x3 x4 x5 hc0 f6).1)) := by
  rw [runA_stores, View.writes_append]
  refine stores_good i x1 x2 x3 x4 x5 P hten _ fun n o L hn hn66 ho hL => ?_
  have hn' : n = 65 ∨ n = 0 := by omega
  rw [first_out P x4 x5 (by omega), at3_lt _ hn66 ho hL]
  refine (two_planes arg6.view f6 65 0 inb_S66x16x8960_S1x16x8960_65_0_0 inb_S66x16x8960_S1x16x8960_0_0_0 (k0_pay5 (F := Ideal)) (k0_pay4 (F := Ideal)) ⟨n, hn66⟩ ⟨o, ho⟩ ⟨L, hL⟩).trans ?_
  rcases hn' with h | h
  · rw [if_pos h]; exact (zeros16 _ _).2
  · rw [if_neg (by show ¬n = 65; omega), if_pos h]; exact (zeros16 _ _).1

include hten in
/-- After a later point. -/
theorem goodB (hi0 : 1 ≤ (i 0).val) (hc0 : ¬startWord i = 1#1) (f6 : BufTy.Contents (Elt Ideal) arg6.view.ty)
    (hf : Good P x4 x5 (i 0).val (arg6.view.read (Elt Ideal) f6)) :
    Good P x4 x5 ((i 0).val + 1) (arg6.view.read (Elt Ideal) (arg6.view.writes (Elt Ideal) f6
      (runB c i harg1 harg2 harg3 harg4 harg5 harg6 harg7 harg8 harg9 x1 x2 x3 x4 x5 hc0 f6).1)) := by
  rw [runB_stores]
  exact stores_good i x1 x2 x3 x4 x5 P hten _ (hf hi0)

end

end Cert.Third

end
-- ==== Proof.ThirdStep.lean ====
/- One grid point of the call of the first down block's second convolution, from what it is handed to what it hands back. -/
module

public import proofs.«01_k».proof.Proof.ThirdLeft

@[expose] public section

set_option maxRecDepth 16384

noncomputable section

namespace Cert.Third

open Idealize.ShloMosaic hiding ix1 ix2 ix3 ix4 eq_ix1 eq_ix2 eq_ix3 eq_ix4
open Idealize.ShloMosaic.ValueIdx Idealize.ShloMosaic.TcCoe
open Cert.Kernel3Ideal Cert.Kernel3Ideal.Gen Cert.Fat
open scoped BigOperators
open Idealize.ShloMosaic.Tactic
open Idealize.SL Idealize.SL.RA Idealize.SL.BI
open scoped Idealize.SL.BI
open Idealize.SL.BI.BIBase Idealize.SL.BI.Laws Idealize.SL.ProofMode Idealize.SL.Sem

variable (c : Dev nD) (i : grid0.Coords)
  {arg1 : Memref sig .tc .vmem S8x16x8960 .f32} (harg1 : arg1.IsWhole)
  {arg2 : Memref sig .tc .vmem S1x16x8960 .f32} (harg2 : arg2.IsWhole)
  {arg3 : Memref sig .tc .vmem S1x16x8960 .f32} (harg3 : arg3.IsWhole)
  {arg4 : Memref sig .tc .vmem S66x1x8960 .f32} (harg4 : arg4.IsWhole)
  {arg5 : Memref sig .tc .vmem S9x16x48 .f32} (harg5 : arg5.IsWhole)
  {arg6 : Memref sig .tc .vmem S66x16x8960 .f32} (harg6 : arg6.IsWhole)
  {arg7 : Memref sig .tc .vmem S16x1 .f32} (harg7 : arg7.IsWhole)
  {arg8 : Memref sig .tc .vmem S16x1 .f32} (harg8 : arg8.IsWhole)
  {arg9 : Memref sig .tc .smem S1 .f32} (harg9 : arg9.IsWhole)
  (x1 : Vec Ideal S8x16x8960 .f32) (x2 : Vec Ideal S1x16x8960 .f32) (x3 : Vec Ideal S1x16x8960 .f32)
  (x4 : Vec Ideal S66x1x8960 .f32) (x5 : Vec Ideal S9x16x48 .f32)

local notation "𝕄" => MT nD τ sig Unit (Elt Ideal) ℕ (UR sig nD τ) ℕ

/-- What the body is handed: the inputs, the output at `X6`, and the scratch at anything. -/
abbrev Handed (arg1 : Memref sig .tc .vmem S8x16x8960 .f32) (arg2 : Memref sig .tc .vmem S1x16x8960 .f32)
    (arg3 : Memref sig .tc .vmem S1x16x8960 .f32) (arg4 : Memref sig .tc .vmem S66x1x8960 .f32) (arg5 : Memref sig .tc .vmem S9x16x48 .f32)
    (arg6 : Memref sig .tc .vmem S66x16x8960 .f32) (arg7 : Memref sig .tc .vmem S16x1 .f32) (arg8 : Memref sig .tc .vmem S16x1 .f32)
    (arg9 : Memref sig .tc .smem S1 .f32) (X6 : Vec Ideal S66x16x8960 .f32) : sProp 𝕄 :=
  iprop(owns (c : Thread nD τ) arg1 fullShare x1 ∗ owns (c : Thread nD τ) arg2 fullShare x2 ∗ owns (c : Thread nD τ) arg3 fullShare x3
    ∗ owns (c : Thread nD τ) arg4 fullShare x4 ∗ owns (c : Thread nD τ) arg5 fullShare x5 ∗ owns (c : Thread nD τ) arg6 fullShare X6
    ∗ (∃ d, owns (c : Thread nD τ) arg7 fullShare d) ∗ (∃ d, owns (c : Thread nD τ) arg8 fullShare d) ∗ (∃ d, owns (c : Thread nD τ) arg9 fullShare d))

include harg7 harg8 harg9 in
/-- Opened, -/
theorem open_handed (X6 : Vec Ideal S66x16x8960 .f32) :
    (Handed c x1 x2 x3 x4 x5 arg1 arg2 arg3 arg4 arg5 arg6 arg7 arg8 arg9 X6 : sProp 𝕄) ⊢ Held c harg1 harg2 harg3 harg4 harg5 (arg6 := arg6) (arg7 := arg7) (arg8 := arg8) (arg9 := arg9) x1 x2 x3 x4 x5 (harg6.unread X6) := by
  iintro ⟨H1, H2, H3, H4, H5, H6, ⟨%d7, H7⟩, ⟨%d8, H8⟩, ⟨%d9, H9⟩⟩
  isplitl [H1]; · iapply (open_owned (c : Thread nD τ) harg1 fullShare x1); iexact H1
  isplitl [H2]; · iapply (open_owned (c : Thread nD τ) harg2 fullShare x2); iexact H2
  isplitl [H3]; · iapply (open_owned (c : Thread nD τ) harg3 fullShare x3); iexact H3
  isplitl [H4]; · iapply (open_owned (c : Thread nD τ) harg4 fullShare x4); iexact H4
  isplitl [H5]; · iapply (open_owned (c : Thread nD τ) harg5 fullShare x5); iexact H5
  isplitl [H6]; · iapply (open_owned (c : Thread nD τ) harg6 fullShare X6); iexact H6
  isplitl [H7]; · iexists _; iapply (open_owned (c : Thread nD τ) harg7 fullShare d7); iexact H7
  isplitl [H8]; · iexists _; iapply (open_owned (c : Thread nD τ) harg8 fullShare d8); iexact H8
  iexists _; iapply (open_owned (c : Thread nD τ) harg9 fullShare d9); iexact H9

/-- A whole buffer at contents known by their reading. -/
theorem close_owned {sp : Space} {sh : Shape} {e : EltTy} {mr : Memref sig .tc sp sh e} (h : mr.IsWhole) (X : sh.Idx → Elt Ideal e) :
    (mr.view.loc (c : Thread nD τ) ↦[mr.view.set]{fullShare} h.unread X : sProp 𝕄) ⊢ owns (c : Thread nD τ) mr fullShare X := by
  unfold owns
  iintro H
  iexists _; isplitr; · ipureintro; exact h.read_unread _
  iexact H

/-- and closed again. -/
theorem close_handed (f6 : BufTy.Contents (Elt Ideal) arg6.view.ty) :
    Held c harg1 harg2 harg3 harg4 harg5 (arg6 := arg6) (arg7 := arg7) (arg8 := arg8) (arg9 := arg9) x1 x2 x3 x4 x5 f6
      ⊢ (Handed c x1 x2 x3 x4 x5 arg1 arg2 arg3 arg4 arg5 arg6 arg7 arg8 arg9 (arg6.view.read (Elt Ideal) f6) : sProp 𝕄) := by
  iintro ⟨H1, H2, H3, H4, H5, H6, ⟨%d7, H7⟩, ⟨%d8, H8⟩, ⟨%d9, H9⟩⟩
  isplitl [H1]; · iapply (close_owned c harg1 x1); iexact H1
  isplitl [H2]; · iapply (close_owned c harg2 x2); iexact H2
  isplitl [H3]; · iapply (close_owned c harg3 x3); iexact H3
  isplitl [H4]; · iapply (close_owned c harg4 x4); iexact H4
  isplitl [H5]; · iapply (close_owned c harg5 x5); iexact H5
  isplitl [H6]; · iapply (owns_intro (c : Thread nD τ) arg6 fullShare f6); iexact H6
  isplitl [H7]; · iexists _; iapply (owns_intro (c : Thread nD τ) arg7 fullShare d7); iexact H7
  isplitl [H8]; · iexists _; iapply (owns_intro (c : Thread nD τ) arg8 fullShare d8); iexact H8
  iexists _; iapply (owns_intro (c : Thread nD τ) arg9 fullShare d9); iexact H9

/-- What the body hands back: the output at contents that are good after the point. -/
abbrev HandedBack (P : Vec Ideal S66x16x8960 .f32) (arg1 : Memref sig .tc .vmem S8x16x8960 .f32) (arg2 : Memref sig .tc .vmem S1x16x8960 .f32)
    (arg3 : Memref sig .tc .vmem S1x16x8960 .f32) (arg4 : Memref sig .tc .vmem S66x1x8960 .f32) (arg5 : Memref sig .tc .vmem S9x16x48 .f32)
    (arg6 : Memref sig .tc .vmem S66x16x8960 .f32) (arg7 : Memref sig .tc .vmem S16x1 .f32) (arg8 : Memref sig .tc .vmem S16x1 .f32)
    (arg9 : Memref sig .tc .smem S1 .f32) : sProp 𝕄 :=
  iprop(∃ X6 : Vec Ideal S66x16x8960 .f32, ⌜Good P x4 x5 ((i 0).val + 1) X6⌝
    ∗ Handed c x1 x2 x3 x4 x5 arg1 arg2 arg3 arg4 arg5 arg6 arg7 arg8 arg9 X6)

/-- **One point of the grid**: from an output good before it, the body leaves an output good after it. -/
theorem step (P : Vec Ideal S66x16x8960 .f32)
    (hten : ∀ k r l, k < 10 → r < 16 → l < 8960 → ten x1 x2 x3 k r l = at3 P (8 * (i 0).val + k) r l)
    (hfirst : startWord i = 1#1 ↔ (i 0).val = 0) (X6 : Vec Ideal S66x16x8960 .f32) (h6 : Good P x4 x5 (i 0).val X6) :
    (Handed c x1 x2 x3 x4 x5 arg1 arg2 arg3 arg4 arg5 arg6 arg7 arg8 arg9 X6 : sProp 𝕄)
      ⊢ wp frame (wpE (defs₀ (F := Ideal)) Variants.none (c : Thread nD τ) none) Set.univ
          (cc0_body (F := Ideal) i arg1 harg1 arg2 harg2 arg3 harg3 arg4 harg4 arg5 harg5 arg6 harg6 arg7 harg7 arg8 harg8 arg9 harg9)
          (fun _ => HandedBack c i x1 x2 x3 x4 x5 P arg1 arg2 arg3 arg4 arg5 arg6 arg7 arg8 arg9) := by
  refine (open_handed c harg1 harg2 harg3 harg4 harg5 harg6 harg7 harg8 harg9 x1 x2 x3 x4 x5 X6).trans ?_
  have e6 : Good P x4 x5 (i 0).val (arg6.view.read (Elt Ideal) (harg6.unread X6)) := by rw [harg6.read_unread]; exact h6
  by_cases h0 : (i 0).val = 0
  · have hc0 := hfirst.mpr h0
    refine ((runA c i harg1 harg2 harg3 harg4 harg5 harg6 harg7 harg8 harg9 x1 x2 x3 x4 x5 hc0 (harg6.unread X6)).2 Set.univ).trans (wp_mono _ _ _ fun _ => ?_)
    refine (close_handed (arg7 := arg7) (arg8 := arg8) (arg9 := arg9) c harg1 harg2 harg3 harg4 harg5 x1 x2 x3 x4 x5 _).trans ?_
    have ha := goodA c i harg1 harg2 harg3 harg4 harg5 harg6 harg7 harg8 harg9 x1 x2 x3 x4 x5 P hten h0 hc0 (harg6.unread X6)
    iintro H
    iexists _
    isplitr
    · ipureintro
      exact ha
    · iexact H
  · have hc0 : ¬startWord i = 1#1 := fun h => h0 (hfirst.mp h)
    refine ((runB c i harg1 harg2 harg3 harg4 harg5 harg6 harg7 harg8 harg9 x1 x2 x3 x4 x5 hc0 (harg6.unread X6)).2 Set.univ).trans (wp_mono _ _ _ fun _ => ?_)
    refine (close_handed (arg7 := arg7) (arg8 := arg8) (arg9 := arg9) c harg1 harg2 harg3 harg4 harg5 x1 x2 x3 x4 x5 _).trans ?_
    have hb := goodB c i harg1 harg2 harg3 harg4 harg5 harg6 harg7 harg8 harg9 x1 x2 x3 x4 x5 P hten (by omega) hc0 _ e6
    iintro H
    iexists _
    isplitr
    · ipureintro
      exact hb
    · iexact H

end Cert.Third

end
-- ==== Proof.ThirdRun.lean ====
/- The run of the call of the first down block's second convolution: what its output array ends with. -/
module

public import proofs.«01_k».proof.Proof.ThirdStep
public import Idealize.ShloMosaic.Lib.Claim
public import Idealize.ShloMosaic.Lib.Pipeline.ArrRel
public import Idealize.ShloMosaic.Lib.Pipeline.ValueKit
public import Idealize.ShloMosaic.Lib.WordCmp

@[expose] public section

set_option maxRecDepth 16384

noncomputable section

namespace Cert.Third

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)
open Cert.Kernel3Ideal Cert.Kernel3Ideal.Gen Cert.Fat

local notation "𝕄" => MT nD τ sig Unit (Elt Ideal) ℕ (UR sig nD τ) ℕ

variable (m : (ℓ : Loc nD τ sig) → Buf (Elt Ideal) ℓ) (ρ : Dev nD → PrngReg)

/-! ## The arrays the call reads, and its blocks of them -/

/-- The planes convolved. -/
abbrev planesIn (c : Dev nD) : Vec Ideal S66x16x8960 .f32 := V m c main_v4
/-- The mask's planes. -/
abbrev maskIn (c : Dev nD) : Vec Ideal S66x1x8960 .f32 := V m c main_v8
/-- The weights. -/
abbrev weightsIn (c : Dev nD) : Vec Ideal S9x16x48 .f32 := V m c main_v13

theorem idx0 : ∀ t : Fin cfg0.N, win0_0.index t = ![t.val, 0, 0] := by decide +kernel
theorem idx1 : ∀ t : Fin cfg0.N, win0_1.index t = ![8 * t.val + 8, 0, 0] := by decide +kernel
theorem idx2 : ∀ t : Fin cfg0.N, win0_2.index t = ![8 * t.val + 9, 0, 0] := by decide +kernel
theorem idx3 : ∀ t : Fin cfg0.N, win0_3.index t = ![0, 0, 0] := by decide +kernel
theorem idx4 : ∀ t : Fin cfg0.N, win0_4.index t = ![0, 0, 0] := by decide +kernel

theorem mask_block (c : Dev nD) (t : Fin cfg0.N) : (iblk m c 3 t : Vec Ideal S66x1x8960 .f32) = maskIn m c := by
  funext j
  blk_ext [iblk, maskIn, idx3 t]

theorem weight_block (c : Dev nD) (t : Fin cfg0.N) : (iblk m c 4 t : Vec Ideal S9x16x48 .f32) = weightsIn m c := by
  funext j
  blk_ext [iblk, weightsIn, idx4 t]

/-- The ten planes a point reads are planes `8 t` to `8 t + 9` of the array. -/
theorem ten_block (c : Dev nD) (t : Fin cfg0.N) (k r l : ℕ) (hk : k < 10) (hr : r < 16) (hl : l < 8960) :
    ten (X0_0 m c t) (iblk m c 1 t) (iblk m c 2 t) k r l = at3 (planesIn m c) (8 * t.val + k) r l := by
  have ht : t.val < 8 := Nat.lt_of_lt_of_eq t.isLt N_0
  unfold ten
  split
  · next h =>
    rw [at3_lt _ h hr hl, at3_lt _ (by omega : 8 * t.val + k < 66) hr hl]
    unfold X0_0 Pipeline.Window.fill
    rw [dif_pos (moved0_0 t _)]
    blk_ext [iblk, planesIn, idx0 t]
  · split
    · next h h' =>
      rw [at3_lt _ Nat.one_pos hr hl, at3_lt _ (by omega : 8 * t.val + k < 66) hr hl]
      blk_ext [iblk, planesIn, idx1 t]
    · next h h' =>
      rw [at3_lt _ Nat.one_pos hr hl, at3_lt _ (by omega : 8 * t.val + k < 66) hr hl]
      blk_ext [iblk, planesIn, idx2 t]

/-! ## The pipeline's data -/

theorem firstPoint : ∀ t : Fin cfg0.N, startWord (grid0.coords t) = 1#1 ↔ t.val = 0 := fun t => by
  have ht : t.val < 8 := Nat.lt_of_lt_of_eq t.isLt N_0
  have e0 : (grid0.coords t 0).val = t.val / 1 % 8 := Pipeline.Grid.coords_val t 0 (by decide) rfl
  have e : startWord (grid0.coords t) = 1#1 ↔ t.val % 8 = 0 := by
    simp only [startWord, e0]
    word_cmp
  rw [e]; omega

theorem point_val (t : Fin cfg0.N) : (grid0.coords t 0).val = t.val := by
  have ht : t.val < 8 := Nat.lt_of_lt_of_eq t.isLt N_0
  have e0 : (grid0.coords t 0).val = t.val / 1 % 8 := Pipeline.Grid.coords_val t 0 (by decide) rfl
  rw [e0]; omega

/-- The inputs stay at their blocks; of the output nothing is said here. -/
def blocks (c : Dev nD) : Dat τ (Elt Ideal) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, h⟩ => Dat.unnamed (cfg := cfg0) ⟨5, h⟩ t
  Φ _ := Pipeline.ΦA spec0 c
  q w := Pipeline.shareOf spec0 w
  owed _ := 0

/-- The output holds, after each point, what the planes so far say. -/
def rels (c : Dev nD) : (w : Fin cfg0.W) → Option (Fin cfg0.N → (Y X : (cfg0.win w).block.Idx → Elt Ideal (cfg0.win w).elt) → Prop)
  | ⟨5, _⟩ => some fun t _ X => Good (planesIn m c) (maskIn m c) (weightsIn m c) (t.val + 1) X
  | _ => none

/-- The data of the run. -/
def rdat (c : Dev nD) : RDat τ (Elt Ideal) Unit ℕ (UR sig nD τ) ℕ cfg0 c := (blocks m c).toR.override (rels m c)

theorem A_eq (c : Dev nD) (w : Fin cfg0.W) : (blocks m c).A w = V m c (Pipeline.arrRef spec0 w) := by
  dsimp only [blocks]

theorem found0 (c : Dev nD) (t : Fin cfg0.N) (Y) (h : (rdat m c).Finds 0 t Y) : Y = X0_0 m c t := by
  obtain ⟨d, hd⟩ := (blocks m c).toR_finds 0 t Y (((blocks m c).toR.override_finds (ovr := rels m c) rfl t Y).mp h)
  exact hd.trans (before0_0_of m (blocks m c) (A_eq m c 0) (fun t => by dsimp only [blocks]) t d)

theorem found1 (c : Dev nD) (t : Fin cfg0.N) (Y) (h : (rdat m c).Finds 1 t Y) : Y = iblk m c 1 t := by
  obtain ⟨d, hd⟩ := (blocks m c).toR_finds 1 t Y (((blocks m c).toR.override_finds (ovr := rels m c) rfl t Y).mp h)
  exact hd.trans (before0_1_of m (blocks m c) (A_eq m c 1) (fun t => by dsimp only [blocks]) t d)

theorem found2 (c : Dev nD) (t : Fin cfg0.N) (Y) (h : (rdat m c).Finds 2 t Y) : Y = iblk m c 2 t := by
  obtain ⟨d, hd⟩ := (blocks m c).toR_finds 2 t Y (((blocks m c).toR.override_finds (ovr := rels m c) rfl t Y).mp h)
  exact hd.trans (before0_2_of m (blocks m c) (A_eq m c 2) (fun t => by dsimp only [blocks]) t d)

theorem found3 (c : Dev nD) (t : Fin cfg0.N) (Y) (h : (rdat m c).Finds 3 t Y) : Y = iblk m c 3 t := by
  obtain ⟨d, hd⟩ := (blocks m c).toR_finds 3 t Y (((blocks m c).toR.override_finds (ovr := rels m c) rfl t Y).mp h)
  exact hd.trans (before0_3_of m (blocks m c) (A_eq m c 3) (fun t => by dsimp only [blocks]) t d)

theorem found4 (c : Dev nD) (t : Fin cfg0.N) (Y) (h : (rdat m c).Finds 4 t Y) : Y = iblk m c 4 t := by
  obtain ⟨d, hd⟩ := (blocks m c).toR_finds 4 t Y (((blocks m c).toR.override_finds (ovr := rels m c) rfl t Y).mp h)
  exact hd.trans (before0_4_of m (blocks m c) (A_eq m c 4) (fun t => by dsimp only [blocks]) t d)

/-- What a point finds in the output is what the points before it left. -/
theorem found5 (c : Dev nD) (t : Fin cfg0.N) (Y) (h : (rdat m c).Finds 5 t Y) : Good (planesIn m c) (maskIn m c) (weightsIn m c) t.val Y := by
  have ht : t.val < 8 := Nat.lt_of_lt_of_eq t.isLt N_0
  by_cases h0 : t.val = 0
  · intro h1; omega
  rcases ((rdat m c).finds_of_pos (by rfl) h0 Y).mp h with hf | ⟨Z, -, hZ⟩
  · have := (flush0_5 _).mp hf
    dsimp only at this
    omega
  · have e : (⟨t.val - 1, Nat.lt_of_le_of_lt (Nat.sub_le _ _) t.isLt⟩ : Fin cfg0.N).val + 1 = t.val := Nat.sub_add_cancel (Nat.pos_of_ne_zero h0)
    rw [← e]
    exact hZ

/-- A block left in place is what the data ask of an input. -/
theorem kept0 (c : Dev nD) (t : Fin cfg0.N) (Y) : (rdat m c).after 0 t Y (X0_0 m c t) := by
  show (blocks m c).Leaves 0 t (X0_0 m c t)
  exact ⟨X0_0 m c t, ((cfg0.win 0).fill_cut _ _).symm⟩
theorem kept1 (c : Dev nD) (t : Fin cfg0.N) (Y) : (rdat m c).after 1 t Y (iblk m c 1 t) := by
  show (blocks m c).Leaves 1 t (iblk m c 1 t)
  rfl
theorem kept2 (c : Dev nD) (t : Fin cfg0.N) (Y) : (rdat m c).after 2 t Y (iblk m c 2 t) := by
  show (blocks m c).Leaves 2 t (iblk m c 2 t)
  rfl
theorem kept3 (c : Dev nD) (t : Fin cfg0.N) (Y) : (rdat m c).after 3 t Y (iblk m c 3 t) := by
  show (blocks m c).Leaves 3 t (iblk m c 3 t)
  rfl
theorem kept4 (c : Dev nD) (t : Fin cfg0.N) (Y) : (rdat m c).after 4 t Y (iblk m c 4 t) := by
  show (blocks m c).Leaves 4 t (iblk m c 4 t)
  rfl

/-- The invariant hands the body its scratch at anything, and takes it back. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- The body at a point, from the buffers it finds to the buffers it leaves. -/
theorem body_step (c : Dev nD) (t : Fin cfg0.N) (Y : (w : Fin cfg0.W) → (cfg0.win w).block.Idx → Elt Ideal (cfg0.win w).elt)
    (y0 : Vec Ideal S8x16x8960 .f32) (y1 y2 : Vec Ideal S1x16x8960 .f32) (y3 : Vec Ideal S66x1x8960 .f32) (y4 : Vec Ideal S9x16x48 .f32)
    (y5 : Vec Ideal S66x16x8960 .f32)
    (h0 : y0 = X0_0 m c t) (h1 : y1 = iblk m c 1 t) (h2 : y2 = iblk m c 2 t) (h3 : y3 = iblk m c 3 t) (h4 : y4 = iblk m c 4 t)
    (h5 : Good (planesIn m c) (maskIn m c) (weightsIn m c) t.val y5) :
    iprop(Pipeline.ΦA spec0 c ∗ (rdat m c).owesAt () t.castSucc
        ∗ owns (c : Thread nD τ) (win0_0.stage (cfg0.slots t 0)) fullShare y0 ∗ owns (c : Thread nD τ) (win0_1.stage (cfg0.slots t 1)) fullShare y1
        ∗ owns (c : Thread nD τ) (win0_2.stage (cfg0.slots t 2)) fullShare y2 ∗ owns (c : Thread nD τ) (win0_3.stage (cfg0.slots t 3)) fullShare y3
        ∗ owns (c : Thread nD τ) (win0_4.stage (cfg0.slots t 4)) fullShare y4 ∗ owns (c : Thread nD τ) (win0_5.stage (cfg0.slots t 5)) fullShare y5)
      ⊢ wp frame (wpE (defs₀ (F := Ideal)) Variants.none (c : Thread nD τ) none) Set.univ (bodyAt0 t) (fun _ =>
        iprop(Pipeline.ΦA spec0 c ∗ (rdat m c).owesAt () t.castSucc
        ∗ (∃ X, ⌜(rdat m c).after 0 t (Y 0) X⌝ ∗ owns (c : Thread nD τ) (win0_0.stage (cfg0.slots t 0)) fullShare X)
        ∗ (∃ X, ⌜(rdat m c).after 1 t (Y 1) X⌝ ∗ owns (c : Thread nD τ) (win0_1.stage (cfg0.slots t 1)) fullShare X)
        ∗ (∃ X, ⌜(rdat m c).after 2 t (Y 2) X⌝ ∗ owns (c : Thread nD τ) (win0_2.stage (cfg0.slots t 2)) fullShare X)
        ∗ (∃ X, ⌜(rdat m c).after 3 t (Y 3) X⌝ ∗ owns (c : Thread nD τ) (win0_3.stage (cfg0.slots t 3)) fullShare X)
        ∗ (∃ X, ⌜(rdat m c).after 4 t (Y 4) X⌝ ∗ owns (c : Thread nD τ) (win0_4.stage (cfg0.slots t 4)) fullShare X)
        ∗ (∃ X, ⌜(rdat m c).after 5 t (Y 5) X⌝ ∗ owns (c : Thread nD τ) (win0_5.stage (cfg0.slots t 5)) fullShare X))) := by
  subst h0 h1 h2 h3 h4
  have e3 := mask_block m c t
  have e4 := weight_block m c t
  have hp := point_val t
  have hten := ten_block m c t
  rw [← hp] at hten h5
  have hs := step c (grid0.coords t) (hstage0_0 ((cfg0.slots t 0).cast nbuf0_0)) (hstage0_1 ((cfg0.slots t 1).cast nbuf0_1)) (hstage0_2 ((cfg0.slots t 2).cast nbuf0_2))
    (hstage0_3 ((cfg0.slots t 3).cast nbuf0_3)) (hstage0_4 ((cfg0.slots t 4).cast nbuf0_4)) (hstage0_5 ((cfg0.slots t 5).cast nbuf0_5))
    (Memref.isWhole_whole cc0_scratch0) (Memref.isWhole_whole cc0_scratch1) (Memref.isWhole_whole cc0_scratch2)
    (X0_0 m c t) (iblk m c 1 t) (iblk m c 2 t) (iblk m c 3 t) (iblk m c 4 t)
    (planesIn m c) hten (by rw [hp]; exact firstPoint t) y5 (by rw [e3, e4]; exact h5)
  rw [scratch_eq]
  iintro ⟨⟨⟨HS0, HS1, HS2⟩, Hg⟩, Ho, H0, H1, H2, H3, H4, H5⟩
  iapply (wp_wand_r _ _ _)
  isplitl [HS0 HS1 HS2 H0 H1 H2 H3 H4 H5]
  · iapply hs
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iexact HS2
  iintro %u ⟨%X5, %hX, H0, H1, H2, H3, H4, H5, HS0, HS1, HS2⟩
  rw [hp, e3, e4] at hX
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexists _; isplitr; swap; · iexact H0
                  ipureintro; exact kept0 m c t _
  isplitl [H1]; · iexists _; isplitr; swap; · iexact H1
                  ipureintro; exact kept1 m c t _
  isplitl [H2]; · iexists _; isplitr; swap; · iexact H2
                  ipureintro; exact kept2 m c t _
  isplitl [H3]; · iexists _; isplitr; swap; · iexact H3
                  ipureintro; exact kept3 m c t _
  isplitl [H4]; · iexists _; isplitr; swap; · iexact H4
                  ipureintro; exact kept4 m c t _
  iexists _; isplitr; swap; · iexact H5
  ipureintro; exact hX

/-- The body table's row at a point's slots. -/
theorem row (t : Fin cfg0.N) : defs₀ (F := Ideal) .tc cfg0.body (cfg0.bodyArgs t (cfg0.slots t)) = bodyAt0 t := by
  unfold defs₀; rw [Defs.onTc_tc]

/-- The body's obligation at every point. -/
theorem body_ok (c : Dev nD) : (rdat m c).BodyObligation (defs₀ (F := Ideal)) Variants.none () Set.univ := fun t Y hY => by
  rw [bigSep_W0, bigSep_W0, row]
  exact triple_restated (body_step m c t Y _ _ _ _ _ _ (found0 m c t _ (hY 0)) (found1 m c t _ (hY 1)) (found2 m c t _ (hY 2))
    (found3 m c t _ (hY 3)) (found4 m c t _ (hY 4)) (found5 m c t _ (hY 5))) rfl .rfl fun _ => .rfl

/-! ## The run -/

set_option backward.isDefEq.respectTransparency.types false in
/-- The launch: every execution ends, with the arrays as the data say and every counter at zero. -/
theorem run : θ_run defs (onTc (τ := τ) (main (F := Ideal))) (s₀ m ρ)
    (fun r => Pipeline.RDat.FramePost (cfgs 0) (rdat m) (V m) r ∧ r.2.sem = fun _ => 0) :=
  Pipeline.RDat.θ_run_frame_track_shared (Q' := _) cfgs (0 : Fin 1) launch₀0 defs₀ Variants.none (rdat m) m ρ main
    (hbody := body_ok m) (hq := fun _ _ _ => rfl) (howed := fun _ _ => rfl) (V := V m) (hmain := hmain m Variants.none)
    (hA := A_eq m) (hin := fun _ => .rfl) (hout := fun _ => .rfl)

end Cert.Third

end
-- ==== Proof.ThirdArrays.lean ====
/- What the output array of the call of the first down block's second convolution ends with, and that its arguments stay. -/
module

public import proofs.«01_k».proof.Proof.ThirdRun

@[expose] public section

set_option maxRecDepth 16384

noncomputable section

namespace Cert.Third

open Idealize.ShloMosaic Idealize.ShloMosaic.TcCoe Idealize.ShloMosaic.Tactic
open Idealize.SL Idealize.SL.Sem
open Idealize.ShloMosaic.Pipeline (Dat RDat Cfg Window)
open Cert.Kernel3Ideal Cert.Kernel3Ideal.Gen Cert.Fat

variable (m : (ℓ : Loc nD τ sig) → Buf (Elt Ideal) ℓ) (ρ : Dev nD → PrngReg)

/-- The output: `first` at every index. -/
def firstArray (c : Dev nD) : Vec Ideal S66x16x8960 .f32 := fun j =>
  first (planesIn m c) (maskIn m c) (weightsIn m c) (j 0).val (j 1).val (j 2).val

/-- Contents good after all eight points are `firstArray`. -/
theorem good_all (c : Dev nD) (X : Vec Ideal S66x16x8960 .f32) (h : Good (planesIn m c) (maskIn m c) (weightsIn m c) 8 X) : X = firstArray m c := by
  funext j
  have h0 : (j 0).val < 66 := (j 0).isLt
  have h1 : (j 1).val < 16 := (j 1).isLt
  have h2 : (j 2).val < 8960 := (j 2).isLt
  have e := h (by omega) (j 0).val (j 1).val (j 2).val (by omega) h0 h1 h2
  rw [at3_lt _ h0 h1 h2] at e
  refine Eq.trans (congrArg X (funext fun a => ?_)) e
  match a with
  | ⟨0, _⟩ => rfl
  | ⟨1, _⟩ => rfl
  | ⟨2, _⟩ => rfl

/-- **The array at the end of the run.** -/
theorem arrays_end (c : Dev nD) (r : PUnit × MemSt nD τ sig (Elt Ideal)) (h : Pipeline.RDat.FramePost (cfgs 0) (rdat m) (V m) r) :
    r.2.mem ((c.tc : Thread nD τ).loc main_v14) = firstArray m c := by
  obtain ⟨after, hL, hA⟩ := h.exists_exact c
  have h5 : after 5 t0_7 = firstArray m c := by
    obtain ⟨Y, -, hX⟩ := hL 5 t0_7 (by decide +kernel)
    exact good_all m c _ hX
  refine (hA 5).trans ?_
  refine Dat.arrAt_eq_of_after_last _ 5 t0_7 (by decide +kernel) _ fun j => ?_
  rw [RDat.withAfter_after, h5]
  blk_simp
  rfl

/-- The arguments at the end of the run. -/
theorem args_end (c : Dev nD) (r : PUnit × MemSt nD τ sig (Elt Ideal)) (h : Pipeline.RDat.FramePost (cfgs 0) (rdat m) (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

/-- Every execution leaves the arguments as they were and every counter at zero. -/
theorem frame_run : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => args_end m c r h.1, h.2⟩) (run m ρ)

/-- **What the call computes**: its result, with the arguments as they were. -/
theorem value_run : θ_run defs (onTc (τ := τ) (main (F := Ideal))) ⟨m, fun _ => 0, ρ⟩ (fun r => ∀ c : Dev nD,
      r.2.mem ((c.tc : Thread nD τ).loc main_v14) = firstArray m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨arrays_end m c r h.1, args_end m c r h.1⟩) (run m ρ)

end Cert.Third

end
-- ==== Proof.ThirdEntry.lean ====
/- The arrays that the call of the first down block's second convolution is given: the planes of its arguments, and its weights laid out. -/
module

public import proofs.«01_k».proof.Proof.ThirdArrays
public import proofs.«01_k».proof.Proof.Convolution

@[expose] public section

set_option maxRecDepth 16384

noncomputable section

namespace Cert.Third

open Idealize.ShloMosaic hiding ix1 ix2 ix3 ix4 ix5 eq_ix1 eq_ix2 eq_ix3 eq_ix4 eq_ix5
open Idealize.ShloMosaic.ValueIdx Idealize.ShloMosaic.TcCoe Idealize.ShloMosaic.Tactic
open Cert.Kernel3Ideal Cert.Kernel3Ideal.Gen Cert.Fat

variable (m : (ℓ : Loc nD τ sig) → Buf (Elt Ideal) ℓ)

/-- The volume convolved. -/
abbrev volume (c : Dev nD) : Vec Ideal S16x64x64x64 .f32 := m ((c.tc : Thread nD τ).loc main_arg0)
/-- The mask's values. -/
def maskVolume (c : Dev nD) : FVec Ideal S1x64x64x64 .f32 := sitofp (s := S1x64x64x64) .f32 (m ((c.tc : Thread nD τ).loc main_arg1))
/-- The convolution's weights. -/
abbrev stencilW (c : Dev nD) : Vec Ideal S16x16x3x3x3 .f32 := m ((c.tc : Thread nD τ).loc main_arg2)

/-- The integer zero as a float is zero. -/
theorem zero_word {φ : FTy} {s : Shape} (i : s.Idx) : (sitofp φ (constantI s 32 0#32) : FVec Ideal s φ) i = (0 : EReal) := by
  show ((((0#32 : BitVec 32).toInt : ℝ)) : EReal) = 0
  simp

/-- The zero that a pad puts round an array. -/
def nought (φ : FTy) : FVec Ideal S_ φ := sitofp (s := S_) φ (constantI S_ 32 0#32)

theorem planesIn_eq (c : Dev nD) : planesIn m c = pad S66x16x8960 ![0, 0, 256] ![0, 0, 256] ![0, 0, 0] (transpose S66x16x8448 [1, 0, 2]
      (shapeCast S16x66x8448 (pad S16x66x66x128 ![0, 1, 1, 1] ![0, 1, 1, 63] ![0, 0, 0, 0] (volume m c) (nought .f32)
        pads_S16x64x64x64_S16x66x66x128_000_110_110_1630 h_S_) shapeCasts_S16x66x66x128_S16x66x8448)
      transposes_S16x66x8448_S66x16x8448_1_0_2) (nought .f32) pads_S66x16x8448_S66x16x8960_000_000_2562560 h_S_ := by
  unfold planesIn
  simp only [V, hostOps0, hostOps0_1, hostOps0_2, hostOps0_3, hostOps0_4, hostOps0_5, hostOps0_6, hostOps0_7, hostOps0_8, List.flatten_cons, List.flatten_nil, List.append_nil, List.cons_append, List.nil_append, StableHlo.after_cons, StableHlo.after_nil]
  after_results_simp
  rfl

theorem maskIn_eq (c : Dev nD) : maskIn m c = pad S66x1x8960 ![0, 0, 256] ![0, 0, 256] ![0, 0, 0] (transpose S66x1x8448 [1, 0, 2]
      (shapeCast S1x66x8448 (pad S1x66x66x128 ![0, 1, 1, 1] ![0, 1, 1, 63] ![0, 0, 0, 0] (maskVolume m c) (nought .f32)
        pads_S1x64x64x64_S1x66x66x128_000_110_110_1630 h_S_) shapeCasts_S1x66x66x128_S1x66x8448)
      transposes_S1x66x8448_S66x1x8448_1_0_2) (nought .f32) pads_S66x1x8448_S66x1x8960_000_000_2562560 h_S_ := by
  unfold maskIn
  simp only [V, hostOps0, hostOps0_1, hostOps0_2, hostOps0_3, hostOps0_4, hostOps0_5, hostOps0_6, hostOps0_7, hostOps0_8, List.flatten_cons, List.flatten_nil, List.append_nil, List.cons_append, List.nil_append, StableHlo.after_cons, StableHlo.after_nil]
  after_results_simp
  rfl

theorem weightsIn_eq (c : Dev nD) : weightsIn m c = shapeCast S9x16x48 (transpose S3x3x16x3x16 [1, 2, 3, 0, 4] (shapeCast S3x3x3x16x16
      (shapeCast S27x16x16 (transpose S3x3x3x16x16 [2, 3, 4, 0, 1] (stencilW m c) transposes_S16x16x3x3x3_S3x3x3x16x16_2_3_4_0_1) shapeCasts_S3x3x3x16x16_S27x16x16)
      shapeCasts_S27x16x16_S3x3x3x16x16) transposes_S3x3x3x16x16_S3x3x16x3x16_1_2_3_0_4) shapeCasts_S3x3x16x3x16_S9x16x48 := by
  unfold weightsIn
  simp only [V, hostOps0, hostOps0_1, hostOps0_2, hostOps0_3, hostOps0_4, hostOps0_5, hostOps0_6, hostOps0_7, hostOps0_8, List.flatten_cons, List.flatten_nil, List.append_nil, List.cons_append, List.nil_append, StableHlo.after_cons, StableHlo.after_nil]
  after_results_simp
  rfl

theorem planes_in (c : Dev nD) {n k l : ℕ} (hn : n < 66) (hk : k < 16) (hl : l < 8960) : at3 (planesIn m c) n k l = planes (volume m c) n k l := by
  rw [planesIn_eq]
  exact to_planes_at (volume m c) (nought .f32) (nought .f32) (fun i => zero_word i) (fun i => zero_word i) _ _ _ _ _ hn hk hl

theorem mask_in (c : Dev nD) {n l : ℕ} (hn : n < 66) (hl : l < 8960) : at3 (maskIn m c) n 0 l = planes (maskVolume m c) n 0 l := by
  rw [maskIn_eq]
  exact to_planes_at (maskVolume m c) (nought .f32) (nought .f32) (fun i => zero_word i) (fun i => zero_word i) _ _ _ _ _ hn Nat.one_pos hl

theorem weights_in (c : Dev nD) {q o k : ℕ} (hq : q < 9) (ho : o < 16) (hk : k < 48) :
    at3 (weightsIn m c) q o k = Cert.Fat.weight (stencilW m c) o (k % 16) (k / 16) (q / 3) (q % 3) := by
  rw [weightsIn_eq]
  exact slab_at (CO := 16) (CI := 16) (stencilW m c) rfl _ _ _ _ _ hq ho hk

/-! ## The result as planes of a volume -/

/-- The result's volume: the convolution, masked and rectified. -/
def firstVolume (c : Dev nD) : Vec Ideal S16x64x64x64 .f32 := fun j =>
  act (stencil (stencilW m c) (voxel (volume m c)) (j 0).val (j 1).val (j 2).val (j 3).val * maskVolume m c (ix4 0 (j 1) (j 2) (j 3)))

/-- The output is the planes of `firstVolume`. -/
theorem first_planes (c : Dev nD) {n o L : ℕ} (hn : n < 66) (ho : o < 16) (hL : L < 8960) :
    first (planesIn m c) (maskIn m c) (weightsIn m c) n o L = planes (firstVolume m c) n o L := by
  by_cases hg : (1 ≤ n ∧ n < 65) ∧ OnGrid L
  · obtain ⟨hn', hL'⟩ := hg
    have hin : Inside n L := by have := hL'.1; unfold Inside; omega
    unfold first
    rw [if_pos hin, planes_on _ ho hn' hL', mask_in m c hn hL, planes_on _ Nat.one_pos hn' hL']
    have e := stacked_eq (stencilW m c) (at3 (weightsIn m c)) (at3 (planesIn m c)) (volume m c) o
      (fun q k hq hk => weights_in m c hq ho hk) (fun n k l hn hk hl => planes_in m c hn hk hl) hn' hL'
    exact congrArg (fun v => act (v * _)) e
  · rw [planes_out _ hg]
    unfold first
    split
    · rw [mask_in m c hn hL, planes_out _ hg, mul_zero, act_zero]
    · rfl

end Cert.Third

end
-- ==== Proof.ThirdReference.lean ====
/- What the reference of the first down block's second convolution computes: its result laid out, off the volume it computes. -/
module

public import proofs.«01_k».proof.Proof.Gen.Reference3Ideal.Run
public import proofs.«01_k».proof.Proof.Convolution
public import Idealize.ShloMosaic.Lib.Quiescent

@[expose] public section

set_option maxRecDepth 16384

noncomputable section

namespace Cert.Third.Plain

open Idealize.ShloMosaic hiding ix1 ix2 ix3 ix4 ix5 eq_ix1 eq_ix2 eq_ix3 eq_ix4 eq_ix5
open Idealize.ShloMosaic.ValueIdx Idealize.ShloMosaic.TcCoe Idealize.SL.Sem Idealize.ShloMosaic.StableHlo
open Cert.Reference3Ideal Cert.Reference3Ideal.Gen Cert.Reference3Ideal.Value Cert.Fat

variable (V0 : Valuation τ sig (Elt Ideal)) (m : (ℓ : Loc nD τ sig) → Buf (Elt Ideal) ℓ) (ρ : Dev nD → PrngReg) (c : Dev nD)

/-- The reference's arguments. -/
abbrev volume : Vec Ideal S16x64x64x64 .f32 := V0 (Proc.devRef .tc main_arg0)
abbrev weightsW : Vec Ideal S16x16x3x3x3 .f32 := V0 (Proc.devRef .tc main_arg2)
/-- The mask's values. -/
def mask : FVec Ideal S1x64x64x64 .f32 := sitofp (s := S1x64x64x64) .f32 (V0 (Proc.devRef .tc main_arg1))

theorem zero_word {φ : FTy} {s : Shape} (i : s.Idx) : (sitofp φ (constantI s 32 0#32) : FVec Ideal s φ) i = (0 : EReal) := by
  show ((((0#32 : BitVec 32).toInt : ℝ)) : EReal) = 0
  simp

/-- The volume with a border of zeros one voxel wide. -/
def bordered : FVec Ideal S16x66x66x66 .f32 :=
  pad S16x66x66x66 ![0, 1, 1, 1] ![0, 1, 1, 1] ![0, 0, 0, 0] (volume V0) (sitofp (s := S_) .f32 (constantI S_ 32 0#32)) pads_S16x64x64x64_S16x66x66x66_000_110_110_110 h_S_

/-- The convolution, masked, is the host's products added up in order. -/
theorem conv_eq : res_main_v163 V0 = mulf (hostConv (weightsW V0) (bordered V0)) (broadcastInDim S16x64x64x64 ![0, 1, 2, 3] bcast_S1x64x64x64_S16x64x64x64_0_1_2_3 (mask V0)) := by
  unfold res_main_v163 res_main_v143 res_main_v95 res_main_v47
  rfl

/-- The result's volume: the masked convolution, rectified. -/
def rectifiedVolume : FVec Ideal S16x64x64x64 .f32 :=
  select (cmpf .oge (res_main_v163 V0) (broadcastInDim S16x64x64x64 ![] bcast_S_S16x64x64x64 (constant S_ .f32 0x00000000#32 : FVec Ideal S_ .f32))) (res_main_v163 V0)
    (mulf (broadcastInDim S16x64x64x64 ![] bcast_S_S16x64x64x64 (constant S_ .f32 0x3E4CCCCD#32 : FVec Ideal S_ .f32)) (res_main_v163 V0))

/-- The mask spread over the channels is the mask. -/
theorem mask_spread (v : FVec Ideal S1x64x64x64 .f32) (o : Fin 16) (z y w : Fin 64) :
    broadcastInDim S16x64x64x64 ![0, 1, 2, 3] bcast_S1x64x64x64_S16x64x64x64_0_1_2_3 v (ix4 o z y w) = v (ix4 0 z y w) := by
  rw [broadcastInDim]
  refine congrArg v (funext fun a => ?_)
  match a with
  | ⟨0, _⟩ => rfl
  | ⟨1, _⟩ => rfl
  | ⟨2, _⟩ => rfl
  | ⟨3, _⟩ => rfl

theorem border_at (k : Fin 16) (z y w : Fin 66) : bordered V0 (ix4 k z y w) = voxel (volume V0) k z y w :=
  pad_border _ _ (fun i => zero_word i) _ _ k z y w

/-- The result's volume, voxel by voxel. -/
theorem volume_at (o : Fin 16) (z y w : Fin 64) :
    rectifiedVolume V0 (ix4 o z y w) = act (stencil (weightsW V0) (voxel (volume V0)) o z y w * mask V0 (ix4 0 z y w)) := by
  have e : res_main_v163 V0 (ix4 o z y w) = stencil (weightsW V0) (voxel (volume V0)) o z y w * mask V0 (ix4 0 z y w) := by
    rw [conv_eq]
    show hostConv (weightsW V0) (bordered V0) (ix4 o z y w) * _ = _
    rw [hostConv_at _ _ _ (border_at V0) o z y w, mask_spread]
  unfold rectifiedVolume
  rw [← e]
  rfl

/-! ## The run -/

/-- The result: the volume laid out. -/
def laid : FVec Ideal S66x16x8960 .f32 :=
  transpose S66x16x8960 [1, 0, 2] (pad S16x66x8960 ![0, 0, 256] ![0, 0, 256] ![0, 0, 0] (shapeCast _ (pad S16x66x66x128 ![0, 1, 1, 1] ![0, 1, 1, 63] ![0, 0, 0, 0] (rectifiedVolume (launchContents m c)) (sitofp (s := S_) .f32 (constantI S_ 32 0#32)) pads_S16x64x64x64_S16x66x66x128_000_110_110_1630 h_S_) shapeCasts_S16x66x66x128_S16x66x8448) (sitofp (s := S_) .f32 (constantI S_ 32 0#32)) pads_S16x66x8448_S16x66x8960_000_000_2562560 h_S_) transposes_S16x66x8960_S66x16x8960_1_0_2

theorem laid_at {n k L : ℕ} (hn : n < 66) (hk : k < 16) (hL : L < 8960) :
    at3 (laid m c) n k L = planes (rectifiedVolume (launchContents m c)) n k L :=
  laid_out_at (rectifiedVolume (launchContents m c)) _ _ (fun i => zero_word i) (fun i => zero_word i) _ _ _ _ _ hn hk hL

/-- **What the reference computes**: its result, with the arguments as they were. -/
theorem value_run : θ_run defs (onTc (τ := τ) (main (F := Ideal))) ⟨m, fun _ => 0, ρ⟩ fun r => ∀ c : Dev nD,
      r.2.mem ((c.tc : Thread nD τ).loc main_v172) = laid m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans rfl, (h c).2⟩) (run m ρ)

/-- Every execution leaves the arguments as they were and every counter at zero. -/
theorem frame_run : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => (h c).2, sem_eq_zero_of_no_sems rfl r.2⟩) (run m ρ)

end Cert.Third.Plain

end
-- ==== Proof.ThirdEqual.lean ====
/- The call of the first down block's second convolution and its reference compute the same array. -/
module

public import proofs.«01_k».proof.Proof.ThirdEntry
public import proofs.«01_k».proof.Proof.ThirdReference

@[expose] public section

set_option maxRecDepth 16384

noncomputable section

namespace Cert.Third

open Idealize.ShloMosaic hiding ix1 ix2 ix3 ix4 ix5 eq_ix1 eq_ix2 eq_ix3 eq_ix4 eq_ix5
open Idealize.ShloMosaic.ValueIdx Idealize.ShloMosaic.TcCoe Idealize.ShloMosaic.StableHlo
open Cert.Fat Cert.Reference3Ideal.Value

variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ) (c : Dev Cert.Kernel3Ideal.nD)

/-- The two programs' arguments agree. -/
structure Agree : Prop where
  volume : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
  mask : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
  stencil : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)

variable {m m' c}

/-- The volumes then agree. -/
theorem first_agree (h : Agree m m' c) : Plain.rectifiedVolume (launchContents m' c) = firstVolume m c := by
  refine funext fun (j : (⟨4, ![16, 64, 64, 64]⟩ : Shape).Idx) => ?_
  obtain ⟨o, z, y, w, rfl⟩ : ∃ (o : Fin 16) (z y w : Fin 64), j = ix4 o z y w := ⟨_, _, _, _, eq_ix4 j⟩
  have hv : Plain.volume (launchContents m' c) = volume m c := h.volume
  have hw : Plain.weightsW (launchContents m' c) = stencilW m c := h.stencil
  have hm : Plain.mask (launchContents m' c) = maskVolume m c := congrArg (fun x => sitofp (F := Ideal) (s := Cert.Kernel3Ideal.S1x64x64x64) .f32 x) h.mask
  refine (Plain.volume_at (launchContents m' c) o z y w).trans ?_
  rw [hv, hw, hm]
  rfl

/-- **The results are equal.** -/
theorem equal (h : Agree m m' c) : Plain.laid m' c = firstArray m c := by
  refine funext fun (j : (⟨3, ![66, 16, 8960]⟩ : Shape).Idx) => ?_
  obtain ⟨n, o, L, rfl⟩ : ∃ (n : Fin 66) (o : Fin 16) (L : Fin 8960), j = ix3 n o L := ⟨_, _, _, eq_ix3 j⟩
  refine (at3_lt (Plain.laid m' c) n.isLt o.isLt L.isLt).symm.trans ?_
  refine (Plain.laid_at m' c n.isLt o.isLt L.isLt).trans ?_
  rw [first_agree h]
  exact (first_planes m c n.isLt o.isLt L.isLt).symm

end Cert.Third

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Pre_in_range
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.JoinedFrame
public import proofs.«01_k».proof.Proof.JoinedEqual
public import proofs.«01_k».proof.Proof.SecondFrame
public import proofs.«01_k».proof.Proof.ThirdFrame
public import proofs.«01_k».proof.Proof.SecondEqual
public import proofs.«01_k».proof.Proof.ThirdEqual
public import Idealize.ShloMosaic.Adequacy
public import Idealize.ShloMosaic.Init

@[expose] public section

noncomputable section

namespace Cert.Proof

open Idealize.ShloMosaic Idealize.SL.Sem Cert.Kernel

/-- The joined convolution's call and its reference, from memories that agree on arguments in range, end with equal results. -/
theorem joined_algebraic :
    @algebraic_KernelIdeal_ReferenceIdeal_pre_in_range Cert.KernelIdeal.Gen.facts Cert.ReferenceIdeal.Gen.facts Cert.Pre_in_range.Gen.facts := by
  intro m g m' g' hp h
  have ha : ∀ c : Dev Cert.KernelIdeal.nD, Cert.Joined.Agree m m' c := fun c => ⟨(h c).1, (h c).2.1, (h c).2.2.1, (h c).2.2.2⟩
  have hr : ∀ c : Dev Cert.KernelIdeal.nD, Cert.Joined.InRange m c := fun c => @Cert.Joined.inRange_of m c Cert.Pre_in_range.Gen.facts (hp c)
  refine ⟨fun c => Cert.Joined.outArray m c, Cert.Joined.value_run m g, ?_⟩
  exact (θ_run _ _ _).mono (fun r hq c => ⟨(hq c).1.trans (Cert.Joined.equal (ha c) (hr c)), (hq c).2⟩) (Cert.Joined.Plain.value_run m' g')

/-- The second convolution's call and its reference, from memories that agree on the arguments, end with equal results. -/
theorem second_algebraic :
    @algebraic_Kernel2Ideal_Reference2Ideal Cert.Kernel2Ideal.Gen.facts Cert.Reference2Ideal.Gen.facts := by
  intro m g m' g' _ h
  have ha : ∀ c : Dev Cert.Kernel2Ideal.nD, Cert.Second.Agree m m' c := fun c => ⟨(h c).1, (h c).2.1, (h c).2.2.1, (h c).2.2.2⟩
  refine ⟨fun c => Cert.Second.firstArray m c, fun c => Cert.Second.headArray m c, Cert.Second.value_run m g, ?_⟩
  exact (θ_run _ _ _).mono (fun r hr c => ⟨(hr c).1.trans (Cert.Second.first_equal (ha c)),
    (hr c).2.1.trans (Cert.Second.head_equal (ha c)), (hr c).2.2⟩) (Cert.Second.Plain.value_run m' g')

theorem third_algebraic :
    @algebraic_Kernel3Ideal_Reference3Ideal Cert.Kernel3Ideal.Gen.facts Cert.Reference3Ideal.Gen.facts := by
  intro m g m' g' _ h
  have ha : ∀ c : Dev Cert.Kernel3Ideal.nD, Cert.Third.Agree m m' c := fun c => ⟨(h c).1, (h c).2.1, (h c).2.2⟩
  refine ⟨fun c => Cert.Third.firstArray m c, Cert.Third.value_run m g, ?_⟩
  exact (θ_run _ _ _).mono (fun r hr c => ⟨(hr c).1.trans (Cert.Third.equal (ha c)), (hr c).2⟩) (Cert.Third.Plain.value_run m' g')

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_in_range.Gen.facts,
  fun m g _ => Cert.Joined.Words.frame_run m g, fun m g _ => Cert.Joined.frame_run m g, fun m g _ => Cert.Joined.frame_run m g,
  fun m g _ => Cert.Joined.Plain.frame_run m g, fun m g _ => Cert.Joined.Plain.frame_run m g,
  fun m g _ => Cert.Second.Words.frame_run m g, fun m g _ => Cert.Second.frame_run m g, fun m g _ => Cert.Second.Plain.frame_run m g,
  fun m g _ => Cert.Third.Words.frame_run m g, fun m g _ => Cert.Third.frame_run m g, fun m g _ => Cert.Third.Plain.frame_run m g,
  trivial, joined_algebraic, trivial, second_algebraic, trivial, third_algebraic⟩

end Cert.Proof

end
